-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)) (v3 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_v33) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v16) = v0 c
          ∧ r.2.mem ((c.tc : Thread Cert.Reference16Ideal.nD Cert.Reference16Ideal.τ).loc Cert.Reference16Ideal.main_v40) = v1 c
          ∧ r.2.mem ((c.tc : Thread Cert.Reference16Ideal.nD Cert.Reference16Ideal.τ).loc Cert.Reference16Ideal.main_v21) = v2 c
          ∧ r.2.mem ((c.tc : Thread Cert.Reference16Ideal.nD Cert.Reference16Ideal.τ).loc Cert.Reference16Ideal.main_v27) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v16) = v0 c
          ∧ r.2.mem ((c.tc : Thread Cert.Reference17Ideal.nD Cert.Reference17Ideal.τ).loc Cert.Reference17Ideal.main_v40) = v1 c
          ∧ r.2.mem ((c.tc : Thread Cert.Reference17Ideal.nD Cert.Reference17Ideal.τ).loc Cert.Reference17Ideal.main_v21) = v2 c
          ∧ r.2.mem ((c.tc : Thread Cert.Reference17Ideal.nD Cert.Reference17Ideal.τ).loc Cert.Reference17Ideal.main_v27) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v16) = v0 c
          ∧ r.2.mem ((c.tc : Thread Cert.Reference18Ideal.nD Cert.Reference18Ideal.τ).loc Cert.Reference18Ideal.main_v40) = v1 c
          ∧ r.2.mem ((c.tc : Thread Cert.Reference18Ideal.nD Cert.Reference18Ideal.τ).loc Cert.Reference18Ideal.main_v21) = v2 c
          ∧ r.2.mem ((c.tc : Thread Cert.Reference18Ideal.nD Cert.Reference18Ideal.τ).loc Cert.Reference18Ideal.main_v27) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel20 : Cert.Kernel20.Facts) (hKernel20Ideal : Cert.Kernel20Ideal.Facts) (hReference20Ideal : Cert.Reference20Ideal.Facts) (hPre_finite : Cert.Pre_finite.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel20_Kernel20Ideal
    ∧ algebraic_Kernel20Ideal_Reference20Ideal (hKernel20Ideal := hKernel20Ideal) (hReference20Ideal := hReference20Ideal)
-- ==== Pre_finite.lean ====
abbrev S4x4096x64 : Shape := ⟨3, ![4, 4096, 64]⟩
abbrev S4x4096 : Shape := ⟨2, ![4, 4096]⟩
abbrev S_ : Shape := ⟨0, ![]⟩

class Facts : Prop where
  bcast_S_S4x4096x64 : S_.BroadcastsInDim S4x4096x64 (![] : Fin 0 → Fin S4x4096x64.rank)
  bcast_S_S4x4096 : S_.BroadcastsInDim S4x4096 (![] : Fin 0 → Fin S4x4096.rank)

variable [Facts]

def fn {F : FTy → Type} [FloatOps F] (main_arg0 : FVec F S4x4096x64 .f32) (main_arg1 : FVec F S4x4096x64 .f32) (main_arg2 : FVec F S4x4096x64 .f32) (main_arg3 : FVec F S4x4096 .f32) (main_arg4 : FVec F S4x4096x64 .f32) : IVec S4x4096x64 1 × IVec S4x4096x64 1 × IVec S4x4096x64 1 × IVec S4x4096 1 × IVec S4x4096x64 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_v3 : FVec F S4x4096x64 .f32 := Host.absf main_arg1
  let main_cst_0 : FVec F S_ .f32 := constant S_ .f32 0x7F800000#32
  let main_v4 : FVec F S4x4096x64 .f32 := broadcastInDim S4x4096x64 ![] bcast_S_S4x4096x64 main_cst_0
  let main_v5 : IVec S4x4096x64 1 := cmpf .olt main_v3 main_v4
  let main_v6 : FVec F S4x4096x64 .f32 := Host.absf main_arg2
  let main_cst_1 : FVec F S_ .f32 := constant S_ .f32 0x7F800000#32
  let main_v7 : FVec F S4x4096x64 .f32 := broadcastInDim S4x4096x64 ![] bcast_S_S4x4096x64 main_cst_1
  let main_v8 : IVec S4x4096x64 1 := cmpf .olt main_v6 main_v7
  let main_v9 : FVec F S4x4096 .f32 := Host.absf main_arg3
  let main_cst_2 : FVec F S_ .f32 := constant S_ .f32 0x7F800000#32
  let main_v10 : FVec F S4x4096 .f32 := broadcastInDim S4x4096 ![] bcast_S_S4x4096 main_cst_2
  let main_v11 : IVec S4x4096 1 := cmpf .olt main_v9 main_v10
  let main_v12 : FVec F S4x4096x64 .f32 := Host.absf main_arg4
  let main_cst_3 : FVec F S_ .f32 := constant S_ .f32 0x7F800000#32
  let main_v13 : FVec F S4x4096x64 .f32 := broadcastInDim S4x4096x64 ![] bcast_S_S4x4096x64 main_cst_3
  let main_v14 : IVec S4x4096x64 1 := cmpf .olt main_v12 main_v13
  (main_v2, main_v5, main_v8, main_v11, main_v14)
-- ==== Pre_finite6.lean ====
abbrev S4096x1024 : Shape := ⟨2, ![4096, 1024]⟩
abbrev S1024x5632 : Shape := ⟨2, ![1024, 5632]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)

variable [Facts]

def fn {F : FTy → Type} [FloatOps F] (main_arg0 : FVec F S4096x1024 .bf16) (main_arg1 : FVec F S1024x5632 .bf16) : IVec S4096x1024 1 × IVec S1024x5632 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S1024x5632 .bf16 := Host.absf main_arg1
  let main_cst_0 : FVec F S_ .bf16 := constant S_ .bf16 0x7F80#16
  let main_v4 : FVec F S1024x5632 .bf16 := broadcastInDim S1024x5632 ![] bcast_S_S1024x5632 main_cst_0
  let main_v5 : IVec S1024x5632 1 := cmpf .olt main_v3 main_v4
  (main_v2, main_v5)
-- ==== Pre_finite7.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .bf16) (main_arg1 : FVec F S1024x5632 .bf16) (main_arg2 : FVec F S2816x1024 .bf16) (main_arg3 : FVec F S4096x1024 .bf16) : IVec S4096x1024 1 × IVec S1024x5632 1 × IVec S2816x1024 1 × IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S1024x5632 .bf16 := Host.absf main_arg1
  let main_cst_0 : FVec F S_ .bf16 := constant S_ .bf16 0x7F80#16
  let main_v4 : FVec F S1024x5632 .bf16 := broadcastInDim S1024x5632 ![] bcast_S_S1024x5632 main_cst_0
  let main_v5 : IVec S1024x5632 1 := cmpf .olt main_v3 main_v4
  let main_v6 : FVec F S2816x1024 .bf16 := Host.absf main_arg2
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  let main_v9 : FVec F S4096x1024 .bf16 := Host.absf main_arg3
  let main_cst_2 : FVec F S_ .bf16 := constant S_ .bf16 0x7F80#16
  let main_v10 : FVec F S4096x1024 .bf16 := broadcastInDim S4096x1024 ![] bcast_S_S4096x1024 main_cst_2
  let main_v11 : IVec S4096x1024 1 := cmpf .olt main_v9 main_v10
  (main_v2, main_v5, main_v8, main_v11)
-- ==== Kernel.lean ====
abbrev S4x4096x64 : Shape := ⟨3, ![4, 4096, 64]⟩
abbrev S4x4096 : Shape := ⟨2, ![4, 4096]⟩
abbrev S_ : Shape := ⟨0, ![]⟩
abbrev S4096x4096 : Shape := ⟨2, ![4096, 4096]⟩
abbrev S4x4096x4096 : Shape := ⟨3, ![4, 4096, 4096]⟩
abbrev S4x1x4096 : Shape := ⟨3, ![4, 1, 4096]⟩
abbrev S4x4096x1 : Shape := ⟨3, ![4, 4096, 1]⟩
abbrev S1x4096x64 : Shape := ⟨3, ![1, 4096, 64]⟩
abbrev S1x512x64 : Shape := ⟨3, ![1, 512, 64]⟩
abbrev S1x1x512 : Shape := ⟨3, ![1, 1, 512]⟩
abbrev S1x4096x1 : Shape := ⟨3, ![1, 4096, 1]⟩
abbrev S4096x1 : Shape := ⟨2, ![4096, 1]⟩
abbrev S4096x64 : Shape := ⟨2, ![4096, 64]⟩
abbrev S512x64 : Shape := ⟨2, ![512, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x1 : Shape := ⟨3, ![1, 512, 1]⟩

abbrev nBuf : Space → Nat
  | .hbm => 52
  | .vmem => 25
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096, .f32⟩
  | .hbm, ⟨4, _⟩ => ⟨S4x4096x64, .f32⟩
  | .hbm, ⟨5, _⟩ => ⟨S_, .f32⟩
  | .hbm, ⟨6, _⟩ => ⟨S4x4096x64, .f32⟩
  | .hbm, ⟨7, _⟩ => ⟨S4x4096x64, .f32⟩
  | .hbm, ⟨8, _⟩ => ⟨S4x4096x64, .bf16⟩
  | .hbm, ⟨9, _⟩ => ⟨S4x4096x64, .bf16⟩
  | .hbm, ⟨10, _⟩ => ⟨S4x4096x64, .bf16⟩
  | .hbm, ⟨11, _⟩ => ⟨S4096x4096, .i32⟩
  | .hbm, ⟨12, _⟩ => ⟨S4096x4096, .i32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x1x4096, .f32⟩
  | .hbm, ⟨18, _⟩ => ⟨S4x4096x4096, .f32⟩
  | .hbm, ⟨19, _⟩ => ⟨S4x4096x4096, .f32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S4x4096x4096, .i1⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x64, .f32⟩
  | .hbm, ⟨38, _⟩ => ⟨S4x1x4096, .f32⟩
  | .hbm, ⟨39, _⟩ => ⟨S4x4096x1, .f32⟩
  | .hbm, ⟨40, _⟩ => ⟨S4x4096x1, .f32⟩
  | .hbm, ⟨41, _⟩ => ⟨S4x4096x64, .f32⟩
  | .hbm, ⟨42, _⟩ => ⟨S4x4096x64, .f32⟩
  | .hbm, ⟨43, _⟩ => ⟨S4x4096x64, .f32⟩
  | .hbm, ⟨44, _⟩ => ⟨S4x4096x1, .f32⟩
  | .hbm, ⟨45, _⟩ => ⟨S4x1x4096, .f32⟩
  | .hbm, ⟨46, _⟩ => ⟨S_, .f32⟩
  | .hbm, ⟨47, _⟩ => ⟨S4x4096x64, .f32⟩
  | .hbm, ⟨48, _⟩ => ⟨S4x4096x64, .f32⟩
  | .hbm, ⟨49, _⟩ => ⟨S4x4096, .f32⟩
  | .hbm, ⟨50, _⟩ => ⟨S4x4096, .f32⟩
  | .hbm, ⟨51, _⟩ => ⟨S4x4096, .f32⟩
  | .local _ .vmem, ⟨0, _⟩ => ⟨S1x4096x64, .bf16⟩
  | .local _ .vmem, ⟨1, _⟩ => ⟨S1x4096x64, .bf16⟩
  | .local _ .vmem, ⟨2, _⟩ => ⟨S1x512x64, .bf16⟩
  | .local _ .vmem, ⟨3, _⟩ => ⟨S1x512x64, .bf16⟩
  | .local _ .vmem, ⟨4, _⟩ => ⟨S1x512x64, .bf16⟩
  | .local _ .vmem, ⟨5, _⟩ => ⟨S1x512x64, .bf16⟩
  | .local _ .vmem, ⟨6, _⟩ => ⟨S1x1x512, .f32⟩
  | .local _ .vmem, ⟨7, _⟩ => ⟨S1x1x512, .f32⟩
  | .local _ .vmem, ⟨8, _⟩ => ⟨S1x4096x64, .f32⟩
  | .local _ .vmem, ⟨9, _⟩ => ⟨S1x4096x64, .f32⟩
  | .local _ .vmem, ⟨10, _⟩ => ⟨S1x4096x1, .f32⟩
  | .local _ .vmem, ⟨11, _⟩ => ⟨S1x4096x1, .f32⟩
  | .local _ .vmem, ⟨12, _⟩ => ⟨S1x4096x64, .f32⟩
  | .local _ .vmem, ⟨13, _⟩ => ⟨S1x4096x64, .f32⟩
  | .local _ .vmem, ⟨14, _⟩ => ⟨S1x4096x64, .f32⟩
  | .local _ .vmem, ⟨15, _⟩ => ⟨S1x4096x64, .f32⟩
  | .local _ .vmem, ⟨16, _⟩ => ⟨S1x512x64, .f32⟩
  | .local _ .vmem, ⟨17, _⟩ => ⟨S1x512x64, .f32⟩
  | .local _ .vmem, ⟨18, _⟩ => ⟨S1x512x64, .f32⟩
  | .local _ .vmem, ⟨19, _⟩ => ⟨S1x512x64, .f32⟩
  | .local _ .vmem, ⟨20, _⟩ => ⟨S1x4096x1, .f32⟩
  | .local _ .vmem, ⟨21, _⟩ => ⟨S1x4096x1, .f32⟩
  | .local _ .vmem, ⟨22, _⟩ => ⟨S1x1x512, .f32⟩
  | .local _ .vmem, ⟨23, _⟩ => ⟨S1x1x512, .f32⟩
  | .local _ .vmem, ⟨24, _⟩ => ⟨S4096x1, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev main_v28_3 : Ref sig .tc := ⟨.hbm, 44, rfl⟩
abbrev main_v28_4 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_54 : BitVec 32 := 0#32
  let c8_i32_55 : BitVec 32 := 8#32
  let v94 : BitVec 32 := Scalar.addi c0_i32_54 c8_i32_55
  let c1_i32_56 : BitVec 32 := 1#32
  ⟨c0_i32_54, v94, c1_i32_56⟩
def k0_mult1 (k0_t1 : Fin k0_t1_loop.trips) : BitVec 32 :=
  let c0_i32_54 : BitVec 32 := 0#32
  let c1_i32_56 : BitVec 32 := 1#32
  let arg15 : BitVec 32 := Scf.iv c0_i32_54 c1_i32_56 k0_t1
  let c512_i32_58 : BitVec 32 := 512#32
  let v95 : BitVec 32 := Scalar.muli arg15 c512_i32_58
  v95
def k0_off1 (k0_t1 : Fin k0_t1_loop.trips) : Fin 3 → Nat :=
  let c0_59 : Index := 0#32
  let c0_i32_54 : BitVec 32 := 0#32
  let c1_i32_56 : BitVec 32 := 1#32
  let arg15 : BitVec 32 := Scf.iv c0_i32_54 c1_i32_56 k0_t1
  let c512_i32_58 : BitVec 32 := 512#32
  let v95 : BitVec 32 := Scalar.muli arg15 c512_i32_58
  let v96 : BitVec 32 := v95
  let v97 : Index := Scalar.indexCast v96
  let c0_60 : Index := 0#32
  ![0, v97.toNat, 0]
def k0_off2 (k0_t1 : Fin k0_t1_loop.trips) : Fin 2 → Nat :=
  let c0_i32_54 : BitVec 32 := 0#32
  let c1_i32_56 : BitVec 32 := 1#32
  let arg15 : BitVec 32 := Scf.iv c0_i32_54 c1_i32_56 k0_t1
  let c512_i32_58 : BitVec 32 := 512#32
  let v95 : BitVec 32 := Scalar.muli arg15 c512_i32_58
  let v96 : BitVec 32 := v95
  let v106 : Index := Scalar.indexCast v96
  let c0_64 : Index := 0#32
  ![v106.toNat, 0]
def k0_mult2 (i : grid0.Coords) : BitVec 32 :=
  let arg1 : BitVec 32 := BitVec.ofNat 32 (i 1).val
  let c512_i32 : BitVec 32 := 512#32
  let v12 : BitVec 32 := Scalar.muli arg1 c512_i32
  v12
def k0_off3 (i : grid0.Coords) : Fin 3 → Nat :=
  let c0_11 : Index := 0#32
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_12 : Index := 0#32
  ![0, v14.toNat, 0]
def k0_off4 (i : grid0.Coords) : Fin 3 → Nat :=
  let c0_17 : Index := 0#32
  let arg1 : BitVec 32 := BitVec.ofNat 32 (i 1).val
  let c512_i32 : BitVec 32 := 512#32
  let v12 : BitVec 32 := Scalar.muli arg1 c512_i32
  let v13 : BitVec 32 := v12
  let v29 : Index := Scalar.indexCast v13
  let c0_18 : Index := 0#32
  ![0, v29.toNat, 0]
def k0_off5 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v39 : Index := Scalar.indexCast v13
  let c0_21 : Index := 0#32
  ![v39.toNat, 0]
@[reducible] def k0_t2_loop (i : grid0.Coords) : Scf.Loop 32 :=
  let arg1 : BitVec 32 := BitVec.ofNat 32 (i 1).val
  let c1_i32 : BitVec 32 := 1#32
  let v69 : BitVec 32 := Scalar.addi arg1 c1_i32
  let c8_i32 : BitVec 32 := 8#32
  let v70 : BitVec 32 := Scalar.subi c8_i32 v69
  let c1_i32_34 : BitVec 32 := 1#32
  let v72 : BitVec 32 := Scalar.divsi v70 c1_i32_34
  let v73 : BitVec 32 := Scalar.muli v72 c1_i32_34
  let v74 : BitVec 32 := Scalar.addi v69 v73
  let c1_i32_35 : BitVec 32 := 1#32
  ⟨v69, v74, c1_i32_35⟩
def k0_mult3 (i : grid0.Coords) (k0_t2 : Fin (k0_t2_loop i).trips) : BitVec 32 :=
  let arg1 : BitVec 32 := BitVec.ofNat 32 (i 1).val
  let c1_i32 : BitVec 32 := 1#32
  let v69 : BitVec 32 := Scalar.addi arg1 c1_i32
  let c1_i32_35 : BitVec 32 := 1#32
  let arg15 : BitVec 32 := Scf.iv v69 c1_i32_35 k0_t2
  let c512_i32_46 : BitVec 32 := 512#32
  let v86 : BitVec 32 := Scalar.muli arg15 c512_i32_46
  v86
def k0_off6 (i : grid0.Coords) (k0_t2 : Fin (k0_t2_loop i).trips) : Fin 3 → Nat :=
  let c0_47 : Index := 0#32
  let arg1 : BitVec 32 := BitVec.ofNat 32 (i 1).val
  let c1_i32 : BitVec 32 := 1#32
  let v69 : BitVec 32 := Scalar.addi arg1 c1_i32
  let c1_i32_35 : BitVec 32 := 1#32
  let arg15 : BitVec 32 := Scf.iv v69 c1_i32_35 k0_t2
  let c512_i32_46 : BitVec 32 := 512#32
  let v86 : BitVec 32 := Scalar.muli arg15 c512_i32_46
  let v87 : BitVec 32 := v86
  let v88 : Index := Scalar.indexCast v87
  let c0_48 : Index := 0#32
  ![0, v88.toNat, 0]
def k0_off7 (i : grid0.Coords) (k0_t2 : Fin (k0_t2_loop i).trips) : Fin 3 → Nat :=
  let c0_52 : Index := 0#32
  let arg1 : BitVec 32 := BitVec.ofNat 32 (i 1).val
  let c1_i32 : BitVec 32 := 1#32
  let v69 : BitVec 32 := Scalar.addi arg1 c1_i32
  let c1_i32_35 : BitVec 32 := 1#32
  let arg15 : BitVec 32 := Scf.iv v69 c1_i32_35 k0_t2
  let c512_i32_46 : BitVec 32 := 512#32
  let v86 : BitVec 32 := Scalar.muli arg15 c512_i32_46
  let v87 : BitVec 32 := v86
  let v98 : Index := Scalar.indexCast v87
  let c0_53 : Index := 0#32
  ![0, v98.toNat, 0]
def k0_off8 (i : grid0.Coords) (k0_t2 : Fin (k0_t2_loop i).trips) : Fin 2 → Nat :=
  let arg1 : BitVec 32 := BitVec.ofNat 32 (i 1).val
  let c1_i32 : BitVec 32 := 1#32
  let v69 : BitVec 32 := Scalar.addi arg1 c1_i32
  let c1_i32_35 : BitVec 32 := 1#32
  let arg15 : BitVec 32 := Scf.iv v69 c1_i32_35 k0_t2
  let c512_i32_46 : BitVec 32 := 512#32
  let v86 : BitVec 32 := Scalar.muli arg15 c512_i32_46
  let v87 : BitVec 32 := v86
  let v108 : Index := Scalar.indexCast v87
  let c0_56 : Index := 0#32
  ![v108.toNat, 0]
@[reducible] def k0_t3_loop (i : grid0.Coords) : Scf.Loop 32 :=
  let arg1 : BitVec 32 := BitVec.ofNat 32 (i 1).val
  let c1_i32 : BitVec 32 := 1#32
  let v69 : BitVec 32 := Scalar.addi arg1 c1_i32
  let c8_i32 : BitVec 32 := 8#32
  let v70 : BitVec 32 := Scalar.subi c8_i32 v69
  let c1_i32_34 : BitVec 32 := 1#32
  let v72 : BitVec 32 := Scalar.divsi v70 c1_i32_34
  let v73 : BitVec 32 := Scalar.muli v72 c1_i32_34
  let v74 : BitVec 32 := Scalar.addi v69 v73
  let v71 : BitVec 32 := Scalar.addi v69 v70
  let c1_i32_36 : BitVec 32 := 1#32
  ⟨v74, v71, c1_i32_36⟩
def k0_mult4 (i : grid0.Coords) (k0_t3 : Fin (k0_t3_loop i).trips) : BitVec 32 :=
  let arg1 : BitVec 32 := BitVec.ofNat 32 (i 1).val
  let c1_i32 : BitVec 32 := 1#32
  let v69 : BitVec 32 := Scalar.addi arg1 c1_i32
  let c8_i32 : BitVec 32 := 8#32
  let v70 : BitVec 32 := Scalar.subi c8_i32 v69
  let c1_i32_34 : BitVec 32 := 1#32
  let v72 : BitVec 32 := Scalar.divsi v70 c1_i32_34
  let v73 : BitVec 32 := Scalar.muli v72 c1_i32_34
  let v74 : BitVec 32 := Scalar.addi v69 v73
  let c1_i32_36 : BitVec 32 := 1#32
  let arg15 : BitVec 32 := Scf.iv v74 c1_i32_36 k0_t3
  let c512_i32_46 : BitVec 32 := 512#32
  let v86 : BitVec 32 := Scalar.muli arg15 c512_i32_46
  v86
def k0_off9 (i : grid0.Coords) (k0_t3 : Fin (k0_t3_loop i).trips) : Fin 3 → Nat :=
  let c0_47 : Index := 0#32
  let arg1 : BitVec 32 := BitVec.ofNat 32 (i 1).val
  let c1_i32 : BitVec 32 := 1#32
  let v69 : BitVec 32 := Scalar.addi arg1 c1_i32
  let c8_i32 : BitVec 32 := 8#32
  let v70 : BitVec 32 := Scalar.subi c8_i32 v69
  let c1_i32_34 : BitVec 32 := 1#32
  let v72 : BitVec 32 := Scalar.divsi v70 c1_i32_34
  let v73 : BitVec 32 := Scalar.muli v72 c1_i32_34
  let v74 : BitVec 32 := Scalar.addi v69 v73
  let c1_i32_36 : BitVec 32 := 1#32
  let arg15 : BitVec 32 := Scf.iv v74 c1_i32_36 k0_t3
  let c512_i32_46 : BitVec 32 := 512#32
  let v86 : BitVec 32 := Scalar.muli arg15 c512_i32_46
  let v87 : BitVec 32 := v86
  let v88 : Index := Scalar.indexCast v87
  let c0_48 : Index := 0#32
  ![0, v88.toNat, 0]
def k0_off10 (i : grid0.Coords) (k0_t3 : Fin (k0_t3_loop i).trips) : Fin 3 → Nat :=
  let c0_52 : Index := 0#32
  let arg1 : BitVec 32 := BitVec.ofNat 32 (i 1).val
  let c1_i32 : BitVec 32 := 1#32
  let v69 : BitVec 32 := Scalar.addi arg1 c1_i32
  let c8_i32 : BitVec 32 := 8#32
  let v70 : BitVec 32 := Scalar.subi c8_i32 v69
  let c1_i32_34 : BitVec 32 := 1#32
  let v72 : BitVec 32 := Scalar.divsi v70 c1_i32_34
  let v73 : BitVec 32 := Scalar.muli v72 c1_i32_34
  let v74 : BitVec 32 := Scalar.addi v69 v73
  let c1_i32_36 : BitVec 32 := 1#32
  let arg15 : BitVec 32 := Scf.iv v74 c1_i32_36 k0_t3
  let c512_i32_46 : BitVec 32 := 512#32
  let v86 : BitVec 32 := Scalar.muli arg15 c512_i32_46
  let v87 : BitVec 32 := v86
  let v98 : Index := Scalar.indexCast v87
  let c0_53 : Index := 0#32
  ![0, v98.toNat, 0]
def k0_off11 (i : grid0.Coords) (k0_t3 : Fin (k0_t3_loop i).trips) : Fin 2 → Nat :=
  let arg1 : BitVec 32 := BitVec.ofNat 32 (i 1).val
  let c1_i32 : BitVec 32 := 1#32
  let v69 : BitVec 32 := Scalar.addi arg1 c1_i32
  let c8_i32 : BitVec 32 := 8#32
  let v70 : BitVec 32 := Scalar.subi c8_i32 v69
  let c1_i32_34 : BitVec 32 := 1#32
  let v72 : BitVec 32 := Scalar.divsi v70 c1_i32_34
  let v73 : BitVec 32 := Scalar.muli v72 c1_i32_34
  let v74 : BitVec 32 := Scalar.addi v69 v73
  let c1_i32_36 : BitVec 32 := 1#32
  let arg15 : BitVec 32 := Scf.iv v74 c1_i32_36 k0_t3
  let c512_i32_46 : BitVec 32 := 512#32
  let v86 : BitVec 32 := Scalar.muli arg15 c512_i32_46
  let v87 : BitVec 32 := v86
  let v108 : Index := Scalar.indexCast v87
  let c0_56 : Index := 0#32
  ![v108.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x64 : Shape := ⟨3, ![4, 4096, 64]⟩
abbrev S4x4096 : Shape := ⟨2, ![4, 4096]⟩
abbrev S4x4096x4096 : Shape := ⟨3, ![4, 4096, 4096]⟩
abbrev S_ : Shape := ⟨0, ![]⟩
abbrev S4x4096x1 : Shape := ⟨3, ![4, 4096, 1]⟩
abbrev S4x1x4096 : Shape := ⟨3, ![4, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x64x4096 : Shape := ⟨3, ![4, 64, 4096]⟩

abbrev nBuf : Space → Nat
  | .hbm => 105
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096, .f32⟩
  | .hbm, ⟨4, _⟩ => ⟨S4x4096x64, .f32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S4x4096x1, .f32⟩
  | .hbm, ⟨10, _⟩ => ⟨S4x4096x4096, .f32⟩
  | .hbm, ⟨11, _⟩ => ⟨S4x4096x4096, .f32⟩
  | .hbm, ⟨12, _⟩ => ⟨S4x1x4096, .f32⟩
  | .hbm, ⟨13, _⟩ => ⟨S4x4096x4096, .f32⟩
  | .hbm, ⟨14, _⟩ => ⟨S4x4096x4096, .f32⟩
  | .hbm, ⟨15, _⟩ => ⟨S4096, .i32⟩
  | .hbm, ⟨16, _⟩ => ⟨S4096x1, .i32⟩
  | .hbm, ⟨17, _⟩ => ⟨S4096, .i32⟩
  | .hbm, ⟨18, _⟩ => ⟨S1x4096, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S4x4096x4096, .i1⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .i1⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S_, .f32⟩
  | .hbm, ⟨38, _⟩ => ⟨S4x4096, .f32⟩
  | .hbm, ⟨39, _⟩ => ⟨S4x4096, .f32⟩
  | .hbm, ⟨40, _⟩ => ⟨S_, .f32⟩
  | .hbm, ⟨41, _⟩ => ⟨S4x4096, .f32⟩
  | .hbm, ⟨42, _⟩ => ⟨S4x4096, .i1⟩
  | .hbm, ⟨43, _⟩ => ⟨S_, .f32⟩
  | .hbm, ⟨44, _⟩ => ⟨S4x4096, .f32⟩
  | .hbm, ⟨45, _⟩ => ⟨S4x4096, .i1⟩
  | .hbm, ⟨46, _⟩ => ⟨S_, .f32⟩
  | .hbm, ⟨47, _⟩ => ⟨S4x4096, .f32⟩
  | .hbm, ⟨48, _⟩ => ⟨S_, .f32⟩
  | .hbm, ⟨49, _⟩ => ⟨S4x4096, .f32⟩
  | .hbm, ⟨50, _⟩ => ⟨S_, .f32⟩
  | .hbm, ⟨51, _⟩ => ⟨S4x4096, .f32⟩
  | .hbm, ⟨52, _⟩ => ⟨S4x4096, .f32⟩
  | .hbm, ⟨53, _⟩ => ⟨S4x4096, .f32⟩
  | .hbm, ⟨54, _⟩ => ⟨S4x4096x1, .f32⟩
  | .hbm, ⟨55, _⟩ => ⟨S4x4096x4096, .f32⟩
  | .hbm, ⟨56, _⟩ => ⟨S4x4096x4096, .f32⟩
  | .hbm, ⟨57, _⟩ => ⟨S4x4096x4096, .f32⟩
  | .hbm, ⟨58, _⟩ => ⟨S_, .f32⟩
  | .hbm, ⟨59, _⟩ => ⟨S4x4096, .f32⟩
  | .hbm, ⟨60, _⟩ => ⟨S4x4096x1, .f32⟩
  | .hbm, ⟨61, _⟩ => ⟨S4x4096x4096, .f32⟩
  | .hbm, ⟨62, _⟩ => ⟨S4x4096x4096, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S4x4096x64, .f32⟩
  | .hbm, ⟨68, _⟩ => ⟨S4x64x4096, .f32⟩
  | .hbm, ⟨69, _⟩ => ⟨S4x4096x64, .f32⟩
  | .hbm, ⟨70, _⟩ => ⟨S4x4096x4096, .f32⟩
  | .hbm, ⟨71, _⟩ => ⟨S4x4096x4096, .f32⟩
  | .hbm, ⟨72, _⟩ => ⟨S4x4096x4096, .f32⟩
  | .hbm, ⟨73, _⟩ => ⟨S4x4096x4096, .f32⟩
  | .hbm, ⟨74, _⟩ => ⟨S_, .f32⟩
  | .hbm, ⟨75, _⟩ => ⟨S4x4096, .f32⟩
  | .hbm, ⟨76, _⟩ => ⟨S4x4096x1, .f32⟩
  | .hbm, ⟨77, _⟩ => ⟨S4x4096x1, .f32⟩
  | .hbm, ⟨78, _⟩ => ⟨S4x4096x4096, .f32⟩
  | .hbm, ⟨79, _⟩ => ⟨S4x4096x4096, .f32⟩
  | .hbm, ⟨80, _⟩ => ⟨S_, .f32⟩
  | .hbm, ⟨81, _⟩ => ⟨S4x4096, .f32⟩
  | .hbm, ⟨82, _⟩ => ⟨S4x4096x4096, .f32⟩
  | .hbm, ⟨83, _⟩ => ⟨S4x4096x4096, .f32⟩
  | .hbm, ⟨84, _⟩ => ⟨S4x4096x4096, .f32⟩
  | .hbm, ⟨85, _⟩ => ⟨S_, .f32⟩
  | .hbm, ⟨86, _⟩ => ⟨S4x4096x4096, .f32⟩
  | .hbm, ⟨87, _⟩ => ⟨S4x4096x4096, .f32⟩
  | .hbm, ⟨88, _⟩ => ⟨S4x4096x4096, .f32⟩
  | .hbm, ⟨89, _⟩ => ⟨S_, .f32⟩
  | .hbm, ⟨90, _⟩ => ⟨S4x4096, .f32⟩
  | .hbm, ⟨91, _⟩ => ⟨S4x1x4096, .f32⟩
  | .hbm, ⟨92, _⟩ => ⟨S_, .f32⟩
  | .hbm, ⟨93, _⟩ => ⟨S4x4096, .f32⟩
  | .hbm, ⟨94, _⟩ => ⟨S_, .f32⟩
  | .hbm, ⟨95, _⟩ => ⟨S4x4096, .f32⟩
  | .hbm, ⟨96, _⟩ => ⟨S4x4096x1, .f32⟩
  | .hbm, ⟨97, _⟩ => ⟨S_, .f32⟩
  | .hbm, ⟨98, _⟩ => ⟨S4x4096, .f32⟩
  | .hbm, ⟨99, _⟩ => ⟨S4x4096, .f32⟩
  | .hbm, ⟨100, _⟩ => ⟨S_, .f32⟩
  | .hbm, ⟨101, _⟩ => ⟨S4x4096x4096, .f32⟩
  | .hbm, ⟨102, _⟩ => ⟨S4x4096x4096, .f32⟩
  | .hbm, ⟨103, _⟩ => ⟨S4x4096x64, .f32⟩
  | .hbm, ⟨104, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_v16_1 : Ref sig .tc := ⟨.hbm, 24, rfl⟩
abbrev main_call0_v2 : Ref sig .tc := ⟨.hbm, 25, rfl⟩
abbrev main_v16_0 : Ref sig .tc := ⟨.hbm, 26, rfl⟩
abbrev main_call0_cst : Ref sig .tc := ⟨.hbm, 27, rfl⟩
abbrev main_v16_2 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_cst_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x1024 : Shape := ⟨2, ![4096, 1024]⟩
abbrev S2x4096x2816 : Shape := ⟨3, ![2, 4096, 2816]⟩
abbrev S1024x5632 : Shape := ⟨2, ![1024, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S2x4096x2816 : Shape := ⟨3, ![2, 4096, 2816]⟩
abbrev S_ : Shape := ⟨0, ![]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S5632x1024 : Shape := ⟨2, ![5632, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S1x4096x2816, .bf16⟩
  | .hbm, ⟨9, _⟩ => ⟨S4096x2816, .bf16⟩
  | .hbm, ⟨10, _⟩ => ⟨S4096x2816, .f32⟩
  | .hbm, ⟨11, _⟩ => ⟨S1x4096x2816, .bf16⟩
  | .hbm, ⟨12, _⟩ => ⟨S4096x2816, .bf16⟩
  | .hbm, ⟨13, _⟩ => ⟨S4096x2816, .f32⟩
  | .hbm, ⟨14, _⟩ => ⟨S4096x5632, .f32⟩
  | .hbm, ⟨15, _⟩ => ⟨S5632x1024, .f32⟩
  | .hbm, ⟨16, _⟩ => ⟨S1024x5632, .f32⟩
  | .hbm, ⟨17, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel4.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4096x2816 : Shape := ⟨3, ![2, 4096, 2816]⟩
abbrev S1024x5632 : Shape := ⟨2, ![1024, 5632]⟩
abbrev S_ : Shape := ⟨0, ![]⟩
abbrev S4096x1024 : Shape := ⟨2, ![4096, 1024]⟩
abbrev S4096x5632 : Shape := ⟨2, ![4096, 5632]⟩
abbrev S4096x2816 : Shape := ⟨2, ![4096, 2816]⟩
abbrev S1x4096x2816 : Shape := ⟨3, ![1, 4096, 2816]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S1x4096x2816, .bf16⟩
  | .hbm, ⟨9, _⟩ => ⟨S4096x2816, .bf16⟩
  | .hbm, ⟨10, _⟩ => ⟨S4096x2816, .f32⟩
  | .hbm, ⟨11, _⟩ => ⟨S1x4096x2816, .bf16⟩
  | .hbm, ⟨12, _⟩ => ⟨S4096x2816, .bf16⟩
  | .hbm, ⟨13, _⟩ => ⟨S4096x2816, .f32⟩
  | .hbm, ⟨14, _⟩ => ⟨S4096x5632, .f32⟩
  | .hbm, ⟨15, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S4096x1024 : Shape := ⟨2, ![4096, 1024]⟩
abbrev S1024x5632 : Shape := ⟨2, ![1024, 5632]⟩
abbrev S2x4096x2816 : Shape := ⟨3, ![2, 4096, 2816]⟩
abbrev S4096x2816 : Shape := ⟨2, ![4096, 2816]⟩
abbrev S512x1024 : Shape := ⟨2, ![512, 1024]⟩
abbrev S1024x1408 : Shape := ⟨2, ![1024, 1408]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S2x4096x2816, .bf16⟩
  | .hbm, ⟨3, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S1x4096x2816, .f32⟩
  | .hbm, ⟨30, _⟩ => ⟨S1x4096x2816, .f32⟩
  | .hbm, ⟨31, _⟩ => ⟨S2x4096x2816, .f32⟩
  | .hbm, ⟨32, _⟩ => ⟨S2x4096x2816, .bf16⟩
  | .hbm, ⟨33, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v5_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v5_1 : Ref sig .tc := ⟨.hbm, 18, rfl⟩
abbrev main_v5_0 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Kernel7.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 36
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S2816x1024, .bf16⟩
  | .hbm, ⟨3, _⟩ => ⟨S4096x1024, .bf16⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S1x4096x2816, .f32⟩
  | .hbm, ⟨32, _⟩ => ⟨S1x4096x2816, .f32⟩
  | .hbm, ⟨33, _⟩ => ⟨S2x4096x2816, .f32⟩
  | .hbm, ⟨34, _⟩ => ⟨S2x4096x2816, .bf16⟩
  | .hbm, ⟨35, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S2816x1024, .bf16⟩
  | .hbm, ⟨3, _⟩ => ⟨S4096x1024, .bf16⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S2816x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S1x4096x2816, .f32⟩
  | .hbm, ⟨34, _⟩ => ⟨S1x4096x2816, .f32⟩
  | .hbm, ⟨35, _⟩ => ⟨S2x4096x2816, .f32⟩
  | .hbm, ⟨36, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Kernel8.lean ====
abbrev S4096x1024 : Shape := ⟨2, ![4096, 1024]⟩
abbrev S1024x3200 : Shape := ⟨2, ![1024, 3200]⟩
abbrev S4096x3200 : Shape := ⟨2, ![4096, 3200]⟩
abbrev S1024x1024 : Shape := ⟨2, ![1024, 1024]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3200, .bf16⟩
  | .hbm, ⟨2, _⟩ => ⟨S4096x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x3200 : Shape := ⟨2, ![1024, 3200]⟩
abbrev S4096x3200 : Shape := ⟨2, ![4096, 3200]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3200, .bf16⟩
  | .hbm, ⟨2, _⟩ => ⟨S4096x1024, .f32⟩
  | .hbm, ⟨3, _⟩ => ⟨S1024x3200, .f32⟩
  | .hbm, ⟨4, _⟩ => ⟨S4096x3200, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x3200 : Shape := ⟨2, ![4096, 3200]⟩
abbrev S1024x3200 : Shape := ⟨2, ![1024, 3200]⟩
abbrev S4096x1024 : Shape := ⟨2, ![4096, 1024]⟩
abbrev S1024x640 : Shape := ⟨2, ![1024, 640]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S4096x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 5], ![false, false, false]⟩

def k0_cond3 (i : grid0.Coords) : BitVec 1 :=
  let arg2 : BitVec 32 := BitVec.ofNat 32 (i 2).val
  let c4_i32_6 : BitVec 32 := 4#32
  let v11 : BitVec 1 := Scalar.cmpi .eq arg2 c4_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x3200 : Shape := ⟨2, ![4096, 3200]⟩
abbrev S1024x3200 : Shape := ⟨2, ![1024, 3200]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S_, .f32⟩
  | .hbm, ⟨3, _⟩ => ⟨S4096x1024, .f32⟩
  | .hbm, ⟨4, _⟩ => ⟨S1024x3200, .f32⟩
  | .hbm, ⟨5, _⟩ => ⟨S4096x3200, .f32⟩
  | .hbm, ⟨6, _⟩ => ⟨S4096x3200, .f32⟩
  | .hbm, ⟨7, _⟩ => ⟨S4096x1024, .f32⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S4096x3200 : Shape := ⟨2, ![4096, 3200]⟩
abbrev S1024x3200 : Shape := ⟨2, ![1024, 3200]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S1024x3200, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S4096x3200 : Shape := ⟨2, ![4096, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S_, .f32⟩
  | .hbm, ⟨3, _⟩ => ⟨S1024x3200, .f32⟩
  | .hbm, ⟨4, _⟩ => ⟨S4096x1024, .f32⟩
  | .hbm, ⟨5, _⟩ => ⟨S4096x3200, .f32⟩
  | .hbm, ⟨6, _⟩ => ⟨S4096x3200, .f32⟩
  | .hbm, ⟨7, _⟩ => ⟨S3200x1024, .f32⟩
  | .hbm, ⟨8, _⟩ => ⟨S1024x3200, .f32⟩
  | .hbm, ⟨9, _⟩ => ⟨S1024x3200, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S2x1024x2304 : Shape := ⟨3, ![2, 1024, 2304]⟩
abbrev S2048x2304 : Shape := ⟨2, ![2048, 2304]⟩
abbrev S128x2304 : Shape := ⟨2, ![128, 2304]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x2304, .f32⟩
  | .hbm, ⟨1, _⟩ => ⟨S2x1024x2304, .f32⟩
  | .hbm, ⟨2, _⟩ => ⟨S2x1024x2304, .f32⟩
  | .hbm, ⟨3, _⟩ => ⟨S2x1024x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .hbm, ⟨8, _⟩ => ⟨S2048x2304, .f32⟩
  | .hbm, ⟨9, _⟩ => ⟨S2048x2304, .f32⟩
  | .hbm, ⟨10, _⟩ => ⟨S2048x2304, .f32⟩
  | .local _ .vmem, ⟨0, _⟩ => ⟨S128x2304, .f32⟩
  | .local _ .vmem, ⟨1, _⟩ => ⟨S128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | _, _ => ⟨S2x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S2x1024x2304 : Shape := ⟨3, ![2, 1024, 2304]⟩
abbrev S_ : Shape := ⟨0, ![]⟩
abbrev S2048x2304 : Shape := ⟨2, ![2048, 2304]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x2304, .f32⟩
  | .hbm, ⟨1, _⟩ => ⟨S2x1024x2304, .f32⟩
  | .hbm, ⟨2, _⟩ => ⟨S2x1024x2304, .f32⟩
  | .hbm, ⟨3, _⟩ => ⟨S2x1024x2304, .f32⟩
  | .hbm, ⟨4, _⟩ => ⟨S_, .f32⟩
  | .hbm, ⟨5, _⟩ => ⟨S2x1024x2304, .f32⟩
  | .hbm, ⟨6, _⟩ => ⟨S2x1024x2304, .f32⟩
  | .hbm, ⟨7, _⟩ => ⟨S_, .f32⟩
  | .hbm, ⟨8, _⟩ => ⟨S2x1024x2304, .f32⟩
  | .hbm, ⟨9, _⟩ => ⟨S2x1024x2304, .f32⟩
  | .hbm, ⟨10, _⟩ => ⟨S2x1024x2304, .f32⟩
  | .hbm, ⟨11, _⟩ => ⟨S_, .f32⟩
  | .hbm, ⟨12, _⟩ => ⟨S2x1024x2304, .f32⟩
  | .hbm, ⟨13, _⟩ => ⟨S2x1024x2304, .f32⟩
  | .hbm, ⟨14, _⟩ => ⟨S2x1024x2304, .f32⟩
  | .hbm, ⟨15, _⟩ => ⟨S_, .f32⟩
  | .hbm, ⟨16, _⟩ => ⟨S2x1024x2304, .f32⟩
  | .hbm, ⟨17, _⟩ => ⟨S2x1024x2304, .f32⟩
  | .hbm, ⟨18, _⟩ => ⟨S2x1024x2304, .f32⟩
  | .hbm, ⟨19, _⟩ => ⟨S_, .f32⟩
  | .hbm, ⟨20, _⟩ => ⟨S2x1024x2304, .f32⟩
  | .hbm, ⟨21, _⟩ => ⟨S2x1024x2304, .f32⟩
  | .hbm, ⟨22, _⟩ => ⟨S_, .f32⟩
  | .hbm, ⟨23, _⟩ => ⟨S2x1024x2304, .f32⟩
  | .hbm, ⟨24, _⟩ => ⟨S2x1024x2304, .f32⟩
  | .hbm, ⟨25, _⟩ => ⟨S2x1024x2304, .f32⟩
  | .hbm, ⟨26, _⟩ => ⟨S_, .f32⟩
  | .hbm, ⟨27, _⟩ => ⟨S2x1024x2304, .f32⟩
  | .hbm, ⟨28, _⟩ => ⟨S2x1024x2304, .f32⟩
  | .hbm, ⟨29, _⟩ => ⟨S2x1024x2304, .f32⟩
  | .hbm, ⟨30, _⟩ => ⟨S_, .f32⟩
  | .hbm, ⟨31, _⟩ => ⟨S2x1024x2304, .f32⟩
  | .hbm, ⟨32, _⟩ => ⟨S2x1024x2304, .f32⟩
  | .hbm, ⟨33, _⟩ => ⟨S2x1024x2304, .f32⟩
  | .hbm, ⟨34, _⟩ => ⟨S_, .f32⟩
  | .hbm, ⟨35, _⟩ => ⟨S2x1024x2304, .f32⟩
  | .hbm, ⟨36, _⟩ => ⟨S2x1024x2304, .f32⟩
  | .hbm, ⟨37, _⟩ => ⟨S2048x2304, .f32⟩
  | .hbm, ⟨38, _⟩ => ⟨S2048x2304, .f32⟩
  | .hbm, ⟨39, _⟩ => ⟨S2048x2304, .f32⟩
  | _, _ => ⟨S2x1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15.lean ====
abbrev S232x128 : Shape := ⟨2, ![232, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S232x128, .f32⟩
  | .hbm, ⟨1, _⟩ => ⟨S232x128, .f32⟩
  | .hbm, ⟨2, _⟩ => ⟨S232x128, .f32⟩
  | .hbm, ⟨3, _⟩ => ⟨S232x128, .f32⟩
  | .hbm, ⟨4, _⟩ => ⟨S232x128, .f32⟩
  | .hbm, ⟨5, _⟩ => ⟨S232x128, .f32⟩
  | .hbm, ⟨6, _⟩ => ⟨S232x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S232x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S232x128 : Shape := ⟨2, ![232, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S232x128, .f32⟩
  | .hbm, ⟨1, _⟩ => ⟨S232x128, .f32⟩
  | .hbm, ⟨2, _⟩ => ⟨S232x128, .f32⟩
  | .hbm, ⟨3, _⟩ => ⟨S232x128, .f32⟩
  | .hbm, ⟨4, _⟩ => ⟨S_, .f32⟩
  | .hbm, ⟨5, _⟩ => ⟨S232x128, .f32⟩
  | .hbm, ⟨6, _⟩ => ⟨S232x128, .f32⟩
  | .hbm, ⟨7, _⟩ => ⟨S_, .f32⟩
  | .hbm, ⟨8, _⟩ => ⟨S232x128, .f32⟩
  | .hbm, ⟨9, _⟩ => ⟨S232x128, .f32⟩
  | .hbm, ⟨10, _⟩ => ⟨S232x128, .f32⟩
  | .hbm, ⟨11, _⟩ => ⟨S_, .f32⟩
  | .hbm, ⟨12, _⟩ => ⟨S232x128, .f32⟩
  | .hbm, ⟨13, _⟩ => ⟨S232x128, .f32⟩
  | .hbm, ⟨14, _⟩ => ⟨S232x128, .f32⟩
  | .hbm, ⟨15, _⟩ => ⟨S_, .f32⟩
  | .hbm, ⟨16, _⟩ => ⟨S232x128, .f32⟩
  | .hbm, ⟨17, _⟩ => ⟨S232x128, .f32⟩
  | .hbm, ⟨18, _⟩ => ⟨S232x128, .f32⟩
  | .hbm, ⟨19, _⟩ => ⟨S_, .f32⟩
  | .hbm, ⟨20, _⟩ => ⟨S232x128, .f32⟩
  | .hbm, ⟨21, _⟩ => ⟨S232x128, .f32⟩
  | .hbm, ⟨22, _⟩ => ⟨S_, .f32⟩
  | .hbm, ⟨23, _⟩ => ⟨S232x128, .f32⟩
  | .hbm, ⟨24, _⟩ => ⟨S232x128, .f32⟩
  | .hbm, ⟨25, _⟩ => ⟨S232x128, .f32⟩
  | .hbm, ⟨26, _⟩ => ⟨S_, .f32⟩
  | .hbm, ⟨27, _⟩ => ⟨S232x128, .f32⟩
  | .hbm, ⟨28, _⟩ => ⟨S232x128, .f32⟩
  | .hbm, ⟨29, _⟩ => ⟨S232x128, .f32⟩
  | .hbm, ⟨30, _⟩ => ⟨S_, .f32⟩
  | .hbm, ⟨31, _⟩ => ⟨S232x128, .f32⟩
  | .hbm, ⟨32, _⟩ => ⟨S232x128, .f32⟩
  | .hbm, ⟨33, _⟩ => ⟨S232x128, .f32⟩
  | .hbm, ⟨34, _⟩ => ⟨S_, .f32⟩
  | .hbm, ⟨35, _⟩ => ⟨S232x128, .f32⟩
  | .hbm, ⟨36, _⟩ => ⟨S232x128, .f32⟩
  | _, _ => ⟨S232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x1024x1408 : Shape := ⟨3, ![2, 1024, 1408]⟩
abbrev S512x1408 : Shape := ⟨2, ![512, 1408]⟩
abbrev S1 : Shape := ⟨1, ![1]⟩
abbrev S1x256x1408 : Shape := ⟨3, ![1, 256, 1408]⟩
abbrev S256x1408 : Shape := ⟨2, ![256, 1408]⟩

abbrev nBuf : Space → Nat
  | .hbm => 11
  | .vmem => 22
  | .smem => 1
  | _ => 0

abbrev bufTy : (tb : Table) → Fin (tcTables nBuf tb) → BufTy
  | .hbm, ⟨0, _⟩ => ⟨S2x1024x1408, .f32⟩
  | .hbm, ⟨1, _⟩ => ⟨S512x1408, .f32⟩
  | .hbm, ⟨2, _⟩ => ⟨S512x1408, .f32⟩
  | .hbm, ⟨3, _⟩ => ⟨S512x1408, .f32⟩
  | .hbm, ⟨4, _⟩ => ⟨S512x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | .local _ .smem, ⟨0, _⟩ => ⟨S1, .i32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c0_i32_4 : BitVec 32 := 0#32
  let v19 : BitVec 1 := Scalar.cmpi .eq arg0 c0_i32_4
  let v20 : BitVec 1 := Scalar.andi v19 v18
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi arg1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c0_i32_4 : BitVec 32 := 0#32
  let v19 : BitVec 1 := Scalar.cmpi .eq arg0 c0_i32_4
  let v_true : BitVec 1 := 1#1
  let v20 : BitVec 1 := Scalar.xori v18 v_true
  let v21 : BitVec 1 := Scalar.andi v19 v20
  let c2_i32_5 : BitVec 32 := 2#32
  let c0_i32_6 : BitVec 32 := 0#32
  let v22 : BitVec 1 := Scalar.cmpi .eq c2_i32_5 c0_i32_6
  let c1_i32_7 : BitVec 32 := 1#32
  let v23 : BitVec 32 := Scalar.select v22 c1_i32_7 c2_i32_5
  let v24 : BitVec 32 := Scalar.remsi arg1 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let v32 : BitVec 32 := Scalar.select v21 v31 c0_i32_11
  let c0_i32_12 : BitVec 32 := 0#32
  let c0_i32_13 : BitVec 32 := 0#32
  ![v32.toNat, c0_i32_12.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c1_i32_4 : BitVec 32 := 1#32
  let v19 : BitVec 1 := Scalar.cmpi .eq arg0 c1_i32_4
  let v20 : BitVec 1 := Scalar.andi v19 v18
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi arg1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c1_i32_4 : BitVec 32 := 1#32
  let v19 : BitVec 1 := Scalar.cmpi .eq arg0 c1_i32_4
  let v_true : BitVec 1 := 1#1
  let v20 : BitVec 1 := Scalar.xori v18 v_true
  let v21 : BitVec 1 := Scalar.andi v19 v20
  let c2_i32_5 : BitVec 32 := 2#32
  let c0_i32_6 : BitVec 32 := 0#32
  let v22 : BitVec 1 := Scalar.cmpi .eq c2_i32_5 c0_i32_6
  let c1_i32_7 : BitVec 32 := 1#32
  let v23 : BitVec 32 := Scalar.select v22 c1_i32_7 c2_i32_5
  let v24 : BitVec 32 := Scalar.remsi arg1 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let v32 : BitVec 32 := Scalar.select v21 v31 c0_i32_11
  let c0_i32_12 : BitVec 32 := 0#32
  let c0_i32_13 : BitVec 32 := 0#32
  ![v32.toNat, c0_i32_12.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference16Ideal.lean ====
abbrev S2x1024x1408 : Shape := ⟨3, ![2, 1024, 1408]⟩
abbrev S512x1408 : Shape := ⟨2, ![512, 1408]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩

abbrev nBuf : Space → Nat
  | .hbm => 62
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S512x1408, .f32⟩
  | .hbm, ⟨2, _⟩ => ⟨S512x1408, .f32⟩
  | .hbm, ⟨3, _⟩ => ⟨S512x1408, .f32⟩
  | .hbm, ⟨4, _⟩ => ⟨S512x1408, .f32⟩
  | .hbm, ⟨5, _⟩ => ⟨S2x1024x1408, .f32⟩
  | .hbm, ⟨6, _⟩ => ⟨S2x1024x1408, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S512x1408, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S512x1408, .f32⟩
  | .hbm, ⟨16, _⟩ => ⟨S1024x1408, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S512x1408, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S512x1408, .f32⟩
  | .hbm, ⟨25, _⟩ => ⟨S1024x1408, .f32⟩
  | .hbm, ⟨26, _⟩ => ⟨S1x1024x1408, .f32⟩
  | .hbm, ⟨27, _⟩ => ⟨S1x1024x1408, .f32⟩
  | .hbm, ⟨28, _⟩ => ⟨S2x1024x1408, .f32⟩
  | .hbm, ⟨29, _⟩ => ⟨S_, .f32⟩
  | .hbm, ⟨30, _⟩ => ⟨S2x1024x1408, .f32⟩
  | .hbm, ⟨31, _⟩ => ⟨S2x1024x1408, .f32⟩
  | .hbm, ⟨32, _⟩ => ⟨S_, .f32⟩
  | .hbm, ⟨33, _⟩ => ⟨S2x1024x1408, .f32⟩
  | .hbm, ⟨34, _⟩ => ⟨S2x1024x1408, .f32⟩
  | .hbm, ⟨35, _⟩ => ⟨S2x1024x1408, .f32⟩
  | .hbm, ⟨36, _⟩ => ⟨S_, .f32⟩
  | .hbm, ⟨37, _⟩ => ⟨S2x1024x1408, .f32⟩
  | .hbm, ⟨38, _⟩ => ⟨S2x1024x1408, .f32⟩
  | .hbm, ⟨39, _⟩ => ⟨S2x1024x1408, .f32⟩
  | .hbm, ⟨40, _⟩ => ⟨S_, .f32⟩
  | .hbm, ⟨41, _⟩ => ⟨S2x1024x1408, .f32⟩
  | .hbm, ⟨42, _⟩ => ⟨S2x1024x1408, .f32⟩
  | .hbm, ⟨43, _⟩ => ⟨S2x1024x1408, .f32⟩
  | .hbm, ⟨44, _⟩ => ⟨S_, .f32⟩
  | .hbm, ⟨45, _⟩ => ⟨S2x1024x1408, .f32⟩
  | .hbm, ⟨46, _⟩ => ⟨S2x1024x1408, .f32⟩
  | .hbm, ⟨47, _⟩ => ⟨S_, .f32⟩
  | .hbm, ⟨48, _⟩ => ⟨S2x1024x1408, .f32⟩
  | .hbm, ⟨49, _⟩ => ⟨S2x1024x1408, .f32⟩
  | .hbm, ⟨50, _⟩ => ⟨S2x1024x1408, .f32⟩
  | .hbm, ⟨51, _⟩ => ⟨S_, .f32⟩
  | .hbm, ⟨52, _⟩ => ⟨S2x1024x1408, .f32⟩
  | .hbm, ⟨53, _⟩ => ⟨S2x1024x1408, .f32⟩
  | .hbm, ⟨54, _⟩ => ⟨S2x1024x1408, .f32⟩
  | .hbm, ⟨55, _⟩ => ⟨S_, .f32⟩
  | .hbm, ⟨56, _⟩ => ⟨S2x1024x1408, .f32⟩
  | .hbm, ⟨57, _⟩ => ⟨S2x1024x1408, .f32⟩
  | .hbm, ⟨58, _⟩ => ⟨S2x1024x1408, .f32⟩
  | .hbm, ⟨59, _⟩ => ⟨S_, .f32⟩
  | .hbm, ⟨60, _⟩ => ⟨S2x1024x1408, .f32⟩
  | .hbm, ⟨61, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Kernel17.lean ====
abbrev S2x704x1024 : Shape := ⟨3, ![2, 704, 1024]⟩
abbrev S352x1024 : Shape := ⟨2, ![352, 1024]⟩
abbrev S1 : Shape := ⟨1, ![1]⟩
abbrev S1x176x1024 : Shape := ⟨3, ![1, 176, 1024]⟩
abbrev S176x1024 : Shape := ⟨2, ![176, 1024]⟩

abbrev nBuf : Space → Nat
  | .hbm => 11
  | .vmem => 22
  | .smem => 1
  | _ => 0

abbrev bufTy : (tb : Table) → Fin (tcTables nBuf tb) → BufTy
  | .hbm, ⟨0, _⟩ => ⟨S2x704x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .smem, ⟨0, _⟩ => ⟨S1, .i32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c0_i32_4 : BitVec 32 := 0#32
  let v19 : BitVec 1 := Scalar.cmpi .eq arg0 c0_i32_4
  let v20 : BitVec 1 := Scalar.andi v19 v18
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi arg1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c0_i32_4 : BitVec 32 := 0#32
  let v19 : BitVec 1 := Scalar.cmpi .eq arg0 c0_i32_4
  let v_true : BitVec 1 := 1#1
  let v20 : BitVec 1 := Scalar.xori v18 v_true
  let v21 : BitVec 1 := Scalar.andi v19 v20
  let c2_i32_5 : BitVec 32 := 2#32
  let c0_i32_6 : BitVec 32 := 0#32
  let v22 : BitVec 1 := Scalar.cmpi .eq c2_i32_5 c0_i32_6
  let c1_i32_7 : BitVec 32 := 1#32
  let v23 : BitVec 32 := Scalar.select v22 c1_i32_7 c2_i32_5
  let v24 : BitVec 32 := Scalar.remsi arg1 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let v32 : BitVec 32 := Scalar.select v21 v31 c0_i32_11
  let c0_i32_12 : BitVec 32 := 0#32
  let c0_i32_13 : BitVec 32 := 0#32
  ![v32.toNat, c0_i32_12.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c1_i32_4 : BitVec 32 := 1#32
  let v19 : BitVec 1 := Scalar.cmpi .eq arg0 c1_i32_4
  let v20 : BitVec 1 := Scalar.andi v19 v18
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi arg1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c1_i32_4 : BitVec 32 := 1#32
  let v19 : BitVec 1 := Scalar.cmpi .eq arg0 c1_i32_4
  let v_true : BitVec 1 := 1#1
  let v20 : BitVec 1 := Scalar.xori v18 v_true
  let v21 : BitVec 1 := Scalar.andi v19 v20
  let c2_i32_5 : BitVec 32 := 2#32
  let c0_i32_6 : BitVec 32 := 0#32
  let v22 : BitVec 1 := Scalar.cmpi .eq c2_i32_5 c0_i32_6
  let c1_i32_7 : BitVec 32 := 1#32
  let v23 : BitVec 32 := Scalar.select v22 c1_i32_7 c2_i32_5
  let v24 : BitVec 32 := Scalar.remsi arg1 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let v32 : BitVec 32 := Scalar.select v21 v31 c0_i32_11
  let c0_i32_12 : BitVec 32 := 0#32
  let c0_i32_13 : BitVec 32 := 0#32
  ![v32.toNat, c0_i32_12.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference17Ideal.lean ====
abbrev S2x704x1024 : Shape := ⟨3, ![2, 704, 1024]⟩
abbrev S352x1024 : Shape := ⟨2, ![352, 1024]⟩
abbrev S1 : Shape := ⟨1, ![1]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S2x704x1024, .f32⟩
  | .hbm, ⟨6, _⟩ => ⟨S2x704x1024, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S352x1024, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S352x1024, .f32⟩
  | .hbm, ⟨16, _⟩ => ⟨S704x1024, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S352x1024, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S352x1024, .f32⟩
  | .hbm, ⟨25, _⟩ => ⟨S704x1024, .f32⟩
  | .hbm, ⟨26, _⟩ => ⟨S1x704x1024, .f32⟩
  | .hbm, ⟨27, _⟩ => ⟨S1x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | .hbm, ⟨47, _⟩ => ⟨S_, .f32⟩
  | .hbm, ⟨48, _⟩ => ⟨S2x704x1024, .f32⟩
  | .hbm, ⟨49, _⟩ => ⟨S2x704x1024, .f32⟩
  | .hbm, ⟨50, _⟩ => ⟨S2x704x1024, .f32⟩
  | .hbm, ⟨51, _⟩ => ⟨S_, .f32⟩
  | .hbm, ⟨52, _⟩ => ⟨S2x704x1024, .f32⟩
  | .hbm, ⟨53, _⟩ => ⟨S2x704x1024, .f32⟩
  | .hbm, ⟨54, _⟩ => ⟨S2x704x1024, .f32⟩
  | .hbm, ⟨55, _⟩ => ⟨S_, .f32⟩
  | .hbm, ⟨56, _⟩ => ⟨S2x704x1024, .f32⟩
  | .hbm, ⟨57, _⟩ => ⟨S2x704x1024, .f32⟩
  | .hbm, ⟨58, _⟩ => ⟨S2x704x1024, .f32⟩
  | .hbm, ⟨59, _⟩ => ⟨S_, .f32⟩
  | .hbm, ⟨60, _⟩ => ⟨S2x704x1024, .f32⟩
  | .hbm, ⟨61, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Kernel18.lean ====
abbrev S2x1024x771 : Shape := ⟨3, ![2, 1024, 771]⟩
abbrev S512x771 : Shape := ⟨2, ![512, 771]⟩
abbrev S1 : Shape := ⟨1, ![1]⟩
abbrev S1x256x771 : Shape := ⟨3, ![1, 256, 771]⟩
abbrev S256x771 : Shape := ⟨2, ![256, 771]⟩

abbrev nBuf : Space → Nat
  | .hbm => 11
  | .vmem => 22
  | .smem => 1
  | _ => 0

abbrev bufTy : (tb : Table) → Fin (tcTables nBuf tb) → BufTy
  | .hbm, ⟨0, _⟩ => ⟨S2x1024x771, .f32⟩
  | .hbm, ⟨1, _⟩ => ⟨S512x771, .f32⟩
  | .hbm, ⟨2, _⟩ => ⟨S512x771, .f32⟩
  | .hbm, ⟨3, _⟩ => ⟨S512x771, .f32⟩
  | .hbm, ⟨4, _⟩ => ⟨S512x771, .f32⟩
  | .hbm, ⟨5, _⟩ => ⟨S2x1024x771, .f32⟩
  | .hbm, ⟨6, _⟩ => ⟨S2x1024x771, .f32⟩
  | .hbm, ⟨7, _⟩ => ⟨S2x1024x771, .f32⟩
  | .hbm, ⟨8, _⟩ => ⟨S2x1024x771, .f32⟩
  | .hbm, ⟨9, _⟩ => ⟨S2x1024x771, .f32⟩
  | .hbm, ⟨10, _⟩ => ⟨S2x1024x771, .f32⟩
  | .local _ .vmem, ⟨0, _⟩ => ⟨S1x256x771, .f32⟩
  | .local _ .vmem, ⟨1, _⟩ => ⟨S1x256x771, .f32⟩
  | .local _ .vmem, ⟨2, _⟩ => ⟨S256x771, .f32⟩
  | .local _ .vmem, ⟨3, _⟩ => ⟨S256x771, .f32⟩
  | .local _ .vmem, ⟨4, _⟩ => ⟨S256x771, .f32⟩
  | .local _ .vmem, ⟨5, _⟩ => ⟨S256x771, .f32⟩
  | .local _ .vmem, ⟨6, _⟩ => ⟨S256x771, .f32⟩
  | .local _ .vmem, ⟨7, _⟩ => ⟨S256x771, .f32⟩
  | .local _ .vmem, ⟨8, _⟩ => ⟨S256x771, .f32⟩
  | .local _ .vmem, ⟨9, _⟩ => ⟨S256x771, .f32⟩
  | .local _ .vmem, ⟨10, _⟩ => ⟨S1x256x771, .f32⟩
  | .local _ .vmem, ⟨11, _⟩ => ⟨S1x256x771, .f32⟩
  | .local _ .vmem, ⟨12, _⟩ => ⟨S1x256x771, .f32⟩
  | .local _ .vmem, ⟨13, _⟩ => ⟨S1x256x771, .f32⟩
  | .local _ .vmem, ⟨14, _⟩ => ⟨S1x256x771, .f32⟩
  | .local _ .vmem, ⟨15, _⟩ => ⟨S1x256x771, .f32⟩
  | .local _ .vmem, ⟨16, _⟩ => ⟨S1x256x771, .f32⟩
  | .local _ .vmem, ⟨17, _⟩ => ⟨S1x256x771, .f32⟩
  | .local _ .vmem, ⟨18, _⟩ => ⟨S1x256x771, .f32⟩
  | .local _ .vmem, ⟨19, _⟩ => ⟨S1x256x771, .f32⟩
  | .local _ .vmem, ⟨20, _⟩ => ⟨S1x256x771, .f32⟩
  | .local _ .vmem, ⟨21, _⟩ => ⟨S1x256x771, .f32⟩
  | .local _ .smem, ⟨0, _⟩ => ⟨S1, .i32⟩
  | _, _ => ⟨S2x1024x771, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c0_i32_4 : BitVec 32 := 0#32
  let v19 : BitVec 1 := Scalar.cmpi .eq arg0 c0_i32_4
  let v20 : BitVec 1 := Scalar.andi v19 v18
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi arg1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c0_i32_4 : BitVec 32 := 0#32
  let v19 : BitVec 1 := Scalar.cmpi .eq arg0 c0_i32_4
  let v_true : BitVec 1 := 1#1
  let v20 : BitVec 1 := Scalar.xori v18 v_true
  let v21 : BitVec 1 := Scalar.andi v19 v20
  let c2_i32_5 : BitVec 32 := 2#32
  let c0_i32_6 : BitVec 32 := 0#32
  let v22 : BitVec 1 := Scalar.cmpi .eq c2_i32_5 c0_i32_6
  let c1_i32_7 : BitVec 32 := 1#32
  let v23 : BitVec 32 := Scalar.select v22 c1_i32_7 c2_i32_5
  let v24 : BitVec 32 := Scalar.remsi arg1 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let v32 : BitVec 32 := Scalar.select v21 v31 c0_i32_11
  let c0_i32_12 : BitVec 32 := 0#32
  let c0_i32_13 : BitVec 32 := 0#32
  ![v32.toNat, c0_i32_12.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c1_i32_4 : BitVec 32 := 1#32
  let v19 : BitVec 1 := Scalar.cmpi .eq arg0 c1_i32_4
  let v20 : BitVec 1 := Scalar.andi v19 v18
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi arg1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c1_i32_4 : BitVec 32 := 1#32
  let v19 : BitVec 1 := Scalar.cmpi .eq arg0 c1_i32_4
  let v_true : BitVec 1 := 1#1
  let v20 : BitVec 1 := Scalar.xori v18 v_true
  let v21 : BitVec 1 := Scalar.andi v19 v20
  let c2_i32_5 : BitVec 32 := 2#32
  let c0_i32_6 : BitVec 32 := 0#32
  let v22 : BitVec 1 := Scalar.cmpi .eq c2_i32_5 c0_i32_6
  let c1_i32_7 : BitVec 32 := 1#32
  let v23 : BitVec 32 := Scalar.select v22 c1_i32_7 c2_i32_5
  let v24 : BitVec 32 := Scalar.remsi arg1 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let v32 : BitVec 32 := Scalar.select v21 v31 c0_i32_11
  let c0_i32_12 : BitVec 32 := 0#32
  let c0_i32_13 : BitVec 32 := 0#32
  ![v32.toNat, c0_i32_12.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x771 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x771 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x771 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x771 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x771 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x771 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x771 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x771 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x771 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x771 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x771 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference18Ideal.lean ====
abbrev S2x1024x771 : Shape := ⟨3, ![2, 1024, 771]⟩
abbrev S512x771 : Shape := ⟨2, ![512, 771]⟩
abbrev S1 : Shape := ⟨1, ![1]⟩
abbrev S_ : Shape := ⟨0, ![]⟩
abbrev S1024x771 : Shape := ⟨2, ![1024, 771]⟩
abbrev S1x1024x771 : Shape := ⟨3, ![1, 1024, 771]⟩

abbrev nBuf : Space → Nat
  | .hbm => 62
  | .vmem => 0
  | .smem => 0
  | _ => 0

abbrev bufTy : (tb : Table) → Fin (tcTables nBuf tb) → BufTy
  | .hbm, ⟨0, _⟩ => ⟨S2x1024x771, .f32⟩
  | .hbm, ⟨1, _⟩ => ⟨S512x771, .f32⟩
  | .hbm, ⟨2, _⟩ => ⟨S512x771, .f32⟩
  | .hbm, ⟨3, _⟩ => ⟨S512x771, .f32⟩
  | .hbm, ⟨4, _⟩ => ⟨S512x771, .f32⟩
  | .hbm, ⟨5, _⟩ => ⟨S2x1024x771, .f32⟩
  | .hbm, ⟨6, _⟩ => ⟨S2x1024x771, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S512x771, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S512x771, .f32⟩
  | .hbm, ⟨16, _⟩ => ⟨S1024x771, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S512x771, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S512x771, .f32⟩
  | .hbm, ⟨25, _⟩ => ⟨S1024x771, .f32⟩
  | .hbm, ⟨26, _⟩ => ⟨S1x1024x771, .f32⟩
  | .hbm, ⟨27, _⟩ => ⟨S1x1024x771, .f32⟩
  | .hbm, ⟨28, _⟩ => ⟨S2x1024x771, .f32⟩
  | .hbm, ⟨29, _⟩ => ⟨S_, .f32⟩
  | .hbm, ⟨30, _⟩ => ⟨S2x1024x771, .f32⟩
  | .hbm, ⟨31, _⟩ => ⟨S2x1024x771, .f32⟩
  | .hbm, ⟨32, _⟩ => ⟨S_, .f32⟩
  | .hbm, ⟨33, _⟩ => ⟨S2x1024x771, .f32⟩
  | .hbm, ⟨34, _⟩ => ⟨S2x1024x771, .f32⟩
  | .hbm, ⟨35, _⟩ => ⟨S2x1024x771, .f32⟩
  | .hbm, ⟨36, _⟩ => ⟨S_, .f32⟩
  | .hbm, ⟨37, _⟩ => ⟨S2x1024x771, .f32⟩
  | .hbm, ⟨38, _⟩ => ⟨S2x1024x771, .f32⟩
  | .hbm, ⟨39, _⟩ => ⟨S2x1024x771, .f32⟩
  | .hbm, ⟨40, _⟩ => ⟨S_, .f32⟩
  | .hbm, ⟨41, _⟩ => ⟨S2x1024x771, .f32⟩
  | .hbm, ⟨42, _⟩ => ⟨S2x1024x771, .f32⟩
  | .hbm, ⟨43, _⟩ => ⟨S2x1024x771, .f32⟩
  | .hbm, ⟨44, _⟩ => ⟨S_, .f32⟩
  | .hbm, ⟨45, _⟩ => ⟨S2x1024x771, .f32⟩
  | .hbm, ⟨46, _⟩ => ⟨S2x1024x771, .f32⟩
  | .hbm, ⟨47, _⟩ => ⟨S_, .f32⟩
  | .hbm, ⟨48, _⟩ => ⟨S2x1024x771, .f32⟩
  | .hbm, ⟨49, _⟩ => ⟨S2x1024x771, .f32⟩
  | .hbm, ⟨50, _⟩ => ⟨S2x1024x771, .f32⟩
  | .hbm, ⟨51, _⟩ => ⟨S_, .f32⟩
  | .hbm, ⟨52, _⟩ => ⟨S2x1024x771, .f32⟩
  | .hbm, ⟨53, _⟩ => ⟨S2x1024x771, .f32⟩
  | .hbm, ⟨54, _⟩ => ⟨S2x1024x771, .f32⟩
  | .hbm, ⟨55, _⟩ => ⟨S_, .f32⟩
  | .hbm, ⟨56, _⟩ => ⟨S2x1024x771, .f32⟩
  | .hbm, ⟨57, _⟩ => ⟨S2x1024x771, .f32⟩
  | .hbm, ⟨58, _⟩ => ⟨S2x1024x771, .f32⟩
  | .hbm, ⟨59, _⟩ => ⟨S_, .f32⟩
  | .hbm, ⟨60, _⟩ => ⟨S2x1024x771, .f32⟩
  | .hbm, ⟨61, _⟩ => ⟨S2x1024x771, .f32⟩
  | _, _ => ⟨S2x1024x771, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Kernel20.lean ====
abbrev S8x1024 : Shape := ⟨2, ![8, 1024]⟩
abbrev S8x2304 : Shape := ⟨2, ![8, 2304]⟩
abbrev S1024x2304 : Shape := ⟨2, ![1024, 2304]⟩
abbrev S8x256 : Shape := ⟨2, ![8, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .bf16⟩
  | .hbm, ⟨1, _⟩ => ⟨S8x2304, .bf16⟩
  | .hbm, ⟨2, _⟩ => ⟨S1024x2304, .f32⟩
  | .local _ .vmem, ⟨0, _⟩ => ⟨S8x1024, .bf16⟩
  | .local _ .vmem, ⟨1, _⟩ => ⟨S8x256, .bf16⟩
  | .local _ .vmem, ⟨2, _⟩ => ⟨S8x256, .bf16⟩
  | .local _ .vmem, ⟨3, _⟩ => ⟨S1024x256, .f32⟩
  | .local _ .vmem, ⟨4, _⟩ => ⟨S1024x256, .f32⟩
  | _, _ => ⟨S8x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8x1024 : Shape := ⟨2, ![8, 1024]⟩
abbrev S8x2304 : Shape := ⟨2, ![8, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x1024, .bf16⟩
  | .hbm, ⟨1, _⟩ => ⟨S8x2304, .bf16⟩
  | .hbm, ⟨2, _⟩ => ⟨S_, .f32⟩
  | .hbm, ⟨3, _⟩ => ⟨S1024x2304, .f32⟩
  | .hbm, ⟨4, _⟩ => ⟨S8x1024, .f32⟩
  | .hbm, ⟨5, _⟩ => ⟨S8x2304, .f32⟩
  | .hbm, ⟨6, _⟩ => ⟨S8x2304, .f32⟩
  | .hbm, ⟨7, _⟩ => ⟨S2304x1024, .f32⟩
  | .hbm, ⟨8, _⟩ => ⟨S1024x2304, .f32⟩
  | _, _ => ⟨S8x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.KRuns.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! The program that the statement prints, over words: its host lines, the blocks each window reads, and the two cases of its grid. -/

namespace Cert.Kernel.Fox

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0, hostOps0_1, hostOps0_2]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

def T0 : Finset (Ref sig .tc) := {main_cst_4, main_v29, main_v30, main_v31, main_v32, main_v33}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      (Pipeline.RDat.FramePostR.arr_in h c 6 rfl).trans ((hA c 6).trans (V_main_arg4 m c))⟩) h

abbrev cond0_0 (i : grid0.Coords) : Prop := k0_cond1 i = 1#1
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

abbrev ms0_0 (t : Fin cfg0.N) : Memref sig .tc .vmem S1x4096x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4096x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x512 .f32 := win0_11.stage (cfg0.slots t 11)
abbrev hs0_11 (t : Fin cfg0.N) : (ms0_11 t).IsWhole := hstage0_11 ((cfg0.slots t 11).cast nbuf0_11)
abbrev scM0_0 : Memref sig .tc .vmem S4096x1 .f32 := Memref.whole cc0_scratch0
abbrev VS0_0 : View sig .tc .vmem S4096x1 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fox

end
-- ==== Proof.KRunA.lean ====
module

public import proofs.«01_k».proof.Proof.KRuns

@[expose] public section

set_option maxRecDepth 16384

noncomputable section

/-! The body's run at the first block of keys. -/

namespace Cert.Kernel.Fox

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
noncomputable def kernelRun0_A (c : Dev nD) (i : grid0.Coords) (arg2 : Memref sig .tc .vmem S1x4096x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S1x1x512 .f32) (harg5 : arg5.IsWhole) (arg6 : Memref sig .tc .vmem S1x4096x64 .f32) (harg6 : arg6.IsWhole) (arg7 : Memref sig .tc .vmem S1x4096x1 .f32) (harg7 : arg7.IsWhole) (arg8 : Memref sig .tc .vmem S1x4096x64 .f32) (harg8 : arg8.IsWhole) (arg9 : Memref sig .tc .vmem S1x4096x64 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x4096x1 .f32) (harg12 : arg12.IsWhole) (arg13 : Memref sig .tc .vmem S1x1x512 .f32) (harg13 : arg13.IsWhole) (arg14 : Memref sig .tc .vmem S4096x1 .f32) (harg14 : arg14.IsWhole) (hc0 : cond0_0 i)
    (x0 : Vec F S1x4096x64 .bf16) (x1 : Vec F S1x512x64 .bf16) (x2 : Vec F S1x512x64 .bf16) (x3 : Vec F S1x1x512 .f32) (x4 : Vec F S1x4096x64 .f32) (x5 : Vec F S1x4096x1 .f32) (x6 : Vec F S1x4096x64 .f32) :
    { LS0 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_fox_bwd_eq_skeleton]; unfold cc0_fox_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _; iexact HS0

end Cert.Kernel.Fox

end
-- ==== Proof.KRunB.lean ====
module

public import proofs.«01_k».proof.Proof.KRunA

@[expose] public section

set_option maxRecDepth 16384

noncomputable section

/-! The body's run at a later block of keys. -/

namespace Cert.Kernel.Fox

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
noncomputable def kernelRun0_B (c : Dev nD) (i : grid0.Coords) (arg2 : Memref sig .tc .vmem S1x4096x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S1x1x512 .f32) (harg5 : arg5.IsWhole) (arg6 : Memref sig .tc .vmem S1x4096x64 .f32) (harg6 : arg6.IsWhole) (arg7 : Memref sig .tc .vmem S1x4096x1 .f32) (harg7 : arg7.IsWhole) (arg8 : Memref sig .tc .vmem S1x4096x64 .f32) (harg8 : arg8.IsWhole) (arg9 : Memref sig .tc .vmem S1x4096x64 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x4096x1 .f32) (harg12 : arg12.IsWhole) (arg13 : Memref sig .tc .vmem S1x1x512 .f32) (harg13 : arg13.IsWhole) (arg14 : Memref sig .tc .vmem S4096x1 .f32) (harg14 : arg14.IsWhole) (hc0 : ¬cond0_0 i)
    (x0 : Vec F S1x4096x64 .bf16) (x1 : Vec F S1x512x64 .bf16) (x2 : Vec F S1x512x64 .bf16) (x3 : Vec F S1x1x512 .f32) (x4 : Vec F S1x4096x64 .f32) (x5 : Vec F S1x4096x1 .f32) (x6 : Vec F S1x4096x64 .f32) (xs0 : Vec F S4096x1 .f32) :
    { LS0 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K } := by
  refine ⟨[], fun E K => ?run⟩
  case run =>
    simp only [cc0_fox_bwd_eq_skeleton]; unfold cc0_fox_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg14.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _; isplitr; · ipureintro; exact harg14.read_unread _
    iexact HS0

end Cert.Kernel.Fox

end
-- ==== Proof.KFrame.lean ====
module

public import proofs.«01_k».proof.Proof.KRunB
public import Idealize.ShloMosaic.Lib.Claim

@[expose] public section

set_option maxRecDepth 16384

noncomputable section

/-! The run of the whole program over words with its results left unnamed, and the frame. -/

namespace Cert.Kernel.Fox

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem scover0_A_0 (c : Dev nD) (i : grid0.Coords) (arg2 : Memref sig .tc .vmem S1x4096x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S1x1x512 .f32) (harg5 : arg5.IsWhole) (arg6 : Memref sig .tc .vmem S1x4096x64 .f32) (harg6 : arg6.IsWhole) (arg7 : Memref sig .tc .vmem S1x4096x1 .f32) (harg7 : arg7.IsWhole) (arg8 : Memref sig .tc .vmem S1x4096x64 .f32) (harg8 : arg8.IsWhole) (arg9 : Memref sig .tc .vmem S1x4096x64 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x4096x1 .f32) (harg12 : arg12.IsWhole) (arg13 : Memref sig .tc .vmem S1x1x512 .f32) (harg13 : arg13.IsWhole) (arg14 : Memref sig .tc .vmem S4096x1 .f32) (harg14 : arg14.IsWhole) (hc0 : cond0_0 i)
    (x0 : Vec F S1x4096x64 .bf16) (x1 : Vec F S1x512x64 .bf16) (x2 : Vec F S1x512x64 .bf16) (x3 : Vec F S1x1x512 .f32) (x4 : Vec F S1x4096x64 .f32) (x5 : Vec F S1x4096x1 .f32) (x6 : Vec F S1x4096x64 .f32) (y : S4096x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1 S512x1.size (by sl_kernel_rfl) y

def sout0_A_0 (c : Dev nD) (i : grid0.Coords) (arg2 : Memref sig .tc .vmem S1x4096x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S1x1x512 .f32) (harg5 : arg5.IsWhole) (arg6 : Memref sig .tc .vmem S1x4096x64 .f32) (harg6 : arg6.IsWhole) (arg7 : Memref sig .tc .vmem S1x4096x1 .f32) (harg7 : arg7.IsWhole) (arg8 : Memref sig .tc .vmem S1x4096x64 .f32) (harg8 : arg8.IsWhole) (arg9 : Memref sig .tc .vmem S1x4096x64 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x4096x1 .f32) (harg12 : arg12.IsWhole) (arg13 : Memref sig .tc .vmem S1x1x512 .f32) (harg13 : arg13.IsWhole) (arg14 : Memref sig .tc .vmem S4096x1 .f32) (harg14 : arg14.IsWhole) (hc0 : cond0_0 i)
    (x0 : Vec F S1x4096x64 .bf16) (x1 : Vec F S1x512x64 .bf16) (x2 : Vec F S1x512x64 .bf16) (x3 : Vec F S1x1x512 .f32) (x4 : Vec F S1x4096x64 .f32) (x5 : Vec F S1x4096x1 .f32) (x6 : Vec F S1x4096x64 .f32) : Vec F S4096x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1)

def sout0_B_0 (c : Dev nD) (i : grid0.Coords) (arg2 : Memref sig .tc .vmem S1x4096x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S1x1x512 .f32) (harg5 : arg5.IsWhole) (arg6 : Memref sig .tc .vmem S1x4096x64 .f32) (harg6 : arg6.IsWhole) (arg7 : Memref sig .tc .vmem S1x4096x1 .f32) (harg7 : arg7.IsWhole) (arg8 : Memref sig .tc .vmem S1x4096x64 .f32) (harg8 : arg8.IsWhole) (arg9 : Memref sig .tc .vmem S1x4096x64 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x4096x1 .f32) (harg12 : arg12.IsWhole) (arg13 : Memref sig .tc .vmem S1x1x512 .f32) (harg13 : arg13.IsWhole) (arg14 : Memref sig .tc .vmem S4096x1 .f32) (harg14 : arg14.IsWhole) (hc0 : ¬cond0_0 i)
    (x0 : Vec F S1x4096x64 .bf16) (x1 : Vec F S1x512x64 .bf16) (x2 : Vec F S1x512x64 .bf16) (x3 : Vec F S1x1x512 .f32) (x4 : Vec F S1x4096x64 .f32) (x5 : Vec F S1x4096x1 .f32) (x6 : Vec F S1x4096x64 .f32) (xs0 : Vec F S4096x1 .f32) : Vec F S4096x1 .f32 := xs0

def outsAt0 (c : Dev nD) : (n : ℕ) → n < cfg0.N → Vec F S4096x1 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 8 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

theorem outsAt0_A (c : Dev nD) (t : Fin cfg0.N) (h0 : t.val % 8 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn))) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)))) ∗ (∃ r, prngReg c r)) := by
  cases n with
  | zero => exact absurd rfl hz
  | succ n => rfl

def forgets0 : Fin 12 → Bool := fun w => w.val == 7 || w.val == 8 || w.val == 9 || w.val == 10 || w.val == 11

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases hz : t.val = 0
    · rw [PhiS_castSucc m c t, PhiS_zero m c _ _ hz, PhiA0_eq]
      rw [outsAt0_A m c t h0]
      unfold sout0_A_0
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexact HS0
      iintro ⟨H0, H1, H2, H3, H4, H5, H6, H7, H8, H9, H10, H11, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [PhiS_castSucc m c t, PhiS_pos m c _ _ hz]
      rw [outsAt0_A m c t h0]
      unfold sout0_A_0
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexists _; iexact HS0
      iintro ⟨H0, H1, H2, H3, H4, H5, H6, H7, H8, H9, H10, H11, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold sout0_B_0
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexact HS0
      iintro ⟨H0, H1, H2, H3, H4, H5, H6, H7, H8, H9, H10, H11, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)
set_option backward.isDefEq.respectTransparency.types false in
set_option maxHeartbeats 800000 in
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Fox

end
-- ==== Proof.K2.lean ====
module

public import proofs.«01_k».proof.Proof.Gen.Kernel2Ideal.Value
public import Idealize.ShloMosaic.Lib.Pipeline.ValueKit
public import Idealize.ShloMosaic.Lib.Pointwise

@[expose] public section

set_option maxRecDepth 16384

noncomputable section

/-! The gradient of `w_out`: four blocks of rows are summed. -/

namespace Cert.Kernel2Ideal.Sum

open Cert.Kernel2Ideal Cert.Kernel2Ideal.Gen Cert.Kernel2Ideal.Value
open Idealize.ShloMosaic Idealize.ShloMosaic.TcCoe Idealize.ShloMosaic.Tactic

variable (m : (ℓ : Loc nD τ sig) → Buf (Elt Ideal) ℓ) (c : Dev nD)

abbrev arr0 : Vec Ideal S4096x2816 .bf16 := m (c.tc.loc main_arg0)
abbrev arr1 : Vec Ideal S4096x1024 .bf16 := m (c.tc.loc main_arg1)

/-- The product of two blocks. -/
def prod (v0 : Vec Ideal S1024x1408 .bf16) (v2 : Vec Ideal S1024x1024 .bf16) (y : S1408x1024.Idx) : EReal :=
  ∑ x : Fin 1024, v0 (ix2 x (y 0)) * v2 (ix2 x (y 1))

/-- What point `t` adds. -/
def part (t : Fin cfg0.N) (y : S1408x1024.Idx) : EReal := prod (iblk m c 0 t) (iblk m c 1 t) y

theorem pay2_at (v0 : Vec Ideal S1024x1408 .bf16) (v2 : Vec Ideal S1024x1024 .bf16) (y : S1408x1024.Idx) :
    k0_pay2 v0 v2 y = prod v0 v2 y := by
  pointwise [k0_pay2, k0_pay1, prod]

theorem pay3_at (v0 : Vec Ideal S1024x1408 .bf16) (v2 : Vec Ideal S1024x1024 .bf16) (v : Vec Ideal S1408x1024 .f32) (y : S1408x1024.Idx) :
    k0_pay3 v0 v2 v y = v y + prod v0 v2 y := by
  pointwise [k0_pay3, k0_pay1, prod]

theorem pay4_at (v0 : Vec Ideal S1024x1408 .bf16) (v2 : Vec Ideal S1024x1024 .bf16) (v : Vec Ideal S1408x1024 .f32) (y : S1408x1024.Idx) :
    k0_pay4 v0 v2 v y = v y + prod v0 v2 y := by
  pointwise [k0_pay4, k0_pay1, prod]

theorem at_A (t : Fin cfg0.N) (h : t.val % 4 = 0) (y : S1408x1024.Idx) :
    (outsAt0 m c t.val t.isLt).2 y = part m c t y := by
  rw [outsAt0_A m c t h (by omega) (by omega)]
  frame_out
  exact pay2_at _ _ y

theorem at_B (t : Fin cfg0.N) (h : 1 ≤ t.val % 4 ∧ t.val % 4 ≤ 2) (y : S1408x1024.Idx) :
    (outsAt0 m c t.val t.isLt).2 y
      = (outsAt0 m c (t.val - 1) (Nat.lt_of_le_of_lt (Nat.sub_le _ _) t.isLt)).2 y + part m c t y := by
  rw [outsAt0_B m c t (by omega) h (by omega)]
  frame_out
  refine (pay3_at _ _ _ y).trans ?_
  exact congrArg (· + part m c t y) (congrFun ((Memref.isWhole_whole cc0_scratch0).read_unread _) y)

theorem at_C (t : Fin cfg0.N) (h : t.val % 4 = 3) (y : S1408x1024.Idx) :
    (outsAt0 m c t.val t.isLt).1 y
      = (outsAt0 m c (t.val - 1) (Nat.lt_of_le_of_lt (Nat.sub_le _ _) t.isLt)).2 y + part m c t y := by
  rw [outsAt0_C m c t (by omega) (by omega) h]
  frame_out
  refine (pay4_at _ _ _ y).trans ?_
  exact congrArg (· + part m c t y) (congrFun ((Memref.isWhole_whole cc0_scratch0).read_unread _) y)

theorem lt_N {n : ℕ} (h : n < 8) : n < cfg0.N := lt_of_lt_of_eq h N_0.symm

/-- What the last of a run of points leaves in the result's block. -/
theorem out_at (q : ℕ) (hq : q < 2) (y : S1408x1024.Idx) :
    (outsAt0 m c (4 * q + 3) (lt_N (by omega))).1 y = ∑ s : Fin 4, part m c ⟨4 * q + s.val, lt_N (by omega)⟩ y := by
  have e3 := at_C m c ⟨4 * q + 3, lt_N (by omega)⟩ (by dsimp only; omega) y
  have e2 := at_B m c ⟨4 * q + 2, lt_N (by omega)⟩ (by dsimp only; omega) y
  have e1 := at_B m c ⟨4 * q + 1, lt_N (by omega)⟩ (by dsimp only; omega) y
  have e0 := at_A m c ⟨4 * q + 0, lt_N (by omega)⟩ (by dsimp only; omega) y
  simp only [Nat.add_succ_sub_one] at e1 e2 e3
  rw [e3, e2, e1, e0, Fin.sum_univ_four]
  rfl

theorem idx : ∀ t : Fin cfg0.N, win0_0.index t = ![t.val % 4, t.val / 4] ∧ win0_1.index t = ![t.val % 4, 0] := by
  decide +kernel

theorem part_at (q : Fin 2) (s : Fin 4) (y : S1408x1024.Idx) (h : 4 * q.val + s.val < cfg0.N) :
    part m c ⟨4 * q.val + s.val, h⟩ y = ∑ x : Fin 1024,
      arr0 m c (ix2 ⟨s.val * 1024 + x.val, by omega⟩ ⟨q.val * 1408 + (y 0).val, by have : (y 0).val < 1408 := (y 0).isLt; omega⟩)
        * arr1 m c (ix2 ⟨s.val * 1024 + x.val, by omega⟩ (y 1)) := by
  unfold part prod
  refine Finset.sum_congr rfl fun x _ => ?_
  congr 1 <;> blk_ext [iblk, V, idx ⟨4 * q.val + s.val, h⟩]

/-- The result's array after the run. -/
theorem G_at (i : S2816x1024.Idx) :
    (G2 m c : Vec Ideal S2816x1024 .bf16) i = ∑ k : Fin 4096, arr0 m c (ix2 k (i 0)) * arr1 m c (ix2 k (i 1)) := by
  have h0 : (i 0).val < 2816 := (i 0).isLt
  have h1 : (i 1).val < 1024 := (i 1).isLt
  have hq : run2Of i = (i 0).val / 1408 := by
    show 1 * ((i 0).val / 1408 - 0) + 1 * ((i 1).val / 1024 - 0) = _
    omega
  have hN : pt2Of i < cfg0.N := lt_N (by show 4 * run2Of i + 3 < 8; rw [hq]; omega)
  unfold G2
  rw [dif_pos hN, ← outsAt0_sweep m c (pt2Of i) hN]
  have e := out_at m c (run2Of i) (by rw [hq]; omega) (loc2Of i)
  refine e.trans ?_
  have hr : run2Of i < 2 := by rw [hq]; omega
  simp only [fun (s : Fin 4) h => part_at m c ⟨run2Of i, hr⟩ s (loc2Of i) h]
  refine Fin.sum_mul_add_congr fun s x hl => ?_
  have e0 : run2Of i * 1408 + (loc2Of i 0).val = (i 0).val := by
    rw [hq]; show (i 0).val / 1408 * 1408 + (i 0).val % 1408 = _; omega
  have e1 : (loc2Of i 1).val = (i 1).val := by
    show (i 1).val % 1024 = _; omega
  congr 1
  · exact congrArg (arr0 m c) (congrArg₂ ix2 (Fin.ext rfl) (Fin.ext e0))
  · exact congrArg (arr1 m c) (congrArg₂ ix2 (Fin.ext rfl) (Fin.ext e1))

end Cert.Kernel2Ideal.Sum

end
-- ==== Proof.T2.lean ====
module

public import proofs.«01_k».proof.Defs
public import proofs.«01_k».proof.Proof.K2
public import proofs.«01_k».proof.Proof.Gen.Reference2Ideal.Run
public import Idealize.ShloMosaic.Lib.Pointwise

@[expose] public section

set_option maxRecDepth 16384

noncomputable section

/-! The sum is the reference's. -/

namespace Cert.Kernel2Ideal.Tie

open Idealize.ShloMosaic Idealize.SL.Sem

theorem algebraic : Cert.algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  funext i
  refine Eq.trans ?_ (Cert.Kernel2Ideal.Sum.G_at m c i).symm
  pointwise []
  exact Finset.sum_congr rfl fun x _ => mul_comm _ _

end Cert.Kernel2Ideal.Tie

end
-- ==== Proof.K3.lean ====
module

public import proofs.«01_k».proof.Proof.Gen.Kernel3Ideal.Value
public import Idealize.ShloMosaic.Lib.Pipeline.ValueKit
public import Idealize.ShloMosaic.Lib.Pointwise

@[expose] public section

set_option maxRecDepth 16384

noncomputable section

/-! The gradient of `w_in`: four blocks of rows are summed. -/

namespace Cert.Kernel3Ideal.Sum

open Cert.Kernel3Ideal Cert.Kernel3Ideal.Gen Cert.Kernel3Ideal.Value
open Idealize.ShloMosaic Idealize.ShloMosaic.TcCoe Idealize.ShloMosaic.Tactic

variable (m : (ℓ : Loc nD τ sig) → Buf (Elt Ideal) ℓ) (c : Dev nD)

abbrev arr0 : Vec Ideal S4096x1024 .bf16 := m (c.tc.loc main_arg0)
abbrev arr1 : Vec Ideal S2x4096x2816 .bf16 := m (c.tc.loc main_arg1)

/-- The product of two blocks. -/
def prod (v0 : Vec Ideal S1024x1024 .bf16) (v2 : Vec Ideal S1x1024x1408 .bf16) (y : S1024x1408.Idx) : EReal :=
  ∑ x : Fin 1024, v0 (ix2 x (y 0)) * v2 (ix3 0 x (y 1))

/-- What point `t` adds. -/
def part (t : Fin cfg0.N) (y : S1024x1408.Idx) : EReal := prod (iblk m c 0 t) (iblk m c 1 t) y

theorem pay2_at (v0 : Vec Ideal S1024x1024 .bf16) (v2 : Vec Ideal S1x1024x1408 .bf16) (y : S1024x1408.Idx) :
    k0_pay2 v0 v2 y = prod v0 v2 y := by
  pointwise [k0_pay2, k0_pay1, prod]

theorem pay3_at (v0 : Vec Ideal S1024x1024 .bf16) (v2 : Vec Ideal S1x1024x1408 .bf16) (v : Vec Ideal S1024x1408 .f32) (y : S1024x1408.Idx) :
    k0_pay3 v0 v2 v y = v y + prod v0 v2 y := by
  pointwise [k0_pay3, k0_pay1, prod]

theorem pay4_at (v0 : Vec Ideal S1024x1024 .bf16) (v2 : Vec Ideal S1x1024x1408 .bf16) (v : Vec Ideal S1024x1408 .f32) (y : S1024x1408.Idx) :
    k0_pay4 v0 v2 v y = v y + prod v0 v2 y := by
  pointwise [k0_pay4, k0_pay1, prod]

theorem at_A (t : Fin cfg0.N) (h : t.val % 4 = 0) (y : S1024x1408.Idx) :
    (outsAt0 m c t.val t.isLt).2 y = part m c t y := by
  rw [outsAt0_A m c t h (by omega) (by omega)]
  frame_out
  exact pay2_at _ _ y

theorem at_B (t : Fin cfg0.N) (h : 1 ≤ t.val % 4 ∧ t.val % 4 ≤ 2) (y : S1024x1408.Idx) :
    (outsAt0 m c t.val t.isLt).2 y
      = (outsAt0 m c (t.val - 1) (Nat.lt_of_le_of_lt (Nat.sub_le _ _) t.isLt)).2 y + part m c t y := by
  rw [outsAt0_B m c t (by omega) h (by omega)]
  frame_out
  refine (pay3_at _ _ _ y).trans ?_
  exact congrArg (· + part m c t y) (congrFun ((Memref.isWhole_whole cc0_scratch0).read_unread _) y)

theorem at_C (t : Fin cfg0.N) (h : t.val % 4 = 3) (y : S1024x1408.Idx) :
    (outsAt0 m c t.val t.isLt).1 y
      = (outsAt0 m c (t.val - 1) (Nat.lt_of_le_of_lt (Nat.sub_le _ _) t.isLt)).2 y + part m c t y := by
  rw [outsAt0_C m c t (by omega) (by omega) h]
  frame_out
  refine (pay4_at _ _ _ y).trans ?_
  exact congrArg (· + part m c t y) (congrFun ((Memref.isWhole_whole cc0_scratch0).read_unread _) y)

theorem lt_N {n : ℕ} (h : n < 16) : n < cfg0.N := lt_of_lt_of_eq h N_0.symm

/-- What the last of a run of points leaves in the result's block. -/
theorem out_at (q : ℕ) (hq : q < 4) (y : S1024x1408.Idx) :
    (outsAt0 m c (4 * q + 3) (lt_N (by omega))).1 y = ∑ s : Fin 4, part m c ⟨4 * q + s.val, lt_N (by omega)⟩ y := by
  have e3 := at_C m c ⟨4 * q + 3, lt_N (by omega)⟩ (by dsimp only; omega) y
  have e2 := at_B m c ⟨4 * q + 2, lt_N (by omega)⟩ (by dsimp only; omega) y
  have e1 := at_B m c ⟨4 * q + 1, lt_N (by omega)⟩ (by dsimp only; omega) y
  have e0 := at_A m c ⟨4 * q + 0, lt_N (by omega)⟩ (by dsimp only; omega) y
  simp only [Nat.add_succ_sub_one] at e3 e2 e1
  rw [e3, e2, e1, e0, Fin.sum_univ_four]
  rfl

theorem idx : ∀ t : Fin cfg0.N, win0_0.index t = ![t.val % 4, 0] ∧ win0_1.index t = ![t.val / 8, t.val % 4, t.val / 4 % 2] := by
  decide +kernel

theorem part_at (q : Fin 4) (s : Fin 4) (y : S1024x1408.Idx) (h : 4 * q.val + s.val < cfg0.N) :
    part m c ⟨4 * q.val + s.val, h⟩ y = ∑ x : Fin 1024,
      arr0 m c (ix2 ⟨s.val * 1024 + x.val, by omega⟩ (y 0))
        * arr1 m c (ix3 ⟨q.val / 2, by omega⟩ ⟨s.val * 1024 + x.val, by omega⟩ ⟨q.val % 2 * 1408 + (y 1).val, by have : (y 1).val < 1408 := (y 1).isLt; omega⟩) := by
  have y0 : (y 0).val < 1024 := (y 0).isLt
  have y1 : (y 1).val < 1408 := (y 1).isLt
  unfold part prod
  refine Finset.sum_congr rfl fun x _ => ?_
  congr 1 <;> blk_ext [iblk, V, idx ⟨4 * q.val + s.val, h⟩]

/-- The result's array after the run. -/
theorem G_at (i : S1024x5632.Idx) :
    (G2 m c : Vec Ideal S1024x5632 .bf16) i = ∑ k : Fin 4096, arr0 m c (ix2 k (i 0)) * arr1 m c (ix3 ⟨(i 1).val / 2816, by have : (i 1).val < 5632 := (i 1).isLt; omega⟩ k ⟨(i 1).val % 2816, Nat.mod_lt _ (by decide)⟩) := by
  have h0 : (i 0).val < 1024 := (i 0).isLt
  have h1 : (i 1).val < 5632 := (i 1).isLt
  have hq : run2Of i = (i 1).val / 1408 := by
    show 4 * ((i 0).val / 1024 - 0) + 1 * ((i 1).val / 1408 - 0) = _
    omega
  have hN : pt2Of i < cfg0.N := lt_N (by show 4 * run2Of i + 3 < 16; rw [hq]; omega)
  unfold G2
  rw [dif_pos hN, ← outsAt0_sweep m c (pt2Of i) hN]
  have e := out_at m c (run2Of i) (by rw [hq]; omega) (loc2Of i)
  refine e.trans ?_
  have hr : run2Of i < 4 := by rw [hq]; omega
  simp only [fun (s : Fin 4) h => part_at m c ⟨run2Of i, hr⟩ s (loc2Of i) h]
  refine Fin.sum_mul_add_congr fun s x hl => ?_
  have l0 : (loc2Of i 0).val = (i 0).val % 1024 := rfl
  have l1 : (loc2Of i 1).val = (i 1).val % 1408 := rfl
  congr 1
  · exact congrArg (arr0 m c) (congrArg₂ ix2 (Fin.ext rfl) (Fin.ext (by rw [l0]; omega)))
  · exact congrArg (arr1 m c) (by congr 1 <;> refine Fin.ext ?_ <;> dsimp only <;> first | rfl | omega)

end Cert.Kernel3Ideal.Sum

end
-- ==== Proof.T3.lean ====
module

public import proofs.«01_k».proof.Defs
public import proofs.«01_k».proof.Proof.K3
public import proofs.«01_k».proof.Proof.Gen.Reference3Ideal.Run
public import Idealize.ShloMosaic.Lib.Pointwise

@[expose] public section

set_option maxRecDepth 16384

noncomputable section

/-! The sum is the reference's. -/

namespace Cert.Kernel3Ideal.Tie

open Idealize.ShloMosaic Idealize.SL.Sem

theorem algebraic : Cert.algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  simp only [hagree c]
  funext i
  refine Eq.trans ?_ (Cert.Kernel3Ideal.Sum.G_at m c i).symm
  have a1 := (hagree c).2
  have hi : (i 1).val < 5632 := (i 1).isLt
  pointwise []
  refine Finset.sum_congr rfl fun x _ => ?_
  refine (mul_comm _ _).trans ?_
  congr 1
  split
  · rw [a1]
    exact congrArg (Sum.arr1 m c) (by congr 1 <;> refine Fin.ext ?_ <;> dsimp only <;> first | rfl | (change _ = _ / _; simp; omega) | omega)
  · rw [a1]
    exact congrArg (Sum.arr1 m c) (by congr 1 <;> refine Fin.ext ?_ <;> dsimp only <;> first | rfl | (change _ = _ / _; simp; omega) | omega)

end Cert.Kernel3Ideal.Tie

end
-- ==== Proof.K4.lean ====
module

public import proofs.«01_k».proof.Proof.Gen.Kernel4Ideal.Value
public import Idealize.ShloMosaic.Lib.Pipeline.ValueKit
public import Idealize.ShloMosaic.Lib.Pointwise

@[expose] public section

set_option maxRecDepth 16384

noncomputable section

/-! The gradient of the layer's input: four blocks of columns are summed. -/

namespace Cert.Kernel4Ideal.Sum

open Cert.Kernel4Ideal Cert.Kernel4Ideal.Gen Cert.Kernel4Ideal.Value
open Idealize.ShloMosaic Idealize.ShloMosaic.TcCoe Idealize.ShloMosaic.Tactic

variable (m : (ℓ : Loc nD τ sig) → Buf (Elt Ideal) ℓ) (c : Dev nD)

abbrev arr0 : Vec Ideal S2x4096x2816 .bf16 := m (c.tc.loc main_arg0)
abbrev arr1 : Vec Ideal S1024x5632 .bf16 := m (c.tc.loc main_arg1)

/-- The product of two blocks. -/
def prod (v0 : Vec Ideal S1x1024x1408 .bf16) (v2 : Vec Ideal S1024x1408 .bf16) (y : S1024x1024.Idx) : EReal :=
  ∑ x : Fin 1408, v0 (ix3 0 (y 0) x) * v2 (ix2 (y 1) x)

/-- What point `t` adds. -/
def part (t : Fin cfg0.N) (y : S1024x1024.Idx) : EReal := prod (iblk m c 0 t) (iblk m c 1 t) y

theorem pay2_at (v0 : Vec Ideal S1x1024x1408 .bf16) (v2 : Vec Ideal S1024x1408 .bf16) (y : S1024x1024.Idx) :
    k0_pay2 v0 v2 y = prod v0 v2 y := by
  pointwise [k0_pay2, k0_pay1, prod]

theorem pay3_at (v0 : Vec Ideal S1x1024x1408 .bf16) (v2 : Vec Ideal S1024x1408 .bf16) (v : Vec Ideal S1024x1024 .f32) (y : S1024x1024.Idx) :
    k0_pay3 v0 v2 v y = v y + prod v0 v2 y := by
  pointwise [k0_pay3, k0_pay1, prod]

theorem pay4_at (v0 : Vec Ideal S1x1024x1408 .bf16) (v2 : Vec Ideal S1024x1408 .bf16) (v : Vec Ideal S1024x1024 .f32) (y : S1024x1024.Idx) :
    k0_pay4 v0 v2 v y = v y + prod v0 v2 y := by
  pointwise [k0_pay4, k0_pay1, prod]

theorem at_A (t : Fin cfg0.N) (h : t.val % 4 = 0) (y : S1024x1024.Idx) :
    (outsAt0 m c t.val t.isLt).2 y = part m c t y := by
  rw [outsAt0_A m c t h (by omega) (by omega)]
  frame_out
  exact pay2_at _ _ y

theorem at_B (t : Fin cfg0.N) (h : 1 ≤ t.val % 4 ∧ t.val % 4 ≤ 2) (y : S1024x1024.Idx) :
    (outsAt0 m c t.val t.isLt).2 y
      = (outsAt0 m c (t.val - 1) (Nat.lt_of_le_of_lt (Nat.sub_le _ _) t.isLt)).2 y + part m c t y := by
  rw [outsAt0_B m c t (by omega) h (by omega)]
  frame_out
  refine (pay3_at _ _ _ y).trans ?_
  exact congrArg (· + part m c t y) (congrFun ((Memref.isWhole_whole cc0_scratch0).read_unread _) y)

theorem at_C (t : Fin cfg0.N) (h : t.val % 4 = 3) (y : S1024x1024.Idx) :
    (outsAt0 m c t.val t.isLt).1 y
      = (outsAt0 m c (t.val - 1) (Nat.lt_of_le_of_lt (Nat.sub_le _ _) t.isLt)).2 y + part m c t y := by
  rw [outsAt0_C m c t (by omega) (by omega) h]
  frame_out
  refine (pay4_at _ _ _ y).trans ?_
  exact congrArg (· + part m c t y) (congrFun ((Memref.isWhole_whole cc0_scratch0).read_unread _) y)

theorem lt_N {n : ℕ} (h : n < 16) : n < cfg0.N := lt_of_lt_of_eq h N_0.symm

/-- What the last of a run of points leaves in the result's block. -/
theorem out_at (q : ℕ) (hq : q < 4) (y : S1024x1024.Idx) :
    (outsAt0 m c (4 * q + 3) (lt_N (by omega))).1 y = ∑ s : Fin 4, part m c ⟨4 * q + s.val, lt_N (by omega)⟩ y := by
  have e3 := at_C m c ⟨4 * q + 3, lt_N (by omega)⟩ (by dsimp only; omega) y
  have e2 := at_B m c ⟨4 * q + 2, lt_N (by omega)⟩ (by dsimp only; omega) y
  have e1 := at_B m c ⟨4 * q + 1, lt_N (by omega)⟩ (by dsimp only; omega) y
  have e0 := at_A m c ⟨4 * q + 0, lt_N (by omega)⟩ (by dsimp only; omega) y
  simp only [Nat.add_succ_sub_one] at e3 e2 e1
  rw [e3, e2, e1, e0, Fin.sum_univ_four]
  rfl

theorem idx : ∀ t : Fin cfg0.N, win0_0.index t = ![t.val % 4 / 2, t.val / 4, t.val % 2] ∧ win0_1.index t = ![0, t.val % 4] := by
  decide +kernel

theorem part_at (q : Fin 4) (s : Fin 4) (y : S1024x1024.Idx) (h : 4 * q.val + s.val < cfg0.N) :
    part m c ⟨4 * q.val + s.val, h⟩ y = ∑ x : Fin 1408,
      arr0 m c (ix3 ⟨s.val / 2, by omega⟩ ⟨q.val * 1024 + (y 0).val, by have : (y 0).val < 1024 := (y 0).isLt; omega⟩ ⟨s.val % 2 * 1408 + x.val, by omega⟩)
        * arr1 m c (ix2 (y 1) ⟨s.val * 1408 + x.val, by omega⟩) := by
  have y0 : (y 0).val < 1024 := (y 0).isLt
  have y1 : (y 1).val < 1024 := (y 1).isLt
  unfold part prod
  refine Finset.sum_congr rfl fun x _ => ?_
  congr 1 <;> blk_ext [iblk, V, idx ⟨4 * q.val + s.val, h⟩]

/-- The result's array after the run. -/
theorem G_at (i : S4096x1024.Idx) :
    (G2 m c : Vec Ideal S4096x1024 .f32) i = ∑ k : Fin 5632, arr0 m c (ix3 ⟨k.val / 2816, by omega⟩ (i 0) ⟨k.val % 2816, Nat.mod_lt _ (by decide)⟩) * arr1 m c (ix2 (i 1) k) := by
  have h0 : (i 0).val < 4096 := (i 0).isLt
  have h1 : (i 1).val < 1024 := (i 1).isLt
  have hq : run2Of i = (i 0).val / 1024 := by
    show 1 * ((i 0).val / 1024 - 0) + 1 * ((i 1).val / 1024 - 0) = _
    omega
  have hN : pt2Of i < cfg0.N := lt_N (by show 4 * run2Of i + 3 < 16; rw [hq]; omega)
  unfold G2
  rw [dif_pos hN, ← outsAt0_sweep m c (pt2Of i) hN]
  have e := out_at m c (run2Of i) (by rw [hq]; omega) (loc2Of i)
  refine e.trans ?_
  have hr : run2Of i < 4 := by rw [hq]; omega
  simp only [fun (s : Fin 4) h => part_at m c ⟨run2Of i, hr⟩ s (loc2Of i) h]
  refine Fin.sum_mul_add_congr fun s x hl => ?_
  have l0 : (loc2Of i 0).val = (i 0).val % 1024 := rfl
  have l1 : (loc2Of i 1).val = (i 1).val % 1024 := rfl
  congr 1
  · exact congrArg (arr0 m c) (by congr 1 <;> refine Fin.ext ?_ <;> dsimp only <;> first | rfl | omega)
  · exact congrArg (arr1 m c) (congrArg₂ ix2 (Fin.ext (by rw [l1]; omega)) (Fin.ext rfl))

end Cert.Kernel4Ideal.Sum

end
-- ==== Proof.T4.lean ====
module

public import proofs.«01_k».proof.Defs
public import proofs.«01_k».proof.Proof.K4
public import proofs.«01_k».proof.Proof.Gen.Reference4Ideal.Run
public import Idealize.ShloMosaic.Lib.Pointwise

@[expose] public section

set_option maxRecDepth 16384

noncomputable section

/-! The sum is the reference's. -/

namespace Cert.Kernel4Ideal.Tie

open Idealize.ShloMosaic Idealize.SL.Sem

theorem algebraic : Cert.algebraic_Kernel4Ideal_Reference4Ideal := by
  intro m ρ m' ρ' _ hagree
  refine ⟨_, Cert.Kernel4Ideal.Value.run (F := Ideal) m ρ, ?_⟩
  refine (θ_run Cert.Reference4Ideal.defs _ _).mono (fun _ h c => ⟨?_, (h c).2⟩) (Cert.Reference4Ideal.Value.run (F := Ideal) m' ρ')
  rw [(h c).1]
  simp only [hagree c]
  funext i
  refine Eq.trans ?_ (Cert.Kernel4Ideal.Sum.G_at m c i).symm
  have a0 := (hagree c).1
  pointwise []
  rw [a0]
  refine Eq.trans ?_ (Fin.sum_univ_add (a := 2816) (b := 2816) _).symm
  refine congrArg₂ (· + ·) ?_ ?_ <;> refine Finset.sum_congr rfl fun x _ => ?_ <;> congr 1
  · exact congrArg (Sum.arr0 m c) (by congr 1 <;> refine Fin.ext ?_ <;> simp <;> omega)
  · exact congrArg (Sum.arr0 m c) (by congr 1 <;> refine Fin.ext ?_ <;> simp <;> omega)

end Cert.Kernel4Ideal.Tie

end
-- ==== Proof.K5.lean ====
module

public import proofs.«01_k».proof.Proof.Gen.Kernel5Ideal.Value
public import Idealize.ShloMosaic.Lib.Pipeline.ValueKit
public import Idealize.ShloMosaic.Lib.Pointwise

@[expose] public section

set_option maxRecDepth 16384

noncomputable section

/-! The second product of the forward pass: two blocks of columns are summed. -/

namespace Cert.Kernel5Ideal.Sum

open Cert.Kernel5Ideal Cert.Kernel5Ideal.Gen Cert.Kernel5Ideal.Value
open Idealize.ShloMosaic Idealize.ShloMosaic.TcCoe Idealize.ShloMosaic.Tactic

variable (m : (ℓ : Loc nD τ sig) → Buf (Elt Ideal) ℓ) (c : Dev nD)

abbrev arr0 : Vec Ideal S4096x2816 .bf16 := m (c.tc.loc main_arg0)
abbrev arr1 : Vec Ideal S2816x1024 .bf16 := m (c.tc.loc main_arg1)

/-- The product of two blocks. -/
def prod (v0 : Vec Ideal S1024x1408 .bf16) (v2 : Vec Ideal S1408x1024 .bf16) (y : S1024x1024.Idx) : EReal :=
  ∑ x : Fin 1408, v0 (ix2 (y 0) x) * v2 (ix2 x (y 1))

/-- What point `t` adds. -/
def part (t : Fin cfg0.N) (y : S1024x1024.Idx) : EReal := prod (iblk m c 0 t) (iblk m c 1 t) y

theorem pay2_at (v0 : Vec Ideal S1024x1408 .bf16) (v2 : Vec Ideal S1408x1024 .bf16) (y : S1024x1024.Idx) :
    k0_pay2 v0 v2 y = prod v0 v2 y := by
  pointwise [k0_pay2, k0_pay1, prod]

theorem pay4_at (v0 : Vec Ideal S1024x1408 .bf16) (v2 : Vec Ideal S1408x1024 .bf16) (v : Vec Ideal S1024x1024 .f32) (y : S1024x1024.Idx) :
    k0_pay4 v0 v2 v y = v y + prod v0 v2 y := by
  pointwise [k0_pay4, k0_pay1, prod]

theorem at_A (t : Fin cfg0.N) (h : t.val % 2 = 0) (y : S1024x1024.Idx) :
    (outsAt0 m c t.val t.isLt).2 y = part m c t y := by
  rw [outsAt0_A m c t h (by omega)]
  frame_out
  exact pay2_at _ _ y

theorem at_C (t : Fin cfg0.N) (h : t.val % 2 = 1) (y : S1024x1024.Idx) :
    (outsAt0 m c t.val t.isLt).1 y
      = (outsAt0 m c (t.val - 1) (Nat.lt_of_le_of_lt (Nat.sub_le _ _) t.isLt)).2 y + part m c t y := by
  rw [outsAt0_B m c t (by omega) h]
  frame_out
  refine (pay4_at _ _ _ y).trans ?_
  exact congrArg (· + part m c t y) (congrFun ((Memref.isWhole_whole cc0_scratch0).read_unread _) y)

theorem lt_N {n : ℕ} (h : n < 8) : n < cfg0.N := lt_of_lt_of_eq h N_0.symm

/-- What the last of a run of points leaves in the result's block. -/
theorem out_at (q : ℕ) (hq : q < 4) (y : S1024x1024.Idx) :
    (outsAt0 m c (2 * q + 1) (lt_N (by omega))).1 y = ∑ s : Fin 2, part m c ⟨2 * q + s.val, lt_N (by omega)⟩ y := by
  have e1 := at_C m c ⟨2 * q + 1, lt_N (by omega)⟩ (by dsimp only; omega) y
  have e0 := at_A m c ⟨2 * q + 0, lt_N (by omega)⟩ (by dsimp only; omega) y
  simp only [Nat.add_succ_sub_one] at e1
  rw [e1, e0, Fin.sum_univ_two]
  rfl

theorem idx : ∀ t : Fin cfg0.N, win0_0.index t = ![t.val / 2, t.val % 2] ∧ win0_1.index t = ![t.val % 2, 0] := by
  decide +kernel

theorem part_at (q : Fin 4) (s : Fin 2) (y : S1024x1024.Idx) (h : 2 * q.val + s.val < cfg0.N) :
    part m c ⟨2 * q.val + s.val, h⟩ y = ∑ x : Fin 1408,
      arr0 m c (ix2 ⟨q.val * 1024 + (y 0).val, by have : (y 0).val < 1024 := (y 0).isLt; omega⟩ ⟨s.val * 1408 + x.val, by omega⟩)
        * arr1 m c (ix2 ⟨s.val * 1408 + x.val, by omega⟩ (y 1)) := by
  have y0 : (y 0).val < 1024 := (y 0).isLt
  have y1 : (y 1).val < 1024 := (y 1).isLt
  unfold part prod
  refine Finset.sum_congr rfl fun x _ => ?_
  congr 1 <;> blk_ext [iblk, V, idx ⟨2 * q.val + s.val, h⟩]

/-- The result's array after the run. -/
theorem G_at (i : S4096x1024.Idx) :
    (G2 m c : Vec Ideal S4096x1024 .f32) i = ∑ k : Fin 2816, arr0 m c (ix2 (i 0) k) * arr1 m c (ix2 k (i 1)) := by
  have h0 : (i 0).val < 4096 := (i 0).isLt
  have h1 : (i 1).val < 1024 := (i 1).isLt
  have hq : run2Of i = (i 0).val / 1024 := by
    show 1 * ((i 0).val / 1024 - 0) + 1 * ((i 1).val / 1024 - 0) = _
    omega
  have hN : pt2Of i < cfg0.N := lt_N (by show 2 * run2Of i + 1 < 8; rw [hq]; omega)
  unfold G2
  rw [dif_pos hN, ← outsAt0_sweep m c (pt2Of i) hN]
  have e := out_at m c (run2Of i) (by rw [hq]; omega) (loc2Of i)
  refine e.trans ?_
  have hr : run2Of i < 4 := by rw [hq]; omega
  simp only [fun (s : Fin 2) h => part_at m c ⟨run2Of i, hr⟩ s (loc2Of i) h]
  refine Fin.sum_mul_add_congr fun s x hl => ?_
  have l0 : (loc2Of i 0).val = (i 0).val % 1024 := rfl
  have l1 : (loc2Of i 1).val = (i 1).val % 1024 := rfl
  congr 1
  · exact congrArg (arr0 m c) (congrArg₂ ix2 (Fin.ext (by dsimp only; rw [hq]; omega)) (Fin.ext rfl))
  · exact congrArg (arr1 m c) (congrArg₂ ix2 (Fin.ext rfl) (Fin.ext (by rw [l1]; omega)))

end Cert.Kernel5Ideal.Sum

end
-- ==== Proof.T5.lean ====
module

public import proofs.«01_k».proof.Defs
public import proofs.«01_k».proof.Proof.K5
public import proofs.«01_k».proof.Proof.Gen.Reference5Ideal.Run
public import Idealize.ShloMosaic.Lib.Pointwise

@[expose] public section

set_option maxRecDepth 16384

noncomputable section

/-! The sum is the reference's. -/

namespace Cert.Kernel5Ideal.Tie

open Idealize.ShloMosaic Idealize.SL.Sem

theorem algebraic : Cert.algebraic_Kernel5Ideal_Reference5Ideal := by
  intro m ρ m' ρ' _ hagree
  refine ⟨_, Cert.Kernel5Ideal.Value.run (F := Ideal) m ρ, ?_⟩
  refine (θ_run Cert.Reference5Ideal.defs _ _).mono (fun _ h c => ⟨?_, (h c).2⟩) (Cert.Reference5Ideal.Value.run (F := Ideal) m' ρ')
  rw [(h c).1]
  simp only [hagree c]
  funext i
  refine Eq.trans ?_ (Cert.Kernel5Ideal.Sum.G_at m c i).symm
  pointwise []

end Cert.Kernel5Ideal.Tie

end
-- ==== Proof.Silu.lean ====
module

public import Idealize.ShloMosaic.PureOps.Ideal
public import Idealize.ShloMosaic.Lib.Pointwise

@[expose] public section

noncomputable section

/-! `gate * sigmoid gate` and its derivative over the real numbers, by the kernel's `tanh` and by the reference's quotient. -/

namespace Cert.Swiglu

open Idealize.ShloMosaic

theorem half_bits : Ideal.ofBits .f32 0x3F000000#32 = (((1 / 2 : ℝ)) : EReal) := by
  simp [Ideal.ofBits, Ideal.ieee]
  rw [← EReal.coe_mul]
  exact congrArg (fun x : ℝ => (x : EReal)) (by norm_num)

theorem one_bits : Ideal.ofBits .f32 0x3F800000#32 = ((1 : ℝ) : EReal) := by
  simp [Ideal.ofBits, Ideal.ieee]
  rw [← EReal.coe_mul]
  exact congrArg (fun x : ℝ => (x : EReal)) (by norm_num)

/-- The logistic function. -/
def sg (x : ℝ) : ℝ := 1 / (1 + Real.exp (-x))

theorem tanh_half (x : ℝ) : 1 / 2 * Real.tanh (1 / 2 * x) + 1 / 2 = sg x := by
  have e : Real.exp (-x) = Real.exp (-(1 / 2 * x)) * Real.exp (-(1 / 2 * x)) := by rw [← Real.exp_add]; congr 1; ring
  have p : 0 < Real.exp (1 / 2 * x) := Real.exp_pos _
  have h : Real.exp (-(1 / 2 * x)) = (Real.exp (1 / 2 * x))⁻¹ := Real.exp_neg _
  unfold sg
  rw [Real.tanh_eq_sinh_div_cosh, Real.sinh_eq, Real.cosh_eq, e, h]
  generalize Real.exp (1 / 2 * x) = z at p
  have : z * z + 1 ≠ 0 := by positivity
  field_simp
  ring

/-- The kernel's sigmoid. -/
def sgK (g : EReal) : EReal :=
  Ideal.ofBits .f32 0x3F000000#32 * Ideal.tanh (Ideal.ofBits .f32 0x3F000000#32 * g) + Ideal.ofBits .f32 0x3F000000#32

/-- The reference's. -/
def sgR (g : EReal) : EReal :=
  Ideal.div (Ideal.ofBits .f32 0x3F800000#32) (Ideal.ofBits .f32 0x3F800000#32 + Ideal.exp (-g))

theorem sgK_real (x : ℝ) : sgK (x : EReal) = ((sg x : ℝ) : EReal) := by
  unfold sgK
  rw [half_bits, ← EReal.coe_mul, Ideal.tanh_coe, ← EReal.coe_mul, ← EReal.coe_add, tanh_half]

theorem sgR_real (x : ℝ) : sgR (x : EReal) = ((sg x : ℝ) : EReal) := by
  unfold sgR
  have h : 1 + Real.exp (-x) ≠ 0 := by have := Real.exp_pos (-x); positivity
  rw [one_bits, ← EReal.coe_neg, Ideal.exp_coe, ← EReal.coe_add, Ideal.div_coe h, ← EReal.coe_mul]
  simp [sg]

/-- The derivative of `silu g * u` by `g`, as the kernel computes it. -/
def dgK (g u : EReal) : EReal := u * (sgK g + g * sgK g * (Ideal.ofBits .f32 0x3F800000#32 - sgK g))

/-- The same as the reference computes it from a cotangent `d` of `silu g`. -/
def dgR (g d : EReal) : EReal := d * sgR g + g * d * (sgR g * (Ideal.ofBits .f32 0x3F800000#32 - sgR g))

/-- The derivative of `silu g * u` by `g` over the real numbers. -/
def dg (x u : ℝ) : ℝ := u * (sg x + x * sg x * (1 - sg x))

theorem dgK_real (x u : ℝ) : dgK (x : EReal) (u : EReal) = ((dg x u : ℝ) : EReal) := by
  unfold dgK
  rw [sgK_real, one_bits]
  simp only [← EReal.coe_mul, ← EReal.coe_sub, ← EReal.coe_add]
  rfl

theorem dgR_real (x d : ℝ) : dgR (x : EReal) (d : EReal) = ((dg x d : ℝ) : EReal) := by
  unfold dgR
  rw [sgR_real, one_bits]
  simp only [← EReal.coe_mul, ← EReal.coe_sub, ← EReal.coe_add]
  unfold dg
  congr 1
  ring

theorem sum_real {ι : Type*} (s : Finset ι) (f g : ι → ℝ) :
    ∑ i ∈ s, (f i : EReal) * (g i : EReal) = ((∑ i ∈ s, f i * g i : ℝ) : EReal) := by
  classical
  induction s using Finset.induction_on with
  | empty => rfl
  | insert x s hx ih => rw [Finset.sum_insert hx, Finset.sum_insert hx, EReal.coe_add, ih, EReal.coe_mul]

/-- A value that compares below `⊤` in magnitude is a real number. -/
theorem real_of_lt (x : EReal) (h : Ideal.cmp .olt (max x (-x)) (Ideal.ofBits .bf16 0x7F80#16) = 1#1) :
    ((x.toReal : ℝ) : EReal) = x := by
  have e : Ideal.ofBits .bf16 0x7F80#16 = ⊤ := by simp [Ideal.ofBits, Ideal.ieee]
  rw [e] at h
  refine EReal.coe_toReal ?_ ?_ <;> rintro rfl <;> simp [Ideal.cmp] at h

/-- A sum of products of real numbers is one. -/
theorem sum_coe {ι : Type*} (s : Finset ι) (f g : ι → EReal) (hf : ∀ i, ((f i).toReal : EReal) = f i)
    (hg : ∀ i, ((g i).toReal : EReal) = g i) : ∃ r : ℝ, ∑ i ∈ s, f i * g i = (r : EReal) :=
  ⟨_, (Finset.sum_congr rfl fun i _ => congrArg₂ (· * ·) (hf i).symm (hg i).symm).trans
    (sum_real s (fun i => (f i).toReal) fun i => (g i).toReal)⟩

end Cert.Swiglu

end
-- ==== Proof.K6.lean ====
module

public import proofs.«01_k».proof.Proof.Gen.Kernel6Ideal.Value
public import proofs.«01_k».proof.Proof.Silu
public import Idealize.ShloMosaic.Lib.Pipeline.ValueKit
public import Idealize.ShloMosaic.Lib.Pointwise

@[expose] public section

set_option maxRecDepth 16384

noncomputable section

/-! The first product of the forward pass, the gated product and its two derivatives, block by block. -/

namespace Cert.Kernel6Ideal.Sum

open Cert.Kernel6Ideal Cert.Kernel6Ideal.Gen Cert.Kernel6Ideal.Value Cert.Swiglu
open Idealize.ShloMosaic Idealize.ShloMosaic.TcCoe Idealize.ShloMosaic.Tactic

variable (m : (ℓ : Loc nD τ sig) → Buf (Elt Ideal) ℓ) (c : Dev nD)

abbrev arr0 : Vec Ideal S4096x1024 .bf16 := m (c.tc.loc main_arg0)
abbrev arr1 : Vec Ideal S1024x5632 .bf16 := m (c.tc.loc main_arg1)

/-- The product of two blocks. -/
def prod (v0 : Vec Ideal S512x1024 .bf16) (v2 : Vec Ideal S1024x1408 .bf16) (r : Fin 512) (j : Fin 1408) : EReal :=
  ∑ x : Fin 1024, v0 (ix2 r x) * v2 (ix2 x j)

theorem pay1_at (v0 : Vec Ideal S512x1024 .bf16) (v2 : Vec Ideal S1024x1408 .bf16) (y : S512x1408.Idx) :
    k0_pay1 v0 v2 y = prod v0 v2 (y 0) (y 1) := by
  pointwise [k0_pay1, prod]

theorem pay2_at (v0 : Vec Ideal S512x1024 .bf16) (v2 : Vec Ideal S1024x1408 .bf16) (y : S512x1408.Idx) :
    k0_pay2 v0 v2 y = prod v0 v2 (y 0) (y 1) := by
  pointwise [k0_pay2, prod]

theorem pay3_at (v0 : Vec Ideal S512x1024 .bf16) (v2 : Vec Ideal S1024x1408 .bf16) (y : S512x1408.Idx) :
    k0_pay3 v0 v2 y = sgK (prod v0 v2 (y 0) (y 1)) := by
  rw [← pay1_at]
  rfl

theorem pay4_at (v0 : Vec Ideal S512x1024 .bf16) (v2 : Vec Ideal S1024x1408 .bf16) (y : S512x1408.Idx) :
    k0_pay4 v0 v2 y = prod v0 v2 (y 0) (y 1) * sgK (prod v0 v2 (y 0) (y 1)) := by
  rw [← pay3_at, ← pay1_at]
  rfl

theorem pay7_at (v0 : Vec Ideal S512x1024 .bf16) (v1 v3 : Vec Ideal S1024x1408 .bf16) (y : S512x1408.Idx) :
    k0_pay7 v0 v1 v3 y = prod v0 v1 (y 0) (y 1) * sgK (prod v0 v1 (y 0) (y 1)) * prod v0 v3 (y 0) (y 1) := by
  rw [← pay4_at, ← pay2_at]
  rfl

theorem pay5_at (v0 : Vec Ideal S512x1024 .bf16) (v1 v3 : Vec Ideal S1024x1408 .bf16) (y : S1x512x1408.Idx) :
    k0_pay5 v0 v1 v3 y = dgK (prod v0 v1 (y 1) (y 2)) (prod v0 v3 (y 1) (y 2)) := by
  have e : k0_pay5 v0 v1 v3 y = k0_pay2 v0 v3 (ix2 (y 1) (y 2)) * (k0_pay3 v0 v1 (ix2 (y 1) (y 2))
      + k0_pay4 v0 v1 (ix2 (y 1) (y 2)) * (Ideal.ofBits .f32 0x3F800000#32 - k0_pay3 v0 v1 (ix2 (y 1) (y 2)))) := by
    pointwise [k0_pay5]
  rw [e, pay2_at, pay3_at, pay4_at]
  rfl

theorem pay6_at (v0 : Vec Ideal S512x1024 .bf16) (v1 : Vec Ideal S1024x1408 .bf16) (y : S1x512x1408.Idx) :
    k0_pay6 v0 v1 y = prod v0 v1 (y 1) (y 2) * sgK (prod v0 v1 (y 1) (y 2)) := by
  have e : k0_pay6 v0 v1 y = k0_pay4 v0 v1 (ix2 (y 1) (y 2)) := by
    pointwise [k0_pay6]
  rw [e, pay4_at]
  rfl

theorem out3_at (x0 : Vec Ideal S512x1024 .bf16) (x1 x2 : Vec Ideal S1024x1408 .bf16) (y : S2x512x1408.Idx) :
    out0_3 x0 x1 x2 y = if (y 0).val = 0 then dgK (prod x0 x1 (y 1) (y 2)) (prod x0 x2 (y 1) (y 2))
      else prod x0 x1 (y 1) (y 2) * sgK (prod x0 x1 (y 1) (y 2)) := by
  frame_out
  canon_tiles x h
  · rw [if_neg (by omega)]
    refine (pay6_at _ _ _).trans ?_
    have e1 : x 1 = y 1 := Fin.ext h1.symm
    have e2 : x 2 = y 2 := Fin.ext h2.symm
    rw [e1, e2]
  · rw [if_pos (by omega)]
    refine (pay5_at _ _ _ _).trans ?_
    have e1 : x 1 = y 1 := Fin.ext h1.symm
    have e2 : x 2 = y 2 := Fin.ext h2.symm
    rw [e1, e2]

theorem idx : ∀ t : Fin cfg0.N, win0_0.index t = ![t.val % 8, 0] ∧ win0_1.index t = ![0, t.val / 8] ∧ win0_2.index t = ![0, 2 + t.val / 8]
    ∧ win0_3.index t = ![0, t.val % 8, t.val / 8] ∧ win0_4.index t = ![t.val % 8, t.val / 8] := by
  decide +kernel

def gate (r : Fin 4096) (j : Fin 2816) : EReal := ∑ k : Fin 1024, arr0 m c (ix2 r k) * arr1 m c (ix2 k ⟨j.val, by omega⟩)
def up (r : Fin 4096) (j : Fin 2816) : EReal := ∑ k : Fin 1024, arr0 m c (ix2 r k) * arr1 m c (ix2 k ⟨2816 + j.val, by omega⟩)

def G3 : Vec Ideal S2x4096x2816 .bf16 := fun i =>
  if (i 0).val = 0 then dgK (gate m c (i 1) (i 2)) (up m c (i 1) (i 2)) else gate m c (i 1) (i 2) * sgK (gate m c (i 1) (i 2))

def G4 : Vec Ideal S4096x2816 .bf16 := fun i =>
  gate m c (i 0) (i 1) * sgK (gate m c (i 0) (i 1)) * up m c (i 0) (i 1)

theorem gate_at (t : Fin cfg0.N) (r : Fin 512) (j : Fin 1408) (R : Fin 4096) (J : Fin 2816) (hR : R.val = t.val % 8 * 512 + r.val)
    (hJ : J.val = t.val / 8 * 1408 + j.val) : prod (iblk m c 0 t) (iblk m c 1 t) r j = gate m c R J := by
  unfold prod gate
  refine Finset.sum_congr rfl fun x _ => ?_
  congr 1 <;> blk_ext [iblk, V, idx t]

theorem up_at (t : Fin cfg0.N) (r : Fin 512) (j : Fin 1408) (R : Fin 4096) (J : Fin 2816) (hR : R.val = t.val % 8 * 512 + r.val)
    (hJ : J.val = t.val / 8 * 1408 + j.val) : prod (iblk m c 0 t) (iblk m c 2 t) r j = up m c R J := by
  unfold prod up
  refine Finset.sum_congr rfl fun x _ => ?_
  congr 1 <;> blk_ext [iblk, V, idx t]

theorem pt3 (t : Fin cfg0.N) (y : S2x512x1408.Idx) (i : S2x4096x2816.Idx) (h0 : (i 0).val = (y 0).val)
    (h1 : (i 1).val = t.val % 8 * 512 + (y 1).val) (h2 : (i 2).val = t.val / 8 * 1408 + (y 2).val) :
    out0_3 (iblk m c 0 t) (iblk m c 1 t) (iblk m c 2 t) y = G3 m c i := by
  refine (out3_at _ _ _ _).trans ?_
  unfold G3
  rw [gate_at m c t (y 1) (y 2) (i 1) (i 2) h1 h2, up_at m c t (y 1) (y 2) (i 1) (i 2) h1 h2, h0]

theorem pt4 (t : Fin cfg0.N) (y : S512x1408.Idx) (i : S4096x2816.Idx)
    (h1 : (i 0).val = t.val % 8 * 512 + (y 0).val) (h2 : (i 1).val = t.val / 8 * 1408 + (y 1).val) :
    k0_pay7 (iblk m c 0 t) (iblk m c 1 t) (iblk m c 2 t) y = G4 m c i := by
  refine (pay7_at _ _ _ _).trans ?_
  unfold G4
  rw [gate_at m c t (y 0) (y 1) (i 0) (i 1) h1 h2, up_at m c t (y 0) (y 1) (i 0) (i 1) h1 h2]

theorem final3 : (dats m 0 c).arrAt 3 cfg0.N = G3 m c := by
  refine (dats m 0 c).arrAt_eq_of_covers 3 _ (by decide +kernel) fun t hf y => ?_
  blk_simp
  rw [after0_3]
  refine pt3 m c t _ _ ?_ ?_ ?_ <;> blk_simp [idx t]

theorem final4 : (dats m 0 c).arrAt 4 cfg0.N = G4 m c := by
  refine (dats m 0 c).arrAt_eq_of_covers 4 _ (by decide +kernel) fun t hf y => ?_
  blk_simp
  rw [after0_4]
  frame_out
  refine pt4 m c t _ _ ?_ ?_ <;> blk_simp [idx t]

end Cert.Kernel6Ideal.Sum

end
-- ==== Proof.T6.lean ====
module

public import proofs.«01_k».proof.Defs
public import proofs.«01_k».proof.Proof.K6
public import proofs.«01_k».proof.Proof.Gen.Pre_finite6
public import proofs.«01_k».proof.Proof.Gen.Reference6Ideal.Run
public import Idealize.ShloMosaic.Lib.Pointwise

@[expose] public section

set_option maxRecDepth 16384

noncomputable section

/-! The gated product and its derivatives are the reference's where the arguments are finite. -/

namespace Cert.Kernel6Ideal.Tie

open Cert.Kernel6Ideal Cert.Kernel6Ideal.Sum Cert.Swiglu
open Idealize.ShloMosaic Idealize.ShloMosaic.TcCoe Idealize.SL.Sem

section
variable (m : (ℓ : Loc nD τ sig) → Buf (Elt Ideal) ℓ) (h : Cert.Pre_Kernel6Ideal_finite6 m) (c : Dev nD)
include h

theorem real0 (i : S4096x1024.Idx) : ((arr0 m c i).toReal : EReal) = arr0 m c i := real_of_lt _ (congrFun (h c).1 i)
theorem real1 (i : S1024x5632.Idx) : ((arr1 m c i).toReal : EReal) = arr1 m c i := real_of_lt _ (congrFun (h c).2 i)

theorem gate_real (r : Fin 4096) (j : Fin 2816) : ∃ x : ℝ, gate m c r j = (x : EReal) :=
  sum_coe _ _ _ (fun _ => real0 m h c _) fun _ => real1 m h c _

theorem up_real (r : Fin 4096) (j : Fin 2816) : ∃ x : ℝ, up m c r j = (x : EReal) :=
  sum_coe _ _ _ (fun _ => real0 m h c _) fun _ => real1 m h c _

theorem G3_at (i : S2x4096x2816.Idx) : G3 m c i = if (i 0).val = 0
    then dgR (gate m c (i 1) (i 2)) (Ideal.ofBits .f32 0x3F800000#32 * up m c (i 1) (i 2))
    else gate m c (i 1) (i 2) * sgR (gate m c (i 1) (i 2)) * Ideal.ofBits .f32 0x3F800000#32 := by
  obtain ⟨g, hg⟩ := gate_real m h c (i 1) (i 2)
  obtain ⟨u, hu⟩ := up_real m h c (i 1) (i 2)
  unfold G3
  rw [hg, hu, one_bits, ← EReal.coe_mul, one_mul, dgR_real, dgK_real, sgR_real, sgK_real, EReal.coe_one, mul_one]

theorem G4_at (i : S4096x2816.Idx) : G4 m c i =
    gate m c (i 0) (i 1) * sgR (gate m c (i 0) (i 1)) * up m c (i 0) (i 1) := by
  obtain ⟨g, hg⟩ := gate_real m h c (i 0) (i 1)
  unfold G4
  rw [hg, sgR_real, sgK_real]

end

theorem algebraic : Cert.algebraic_Kernel6Ideal_Reference6Ideal_pre_finite6 := by
  intro m ρ m' ρ' hpre hagree
  refine ⟨_, _, Cert.Kernel6Ideal.Value.run_blocks (F := Ideal) m ρ, ?_⟩
  refine (θ_run Cert.Reference6Ideal.defs _ _).mono (fun _ h c => ⟨?_, ?_, (h c).2.2⟩) (Cert.Reference6Ideal.Value.run (F := Ideal) m' ρ')
  · rw [(h c).1, (hagree c).1, (hagree c).2, final3]
    funext i
    refine Eq.trans ?_ (G3_at m hpre c i).symm
    pointwise [gate, up, sgR, dgR]
    by_cases h : (i 0).val = 0
    · rw [dif_pos (by omega), if_pos h]
    · rw [dif_neg (by omega), if_neg h]
  · rw [(h c).2.1, (hagree c).1, (hagree c).2, final4]
    funext i
    refine Eq.trans ?_ (G4_at m hpre c i).symm
    pointwise [gate, up, sgR]

end Cert.Kernel6Ideal.Tie

end
-- ==== Proof.K7.lean ====
module

public import proofs.«01_k».proof.Proof.Gen.Kernel7Ideal.Value
public import proofs.«01_k».proof.Proof.Silu
public import Idealize.ShloMosaic.Lib.Pipeline.ValueKit
public import Idealize.ShloMosaic.Lib.Pointwise

@[expose] public section

set_option maxRecDepth 16384

noncomputable section

/-! The gradient of the gated product against the saved derivatives, block by block. -/

namespace Cert.Kernel7Ideal.Sum

open Cert.Kernel7Ideal Cert.Kernel7Ideal.Gen Cert.Kernel7Ideal.Value Cert.Swiglu
open Idealize.ShloMosaic Idealize.ShloMosaic.TcCoe Idealize.ShloMosaic.Tactic

variable (m : (ℓ : Loc nD τ sig) → Buf (Elt Ideal) ℓ) (c : Dev nD)

abbrev arr0 : Vec Ideal S4096x1024 .bf16 := m (c.tc.loc main_arg0)
abbrev arr1 : Vec Ideal S1024x5632 .bf16 := m (c.tc.loc main_arg1)
abbrev arr2 : Vec Ideal S2816x1024 .bf16 := m (c.tc.loc main_arg2)
abbrev arr3 : Vec Ideal S4096x1024 .bf16 := m (c.tc.loc main_arg3)

/-- The saved derivatives, as the host computes them. -/
abbrev saved : Vec Ideal S2x4096x2816 .bf16 := V m c main_v14

/-- The product of two blocks. -/
def prod (v0 : Vec Ideal S512x1024 .bf16) (v2 : Vec Ideal S1408x1024 .bf16) (r : Fin 512) (j : Fin 1408) : EReal :=
  ∑ x : Fin 1024, v0 (ix2 r x) * v2 (ix2 j x)

theorem pay2_at (v0 : Vec Ideal S512x1024 .bf16) (v1 : Vec Ideal S1408x1024 .bf16) (v3 : Vec Ideal S1x512x1408 .bf16) (y : S1x512x1408.Idx) :
    k0_pay2 v0 v1 v3 y = prod v0 v1 (y 1) (y 2) * v3 y := by
  pointwise [k0_pay2, k0_pay1, prod]

theorem pay3_at (v0 : Vec Ideal S512x1024 .bf16) (v1 : Vec Ideal S1408x1024 .bf16) (v3 : Vec Ideal S1x512x1408 .bf16) (y : S1x512x1408.Idx) :
    k0_pay3 v0 v1 v3 y = prod v0 v1 (y 1) (y 2) * v3 y :=
  pay2_at v0 v1 v3 y

theorem out3_at (x0 : Vec Ideal S512x1024 .bf16) (x1 : Vec Ideal S1408x1024 .bf16) (x2 : Vec Ideal S2x512x1408 .bf16) (y : S2x512x1408.Idx) :
    out0_3 x0 x1 x2 y = prod x0 x1 (y 1) (y 2) * x2 y := by
  frame_out
  canon_tiles x h
  · refine (pay3_at _ _ _ _).trans ?_
    have e1 : x 1 = y 1 := Fin.ext h1.symm
    have e2 : x 2 = y 2 := Fin.ext h2.symm
    rw [e1, e2]
    congr 1
    refine View.ld_unit_apply_of x2 ![1, 0, 0] S1x512x1408.size inb_S2x512x1408_S1x512x1408_1_0_0 x y fun a => ?_
    fin_cases a
    · exact h0
    · exact h1.trans (Nat.zero_add _).symm
    · exact h2.trans (Nat.zero_add _).symm
  · refine (pay2_at _ _ _ _).trans ?_
    have e1 : x 1 = y 1 := Fin.ext h1.symm
    have e2 : x 2 = y 2 := Fin.ext h2.symm
    rw [e1, e2]
    congr 1
    refine View.ld_unit_apply_of x2 ![0, 0, 0] S1x512x1408.size inb_S2x512x1408_S1x512x1408_0_0_0 x y fun a => ?_
    fin_cases a
    · exact h0.trans (Nat.zero_add _).symm
    · exact h1.trans (Nat.zero_add _).symm
    · exact h2.trans (Nat.zero_add _).symm

theorem idx : ∀ t : Fin cfg0.N, win0_0.index t = ![t.val % 8, 0] ∧ win0_1.index t = ![t.val / 8, 0] ∧ win0_2.index t = ![0, t.val % 8, t.val / 8]
    ∧ win0_3.index t = ![0, t.val % 8, t.val / 8] := by
  decide +kernel

def da (r : Fin 4096) (j : Fin 2816) : EReal := ∑ k : Fin 1024, arr3 m c (ix2 r k) * arr2 m c (ix2 j k)

def G3 : Vec Ideal S2x4096x2816 .bf16 := fun i => da m c (i 1) (i 2) * saved m c i

theorem pt3 (t : Fin cfg0.N) (y : S2x512x1408.Idx) (i : S2x4096x2816.Idx) (h0 : (i 0).val = (y 0).val)
    (h1 : (i 1).val = t.val % 8 * 512 + (y 1).val) (h2 : (i 2).val = t.val / 8 * 1408 + (y 2).val) :
    out0_3 (iblk m c 0 t) (iblk m c 1 t) (iblk m c 2 t) y = G3 m c i := by
  refine (out3_at _ _ _ _).trans ?_
  unfold G3
  refine congrArg₂ (· * ·) ?_ ?_
  · unfold prod da
    refine Finset.sum_congr rfl fun x _ => ?_
    congr 1 <;> blk_ext [iblk, V, idx t]
  · show V m c main_v14 (((cfg0.win 2).blk t).view.emb y) = V m c main_v14 i
    have k0 : (((cfg0.win 2).blk t).view.emb y 0).val = (y 0).val := by blk_simp [idx t]
    have k1 : (((cfg0.win 2).blk t).view.emb y 1).val = t.val % 8 * 512 + (y 1).val := by blk_simp [idx t]
    have k2 : (((cfg0.win 2).blk t).view.emb y 2).val = t.val / 8 * 1408 + (y 2).val := by blk_simp [idx t]
    refine congrArg _ ?_
    funext a
    fin_cases a
    · exact Fin.ext (k0.trans h0.symm)
    · exact Fin.ext (k1.trans h1.symm)
    · exact Fin.ext (k2.trans h2.symm)

theorem final3 : (dats m 0 c).arrAt 3 cfg0.N = G3 m c := by
  refine (dats m 0 c).arrAt_eq_of_covers 3 _ (by decide +kernel) fun t hf y => ?_
  blk_simp
  rw [after0_3]
  refine pt3 m c t _ _ ?_ ?_ ?_ <;> blk_simp [idx t]

def gate (r : Fin 4096) (j : Fin 2816) : EReal := ∑ k : Fin 1024, arr0 m c (ix2 r k) * arr1 m c (ix2 k ⟨j.val, by omega⟩)
def up (r : Fin 4096) (j : Fin 2816) : EReal := ∑ k : Fin 1024, arr0 m c (ix2 r k) * arr1 m c (ix2 k ⟨2816 + j.val, by omega⟩)

/-- The two derivatives, one on the other. -/
def cat : FVec Ideal S1x4096x2816 .f32 → FVec Ideal S1x4096x2816 .f32 → FVec Ideal S2x4096x2816 .f32 :=
  fun a b => concatenate S2x4096x2816 0 [⟨S1x4096x2816, a⟩, ⟨S1x4096x2816, b⟩] concatenates_S1x4096x2816_S1x4096x2816_S2x4096x2816_d0

/-- The last operations before the kernel, the concatenation by its name. -/
abbrev ops4 : List (HloOp τ sig (Elt Ideal)) :=
  [ StableHlo.unary main_v10 main_v11 (broadcastInDim S1x4096x2816 ![1, 2] bcast_S4096x2816_S1x4096x2816_1_2 : (⟨S4096x2816, .f32⟩ : BufTy).Contents (Elt Ideal) → (⟨S1x4096x2816, .f32⟩ : BufTy).Contents (Elt Ideal)),
    StableHlo.unary main_v8 main_v12 (broadcastInDim S1x4096x2816 ![1, 2] bcast_S4096x2816_S1x4096x2816_1_2 : (⟨S4096x2816, .f32⟩ : BufTy).Contents (Elt Ideal) → (⟨S1x4096x2816, .f32⟩ : BufTy).Contents (Elt Ideal)),
    StableHlo.binary main_v11 main_v12 main_v13 (cat : (⟨S1x4096x2816, .f32⟩ : BufTy).Contents (Elt Ideal) → (⟨S1x4096x2816, .f32⟩ : BufTy).Contents (Elt Ideal) → (⟨S2x4096x2816, .f32⟩ : BufTy).Contents (Elt Ideal)),
    StableHlo.unary main_v13 main_v14 ((truncf (F := Ideal) .bf16 · bitsLt_bf16_f32) : (⟨S2x4096x2816, .f32⟩ : BufTy).Contents (Elt Ideal) → (⟨S2x4096x2816, .bf16⟩ : BufTy).Contents (Elt Ideal)) ]

def gateV : FVec Ideal S4096x2816 .f32 :=
  extractStridedSlice (s := S4096x5632) S4096x2816 ![0, 0] (Host.dotGeneral dot_S4096x1024_S1024x5632_S4096x5632_1_0_0_1_n_n none (extf (F := Ideal) .f32 (arr0 m c : FVec Ideal S4096x1024 .bf16) bitsLt_bf16_f32) (extf (F := Ideal) .f32 (arr1 m c : FVec Ideal S1024x5632 .bf16) bitsLt_bf16_f32)) slices_S4096x5632_S4096x2816_0_0

def upV : FVec Ideal S4096x2816 .f32 :=
  extractStridedSlice (s := S4096x5632) S4096x2816 ![0, 2816] (Host.dotGeneral dot_S4096x1024_S1024x5632_S4096x5632_1_0_0_1_n_n none (extf (F := Ideal) .f32 (arr0 m c : FVec Ideal S4096x1024 .bf16) bitsLt_bf16_f32) (extf (F := Ideal) .f32 (arr1 m c : FVec Ideal S1024x5632 .bf16) bitsLt_bf16_f32)) slices_S4096x5632_S4096x2816_0_2816

def oneV : FVec Ideal S4096x2816 .f32 := broadcastInDim S4096x2816 ![] bcast_S_S4096x2816 (constant (F := Ideal) S_ .f32 0x3F800000#32)

def sgV : FVec Ideal S4096x2816 .f32 := Host.divf oneV (addf oneV (Host.exp (Host.negf (gateV m c))))

def dgV : FVec Ideal S4096x2816 .f32 :=
  addf (mulf (mulf oneV (upV m c)) (sgV m c)) (mulf (mulf (gateV m c) (mulf oneV (upV m c))) (mulf (sgV m c) (subf oneV (sgV m c))))

def duV : FVec Ideal S4096x2816 .f32 := mulf (mulf (gateV m c) (sgV m c)) oneV

theorem saved_eq : saved m c = truncf (F := Ideal) .bf16 (cat (broadcastInDim S1x4096x2816 ![1, 2] bcast_S4096x2816_S1x4096x2816_1_2 (dgV m c))
    (broadcastInDim S1x4096x2816 ![1, 2] bcast_S4096x2816_S1x4096x2816_1_2 (duV m c))) bitsLt_bf16_f32 := by
  show StableHlo.after (List.flatten [hostOps0, hostOps0_1, hostOps0_2, hostOps0_3, ops4]) (fun b => m (c, b)) main_v14 = _
  simp only [hostOps0, hostOps0_1, hostOps0_2, hostOps0_3, ops4, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp <;> rfl

theorem saved_at (i : S2x4096x2816.Idx) : saved m c i = if (i 0).val = 0
    then dgR (gate m c (i 1) (i 2)) (Ideal.ofBits .f32 0x3F800000#32 * up m c (i 1) (i 2))
    else gate m c (i 1) (i 2) * sgR (gate m c (i 1) (i 2)) * Ideal.ofBits .f32 0x3F800000#32 := by
  rw [saved_eq]
  pointwise [gate, up, sgR, dgR, cat, dgV, duV, sgV, oneV, upV, gateV]
  by_cases h : (i 0).val = 0
  · rw [dif_pos (by omega), if_pos h]
  · rw [dif_neg (by omega), if_neg h]

end Cert.Kernel7Ideal.Sum

end
-- ==== Proof.T7.lean ====
module

public import proofs.«01_k».proof.Defs
public import proofs.«01_k».proof.Proof.K7
public import proofs.«01_k».proof.Proof.Gen.Pre_finite7
public import proofs.«01_k».proof.Proof.Gen.Reference7Ideal.Run
public import Idealize.ShloMosaic.Lib.Pointwise

@[expose] public section

set_option maxRecDepth 16384

noncomputable section

/-! The gradient of the two halves is the reference's where the arguments are finite. -/

namespace Cert.Kernel7Ideal.Tie

open Cert.Kernel7Ideal Cert.Kernel7Ideal.Sum Cert.Swiglu
open Idealize.ShloMosaic Idealize.ShloMosaic.TcCoe Idealize.SL.Sem

section
variable (m : (ℓ : Loc nD τ sig) → Buf (Elt Ideal) ℓ) (h : Cert.Pre_Kernel7Ideal_finite7 m) (c : Dev nD)
include h

theorem real0 (i : S4096x1024.Idx) : ((arr0 m c i).toReal : EReal) = arr0 m c i := real_of_lt _ (congrFun (h c).1 i)
theorem real1 (i : S1024x5632.Idx) : ((arr1 m c i).toReal : EReal) = arr1 m c i := real_of_lt _ (congrFun (h c).2.1 i)
theorem real2 (i : S2816x1024.Idx) : ((arr2 m c i).toReal : EReal) = arr2 m c i := real_of_lt _ (congrFun (h c).2.2.1 i)
theorem real3 (i : S4096x1024.Idx) : ((arr3 m c i).toReal : EReal) = arr3 m c i := real_of_lt _ (congrFun (h c).2.2.2 i)

theorem gate_real (r : Fin 4096) (j : Fin 2816) : ∃ x : ℝ, gate m c r j = (x : EReal) :=
  sum_coe _ _ _ (fun _ => real0 m h c _) fun _ => real1 m h c _

theorem up_real (r : Fin 4096) (j : Fin 2816) : ∃ x : ℝ, up m c r j = (x : EReal) :=
  sum_coe _ _ _ (fun _ => real0 m h c _) fun _ => real1 m h c _

theorem da_real (r : Fin 4096) (j : Fin 2816) : ∃ x : ℝ, da m c r j = (x : EReal) :=
  sum_coe _ _ _ (fun _ => real3 m h c _) fun _ => real2 m h c _

theorem G3_at (i : S2x4096x2816.Idx) : G3 m c i = if (i 0).val = 0
    then dgR (gate m c (i 1) (i 2)) (da m c (i 1) (i 2) * up m c (i 1) (i 2))
    else gate m c (i 1) (i 2) * sgR (gate m c (i 1) (i 2)) * da m c (i 1) (i 2) := by
  obtain ⟨g, hg⟩ := gate_real m h c (i 1) (i 2)
  obtain ⟨u, hu⟩ := up_real m h c (i 1) (i 2)
  obtain ⟨d, hd⟩ := da_real m h c (i 1) (i 2)
  unfold G3
  rw [saved_at, hg, hu, hd, one_bits]
  split
  · rw [← EReal.coe_mul, ← EReal.coe_mul, dgR_real, dgR_real, ← EReal.coe_mul]
    unfold dg
    congr 1
    ring
  · rw [sgR_real]
    simp only [← EReal.coe_mul]
    congr 1
    ring

end

theorem algebraic : Cert.algebraic_Kernel7Ideal_Reference7Ideal_pre_finite7 := by
  intro m ρ m' ρ' hpre hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  rw [(h c).1]
  unfold Cert.Reference7Ideal.Value.res_main_v17
  rw [(hagree c).1, (hagree c).2.1, (hagree c).2.2.1, (hagree c).2.2.2, final3]
  funext i
  refine Eq.trans ?_ (G3_at m hpre c i).symm
  pointwise [gate, up, da, sgR, dgR]
  by_cases h : (i 0).val = 0
  · rw [dif_pos (by omega), if_pos h]
  · rw [dif_neg (by omega), if_neg h]

end Cert.Kernel7Ideal.Tie

end
-- ==== Proof.K8.lean ====
module

public import proofs.«01_k».proof.Proof.Gen.Kernel8Ideal.Value
public import Idealize.ShloMosaic.Lib.Pipeline.ValueKit
public import Idealize.ShloMosaic.Lib.Pointwise

@[expose] public section

set_option maxRecDepth 16384

noncomputable section

/-! The mixer's first product, block by block. -/

namespace Cert.Kernel8Ideal.Sum

open Cert.Kernel8Ideal Cert.Kernel8Ideal.Gen Cert.Kernel8Ideal.Value
open Idealize.ShloMosaic Idealize.ShloMosaic.TcCoe Idealize.ShloMosaic.Tactic

variable (m : (ℓ : Loc nD τ sig) → Buf (Elt Ideal) ℓ) (c : Dev nD)

abbrev arr0 : Vec Ideal S4096x1024 .bf16 := m (c.tc.loc main_arg0)
abbrev arr1 : Vec Ideal S1024x3200 .bf16 := m (c.tc.loc main_arg1)

/-- The product of two blocks. -/
def prod (v0 : Vec Ideal S1024x1024 .bf16) (v2 : Vec Ideal S1024x640 .bf16) (y : S1024x640.Idx) : EReal :=
  ∑ x : Fin 1024, v0 (ix2 (y 0) x) * v2 (ix2 x (y 1))

theorem pay1_at (v0 : Vec Ideal S1024x1024 .bf16) (v2 : Vec Ideal S1024x640 .bf16) (y : S1024x640.Idx) :
    k0_pay1 v0 v2 y = prod v0 v2 y := by
  pointwise [k0_pay1, prod]

theorem idx : ∀ t : Fin cfg0.N, win0_0.index t = ![t.val / 5, 0] ∧ win0_1.index t = ![0, t.val % 5] ∧ win0_2.index t = ![t.val / 5, t.val % 5] := by
  decide +kernel

/-- The product of the whole arrays. -/
def G : Vec Ideal S4096x3200 .f32 := fun i => ∑ k : Fin 1024, arr0 m c (ix2 (i 0) k) * arr1 m c (ix2 k (i 1))

/-- The result's array after the run. -/
theorem final : (dats m 0 c).arrAt 2 cfg0.N = G m c := by
  refine (dats m 0 c).arrAt_eq_of_covers 2 _ (by decide +kernel) fun t hf y => ?_
  blk_simp
  rw [after0_2]
  frame_out
  refine (pay1_at _ _ _).trans ?_
  unfold prod G
  refine Finset.sum_congr rfl fun x _ => ?_
  congr 1 <;> blk_ext [iblk, V, idx t]

end Cert.Kernel8Ideal.Sum

end
-- ==== Proof.T8.lean ====
module

public import proofs.«01_k».proof.Defs
public import proofs.«01_k».proof.Proof.K8
public import proofs.«01_k».proof.Proof.Gen.Reference8Ideal.Run
public import Idealize.ShloMosaic.Lib.Pointwise

@[expose] public section

set_option maxRecDepth 16384

noncomputable section

/-! The sum is the reference's. -/

namespace Cert.Kernel8Ideal.Tie

open Idealize.ShloMosaic Idealize.SL.Sem

theorem algebraic : Cert.algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨?_, (h c).2⟩) (Cert.Reference8Ideal.Value.run (F := Ideal) m' ρ')
  rw [(h c).1]
  simp only [hagree c]
  refine Eq.trans ?_ (Cert.Kernel8Ideal.Sum.final m c).symm
  funext i
  unfold Cert.Kernel8Ideal.Sum.G
  pointwise []

end Cert.Kernel8Ideal.Tie

end
-- ==== Proof.K9.lean ====
module

public import proofs.«01_k».proof.Proof.Gen.Kernel9Ideal.Value
public import Idealize.ShloMosaic.Lib.Pipeline.ValueKit
public import Idealize.ShloMosaic.Lib.Pointwise

@[expose] public section

set_option maxRecDepth 16384

noncomputable section

/-! The mixer's last product, block by block. -/

namespace Cert.Kernel9Ideal.Sum

open Cert.Kernel9Ideal Cert.Kernel9Ideal.Gen Cert.Kernel9Ideal.Value
open Idealize.ShloMosaic Idealize.ShloMosaic.TcCoe Idealize.ShloMosaic.Tactic

variable (m : (ℓ : Loc nD τ sig) → Buf (Elt Ideal) ℓ) (c : Dev nD)

abbrev arr0 : Vec Ideal S4096x1024 .bf16 := m (c.tc.loc main_arg0)
abbrev arr1 : Vec Ideal S1024x1024 .bf16 := m (c.tc.loc main_arg1)

/-- The product of two blocks. -/
def prod (v0 : Vec Ideal S1024x1024 .bf16) (v2 : Vec Ideal S1024x1024 .bf16) (y : S1024x1024.Idx) : EReal :=
  ∑ x : Fin 1024, v0 (ix2 (y 0) x) * v2 (ix2 x (y 1))

theorem pay1_at (v0 : Vec Ideal S1024x1024 .bf16) (v2 : Vec Ideal S1024x1024 .bf16) (y : S1024x1024.Idx) :
    k0_pay1 v0 v2 y = prod v0 v2 y := by
  pointwise [k0_pay1, prod]

theorem idx : ∀ t : Fin cfg0.N, win0_0.index t = ![t.val, 0] ∧ win0_1.index t = ![0, 0] ∧ win0_2.index t = ![t.val, 0] := by
  decide +kernel

/-- The product of the whole arrays. -/
def G : Vec Ideal S4096x1024 .f32 := fun i => ∑ k : Fin 1024, arr0 m c (ix2 (i 0) k) * arr1 m c (ix2 k (i 1))

/-- The result's array after the run. -/
theorem final : (dats m 0 c).arrAt 2 cfg0.N = G m c := by
  refine (dats m 0 c).arrAt_eq_of_covers 2 _ (by decide +kernel) fun t hf y => ?_
  blk_simp
  rw [after0_2]
  frame_out
  refine (pay1_at _ _ _).trans ?_
  unfold prod G
  refine Finset.sum_congr rfl fun x _ => ?_
  congr 1 <;> blk_ext [iblk, V, idx t]

end Cert.Kernel9Ideal.Sum

end
-- ==== Proof.T9.lean ====
module

public import proofs.«01_k».proof.Defs
public import proofs.«01_k».proof.Proof.K9
public import proofs.«01_k».proof.Proof.Gen.Reference9Ideal.Run
public import Idealize.ShloMosaic.Lib.Pointwise

@[expose] public section

set_option maxRecDepth 16384

noncomputable section

/-! The sum is the reference's. -/

namespace Cert.Kernel9Ideal.Tie

open Idealize.ShloMosaic Idealize.SL.Sem

theorem algebraic : Cert.algebraic_Kernel9Ideal_Reference9Ideal := by
  intro m ρ m' ρ' _ hagree
  refine ⟨_, Cert.Kernel9Ideal.Value.run_blocks (F := Ideal) m ρ, ?_⟩
  refine (θ_run Cert.Reference9Ideal.defs _ _).mono (fun _ h c => ⟨?_, (h c).2⟩) (Cert.Reference9Ideal.Value.run (F := Ideal) m' ρ')
  rw [(h c).1]
  simp only [hagree c]
  refine Eq.trans ?_ (Cert.Kernel9Ideal.Sum.final m c).symm
  funext i
  unfold Cert.Kernel9Ideal.Sum.G
  pointwise []

end Cert.Kernel9Ideal.Tie

end
-- ==== Proof.K10.lean ====
module

public import proofs.«01_k».proof.Proof.Gen.Kernel10Ideal.Value
public import Idealize.ShloMosaic.Lib.Pipeline.ValueKit
public import Idealize.ShloMosaic.Lib.Pointwise

@[expose] public section

set_option maxRecDepth 16384

noncomputable section

/-! The gradient of the left factor of the mixer's last product, block by block. -/

namespace Cert.Kernel10Ideal.Sum

open Cert.Kernel10Ideal Cert.Kernel10Ideal.Gen Cert.Kernel10Ideal.Value
open Idealize.ShloMosaic Idealize.ShloMosaic.TcCoe Idealize.ShloMosaic.Tactic

variable (m : (ℓ : Loc nD τ sig) → Buf (Elt Ideal) ℓ) (c : Dev nD)

abbrev arr0 : Vec Ideal S4096x1024 .bf16 := m (c.tc.loc main_arg0)
abbrev arr1 : Vec Ideal S1024x1024 .bf16 := m (c.tc.loc main_arg1)

/-- The product of two blocks. -/
def prod (v0 : Vec Ideal S1024x1024 .bf16) (v2 : Vec Ideal S1024x1024 .bf16) (y : S1024x1024.Idx) : EReal :=
  ∑ x : Fin 1024, v0 (ix2 (y 0) x) * v2 (ix2 (y 1) x)

theorem pay1_at (v0 : Vec Ideal S1024x1024 .bf16) (v2 : Vec Ideal S1024x1024 .bf16) (y : S1024x1024.Idx) :
    k0_pay1 v0 v2 y = prod v0 v2 y := by
  pointwise [k0_pay1, prod]

theorem idx : ∀ t : Fin cfg0.N, win0_0.index t = ![t.val, 0] ∧ win0_1.index t = ![0, 0] ∧ win0_2.index t = ![t.val, 0] := by
  decide +kernel

/-- The product of the whole arrays. -/
def G : Vec Ideal S4096x1024 .f32 := fun i => ∑ k : Fin 1024, arr0 m c (ix2 (i 0) k) * arr1 m c (ix2 (i 1) k)

/-- The result's array after the run. -/
theorem final : (dats m 0 c).arrAt 2 cfg0.N = G m c := by
  refine (dats m 0 c).arrAt_eq_of_covers 2 _ (by decide +kernel) fun t hf y => ?_
  blk_simp
  rw [after0_2]
  frame_out
  refine (pay1_at _ _ _).trans ?_
  unfold prod G
  refine Finset.sum_congr rfl fun x _ => ?_
  congr 1 <;> blk_ext [iblk, V, idx t]

end Cert.Kernel10Ideal.Sum

end
-- ==== Proof.T10.lean ====
module

public import proofs.«01_k».proof.Defs
public import proofs.«01_k».proof.Proof.K10
public import proofs.«01_k».proof.Proof.Gen.Reference10Ideal.Run
public import Idealize.ShloMosaic.Lib.Pointwise

@[expose] public section

set_option maxRecDepth 16384

noncomputable section

/-! The sum is the reference's. -/

namespace Cert.Kernel10Ideal.Tie

open Idealize.ShloMosaic Idealize.SL.Sem

theorem algebraic : Cert.algebraic_Kernel10Ideal_Reference10Ideal := by
  intro m ρ m' ρ' _ hagree
  refine ⟨_, Cert.Kernel10Ideal.Value.run_blocks (F := Ideal) m ρ, ?_⟩
  refine (θ_run Cert.Reference10Ideal.defs _ _).mono (fun _ h c => ⟨?_, (h c).2⟩) (Cert.Reference10Ideal.Value.run (F := Ideal) m' ρ')
  rw [(h c).1]
  simp only [hagree c]
  refine Eq.trans ?_ (Cert.Kernel10Ideal.Sum.final m c).symm
  funext i
  unfold Cert.Kernel10Ideal.Sum.G
  pointwise []

end Cert.Kernel10Ideal.Tie

end
-- ==== Proof.K11.lean ====
module

public import proofs.«01_k».proof.Proof.Gen.Kernel11Ideal.Value
public import Idealize.ShloMosaic.Lib.Pipeline.ValueKit
public import Idealize.ShloMosaic.Lib.Pointwise

@[expose] public section

set_option maxRecDepth 16384

noncomputable section

/-! The gradient of the mixer's `w_out`: four blocks of rows are summed. -/

namespace Cert.Kernel11Ideal.Sum

open Cert.Kernel11Ideal Cert.Kernel11Ideal.Gen Cert.Kernel11Ideal.Value
open Idealize.ShloMosaic Idealize.ShloMosaic.TcCoe Idealize.ShloMosaic.Tactic

variable (m : (ℓ : Loc nD τ sig) → Buf (Elt Ideal) ℓ) (c : Dev nD)

abbrev arr0 : Vec Ideal S4096x1024 .bf16 := m (c.tc.loc main_arg0)
abbrev arr1 : Vec Ideal S4096x1024 .bf16 := m (c.tc.loc main_arg1)

/-- The product of two blocks. -/
def prod (v0 : Vec Ideal S1024x1024 .bf16) (v2 : Vec Ideal S1024x1024 .bf16) (y : S1024x1024.Idx) : EReal :=
  ∑ x : Fin 1024, v0 (ix2 x (y 0)) * v2 (ix2 x (y 1))

/-- What point `t` adds. -/
def part (t : Fin cfg0.N) (y : S1024x1024.Idx) : EReal := prod (iblk m c 0 t) (iblk m c 1 t) y

theorem pay2_at (v0 : Vec Ideal S1024x1024 .bf16) (v2 : Vec Ideal S1024x1024 .bf16) (y : S1024x1024.Idx) :
    k0_pay2 v0 v2 y = prod v0 v2 y := by
  pointwise [k0_pay2, k0_pay1, prod]

theorem pay3_at (v0 : Vec Ideal S1024x1024 .bf16) (v2 : Vec Ideal S1024x1024 .bf16) (v : Vec Ideal S1024x1024 .f32) (y : S1024x1024.Idx) :
    k0_pay3 v0 v2 v y = v y + prod v0 v2 y := by
  pointwise [k0_pay3, k0_pay1, prod]

theorem pay4_at (v0 : Vec Ideal S1024x1024 .bf16) (v2 : Vec Ideal S1024x1024 .bf16) (v : Vec Ideal S1024x1024 .f32) (y : S1024x1024.Idx) :
    k0_pay4 v0 v2 v y = v y + prod v0 v2 y := by
  pointwise [k0_pay4, k0_pay1, prod]

theorem at_A (t : Fin cfg0.N) (h : t.val % 4 = 0) (y : S1024x1024.Idx) :
    (outsAt0 m c t.val t.isLt).2 y = part m c t y := by
  rw [outsAt0_A m c t h (by omega) (by omega)]
  frame_out
  exact pay2_at _ _ y

theorem at_B (t : Fin cfg0.N) (h : 1 ≤ t.val % 4 ∧ t.val % 4 ≤ 2) (y : S1024x1024.Idx) :
    (outsAt0 m c t.val t.isLt).2 y
      = (outsAt0 m c (t.val - 1) (Nat.lt_of_le_of_lt (Nat.sub_le _ _) t.isLt)).2 y + part m c t y := by
  rw [outsAt0_B m c t (by omega) h (by omega)]
  frame_out
  refine (pay3_at _ _ _ y).trans ?_
  exact congrArg (· + part m c t y) (congrFun ((Memref.isWhole_whole cc0_scratch0).read_unread _) y)

theorem at_C (t : Fin cfg0.N) (h : t.val % 4 = 3) (y : S1024x1024.Idx) :
    (outsAt0 m c t.val t.isLt).1 y
      = (outsAt0 m c (t.val - 1) (Nat.lt_of_le_of_lt (Nat.sub_le _ _) t.isLt)).2 y + part m c t y := by
  rw [outsAt0_C m c t (by omega) (by omega) h]
  frame_out
  refine (pay4_at _ _ _ y).trans ?_
  exact congrArg (· + part m c t y) (congrFun ((Memref.isWhole_whole cc0_scratch0).read_unread _) y)

theorem lt_N {n : ℕ} (h : n < 4) : n < cfg0.N := lt_of_lt_of_eq h N_0.symm

/-- What the last of a run of points leaves in the result's block. -/
theorem out_at (q : ℕ) (hq : q < 1) (y : S1024x1024.Idx) :
    (outsAt0 m c (4 * q + 3) (lt_N (by omega))).1 y = ∑ s : Fin 4, part m c ⟨4 * q + s.val, lt_N (by omega)⟩ y := by
  have e3 := at_C m c ⟨4 * q + 3, lt_N (by omega)⟩ (by dsimp only; omega) y
  have e2 := at_B m c ⟨4 * q + 2, lt_N (by omega)⟩ (by dsimp only; omega) y
  have e1 := at_B m c ⟨4 * q + 1, lt_N (by omega)⟩ (by dsimp only; omega) y
  have e0 := at_A m c ⟨4 * q + 0, lt_N (by omega)⟩ (by dsimp only; omega) y
  simp only [Nat.add_succ_sub_one] at e3 e2 e1
  rw [e3, e2, e1, e0, Fin.sum_univ_four]
  rfl

theorem idx : ∀ t : Fin cfg0.N, win0_0.index t = ![t.val % 4, 0] ∧ win0_1.index t = ![t.val % 4, 0] := by
  decide +kernel

theorem part_at (q : ℕ) (hq : q < 1) (s : Fin 4) (y : S1024x1024.Idx) (h : 4 * q + s.val < cfg0.N) :
    part m c ⟨4 * q + s.val, h⟩ y = ∑ x : Fin 1024,
      arr0 m c (ix2 ⟨s.val * 1024 + x.val, by omega⟩ (y 0))
        * arr1 m c (ix2 ⟨s.val * 1024 + x.val, by omega⟩ (y 1)) := by
  have y0 : (y 0).val < 1024 := (y 0).isLt
  have y1 : (y 1).val < 1024 := (y 1).isLt
  unfold part prod
  refine Finset.sum_congr rfl fun x _ => ?_
  congr 1 <;> blk_ext [iblk, V, idx ⟨4 * q + s.val, h⟩]

/-- The result's array after the run. -/
theorem G_at (i : S1024x1024.Idx) :
    (G2 m c : Vec Ideal S1024x1024 .bf16) i = ∑ k : Fin 4096, arr0 m c (ix2 k (i 0)) * arr1 m c (ix2 k (i 1)) := by
  have h0 : (i 0).val < 1024 := (i 0).isLt
  have h1 : (i 1).val < 1024 := (i 1).isLt
  have hq : run2Of i = 0 := by
    show 1 * ((i 0).val / 1024 - 0) + 1 * ((i 1).val / 1024 - 0) = _
    omega
  have hN : pt2Of i < cfg0.N := lt_N (by show 4 * run2Of i + 3 < 4; rw [hq]; omega)
  unfold G2
  rw [dif_pos hN, ← outsAt0_sweep m c (pt2Of i) hN]
  have e := out_at m c (run2Of i) (by rw [hq]; omega) (loc2Of i)
  refine e.trans ?_
  have hr : run2Of i < 1 := by rw [hq]; omega
  simp only [fun (s : Fin 4) h => part_at m c (run2Of i) hr s (loc2Of i) h]
  refine Fin.sum_mul_add_congr fun s x hl => ?_
  have l0 : (loc2Of i 0).val = (i 0).val % 1024 := rfl
  have l1 : (loc2Of i 1).val = (i 1).val % 1024 := rfl
  congr 1
  · exact congrArg (arr0 m c) (congrArg₂ ix2 (Fin.ext rfl) (Fin.ext (by rw [l0]; omega)))
  · exact congrArg (arr1 m c) (congrArg₂ ix2 (Fin.ext rfl) (Fin.ext (by rw [l1]; omega)))

end Cert.Kernel11Ideal.Sum

end
-- ==== Proof.T11.lean ====
module

public import proofs.«01_k».proof.Defs
public import proofs.«01_k».proof.Proof.K11
public import proofs.«01_k».proof.Proof.Gen.Reference11Ideal.Run
public import Idealize.ShloMosaic.Lib.Pointwise

@[expose] public section

set_option maxRecDepth 16384

noncomputable section

/-! The sum is the reference's. -/

namespace Cert.Kernel11Ideal.Tie

open Idealize.ShloMosaic Idealize.SL.Sem

theorem algebraic : Cert.algebraic_Kernel11Ideal_Reference11Ideal := by
  intro m ρ m' ρ' _ hagree
  refine ⟨_, Cert.Kernel11Ideal.Value.run (F := Ideal) m ρ, ?_⟩
  refine (θ_run Cert.Reference11Ideal.defs _ _).mono (fun _ h c => ⟨?_, (h c).2⟩) (Cert.Reference11Ideal.Value.run (F := Ideal) m' ρ')
  rw [(h c).1]
  simp only [hagree c]
  funext i
  refine Eq.trans ?_ (Cert.Kernel11Ideal.Sum.G_at m c i).symm
  pointwise []
  exact Finset.sum_congr rfl fun x _ => mul_comm _ _

end Cert.Kernel11Ideal.Tie

end
-- ==== Proof.K12.lean ====
module

public import proofs.«01_k».proof.Proof.Gen.Kernel12Ideal.Value
public import Idealize.ShloMosaic.Lib.Pipeline.ValueKit
public import Idealize.ShloMosaic.Lib.Pointwise

@[expose] public section

set_option maxRecDepth 16384

noncomputable section

/-! The gradient of the mixer's input: five blocks of columns are summed. -/

namespace Cert.Kernel12Ideal.Sum

open Cert.Kernel12Ideal Cert.Kernel12Ideal.Gen Cert.Kernel12Ideal.Value
open Idealize.ShloMosaic Idealize.ShloMosaic.TcCoe Idealize.ShloMosaic.Tactic

variable (m : (ℓ : Loc nD τ sig) → Buf (Elt Ideal) ℓ) (c : Dev nD)

abbrev arr0 : Vec Ideal S4096x3200 .bf16 := m (c.tc.loc main_arg0)
abbrev arr1 : Vec Ideal S1024x3200 .bf16 := m (c.tc.loc main_arg1)

/-- The product of two blocks. -/
def prod (v0 : Vec Ideal S1024x640 .bf16) (v2 : Vec Ideal S1024x640 .bf16) (y : S1024x1024.Idx) : EReal :=
  ∑ x : Fin 640, v0 (ix2 (y 0) x) * v2 (ix2 (y 1) x)

/-- What point `t` adds. -/
def part (t : Fin cfg0.N) (y : S1024x1024.Idx) : EReal := prod (iblk m c 0 t) (iblk m c 1 t) y

theorem pay2_at (v0 : Vec Ideal S1024x640 .bf16) (v2 : Vec Ideal S1024x640 .bf16) (y : S1024x1024.Idx) :
    k0_pay2 v0 v2 y = prod v0 v2 y := by
  pointwise [k0_pay2, k0_pay1, prod]

theorem pay3_at (v0 : Vec Ideal S1024x640 .bf16) (v2 : Vec Ideal S1024x640 .bf16) (v : Vec Ideal S1024x1024 .f32) (y : S1024x1024.Idx) :
    k0_pay3 v0 v2 v y = v y + prod v0 v2 y := by
  pointwise [k0_pay3, k0_pay1, prod]

theorem pay4_at (v0 : Vec Ideal S1024x640 .bf16) (v2 : Vec Ideal S1024x640 .bf16) (v : Vec Ideal S1024x1024 .f32) (y : S1024x1024.Idx) :
    k0_pay4 v0 v2 v y = v y + prod v0 v2 y := by
  pointwise [k0_pay4, k0_pay1, prod]

theorem at_A (t : Fin cfg0.N) (h : t.val % 5 = 0) (y : S1024x1024.Idx) :
    (outsAt0 m c t.val t.isLt).2 y = part m c t y := by
  rw [outsAt0_A m c t h (by omega) (by omega)]
  frame_out
  exact pay2_at _ _ y

theorem at_B (t : Fin cfg0.N) (h : 1 ≤ t.val % 5 ∧ t.val % 5 ≤ 3) (y : S1024x1024.Idx) :
    (outsAt0 m c t.val t.isLt).2 y
      = (outsAt0 m c (t.val - 1) (Nat.lt_of_le_of_lt (Nat.sub_le _ _) t.isLt)).2 y + part m c t y := by
  rw [outsAt0_B m c t (by omega) h (by omega)]
  frame_out
  refine (pay3_at _ _ _ y).trans ?_
  exact congrArg (· + part m c t y) (congrFun ((Memref.isWhole_whole cc0_scratch0).read_unread _) y)

theorem at_C (t : Fin cfg0.N) (h : t.val % 5 = 4) (y : S1024x1024.Idx) :
    (outsAt0 m c t.val t.isLt).1 y
      = (outsAt0 m c (t.val - 1) (Nat.lt_of_le_of_lt (Nat.sub_le _ _) t.isLt)).2 y + part m c t y := by
  rw [outsAt0_C m c t (by omega) (by omega) h]
  frame_out
  refine (pay4_at _ _ _ y).trans ?_
  exact congrArg (· + part m c t y) (congrFun ((Memref.isWhole_whole cc0_scratch0).read_unread _) y)

theorem lt_N {n : ℕ} (h : n < 20) : n < cfg0.N := lt_of_lt_of_eq h N_0.symm

/-- What the last of a run of points leaves in the result's block. -/
theorem out_at (q : ℕ) (hq : q < 4) (y : S1024x1024.Idx) :
    (outsAt0 m c (5 * q + 4) (lt_N (by omega))).1 y = ∑ s : Fin 5, part m c ⟨5 * q + s.val, lt_N (by omega)⟩ y := by
  have e4 := at_C m c ⟨5 * q + 4, lt_N (by omega)⟩ (by dsimp only; omega) y
  have e3 := at_B m c ⟨5 * q + 3, lt_N (by omega)⟩ (by dsimp only; omega) y
  have e2 := at_B m c ⟨5 * q + 2, lt_N (by omega)⟩ (by dsimp only; omega) y
  have e1 := at_B m c ⟨5 * q + 1, lt_N (by omega)⟩ (by dsimp only; omega) y
  have e0 := at_A m c ⟨5 * q + 0, lt_N (by omega)⟩ (by dsimp only; omega) y
  simp only [Nat.add_succ_sub_one] at e4 e3 e2 e1
  rw [e4, e3, e2, e1, e0, Fin.sum_univ_five]
  rfl

theorem idx : ∀ t : Fin cfg0.N, win0_0.index t = ![t.val / 5, t.val % 5] ∧ win0_1.index t = ![0, t.val % 5] := by
  decide +kernel

theorem part_at (q : Fin 4) (s : Fin 5) (y : S1024x1024.Idx) (h : 5 * q.val + s.val < cfg0.N) :
    part m c ⟨5 * q.val + s.val, h⟩ y = ∑ x : Fin 640,
      arr0 m c (ix2 ⟨q.val * 1024 + (y 0).val, by have : (y 0).val < 1024 := (y 0).isLt; omega⟩ ⟨s.val * 640 + x.val, by omega⟩)
        * arr1 m c (ix2 (y 1) ⟨s.val * 640 + x.val, by omega⟩) := by
  have y0 : (y 0).val < 1024 := (y 0).isLt
  have y1 : (y 1).val < 1024 := (y 1).isLt
  unfold part prod
  refine Finset.sum_congr rfl fun x _ => ?_
  congr 1 <;> blk_ext [iblk, V, idx ⟨5 * q.val + s.val, h⟩]

/-- The result's array after the run. -/
theorem G_at (i : S4096x1024.Idx) :
    (G2 m c : Vec Ideal S4096x1024 .f32) i = ∑ k : Fin 3200, arr0 m c (ix2 (i 0) k) * arr1 m c (ix2 (i 1) k) := by
  have h0 : (i 0).val < 4096 := (i 0).isLt
  have h1 : (i 1).val < 1024 := (i 1).isLt
  have hq : run2Of i = (i 0).val / 1024 := by
    show 1 * ((i 0).val / 1024 - 0) + 1 * ((i 1).val / 1024 - 0) = _
    omega
  have hN : pt2Of i < cfg0.N := lt_N (by show 5 * run2Of i + 4 < 20; rw [hq]; omega)
  unfold G2
  rw [dif_pos hN, ← outsAt0_sweep m c (pt2Of i) hN]
  have e := out_at m c (run2Of i) (by rw [hq]; omega) (loc2Of i)
  refine e.trans ?_
  have hr : run2Of i < 4 := by rw [hq]; omega
  simp only [fun (s : Fin 5) h => part_at m c ⟨run2Of i, hr⟩ s (loc2Of i) h]
  refine Fin.sum_mul_add_congr fun s x hl => ?_
  have l0 : (loc2Of i 0).val = (i 0).val % 1024 := rfl
  have l1 : (loc2Of i 1).val = (i 1).val % 1024 := rfl
  congr 1
  · exact congrArg (arr0 m c) (congrArg₂ ix2 (Fin.ext (by dsimp only; rw [hq]; omega)) (Fin.ext rfl))
  · exact congrArg (arr1 m c) (congrArg₂ ix2 (Fin.ext (by rw [l1]; omega)) (Fin.ext rfl))

end Cert.Kernel12Ideal.Sum

end
-- ==== Proof.T12.lean ====
module

public import proofs.«01_k».proof.Defs
public import proofs.«01_k».proof.Proof.K12
public import proofs.«01_k».proof.Proof.Gen.Reference12Ideal.Run
public import Idealize.ShloMosaic.Lib.Pointwise

@[expose] public section

set_option maxRecDepth 16384

noncomputable section

/-! The sum is the reference's. -/

namespace Cert.Kernel12Ideal.Tie

open Idealize.ShloMosaic Idealize.SL.Sem

theorem algebraic : Cert.algebraic_Kernel12Ideal_Reference12Ideal := by
  intro m ρ m' ρ' _ hagree
  refine ⟨_, Cert.Kernel12Ideal.Value.run (F := Ideal) m ρ, ?_⟩
  refine (θ_run Cert.Reference12Ideal.defs _ _).mono (fun _ h c => ⟨?_, (h c).2⟩) (Cert.Reference12Ideal.Value.run (F := Ideal) m' ρ')
  rw [(h c).1]
  simp only [hagree c]
  funext i
  refine Eq.trans ?_ (Cert.Kernel12Ideal.Sum.G_at m c i).symm
  pointwise []

end Cert.Kernel12Ideal.Tie

end
-- ==== Proof.K13.lean ====
module

public import proofs.«01_k».proof.Proof.Gen.Kernel13Ideal.Value
public import Idealize.ShloMosaic.Lib.Pipeline.ValueKit
public import Idealize.ShloMosaic.Lib.Pointwise

@[expose] public section

set_option maxRecDepth 16384

noncomputable section

/-! The gradient of the mixer's `w_in`: four blocks of rows are summed. -/

namespace Cert.Kernel13Ideal.Sum

open Cert.Kernel13Ideal Cert.Kernel13Ideal.Gen Cert.Kernel13Ideal.Value
open Idealize.ShloMosaic Idealize.ShloMosaic.TcCoe Idealize.ShloMosaic.Tactic

variable (m : (ℓ : Loc nD τ sig) → Buf (Elt Ideal) ℓ) (c : Dev nD)

abbrev arr0 : Vec Ideal S4096x1024 .bf16 := m (c.tc.loc main_arg0)
abbrev arr1 : Vec Ideal S4096x3200 .bf16 := m (c.tc.loc main_arg1)

/-- The product of two blocks. -/
def prod (v0 : Vec Ideal S1024x1024 .bf16) (v2 : Vec Ideal S1024x640 .bf16) (y : S1024x640.Idx) : EReal :=
  ∑ x : Fin 1024, v0 (ix2 x (y 0)) * v2 (ix2 x (y 1))

/-- What point `t` adds. -/
def part (t : Fin cfg0.N) (y : S1024x640.Idx) : EReal := prod (iblk m c 0 t) (iblk m c 1 t) y

theorem pay2_at (v0 : Vec Ideal S1024x1024 .bf16) (v2 : Vec Ideal S1024x640 .bf16) (y : S1024x640.Idx) :
    k0_pay2 v0 v2 y = prod v0 v2 y := by
  pointwise [k0_pay2, k0_pay1, prod]

theorem pay3_at (v0 : Vec Ideal S1024x1024 .bf16) (v2 : Vec Ideal S1024x640 .bf16) (v : Vec Ideal S1024x640 .f32) (y : S1024x640.Idx) :
    k0_pay3 v0 v2 v y = v y + prod v0 v2 y := by
  pointwise [k0_pay3, k0_pay1, prod]

theorem pay4_at (v0 : Vec Ideal S1024x1024 .bf16) (v2 : Vec Ideal S1024x640 .bf16) (v : Vec Ideal S1024x640 .f32) (y : S1024x640.Idx) :
    k0_pay4 v0 v2 v y = v y + prod v0 v2 y := by
  pointwise [k0_pay4, k0_pay1, prod]

theorem at_A (t : Fin cfg0.N) (h : t.val % 4 = 0) (y : S1024x640.Idx) :
    (outsAt0 m c t.val t.isLt).2 y = part m c t y := by
  rw [outsAt0_A m c t h (by omega) (by omega)]
  frame_out
  exact pay2_at _ _ y

theorem at_B (t : Fin cfg0.N) (h : 1 ≤ t.val % 4 ∧ t.val % 4 ≤ 2) (y : S1024x640.Idx) :
    (outsAt0 m c t.val t.isLt).2 y
      = (outsAt0 m c (t.val - 1) (Nat.lt_of_le_of_lt (Nat.sub_le _ _) t.isLt)).2 y + part m c t y := by
  rw [outsAt0_B m c t (by omega) h (by omega)]
  frame_out
  refine (pay3_at _ _ _ y).trans ?_
  exact congrArg (· + part m c t y) (congrFun ((Memref.isWhole_whole cc0_scratch0).read_unread _) y)

theorem at_C (t : Fin cfg0.N) (h : t.val % 4 = 3) (y : S1024x640.Idx) :
    (outsAt0 m c t.val t.isLt).1 y
      = (outsAt0 m c (t.val - 1) (Nat.lt_of_le_of_lt (Nat.sub_le _ _) t.isLt)).2 y + part m c t y := by
  rw [outsAt0_C m c t (by omega) (by omega) h]
  frame_out
  refine (pay4_at _ _ _ y).trans ?_
  exact congrArg (· + part m c t y) (congrFun ((Memref.isWhole_whole cc0_scratch0).read_unread _) y)

theorem lt_N {n : ℕ} (h : n < 20) : n < cfg0.N := lt_of_lt_of_eq h N_0.symm

/-- What the last of a run of points leaves in the result's block. -/
theorem out_at (q : ℕ) (hq : q < 5) (y : S1024x640.Idx) :
    (outsAt0 m c (4 * q + 3) (lt_N (by omega))).1 y = ∑ s : Fin 4, part m c ⟨4 * q + s.val, lt_N (by omega)⟩ y := by
  have e3 := at_C m c ⟨4 * q + 3, lt_N (by omega)⟩ (by dsimp only; omega) y
  have e2 := at_B m c ⟨4 * q + 2, lt_N (by omega)⟩ (by dsimp only; omega) y
  have e1 := at_B m c ⟨4 * q + 1, lt_N (by omega)⟩ (by dsimp only; omega) y
  have e0 := at_A m c ⟨4 * q + 0, lt_N (by omega)⟩ (by dsimp only; omega) y
  simp only [Nat.add_succ_sub_one] at e3 e2 e1
  rw [e3, e2, e1, e0, Fin.sum_univ_four]
  rfl

theorem idx : ∀ t : Fin cfg0.N, win0_0.index t = ![t.val % 4, 0] ∧ win0_1.index t = ![t.val % 4, t.val / 4] := by
  decide +kernel

theorem part_at (q : Fin 5) (s : Fin 4) (y : S1024x640.Idx) (h : 4 * q.val + s.val < cfg0.N) :
    part m c ⟨4 * q.val + s.val, h⟩ y = ∑ x : Fin 1024,
      arr0 m c (ix2 ⟨s.val * 1024 + x.val, by omega⟩ (y 0))
        * arr1 m c (ix2 ⟨s.val * 1024 + x.val, by omega⟩ ⟨q.val * 640 + (y 1).val, by have : (y 1).val < 640 := (y 1).isLt; omega⟩) := by
  have y0 : (y 0).val < 1024 := (y 0).isLt
  have y1 : (y 1).val < 640 := (y 1).isLt
  unfold part prod
  refine Finset.sum_congr rfl fun x _ => ?_
  congr 1 <;> blk_ext [iblk, V, idx ⟨4 * q.val + s.val, h⟩]

/-- The result's array after the run. -/
theorem G_at (i : S1024x3200.Idx) :
    (G2 m c : Vec Ideal S1024x3200 .bf16) i = ∑ k : Fin 4096, arr0 m c (ix2 k (i 0)) * arr1 m c (ix2 k (i 1)) := by
  have h0 : (i 0).val < 1024 := (i 0).isLt
  have h1 : (i 1).val < 3200 := (i 1).isLt
  have hq : run2Of i = (i 1).val / 640 := by
    show 5 * ((i 0).val / 1024 - 0) + 1 * ((i 1).val / 640 - 0) = _
    omega
  have hN : pt2Of i < cfg0.N := lt_N (by show 4 * run2Of i + 3 < 20; rw [hq]; omega)
  unfold G2
  rw [dif_pos hN, ← outsAt0_sweep m c (pt2Of i) hN]
  have e := out_at m c (run2Of i) (by rw [hq]; omega) (loc2Of i)
  refine e.trans ?_
  have hr : run2Of i < 5 := by rw [hq]; omega
  simp only [fun (s : Fin 4) h => part_at m c ⟨run2Of i, hr⟩ s (loc2Of i) h]
  refine Fin.sum_mul_add_congr fun s x hl => ?_
  have l0 : (loc2Of i 0).val = (i 0).val % 1024 := rfl
  have l1 : (loc2Of i 1).val = (i 1).val % 640 := rfl
  congr 1
  · exact congrArg (arr0 m c) (congrArg₂ ix2 (Fin.ext rfl) (Fin.ext (by rw [l0]; omega)))
  · exact congrArg (arr1 m c) (congrArg₂ ix2 (Fin.ext rfl) (Fin.ext (by dsimp only; rw [hq]; omega)))

end Cert.Kernel13Ideal.Sum

end
-- ==== Proof.T13.lean ====
module

public import proofs.«01_k».proof.Defs
public import proofs.«01_k».proof.Proof.K13
public import proofs.«01_k».proof.Proof.Gen.Reference13Ideal.Run
public import Idealize.ShloMosaic.Lib.Pointwise

@[expose] public section

set_option maxRecDepth 16384

noncomputable section

/-! The sum is the reference's. -/

namespace Cert.Kernel13Ideal.Tie

open Idealize.ShloMosaic Idealize.SL.Sem

theorem algebraic : Cert.algebraic_Kernel13Ideal_Reference13Ideal := by
  intro m ρ m' ρ' _ hagree
  refine ⟨_, Cert.Kernel13Ideal.Value.run (F := Ideal) m ρ, ?_⟩
  refine (θ_run Cert.Reference13Ideal.defs _ _).mono (fun _ h c => ⟨?_, (h c).2⟩) (Cert.Reference13Ideal.Value.run (F := Ideal) m' ρ')
  rw [(h c).1]
  simp only [hagree c]
  funext i
  refine Eq.trans ?_ (Cert.Kernel13Ideal.Sum.G_at m c i).symm
  pointwise []
  exact Finset.sum_congr rfl fun x _ => mul_comm _ _

end Cert.Kernel13Ideal.Tie

end
-- ==== Proof.Adam.lean ====
module

public import Idealize.ShloMosaic.PureOps.Ideal

@[expose] public section

noncomputable section

/-! The optimiser's step of one weight over the extended reals, its constants the float words that they are. -/

namespace Cert.Adam

open Idealize.ShloMosaic

/-- A float32 word's number. -/
abbrev w32 (b : BitVec 32) : EReal := Ideal.ofBits .f32 b

/-- The new first moment. -/
def mom (g m : EReal) : EReal := w32 0x3F666666#32 * m + w32 0x3DCCCCCD#32 * g

/-- The new second moment. -/
def var (g v : EReal) : EReal := w32 0x3F7FBE77#32 * v + w32 0x3A83126F#32 * (g * g)

/-- The weight's change. -/
def del (w g m v : EReal) : EReal :=
  w32 0xBA83126F#32 * (Ideal.div (Ideal.div (mom g m) (w32 0x3F26BD02#32)) (Ideal.sqrt (Ideal.div (var g v) (w32 0x3C231ACC#32)) + w32 0x322BCC77#32)
    + w32 0x3C23D70A#32 * w)

end Cert.Adam

end
-- ==== Proof.K14.lean ====
module

public import proofs.«01_k».proof.Proof.Gen.Kernel14Ideal.Value
public import proofs.«01_k».proof.Proof.Adam
public import Idealize.ShloMosaic.Lib.Pipeline.ValueKit
public import Idealize.ShloMosaic.Lib.Pointwise

@[expose] public section

set_option maxRecDepth 16384

noncomputable section

/-! The optimiser's step over the modulation's weight, block by block. -/

namespace Cert.Kernel14Ideal.Sum

open Cert.Kernel14Ideal Cert.Kernel14Ideal.Gen Cert.Kernel14Ideal.Value
open Idealize.ShloMosaic Idealize.ShloMosaic.TcCoe Idealize.ShloMosaic.Tactic

variable (m : (ℓ : Loc nD τ sig) → Buf (Elt Ideal) ℓ) (c : Dev nD)

abbrev arr0 : Vec Ideal S2048x2304 .f32 := shapeCast S2048x2304 (m (c.tc.loc main_arg0)) shapeCasts_S2x1024x2304_S2048x2304

theorem entry0 : V m c (Pipeline.arrRef spec0 0) = arr0 m c := by
  rfl

abbrev arr1 : Vec Ideal S2048x2304 .f32 := shapeCast S2048x2304 (m (c.tc.loc main_arg1)) shapeCasts_S2x1024x2304_S2048x2304

theorem entry1 : V m c (Pipeline.arrRef spec0 1) = arr1 m c := by
  rfl

abbrev arr2 : Vec Ideal S2048x2304 .f32 := shapeCast S2048x2304 (m (c.tc.loc main_arg2)) shapeCasts_S2x1024x2304_S2048x2304

theorem entry2 : V m c (Pipeline.arrRef spec0 2) = arr2 m c := by
  rfl

abbrev arr3 : Vec Ideal S2048x2304 .f32 := shapeCast S2048x2304 (m (c.tc.loc main_arg3)) shapeCasts_S2x1024x2304_S2048x2304

theorem entry3 : V m c (Pipeline.arrRef spec0 3) = arr3 m c := by
  rfl

theorem del_at (w g p q : Vec Ideal S128x2304 .f32) (y : S128x2304.Idx) : k0_pay4 w g p q y = Cert.Adam.del (w y) (g y) (p y) (q y) := by
  pointwise [k0_pay1, k0_pay2, k0_pay3, k0_pay4, Cert.Adam.del, Cert.Adam.mom, Cert.Adam.var]

theorem mom_at (g p : Vec Ideal S128x2304 .f32) (y : S128x2304.Idx) : k0_pay2 g p y = Cert.Adam.mom (g y) (p y) := by
  pointwise [k0_pay1, k0_pay2, k0_pay3, k0_pay4, Cert.Adam.mom]

theorem var_at (g q : Vec Ideal S128x2304 .f32) (y : S128x2304.Idx) : k0_pay3 g q y = Cert.Adam.var (g y) (q y) := by
  pointwise [k0_pay1, k0_pay2, k0_pay3, k0_pay4, Cert.Adam.var]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  decide +kernel

/-- The three results. -/
def D : Vec Ideal S2048x2304 .f32 := fun i => Cert.Adam.del (arr0 m c i) (arr1 m c i) (arr2 m c i) (arr3 m c i)

def M : Vec Ideal S2048x2304 .f32 := fun i => Cert.Adam.mom (arr1 m c i) (arr2 m c i)

def W : Vec Ideal S2048x2304 .f32 := fun i => Cert.Adam.var (arr1 m c i) (arr3 m c i)

theorem final4 : (dats m 0 c).arrAt 4 cfg0.N = D m c := by
  refine (dats m 0 c).arrAt_eq_of_covers 4 _ (by decide +kernel) fun t hf y => ?_
  blk_simp
  rw [after0_4]
  frame_out
  refine (del_at _ _ _ _ _).trans ?_
  unfold D
  congr 1 <;> blk_ext [iblk, V, idx t]

theorem final5 : (dats m 0 c).arrAt 5 cfg0.N = M m c := by
  refine (dats m 0 c).arrAt_eq_of_covers 5 _ (by decide +kernel) fun t hf y => ?_
  blk_simp
  rw [after0_5]
  frame_out
  refine (mom_at _ _ _).trans ?_
  unfold M
  congr 1 <;> blk_ext [iblk, V, idx t]

theorem final6 : (dats m 0 c).arrAt 6 cfg0.N = W m c := by
  refine (dats m 0 c).arrAt_eq_of_covers 6 _ (by decide +kernel) fun t hf y => ?_
  blk_simp
  rw [after0_6]
  frame_out
  refine (var_at _ _ _).trans ?_
  unfold W
  congr 1 <;> blk_ext [iblk, V, idx t]

end Cert.Kernel14Ideal.Sum

end
-- ==== Proof.T14.lean ====
module

public import proofs.«01_k».proof.Defs
public import proofs.«01_k».proof.Proof.K14
public import proofs.«01_k».proof.Proof.Gen.Reference14Ideal.Run
public import Idealize.ShloMosaic.Lib.Pointwise

@[expose] public section

set_option maxRecDepth 16384

noncomputable section

/-! The step is the reference's. -/

namespace Cert.Kernel14Ideal.Tie

open Idealize.ShloMosaic Idealize.SL.Sem

theorem cast_at {s t : Shape} {α : Type} (x y : s.Idx → α) (h : s.ShapeCasts t) (e : ∀ j, x j = y j) : shapeCast t x h = shapeCast t y h := by
  rw [funext e]

theorem algebraic : Cert.algebraic_Kernel14Ideal_Reference14Ideal := by
  intro m ρ m' ρ' _ hagree
  refine ⟨_, _, _, Cert.Kernel14Ideal.Value.run_blocks (F := Ideal) m ρ, ?_⟩
  refine (θ_run Cert.Reference14Ideal.defs _ _).mono (fun _ h c => ⟨?_, ?_, ?_, (h c).2.2.2⟩) (Cert.Reference14Ideal.Value.run (F := Ideal) m' ρ')
  · rw [(h c).1]
    simp only [hagree c]
    refine Eq.trans ?_ (Cert.Kernel14Ideal.Sum.final4 m c).symm
    refine cast_at _ (fun j => Cert.Adam.del (m (c.tc.loc Cert.Kernel14Ideal.main_arg0) j) (m (c.tc.loc Cert.Kernel14Ideal.main_arg1) j) (m (c.tc.loc Cert.Kernel14Ideal.main_arg2) j) (m (c.tc.loc Cert.Kernel14Ideal.main_arg3) j)) _ fun j => ?_
    unfold Cert.Adam.del Cert.Adam.mom Cert.Adam.var
    pointwise []
  · rw [(h c).2.1]
    simp only [hagree c]
    refine Eq.trans ?_ (Cert.Kernel14Ideal.Sum.final5 m c).symm
    refine cast_at _ (fun j => Cert.Adam.mom (m (c.tc.loc Cert.Kernel14Ideal.main_arg1) j) (m (c.tc.loc Cert.Kernel14Ideal.main_arg2) j)) _ fun j => ?_
    unfold Cert.Adam.mom
    pointwise []
  · rw [(h c).2.2.1]
    simp only [hagree c]
    refine Eq.trans ?_ (Cert.Kernel14Ideal.Sum.final6 m c).symm
    refine cast_at _ (fun j => Cert.Adam.var (m (c.tc.loc Cert.Kernel14Ideal.main_arg1) j) (m (c.tc.loc Cert.Kernel14Ideal.main_arg3) j)) _ fun j => ?_
    unfold Cert.Adam.var
    pointwise []

end Cert.Kernel14Ideal.Tie

end
-- ==== Proof.K15.lean ====
module

public import proofs.«01_k».proof.Proof.Gen.Kernel15Ideal.Value
public import proofs.«01_k».proof.Proof.Adam
public import Idealize.ShloMosaic.Lib.Pipeline.ValueKit
public import Idealize.ShloMosaic.Lib.Pointwise

@[expose] public section

set_option maxRecDepth 16384

noncomputable section

/-! The optimiser's step over the packed small weights, block by block. -/

namespace Cert.Kernel15Ideal.Sum

open Cert.Kernel15Ideal Cert.Kernel15Ideal.Gen Cert.Kernel15Ideal.Value
open Idealize.ShloMosaic Idealize.ShloMosaic.TcCoe Idealize.ShloMosaic.Tactic

variable (m : (ℓ : Loc nD τ sig) → Buf (Elt Ideal) ℓ) (c : Dev nD)

abbrev arr0 : Vec Ideal S232x128 .f32 := m (c.tc.loc main_arg0)
abbrev arr1 : Vec Ideal S232x128 .f32 := m (c.tc.loc main_arg1)
abbrev arr2 : Vec Ideal S232x128 .f32 := m (c.tc.loc main_arg2)
abbrev arr3 : Vec Ideal S232x128 .f32 := m (c.tc.loc main_arg3)

theorem del_at (w g p q : Vec Ideal S8x128 .f32) (y : S8x128.Idx) : k0_pay3 w g p q y = Cert.Adam.del (w y) (g y) (p y) (q y) := by
  pointwise [k0_pay1, k0_pay2, k0_pay3, Cert.Adam.del, Cert.Adam.mom, Cert.Adam.var]

theorem mom_at (g p : Vec Ideal S8x128 .f32) (y : S8x128.Idx) : k0_pay1 g p y = Cert.Adam.mom (g y) (p y) := by
  pointwise [k0_pay1, k0_pay2, k0_pay3, Cert.Adam.mom]

theorem var_at (g q : Vec Ideal S8x128 .f32) (y : S8x128.Idx) : k0_pay2 g q y = Cert.Adam.var (g y) (q y) := by
  pointwise [k0_pay1, k0_pay2, k0_pay3, Cert.Adam.var]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  decide +kernel

/-- The three results. -/
def D : Vec Ideal S232x128 .f32 := fun i => Cert.Adam.del (arr0 m c i) (arr1 m c i) (arr2 m c i) (arr3 m c i)

def M : Vec Ideal S232x128 .f32 := fun i => Cert.Adam.mom (arr1 m c i) (arr2 m c i)

def W : Vec Ideal S232x128 .f32 := fun i => Cert.Adam.var (arr1 m c i) (arr3 m c i)

theorem final4 : (dats m 0 c).arrAt 4 cfg0.N = D m c := by
  refine (dats m 0 c).arrAt_eq_of_covers 4 _ (by decide +kernel) fun t hf y => ?_
  blk_simp
  rw [after0_4]
  frame_out
  refine (del_at _ _ _ _ _).trans ?_
  unfold D
  congr 1 <;> blk_ext [iblk, V, idx t]

theorem final5 : (dats m 0 c).arrAt 5 cfg0.N = M m c := by
  refine (dats m 0 c).arrAt_eq_of_covers 5 _ (by decide +kernel) fun t hf y => ?_
  blk_simp
  rw [after0_5]
  frame_out
  refine (mom_at _ _ _).trans ?_
  unfold M
  congr 1 <;> blk_ext [iblk, V, idx t]

theorem final6 : (dats m 0 c).arrAt 6 cfg0.N = W m c := by
  refine (dats m 0 c).arrAt_eq_of_covers 6 _ (by decide +kernel) fun t hf y => ?_
  blk_simp
  rw [after0_6]
  frame_out
  refine (var_at _ _ _).trans ?_
  unfold W
  congr 1 <;> blk_ext [iblk, V, idx t]

end Cert.Kernel15Ideal.Sum

end
-- ==== Proof.T15.lean ====
module

public import proofs.«01_k».proof.Defs
public import proofs.«01_k».proof.Proof.K15
public import proofs.«01_k».proof.Proof.Gen.Reference15Ideal.Run
public import Idealize.ShloMosaic.Lib.Pointwise

@[expose] public section

set_option maxRecDepth 16384

noncomputable section

/-! The step is the reference's. -/

namespace Cert.Kernel15Ideal.Tie

open Idealize.ShloMosaic Idealize.SL.Sem

theorem algebraic : Cert.algebraic_Kernel15Ideal_Reference15Ideal := by
  intro m ρ m' ρ' _ hagree
  refine ⟨_, _, _, Cert.Kernel15Ideal.Value.run_blocks (F := Ideal) m ρ, ?_⟩
  refine (θ_run Cert.Reference15Ideal.defs _ _).mono (fun _ h c => ⟨?_, ?_, ?_, (h c).2.2.2⟩) (Cert.Reference15Ideal.Value.run (F := Ideal) m' ρ')
  · rw [(h c).1]
    simp only [hagree c]
    refine Eq.trans ?_ (Cert.Kernel15Ideal.Sum.final4 m c).symm
    funext i
    unfold Cert.Kernel15Ideal.Sum.D Cert.Adam.del Cert.Adam.mom Cert.Adam.var
    pointwise []
  · rw [(h c).2.1]
    simp only [hagree c]
    refine Eq.trans ?_ (Cert.Kernel15Ideal.Sum.final5 m c).symm
    funext i
    unfold Cert.Kernel15Ideal.Sum.M Cert.Adam.mom
    pointwise []
  · rw [(h c).2.2.1]
    simp only [hagree c]
    refine Eq.trans ?_ (Cert.Kernel15Ideal.Sum.final6 m c).symm
    funext i
    unfold Cert.Kernel15Ideal.Sum.W Cert.Adam.var
    pointwise []

end Cert.Kernel15Ideal.Tie

end
-- ==== Proof.K16.lean ====
module

public import proofs.«01_k».proof.Proof.Gen.Kernel16Ideal.Frame
public import proofs.«01_k».proof.Proof.Adam
public import Idealize.ShloMosaic.Lib.Pipeline.ValueKit
public import Idealize.ShloMosaic.Lib.Pipeline.Covers
public import Idealize.ShloMosaic.Lib.Pointwise

@[expose] public section

set_option maxRecDepth 16384

noncomputable section

/-! The optimiser's step over a weight of two layers, block by block. Half of a layer's gradient lies in one array and half in
another; which half, the table's word says. -/

namespace Cert.Kernel16Ideal.Sum

open Cert.Kernel16Ideal Cert.Kernel16Ideal.Gen
open Idealize.ShloMosaic Idealize.ShloMosaic.TcCoe Idealize.ShloMosaic.Tactic

section
variable {F : FTy → Type} [FloatOps F]

/-- A row block's half, as the program divides: rounding down. -/
def half (b : BitVec 32) : BitVec 32 :=
  Scalar.select (Scalar.andi (Scalar.cmpi .ne (Scalar.subi (Scalar.extui (Scalar.cmpi .sgt b 0#32)) (Scalar.extui (Scalar.cmpi .slt b 0#32)))
    (Scalar.subi (Scalar.extui (Scalar.cmpi .sgt 2#32 0#32)) (Scalar.extui (Scalar.cmpi .slt 2#32 0#32)))) (Scalar.cmpi .ne (Scalar.remsi b 2#32) 0#32))
    (Scalar.subi (Scalar.divsi b 2#32) 1#32) (Scalar.divsi b 2#32)

/-- A row block's place in its half. -/
def place (b : BitVec 32) : BitVec 32 :=
  Scalar.select (Scalar.andi (Scalar.xori (Scalar.cmpi .slt (Scalar.remsi b (Scalar.select (Scalar.cmpi .eq 2#32 0#32) 1#32 2#32)) 0#32)
      (Scalar.cmpi .slt (Scalar.select (Scalar.cmpi .eq 2#32 0#32) 1#32 2#32) 0#32))
    (Scalar.cmpi .ne (Scalar.remsi b (Scalar.select (Scalar.cmpi .eq 2#32 0#32) 1#32 2#32)) 0#32))
    (Scalar.addi (Scalar.remsi b (Scalar.select (Scalar.cmpi .eq 2#32 0#32) 1#32 2#32)) (Scalar.select (Scalar.cmpi .eq 2#32 0#32) 1#32 2#32))
    (Scalar.remsi b (Scalar.select (Scalar.cmpi .eq 2#32 0#32) 1#32 2#32))

theorem half_eq : ∀ b : Fin 4, half (BitVec.ofNat 32 b.val) = BitVec.ofNat 32 (b.val / 2) := by decide +kernel

theorem place_eq : ∀ b : Fin 4, place (BitVec.ofNat 32 b.val) = BitVec.ofNat 32 (b.val % 2) := by decide +kernel

/-- The table's word. -/
def word (pf : pre0.Contents (Elt F)) : BitVec 32 := pf.at 0 (Rect.unit (s := S1) ![0] S1.size inb_S1_S1_0) numel1_S1

/-- Whether a row block lies in the half that the word names. -/
def own (pf : pre0.Contents (Elt F)) (b : BitVec 32) : BitVec 1 := Scalar.cmpi .eq (half b) (word pf)

theorem map1 (pf : pre0.Contents (Elt F)) (i : grid0.Coords) : cc0_transform_1 inb_S1_S1_0 numel1_S1 pf i =
    ![(Scalar.select (Scalar.andi (Scalar.cmpi .eq (BitVec.ofNat 32 (i 0).val) 0#32) (own pf (BitVec.ofNat 32 (i 1).val)))
      (place (BitVec.ofNat 32 (i 1).val)) 0#32).toNat, 0] := rfl

theorem map2 (pf : pre0.Contents (Elt F)) (i : grid0.Coords) : cc0_transform_2 inb_S1_S1_0 numel1_S1 pf i =
    ![(Scalar.select (Scalar.andi (Scalar.cmpi .eq (BitVec.ofNat 32 (i 0).val) 0#32) (Scalar.xori (own pf (BitVec.ofNat 32 (i 1).val)) 1#1))
      (place (BitVec.ofNat 32 (i 1).val)) 0#32).toNat, 0] := rfl

theorem map3 (pf : pre0.Contents (Elt F)) (i : grid0.Coords) : cc0_transform_3 inb_S1_S1_0 numel1_S1 pf i =
    ![(Scalar.select (Scalar.andi (Scalar.cmpi .eq (BitVec.ofNat 32 (i 0).val) 1#32) (own pf (BitVec.ofNat 32 (i 1).val)))
      (place (BitVec.ofNat 32 (i 1).val)) 0#32).toNat, 0] := rfl

theorem map4 (pf : pre0.Contents (Elt F)) (i : grid0.Coords) : cc0_transform_4 inb_S1_S1_0 numel1_S1 pf i =
    ![(Scalar.select (Scalar.andi (Scalar.cmpi .eq (BitVec.ofNat 32 (i 0).val) 1#32) (Scalar.xori (own pf (BitVec.ofNat 32 (i 1).val)) 1#1))
      (place (BitVec.ofNat 32 (i 1).val)) 0#32).toNat, 0] := rfl

/-- The choice of a block, over every value of the word's comparison. -/
theorem choice0 : ∀ (a : Fin 2) (b : Fin 4) (o : BitVec 1),
    (Scalar.select (Scalar.andi (Scalar.cmpi .eq (BitVec.ofNat 32 a.val) 0#32) o) (place (BitVec.ofNat 32 b.val)) (0#32 : BitVec 32)).toNat
      = if a.val = 0 ∧ o = 1#1 then b.val % 2 else 0 := by
  decide +kernel

theorem choice1 : ∀ (a : Fin 2) (b : Fin 4) (o : BitVec 1),
    (Scalar.select (Scalar.andi (Scalar.cmpi .eq (BitVec.ofNat 32 a.val) 1#32) o) (place (BitVec.ofNat 32 b.val)) (0#32 : BitVec 32)).toNat
      = if a.val = 1 ∧ o = 1#1 then b.val % 2 else 0 := by
  decide +kernel

theorem flip : ∀ o : BitVec 1, Scalar.xori o 1#1 = 1#1 ↔ o ≠ 1#1 := by decide

/-- Block `i` of the rows lies in the half that the word names. -/
def Mine (pf : pre0.Contents (Elt F)) (i : grid0.Coords) : Prop := own pf (BitVec.ofNat 32 (i 1).val) = 1#1

instance (pf : pre0.Contents (Elt F)) (i : grid0.Coords) : Decidable (Mine pf i) := by unfold Mine; infer_instance

theorem at1 (pf : pre0.Contents (Elt F)) (i : grid0.Coords) : cc0_transform_1 inb_S1_S1_0 numel1_S1 pf i =
    ![if (i 0).val = 0 ∧ Mine pf i then (i 1).val % 2 else 0, 0] := by
  rw [map1, choice0 (i 0) (i 1) _]; rfl

theorem at2 (pf : pre0.Contents (Elt F)) (i : grid0.Coords) : cc0_transform_2 inb_S1_S1_0 numel1_S1 pf i =
    ![if (i 0).val = 0 ∧ ¬ Mine pf i then (i 1).val % 2 else 0, 0] := by
  rw [map2, choice0 (i 0) (i 1) _]; simp only [Mine, flip, ne_eq]; rfl

theorem at3 (pf : pre0.Contents (Elt F)) (i : grid0.Coords) : cc0_transform_3 inb_S1_S1_0 numel1_S1 pf i =
    ![if (i 0).val = 1 ∧ Mine pf i then (i 1).val % 2 else 0, 0] := by
  rw [map3, choice1 (i 0) (i 1) _]; rfl

theorem at4 (pf : pre0.Contents (Elt F)) (i : grid0.Coords) : cc0_transform_4 inb_S1_S1_0 numel1_S1 pf i =
    ![if (i 0).val = 1 ∧ ¬ Mine pf i then (i 1).val % 2 else 0, 0] := by
  rw [map4, choice1 (i 0) (i 1) _]; simp only [Mine, flip, ne_eq]; rfl

theorem inside (x : Nat) (p : Prop) [Decidable p] : ∀ a : Fin 2, ((![if p then x % 2 else 0, 0] : Fin 2 → Nat) a + 1) * S256x1408.size a ≤ S512x1408.size a := by
  intro a
  have hx : (if p then x % 2 else 0) ≤ 1 := by split <;> omega
  fin_cases a
  · show ((if p then x % 2 else 0) + 1) * 256 ≤ 512
    omega
  · show (0 + 1) * 1408 ≤ 1408
    omega

theorem inside1 (pf : pre0.Contents (Elt F)) (i : grid0.Coords) (a : Fin 2) :
    (cc0_transform_1 inb_S1_S1_0 numel1_S1 pf i a + 1) * S256x1408.size a ≤ S512x1408.size a := by
  rw [at1]
  exact inside _ _ a

theorem inside2 (pf : pre0.Contents (Elt F)) (i : grid0.Coords) (a : Fin 2) :
    (cc0_transform_2 inb_S1_S1_0 numel1_S1 pf i a + 1) * S256x1408.size a ≤ S512x1408.size a := by
  rw [at2]
  exact inside _ _ a

theorem inside3 (pf : pre0.Contents (Elt F)) (i : grid0.Coords) (a : Fin 2) :
    (cc0_transform_3 inb_S1_S1_0 numel1_S1 pf i a + 1) * S256x1408.size a ≤ S512x1408.size a := by
  rw [at3]
  exact inside _ _ a

theorem inside4 (pf : pre0.Contents (Elt F)) (i : grid0.Coords) (a : Fin 2) :
    (cc0_transform_4 inb_S1_S1_0 numel1_S1 pf i a + 1) * S256x1408.size a ≤ S512x1408.size a := by
  rw [at4]
  exact inside _ _ a

/-- Every block lies inside its array, whatever the table's word. -/
theorem ok (m : (ℓ : Loc nD τ sig) → Buf (Elt F) ℓ) : Ok m :=
  ⟨fun i => ⟨inside1 _ i, .inl rfl⟩, fun i => ⟨inside2 _ i, .inl rfl⟩, fun i => ⟨inside3 _ i, .inl rfl⟩, fun i => ⟨inside4 _ i, .inl rfl⟩⟩

theorem mine_iff (pf : pre0.Contents (Elt F)) (i : grid0.Coords) : Mine pf i ↔ word pf = BitVec.ofNat 32 ((i 1).val / 2) := by
  have h : ∀ x y : BitVec 32, (Scalar.cmpi .eq x y = 1#1) ↔ y = x := fun x y => by
    have hb : ∀ b : Bool, BitVec.ofBool b = 1#1 ↔ b = true := by decide
    exact (hb (x == y)).trans (beq_iff_eq.trans eq_comm)
  unfold Mine own
  rw [h, half_eq (i 1)]

/-- The gradient's block: of the two layers' two halves, the one that the point wants. -/
theorem pay2_eq (pf : pre0.Contents (Elt F)) (i : grid0.Coords) (a b x y : Vec F S256x1408 .f32) :
    k0_pay2 i (word pf) a b x y = if (i 0).val = 0 then (if Mine pf i then a else b) else (if Mine pf i then x else y) := by
  have e : k0_pay2 i (word pf) a b x y = Scalar.select (Scalar.cmpi .eq (BitVec.ofNat 32 (i 0).val) 0#32)
      (Scalar.select (own pf (BitVec.ofNat 32 (i 1).val)) a b) (Scalar.select (own pf (BitVec.ofNat 32 (i 1).val)) x y) := rfl
  have h : ∀ a : Fin 2, Scalar.cmpi .eq (BitVec.ofNat 32 a.val) 0#32 = 1#1 ↔ a.val = 0 := by decide
  rw [e]
  by_cases h0 : (i 0).val = 0
  · rw [(h (i 0)).2 h0, if_pos h0]; rfl
  · rw [if_neg h0]
    exact if_neg fun e => h0 ((h (i 0)).1 e)

end

variable (m : (ℓ : Loc nD τ sig) → Buf (Elt Ideal) ℓ) (c : Dev nD)

theorem flat0 : ∀ a : Fin 2, (BitVec.ofNat 32 a.val).toNat = a.val := by decide

theorem flat1 : ∀ a : Fin 4, (BitVec.ofNat 32 a.val).toNat = a.val := by decide

/-- Where an entry of a block of the whole arrays lies. -/
theorem pos0 (i : grid0.Coords) (y : S1x256x1408.Idx) : cc0_transform_0 i 0 * 1 + 1 * (y 0).val = (i 0).val := by
  have h : (y 0).val < 1 := (y 0).isLt
  have e : cc0_transform_0 i 0 = (i 0).val := flat0 (i 0)
  omega

theorem pos1 (i : grid0.Coords) (y : S1x256x1408.Idx) : cc0_transform_0 i 1 * 256 + 1 * (y 1).val = (i 1).val * 256 + (y 1).val := by
  have e : cc0_transform_0 i 1 = (i 1).val := flat1 (i 1)
  rw [e, Nat.one_mul]

theorem pos2 (i : grid0.Coords) (y : S1x256x1408.Idx) : cc0_transform_0 i 2 * 1408 + 1 * (y 2).val = (y 2).val := by
  have e : cc0_transform_0 i 2 = 0 := rfl
  omega

theorem cov (n : Fin 3 → Nat) (e0 : n 0 = 2) (e1 : n 1 = 4) (e2 : n 2 = 1) (β : (a : Fin 3) → Fin (n a)) :
    ∃ i : grid0.Coords, ∀ a, cc0_transform_0 i a = (β a).val := by
  refine ⟨fun a => match a with | ⟨0, _⟩ => (β 0).cast e0 | ⟨1, _⟩ => (β 1).cast e1, fun a => ?_⟩
  match a with
  | ⟨0, _⟩ => exact flat0 ((β 0).cast e0)
  | ⟨1, _⟩ => exact flat1 ((β 1).cast e1)
  | ⟨2, _⟩ => exact (Nat.lt_one_iff.1 (lt_of_lt_of_eq (β 2).isLt e2)).symm

theorem sz : ∀ a, 0 < S1x256x1408.size a := by decide

/-- A row of a layer, in its half. -/
abbrev row (j : S2x1024x1408.Idx) : S512x1408.Idx := ix2 ⟨(j 1).val % 512, Nat.mod_lt _ (by decide)⟩ (j 2)

/-- The gradient of an entry: layer, row and column. -/
def G : Vec Ideal S2x1024x1408 .f32 := fun j =>
  if (j 0).val = 0 then
    (if word (tbl m) = BitVec.ofNat 32 ((j 1).val / 512) then m (c.tc.loc main_arg1) (row j) else m (c.tc.loc main_arg2) (row j))
  else
    (if word (tbl m) = BitVec.ofNat 32 ((j 1).val / 512) then m (c.tc.loc main_arg3) (row j) else m (c.tc.loc main_arg4) (row j))

theorem lift (v : Vec Ideal S256x1408 .f32) (y : S1x256x1408.Idx) : shapeCast S1x256x1408 v shapeCasts_S256x1408_S1x256x1408 y = v (ix2 (y 1) (y 2)) := by
  pointwise []

theorem drop (v : Vec Ideal S1x256x1408 .f32) (y : S256x1408.Idx) : shapeCast S256x1408 v shapeCasts_S1x256x1408_S256x1408 y = v (ix3 0 (y 0) (y 1)) := by
  pointwise []

theorem blk1 (t : Fin (cfgM m (ok m)).N) (y : S256x1408.Idx) (z : S512x1408.Idx)
    (h0 : (z 0).val = cc0_transform_1 inb_S1_S1_0 numel1_S1 (tbl m) (grid0.coords t) 0 * 256 + (y 0).val) (h1 : (z 1).val = (y 1).val) :
    iblk m (ok m) c 1 t y = m (c.tc.loc main_arg1) z := by
  refine congrArg (m (c.tc.loc main_arg1)) (funext fun a => Fin.ext ?_)
  match a with
  | ⟨0, _⟩ => exact Eq.trans (by show cc0_transform_1 inb_S1_S1_0 numel1_S1 (tbl m) (grid0.coords t) 0 * 256 + 1 * (y 0).val = _; rw [Nat.one_mul]) h0.symm
  | ⟨1, _⟩ => exact Eq.trans (by show 0 * 1408 + 1 * (y 1).val = _; omega) h1.symm

theorem blk2 (t : Fin (cfgM m (ok m)).N) (y : S256x1408.Idx) (z : S512x1408.Idx)
    (h0 : (z 0).val = cc0_transform_2 inb_S1_S1_0 numel1_S1 (tbl m) (grid0.coords t) 0 * 256 + (y 0).val) (h1 : (z 1).val = (y 1).val) :
    iblk m (ok m) c 2 t y = m (c.tc.loc main_arg2) z := by
  refine congrArg (m (c.tc.loc main_arg2)) (funext fun a => Fin.ext ?_)
  match a with
  | ⟨0, _⟩ => exact Eq.trans (by show cc0_transform_2 inb_S1_S1_0 numel1_S1 (tbl m) (grid0.coords t) 0 * 256 + 1 * (y 0).val = _; rw [Nat.one_mul]) h0.symm
  | ⟨1, _⟩ => exact Eq.trans (by show 0 * 1408 + 1 * (y 1).val = _; omega) h1.symm

theorem blk3 (t : Fin (cfgM m (ok m)).N) (y : S256x1408.Idx) (z : S512x1408.Idx)
    (h0 : (z 0).val = cc0_transform_3 inb_S1_S1_0 numel1_S1 (tbl m) (grid0.coords t) 0 * 256 + (y 0).val) (h1 : (z 1).val = (y 1).val) :
    iblk m (ok m) c 3 t y = m (c.tc.loc main_arg3) z := by
  refine congrArg (m (c.tc.loc main_arg3)) (funext fun a => Fin.ext ?_)
  match a with
  | ⟨0, _⟩ => exact Eq.trans (by show cc0_transform_3 inb_S1_S1_0 numel1_S1 (tbl m) (grid0.coords t) 0 * 256 + 1 * (y 0).val = _; rw [Nat.one_mul]) h0.symm
  | ⟨1, _⟩ => exact Eq.trans (by show 0 * 1408 + 1 * (y 1).val = _; omega) h1.symm

theorem blk4 (t : Fin (cfgM m (ok m)).N) (y : S256x1408.Idx) (z : S512x1408.Idx)
    (h0 : (z 0).val = cc0_transform_4 inb_S1_S1_0 numel1_S1 (tbl m) (grid0.coords t) 0 * 256 + (y 0).val) (h1 : (z 1).val = (y 1).val) :
    iblk m (ok m) c 4 t y = m (c.tc.loc main_arg4) z := by
  refine congrArg (m (c.tc.loc main_arg4)) (funext fun a => Fin.ext ?_)
  match a with
  | ⟨0, _⟩ => exact Eq.trans (by show cc0_transform_4 inb_S1_S1_0 numel1_S1 (tbl m) (grid0.coords t) 0 * 256 + 1 * (y 0).val = _; rw [Nat.one_mul]) h0.symm
  | ⟨1, _⟩ => exact Eq.trans (by show 0 * 1408 + 1 * (y 1).val = _; omega) h1.symm

/-- The gradient's block at a point is the gradient there. -/
theorem grad_at (t : Fin (cfgM m (ok m)).N) (w : BitVec 32) (x1 x2 x3 x4 : Vec Ideal S256x1408 .f32) (y : S256x1408.Idx) (j : S2x1024x1408.Idx)
    (hw : w = word (tbl m)) (hx1 : x1 = iblk m (ok m) c 1 t) (hx2 : x2 = iblk m (ok m) c 2 t) (hx3 : x3 = iblk m (ok m) c 3 t) (hx4 : x4 = iblk m (ok m) c 4 t)
    (h0 : (j 0).val = (grid0.coords t 0).val)
    (h1 : (j 1).val = (grid0.coords t 1).val * 256 + (y 0).val) (h2 : (j 2).val = (y 1).val) :
    k0_pay2 (grid0.coords t) w x1 x2 x3 x4 y = G m c j := by
  have hy : (y 0).val < 256 := (y 0).isLt
  have hi : (grid0.coords t 0).val < 2 := (grid0.coords t 0).isLt
  have hd : (j 1).val / 512 = (grid0.coords t 1).val / 2 := by omega
  have hm : (j 1).val % 512 = (grid0.coords t 1).val % 2 * 256 + (y 0).val := by omega
  rw [hw, pay2_eq]
  unfold G
  rw [h0, hd]
  by_cases e : (grid0.coords t 0).val = 0 <;> by_cases hq : word (tbl m) = BitVec.ofNat 32 ((grid0.coords t 1).val / 2)
  · rw [if_pos e, if_pos e, if_pos ((mine_iff _ _).2 hq), if_pos hq]
    refine (congrFun hx1 y).trans (blk1 m c t y _ (Eq.trans hm ?_) h2)
    rw [at1]; simp [e, (mine_iff _ _).2 hq]
  · rw [if_pos e, if_pos e, if_neg (fun h => hq ((mine_iff _ _).1 h)), if_neg hq]
    refine (congrFun hx2 y).trans (blk2 m c t y _ (Eq.trans hm ?_) h2)
    rw [at2]; simp [e, show ¬ Mine (tbl m) (grid0.coords t) from fun h => hq ((mine_iff _ _).1 h)]
  · rw [if_neg e, if_neg e, if_pos ((mine_iff _ _).2 hq), if_pos hq]
    refine (congrFun hx3 y).trans (blk3 m c t y _ (Eq.trans hm ?_) h2)
    rw [at3]; simp [show (grid0.coords t 0).val = 1 by omega, (mine_iff _ _).2 hq]
  · rw [if_neg e, if_neg e, if_neg (fun h => hq ((mine_iff _ _).1 h)), if_neg hq]
    refine (congrFun hx4 y).trans (blk4 m c t y _ (Eq.trans hm ?_) h2)
    rw [at4]; simp [show (grid0.coords t 0).val = 1 by omega, show ¬ Mine (tbl m) (grid0.coords t) from fun h => hq ((mine_iff _ _).1 h)]

theorem blk0 (t : Fin (cfgM m (ok m)).N) (y : S1x256x1408.Idx) (j : S2x1024x1408.Idx) (h0 : (j 0).val = (grid0.coords t 0).val)
    (h1 : (j 1).val = (grid0.coords t 1).val * 256 + (y 1).val) (h2 : (j 2).val = (y 2).val) : iblk m (ok m) c 0 t y = m (c.tc.loc main_arg0) j := by
  refine congrArg (m (c.tc.loc main_arg0)) (funext fun a => Fin.ext ?_)
  match a with
  | ⟨0, _⟩ => exact Eq.trans (pos0 (grid0.coords t) y) h0.symm
  | ⟨1, _⟩ => exact Eq.trans (pos1 (grid0.coords t) y) h1.symm
  | ⟨2, _⟩ => exact Eq.trans (pos2 (grid0.coords t) y) h2.symm

theorem blk5 (t : Fin (cfgM m (ok m)).N) (y : S1x256x1408.Idx) (j : S2x1024x1408.Idx) (h0 : (j 0).val = (grid0.coords t 0).val)
    (h1 : (j 1).val = (grid0.coords t 1).val * 256 + (y 1).val) (h2 : (j 2).val = (y 2).val) : iblk m (ok m) c 5 t y = m (c.tc.loc main_arg5) j := by
  refine congrArg (m (c.tc.loc main_arg5)) (funext fun a => Fin.ext ?_)
  match a with
  | ⟨0, _⟩ => exact Eq.trans (pos0 (grid0.coords t) y) h0.symm
  | ⟨1, _⟩ => exact Eq.trans (pos1 (grid0.coords t) y) h1.symm
  | ⟨2, _⟩ => exact Eq.trans (pos2 (grid0.coords t) y) h2.symm

theorem blk6 (t : Fin (cfgM m (ok m)).N) (y : S1x256x1408.Idx) (j : S2x1024x1408.Idx) (h0 : (j 0).val = (grid0.coords t 0).val)
    (h1 : (j 1).val = (grid0.coords t 1).val * 256 + (y 1).val) (h2 : (j 2).val = (y 2).val) : iblk m (ok m) c 6 t y = m (c.tc.loc main_arg6) j := by
  refine congrArg (m (c.tc.loc main_arg6)) (funext fun a => Fin.ext ?_)
  match a with
  | ⟨0, _⟩ => exact Eq.trans (pos0 (grid0.coords t) y) h0.symm
  | ⟨1, _⟩ => exact Eq.trans (pos1 (grid0.coords t) y) h1.symm
  | ⟨2, _⟩ => exact Eq.trans (pos2 (grid0.coords t) y) h2.symm

theorem del_at (g : Vec Ideal S256x1408 .f32) (w p q : Vec Ideal S1x256x1408 .f32) (y : S1x256x1408.Idx) :
    k0_pay7 g (k0_pay4 w) p q y = Cert.Adam.del (w y) (g (ix2 (y 1) (y 2))) (p y) (q y) := by
  pointwise [k0_pay4, k0_pay5, k0_pay6, k0_pay7, Cert.Adam.del, Cert.Adam.mom, Cert.Adam.var]

theorem mom_at (g : Vec Ideal S256x1408 .f32) (p : Vec Ideal S1x256x1408 .f32) (y : S1x256x1408.Idx) :
    k0_pay8 g p y = Cert.Adam.mom (g (ix2 (y 1) (y 2))) (p y) := by
  pointwise [k0_pay5, k0_pay8, Cert.Adam.mom]

theorem var_at (g : Vec Ideal S256x1408 .f32) (q : Vec Ideal S1x256x1408 .f32) (y : S1x256x1408.Idx) :
    k0_pay1 (k0_pay6 g q) y = Cert.Adam.var (g (ix2 (y 1) (y 2))) (q y) := by
  pointwise [k0_pay1, k0_pay6, Cert.Adam.var]

/-- The three results of the step. -/
def D : Vec Ideal S2x1024x1408 .f32 := fun j => Cert.Adam.del (m (c.tc.loc main_arg0) j) (G m c j) (m (c.tc.loc main_arg5) j) (m (c.tc.loc main_arg6) j)

def M : Vec Ideal S2x1024x1408 .f32 := fun j => Cert.Adam.mom (G m c j) (m (c.tc.loc main_arg5) j)

def W : Vec Ideal S2x1024x1408 .f32 := fun j => Cert.Adam.var (G m c j) (m (c.tc.loc main_arg6) j)

theorem out7 (t : Fin (cfgM m (ok m)).N) (w : BitVec 32) (x1 x2 x3 x4 : Vec Ideal S256x1408 .f32)
    (hw : w = word (tbl m)) (hx1 : x1 = iblk m (ok m) c 1 t) (hx2 : x2 = iblk m (ok m) c 2 t) (hx3 : x3 = iblk m (ok m) c 3 t) (hx4 : x4 = iblk m (ok m) c 4 t)

    (y : S1x256x1408.Idx) (j : S2x1024x1408.Idx) (h0 : (j 0).val = (grid0.coords t 0).val)
    (h1 : (j 1).val = (grid0.coords t 1).val * 256 + (y 1).val) (h2 : (j 2).val = (y 2).val) :
    k0_pay3 (grid0.coords t) w x1 x2 x3 x4 y = G m c j := by
  exact (lift _ y).trans (grad_at m c t w x1 x2 x3 x4 (ix2 (y 1) (y 2)) j hw hx1 hx2 hx3 hx4 h0 h1 h2)

theorem out8 (t : Fin (cfgM m (ok m)).N) (w : BitVec 32) (x1 x2 x3 x4 : Vec Ideal S256x1408 .f32) (x0 x5 x6 : Vec Ideal S1x256x1408 .f32)
    (hw : w = word (tbl m)) (hx1 : x1 = iblk m (ok m) c 1 t) (hx2 : x2 = iblk m (ok m) c 2 t) (hx3 : x3 = iblk m (ok m) c 3 t) (hx4 : x4 = iblk m (ok m) c 4 t)
    (hx0 : x0 = iblk m (ok m) c 0 t) (hx5 : x5 = iblk m (ok m) c 5 t) (hx6 : x6 = iblk m (ok m) c 6 t)
    (y : S1x256x1408.Idx) (j : S2x1024x1408.Idx) (h0 : (j 0).val = (grid0.coords t 0).val)
    (h1 : (j 1).val = (grid0.coords t 1).val * 256 + (y 1).val) (h2 : (j 2).val = (y 2).val) :
    k0_pay7 (k0_pay2 (grid0.coords t) w x1 x2 x3 x4) (k0_pay4 x0) x5 x6 y = D m c j := by
  rw [del_at, D, (grad_at m c t w x1 x2 x3 x4 (ix2 (y 1) (y 2)) j hw hx1 hx2 hx3 hx4 h0 h1 h2), ((congrFun hx0 y).trans (blk0 m c t y j h0 h1 h2)), ((congrFun hx5 y).trans (blk5 m c t y j h0 h1 h2)), ((congrFun hx6 y).trans (blk6 m c t y j h0 h1 h2))]

theorem out9 (t : Fin (cfgM m (ok m)).N) (w : BitVec 32) (x1 x2 x3 x4 : Vec Ideal S256x1408 .f32) (x5 : Vec Ideal S1x256x1408 .f32)
    (hw : w = word (tbl m)) (hx1 : x1 = iblk m (ok m) c 1 t) (hx2 : x2 = iblk m (ok m) c 2 t) (hx3 : x3 = iblk m (ok m) c 3 t) (hx4 : x4 = iblk m (ok m) c 4 t)
    (hx5 : x5 = iblk m (ok m) c 5 t)
    (y : S1x256x1408.Idx) (j : S2x1024x1408.Idx) (h0 : (j 0).val = (grid0.coords t 0).val)
    (h1 : (j 1).val = (grid0.coords t 1).val * 256 + (y 1).val) (h2 : (j 2).val = (y 2).val) :
    k0_pay8 (k0_pay2 (grid0.coords t) w x1 x2 x3 x4) x5 y = M m c j := by
  rw [mom_at, M, (grad_at m c t w x1 x2 x3 x4 (ix2 (y 1) (y 2)) j hw hx1 hx2 hx3 hx4 h0 h1 h2), ((congrFun hx5 y).trans (blk5 m c t y j h0 h1 h2))]

theorem out10 (t : Fin (cfgM m (ok m)).N) (w : BitVec 32) (x1 x2 x3 x4 : Vec Ideal S256x1408 .f32) (x6 : Vec Ideal S1x256x1408 .f32)
    (hw : w = word (tbl m)) (hx1 : x1 = iblk m (ok m) c 1 t) (hx2 : x2 = iblk m (ok m) c 2 t) (hx3 : x3 = iblk m (ok m) c 3 t) (hx4 : x4 = iblk m (ok m) c 4 t)
    (hx6 : x6 = iblk m (ok m) c 6 t)
    (y : S1x256x1408.Idx) (j : S2x1024x1408.Idx) (h0 : (j 0).val = (grid0.coords t 0).val)
    (h1 : (j 1).val = (grid0.coords t 1).val * 256 + (y 1).val) (h2 : (j 2).val = (y 2).val) :
    k0_pay1 (k0_pay6 (k0_pay2 (grid0.coords t) w x1 x2 x3 x4) x6) y = W m c j := by
  rw [var_at, W, (grad_at m c t w x1 x2 x3 x4 (ix2 (y 1) (y 2)) j hw hx1 hx2 hx3 hx4 h0 h1 h2), ((congrFun hx6 y).trans (blk6 m c t y j h0 h1 h2))]

theorem final7 : (dats m (ok m) 0 c).arrAt 7 (cfgM m (ok m)).N = G m c := by
  refine (dats m (ok m) 0 c).arrAt_eq_of_covers 7 _ ?_ fun t hf y => ?_
  · exact Pipeline.Window.covers_of_indexMap_surj _ rfl sz (cov ((cfgM m (ok m)).win 7).nblk (show (2 + 1 - 1) / 1 = 2 by norm_num) (show (1024 + 256 - 1) / 256 = 4 by norm_num) (show (1408 + 1408 - 1) / 1408 = 1 by norm_num))
  · blk_simp
    rw [after0_7]
    unfold outsAt0
    frame_out
    exact out7 m c t _ _ _ _ _ rfl (Memref.IsWhole.read_unread _ _) (Memref.IsWhole.read_unread _ _) (Memref.IsWhole.read_unread _ _) (Memref.IsWhole.read_unread _ _) y _ (pos0 (grid0.coords t) y) (pos1 (grid0.coords t) y) (pos2 (grid0.coords t) y)

theorem final8 : (dats m (ok m) 0 c).arrAt 8 (cfgM m (ok m)).N = D m c := by
  refine (dats m (ok m) 0 c).arrAt_eq_of_covers 8 _ ?_ fun t hf y => ?_
  · exact Pipeline.Window.covers_of_indexMap_surj _ rfl sz (cov ((cfgM m (ok m)).win 8).nblk (show (2 + 1 - 1) / 1 = 2 by norm_num) (show (1024 + 256 - 1) / 256 = 4 by norm_num) (show (1408 + 1408 - 1) / 1408 = 1 by norm_num))
  · blk_simp
    rw [after0_8]
    unfold outsAt0
    frame_out
    exact out8 m c t _ _ _ _ _ _ _ _ rfl (Memref.IsWhole.read_unread _ _) (Memref.IsWhole.read_unread _ _) (Memref.IsWhole.read_unread _ _) (Memref.IsWhole.read_unread _ _) (Memref.IsWhole.read_unread _ _) (Memref.IsWhole.read_unread _ _) (Memref.IsWhole.read_unread _ _) y _ (pos0 (grid0.coords t) y) (pos1 (grid0.coords t) y) (pos2 (grid0.coords t) y)

theorem final9 : (dats m (ok m) 0 c).arrAt 9 (cfgM m (ok m)).N = M m c := by
  refine (dats m (ok m) 0 c).arrAt_eq_of_covers 9 _ ?_ fun t hf y => ?_
  · exact Pipeline.Window.covers_of_indexMap_surj _ rfl sz (cov ((cfgM m (ok m)).win 9).nblk (show (2 + 1 - 1) / 1 = 2 by norm_num) (show (1024 + 256 - 1) / 256 = 4 by norm_num) (show (1408 + 1408 - 1) / 1408 = 1 by norm_num))
  · blk_simp
    rw [after0_9]
    unfold outsAt0
    frame_out
    exact out9 m c t _ _ _ _ _ _ rfl (Memref.IsWhole.read_unread _ _) (Memref.IsWhole.read_unread _ _) (Memref.IsWhole.read_unread _ _) (Memref.IsWhole.read_unread _ _) (Memref.IsWhole.read_unread _ _) y _ (pos0 (grid0.coords t) y) (pos1 (grid0.coords t) y) (pos2 (grid0.coords t) y)

theorem final10 : (dats m (ok m) 0 c).arrAt 10 (cfgM m (ok m)).N = W m c := by
  refine (dats m (ok m) 0 c).arrAt_eq_of_covers 10 _ ?_ fun t hf y => ?_
  · exact Pipeline.Window.covers_of_indexMap_surj _ rfl sz (cov ((cfgM m (ok m)).win 10).nblk (show (2 + 1 - 1) / 1 = 2 by norm_num) (show (1024 + 256 - 1) / 256 = 4 by norm_num) (show (1408 + 1408 - 1) / 1408 = 1 by norm_num))
  · blk_simp
    rw [after0_10]
    unfold outsAt0
    frame_out
    exact out10 m c t _ _ _ _ _ _ rfl (Memref.IsWhole.read_unread _ _) (Memref.IsWhole.read_unread _ _) (Memref.IsWhole.read_unread _ _) (Memref.IsWhole.read_unread _ _) (Memref.IsWhole.read_unread _ _) y _ (pos0 (grid0.coords t) y) (pos1 (grid0.coords t) y) (pos2 (grid0.coords t) y)

variable (ρ : Dev nD → PrngReg)

/-- The launch ends with the gradient, the change, and the two moments in its results, and keeps its arguments. -/
theorem run : θ_run defs (onTc (τ := τ) (main (F := Ideal))) ⟨m, fun _ => 0, ρ⟩ (fun r => ∀ c : Dev nD,
      r.2.mem (c.tc.loc main_v0_0) = G m c ∧ r.2.mem (c.tc.loc main_v0_1) = D m c
      ∧ r.2.mem (c.tc.loc main_v0_2) = M m c ∧ r.2.mem (c.tc.loc main_v0_3) = W m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) :=
  (θ_run defs _ _).mono (fun _ h c => ⟨((h.1 c).1 7).trans (final7 m c), ((h.1 c).1 8).trans (final8 m c), ((h.1 c).1 9).trans (final9 m c),
    ((h.1 c).1 10).trans (final10 m c), h.2 c⟩) (θ_run_and (run_main m ρ (ok m)) (unchanged m ρ (ok m)))

end Cert.Kernel16Ideal.Sum

end
-- ==== Proof.T16.lean ====
module

public import proofs.«01_k».proof.Defs
public import proofs.«01_k».proof.Proof.K16
public import proofs.«01_k».proof.Proof.Gen.Kernel16.Frame
public import proofs.«01_k».proof.Proof.Gen.Reference16Ideal.Run
public import Idealize.ShloMosaic.Lib.Pointwise

@[expose] public section

set_option maxRecDepth 16384

noncomputable section

/-! The step is the reference's. -/

namespace Cert.Kernel16Ideal.Tie

open Idealize.ShloMosaic Idealize.SL.Sem
open Cert.Reference16Ideal Cert.Reference16Ideal.Facts₀ Cert.Reference16Ideal.Facts

/-- Whether a half is the one that the word names. -/
def picks (s : (⟨S1, .i32⟩ : BufTy).Contents (Elt Ideal)) (h : BitVec 32) : Vec Ideal S512x1408 .i1 :=
  broadcastInDim S512x1408 ![] bcast_S_S512x1408 (cmpi .eq (shapeCast _ s shapeCasts_S1_S_) (constantI S_ 32 h))

/-- The gradient of a layer, from its two halves. -/
def layer (s : (⟨S1, .i32⟩ : BufTy).Contents (Elt Ideal)) (a b : Vec Ideal S512x1408 .f32) : Vec Ideal S1x1024x1408 .f32 :=
  broadcastInDim S1x1024x1408 ![1, 2] bcast_S1024x1408_S1x1024x1408_1_2 (concatenate S1024x1408 0 [⟨S512x1408, select (picks s 0#32) a b⟩,
    ⟨S512x1408, select (picks s 1#32) a b⟩] concatenates_S512x1408_S512x1408_S1024x1408_d0)

/-- The gradient of the two layers. -/
def both (s : (⟨S1, .i32⟩ : BufTy).Contents (Elt Ideal)) (a b a' b' : Vec Ideal S512x1408 .f32) : Vec Ideal S2x1024x1408 .f32 :=
  concatenate S2x1024x1408 0 [⟨S1x1024x1408, layer s a b⟩, ⟨S1x1024x1408, layer s a' b'⟩] concatenates_S1x1024x1408_S1x1024x1408_S2x1024x1408_d0

theorem select_eq {α : Type} (x y : BitVec 32) (p q : α) : Scalar.select (Scalar.cmpi .eq x y) p q = if x = y then p else q := by
  have hb : ∀ b : Bool, BitVec.ofBool b = 1#1 ↔ b = true := by decide
  exact if_congr ((hb (x == y)).trans beq_iff_eq) rfl rfl

theorem both_at (s : (⟨S1, .i32⟩ : BufTy).Contents (Elt Ideal)) (a b a' b' : Vec Ideal S512x1408 .f32) (j : S2x1024x1408.Idx) :
    both s a b a' b' j = if (j 0).val = 0 then
        (if s (ix1 0) = BitVec.ofNat 32 ((j 1).val / 512) then a (Cert.Kernel16Ideal.Sum.row j) else b (Cert.Kernel16Ideal.Sum.row j))
      else (if s (ix1 0) = BitVec.ofNat 32 ((j 1).val / 512) then a' (Cert.Kernel16Ideal.Sum.row j) else b' (Cert.Kernel16Ideal.Sum.row j)) := by
  have hj : (j 1).val < 1024 := (j 1).isLt
  pointwise [both, layer, picks]
  by_cases h0 : (j 0).val = 0 <;> by_cases h1 : (j 1).val < 512
  · have e : (⟨(j 1).val, by omega⟩ : Fin 512) = ⟨(j 1).val % 512, Nat.mod_lt _ (by decide)⟩ := Fin.ext (by show (j 1).val = (j 1).val % 512; omega)
    rw [dif_pos (by omega : (j 0).val < 1), dif_pos h1, if_pos h0, show (j 1).val / 512 = 0 by omega, e]
    exact select_eq _ _ _ _
  · have e : (⟨(j 1).val - 512, by omega⟩ : Fin 512) = ⟨(j 1).val % 512, Nat.mod_lt _ (by decide)⟩ := Fin.ext (by show (j 1).val - 512 = (j 1).val % 512; omega)
    rw [dif_pos (by omega : (j 0).val < 1), dif_neg h1, if_pos h0, show (j 1).val / 512 = 1 by omega, e]
    exact select_eq _ _ _ _
  · have e : (⟨(j 1).val, by omega⟩ : Fin 512) = ⟨(j 1).val % 512, Nat.mod_lt _ (by decide)⟩ := Fin.ext (by show (j 1).val = (j 1).val % 512; omega)
    rw [dif_neg (by omega : ¬ (j 0).val < 1), dif_pos h1, if_neg h0, show (j 1).val / 512 = 0 by omega, e]
    exact select_eq _ _ _ _
  · have e : (⟨(j 1).val - 512, by omega⟩ : Fin 512) = ⟨(j 1).val % 512, Nat.mod_lt _ (by decide)⟩ := Fin.ext (by show (j 1).val - 512 = (j 1).val % 512; omega)
    rw [dif_neg (by omega : ¬ (j 0).val < 1), dif_neg h1, if_neg h0, show (j 1).val / 512 = 1 by omega, e]
    exact select_eq _ _ _ _

theorem mom_ref (g p : Vec Ideal S2x1024x1408 .f32) : ((addf (mulf (broadcastInDim S2x1024x1408 ![] bcast_S_S2x1024x1408 (constant S_ .f32 0x3F666666#32)) p) (mulf (broadcastInDim S2x1024x1408 ![] bcast_S_S2x1024x1408 (constant S_ .f32 0x3DCCCCCD#32)) g)) : FVec Ideal S2x1024x1408 .f32) = fun j => Cert.Adam.mom (g j) (p j) := by
  funext j
  pointwise [Cert.Adam.mom]

theorem var_ref (g q : Vec Ideal S2x1024x1408 .f32) : ((addf (mulf (broadcastInDim S2x1024x1408 ![] bcast_S_S2x1024x1408 (constant S_ .f32 0x3F7FBE77#32)) q) (mulf (broadcastInDim S2x1024x1408 ![] bcast_S_S2x1024x1408 (constant S_ .f32 0x3A83126F#32)) (mulf g g))) : FVec Ideal S2x1024x1408 .f32) = fun j => Cert.Adam.var (g j) (q j) := by
  funext j
  pointwise [Cert.Adam.var]

theorem del_ref (w g p q : Vec Ideal S2x1024x1408 .f32) : (mulf (broadcastInDim S2x1024x1408 ![] bcast_S_S2x1024x1408 (constant S_ .f32 0xBA83126F#32)) (addf (Host.divf (Host.divf (addf (mulf (broadcastInDim S2x1024x1408 ![] bcast_S_S2x1024x1408 (constant S_ .f32 0x3F666666#32)) p) (mulf (broadcastInDim S2x1024x1408 ![] bcast_S_S2x1024x1408 (constant S_ .f32 0x3DCCCCCD#32)) g)) (broadcastInDim S2x1024x1408 ![] bcast_S_S2x1024x1408 (constant S_ .f32 0x3F26BD02#32))) (addf (Host.sqrt (Host.divf (addf (mulf (broadcastInDim S2x1024x1408 ![] bcast_S_S2x1024x1408 (constant S_ .f32 0x3F7FBE77#32)) q) (mulf (broadcastInDim S2x1024x1408 ![] bcast_S_S2x1024x1408 (constant S_ .f32 0x3A83126F#32)) (mulf g g))) (broadcastInDim S2x1024x1408 ![] bcast_S_S2x1024x1408 (constant S_ .f32 0x3C231ACC#32)))) (broadcastInDim S2x1024x1408 ![] bcast_S_S2x1024x1408 (constant S_ .f32 0x322BCC77#32)))) (mulf (broadcastInDim S2x1024x1408 ![] bcast_S_S2x1024x1408 (constant S_ .f32 0x3C23D70A#32)) w)) : FVec Ideal S2x1024x1408 .f32)
    = fun j => Cert.Adam.del (w j) (g j) (p j) (q j) := by
  funext j
  pointwise [Cert.Adam.del, Cert.Adam.mom, Cert.Adam.var]

theorem grad_ref (m : (ℓ : Loc Cert.Kernel16Ideal.nD Cert.Kernel16Ideal.τ Cert.Kernel16Ideal.sig) → Buf (Elt Ideal) ℓ) (c : Dev Cert.Kernel16Ideal.nD)
    (s : (⟨S1, .i32⟩ : BufTy).Contents (Elt Ideal)) (a b a' b' : Vec Ideal S512x1408 .f32)
    (hs : s = m (c.tc.loc Cert.Kernel16Ideal.main_arg7)) (ha : a = m (c.tc.loc Cert.Kernel16Ideal.main_arg1)) (hb : b = m (c.tc.loc Cert.Kernel16Ideal.main_arg2))
    (ha' : a' = m (c.tc.loc Cert.Kernel16Ideal.main_arg3)) (hb' : b' = m (c.tc.loc Cert.Kernel16Ideal.main_arg4)) : both s a b a' b' = Cert.Kernel16Ideal.Sum.G m c := by
  have e : s (ix1 0) = Cert.Kernel16Ideal.Sum.word (Cert.Kernel16Ideal.Gen.tbl m) := by
    obtain rfl : c = 0 := Subsingleton.elim _ _
    have h : ∀ x y : S1.Idx, x = y := fun x y => funext fun a => match a with
      | ⟨0, _⟩ => Fin.ext ((Nat.lt_one_iff.1 (x 0).isLt).trans (Nat.lt_one_iff.1 (y 0).isLt).symm)
    exact (congrFun hs _).trans (congrArg (m (Dev.tc 0 |>.loc Cert.Kernel16Ideal.main_arg7)) (h _ _))
  funext j
  rw [both_at, e, ha, hb, ha', hb']
  rfl

theorem algebraic : Cert.algebraic_Kernel16Ideal_Reference16Ideal := by
  intro m ρ m' ρ' _ hagree
  refine ⟨_, _, _, _, Cert.Kernel16Ideal.Sum.run m ρ, ?_⟩
  refine (θ_run Cert.Reference16Ideal.defs _ _).mono (fun _ h c => ?_) (Cert.Reference16Ideal.Value.run (F := Ideal) m' ρ')
  obtain ⟨a0, a1, a2, a3, a4, a5, a6, a7⟩ := hagree c
  have hg := grad_ref m c _ _ _ _ _ a7 a1 a2 a3 a4
  refine ⟨(h c).1.trans hg, (h c).2.1.trans ?_, (h c).2.2.1.trans ?_, (h c).2.2.2.1.trans ?_, (h c).2.2.2.2⟩
  · refine (del_ref _ _ _ _).trans (funext fun j => ?_)
    exact congr (congr (congr (congrArg Cert.Adam.del (congrFun a0 j)) (congrFun hg j)) (congrFun a5 j)) (congrFun a6 j)
  · refine (mom_ref _ _).trans (funext fun j => ?_)
    exact congr (congrArg Cert.Adam.mom (congrFun hg j)) (congrFun a5 j)
  · refine (var_ref _ _).trans (funext fun j => ?_)
    exact congr (congrArg Cert.Adam.var (congrFun hg j)) (congrFun a6 j)

/-- The same of the program over words. -/
theorem ok_bits (m : (ℓ : Loc Cert.Kernel16.nD Cert.Kernel16.τ Cert.Kernel16.sig) → Buf (Elt Bits) ℓ) : Cert.Kernel16.Gen.Ok m :=
  ⟨fun i => ⟨Cert.Kernel16Ideal.Sum.inside1 (F := Bits) (Cert.Kernel16.Gen.tbl m) i, .inl rfl⟩,
    fun i => ⟨Cert.Kernel16Ideal.Sum.inside2 (F := Bits) (Cert.Kernel16.Gen.tbl m) i, .inl rfl⟩,
    fun i => ⟨Cert.Kernel16Ideal.Sum.inside3 (F := Bits) (Cert.Kernel16.Gen.tbl m) i, .inl rfl⟩,
    fun i => ⟨Cert.Kernel16Ideal.Sum.inside4 (F := Bits) (Cert.Kernel16.Gen.tbl m) i, .inl rfl⟩⟩

end Cert.Kernel16Ideal.Tie

end
-- ==== Proof.K17.lean ====
module

public import proofs.«01_k».proof.Proof.Gen.Kernel17Ideal.Frame
public import proofs.«01_k».proof.Proof.K16
public import Idealize.ShloMosaic.Lib.Pipeline.ValueKit
public import Idealize.ShloMosaic.Lib.Pipeline.Covers
public import Idealize.ShloMosaic.Lib.Pointwise

@[expose] public section

set_option maxRecDepth 16384

noncomputable section

/-! The optimiser's step over a weight of other shape. Which blocks the points take is as in the first. -/

namespace Cert.Kernel17Ideal.Sum

open Cert.Kernel17Ideal Cert.Kernel17Ideal.Gen
open Cert.Kernel16Ideal.Sum (half place half_eq choice0 choice1 flat0 flat1)
open Idealize.ShloMosaic Idealize.ShloMosaic.TcCoe Idealize.ShloMosaic.Tactic

section
variable {F : FTy → Type} [FloatOps F]

/-- The table's word. -/
def word (pf : pre0.Contents (Elt F)) : BitVec 32 := pf.at 0 (Rect.unit (s := S1) ![0] S1.size inb_S1_S1_0) numel1_S1

/-- Whether a row block lies in the half that the word names. -/
def own (pf : pre0.Contents (Elt F)) (b : BitVec 32) : BitVec 1 := Scalar.cmpi .eq (half b) (word pf)

theorem map1 (pf : pre0.Contents (Elt F)) (i : grid0.Coords) : cc0_transform_1 inb_S1_S1_0 numel1_S1 pf i =
    ![(Scalar.select (Scalar.andi (Scalar.cmpi .eq (BitVec.ofNat 32 (i 0).val) 0#32) (own pf (BitVec.ofNat 32 (i 1).val)))
      (place (BitVec.ofNat 32 (i 1).val)) 0#32).toNat, 0] := rfl

theorem map2 (pf : pre0.Contents (Elt F)) (i : grid0.Coords) : cc0_transform_2 inb_S1_S1_0 numel1_S1 pf i =
    ![(Scalar.select (Scalar.andi (Scalar.cmpi .eq (BitVec.ofNat 32 (i 0).val) 0#32) (Scalar.xori (own pf (BitVec.ofNat 32 (i 1).val)) 1#1))
      (place (BitVec.ofNat 32 (i 1).val)) 0#32).toNat, 0] := rfl

theorem map3 (pf : pre0.Contents (Elt F)) (i : grid0.Coords) : cc0_transform_3 inb_S1_S1_0 numel1_S1 pf i =
    ![(Scalar.select (Scalar.andi (Scalar.cmpi .eq (BitVec.ofNat 32 (i 0).val) 1#32) (own pf (BitVec.ofNat 32 (i 1).val)))
      (place (BitVec.ofNat 32 (i 1).val)) 0#32).toNat, 0] := rfl

theorem map4 (pf : pre0.Contents (Elt F)) (i : grid0.Coords) : cc0_transform_4 inb_S1_S1_0 numel1_S1 pf i =
    ![(Scalar.select (Scalar.andi (Scalar.cmpi .eq (BitVec.ofNat 32 (i 0).val) 1#32) (Scalar.xori (own pf (BitVec.ofNat 32 (i 1).val)) 1#1))
      (place (BitVec.ofNat 32 (i 1).val)) 0#32).toNat, 0] := rfl

/-- Block `i` of the rows lies in the half that the word names. -/
def Mine (pf : pre0.Contents (Elt F)) (i : grid0.Coords) : Prop := own pf (BitVec.ofNat 32 (i 1).val) = 1#1

instance (pf : pre0.Contents (Elt F)) (i : grid0.Coords) : Decidable (Mine pf i) := by unfold Mine; infer_instance

theorem at1 (pf : pre0.Contents (Elt F)) (i : grid0.Coords) : cc0_transform_1 inb_S1_S1_0 numel1_S1 pf i =
    ![if (i 0).val = 0 ∧ Mine pf i then (i 1).val % 2 else 0, 0] := by
  rw [map1, choice0 (i 0) (i 1) _]; rfl

theorem at2 (pf : pre0.Contents (Elt F)) (i : grid0.Coords) : cc0_transform_2 inb_S1_S1_0 numel1_S1 pf i =
    ![if (i 0).val = 0 ∧ ¬ Mine pf i then (i 1).val % 2 else 0, 0] := by
  rw [map2, choice0 (i 0) (i 1) _]; simp only [Mine, Cert.Kernel16Ideal.Sum.flip, ne_eq]; rfl

theorem at3 (pf : pre0.Contents (Elt F)) (i : grid0.Coords) : cc0_transform_3 inb_S1_S1_0 numel1_S1 pf i =
    ![if (i 0).val = 1 ∧ Mine pf i then (i 1).val % 2 else 0, 0] := by
  rw [map3, choice1 (i 0) (i 1) _]; rfl

theorem at4 (pf : pre0.Contents (Elt F)) (i : grid0.Coords) : cc0_transform_4 inb_S1_S1_0 numel1_S1 pf i =
    ![if (i 0).val = 1 ∧ ¬ Mine pf i then (i 1).val % 2 else 0, 0] := by
  rw [map4, choice1 (i 0) (i 1) _]; simp only [Mine, Cert.Kernel16Ideal.Sum.flip, ne_eq]; rfl

theorem inside (x : Nat) (p : Prop) [Decidable p] : ∀ a : Fin 2, ((![if p then x % 2 else 0, 0] : Fin 2 → Nat) a + 1) * S176x1024.size a ≤ S352x1024.size a := by
  intro a
  have hx : (if p then x % 2 else 0) ≤ 1 := by split <;> omega
  fin_cases a
  · show ((if p then x % 2 else 0) + 1) * 176 ≤ 352
    omega
  · show (0 + 1) * 1024 ≤ 1024
    omega

theorem inside1 (pf : pre0.Contents (Elt F)) (i : grid0.Coords) (a : Fin 2) :
    (cc0_transform_1 inb_S1_S1_0 numel1_S1 pf i a + 1) * S176x1024.size a ≤ S352x1024.size a := by
  rw [at1]
  exact inside _ _ a

theorem inside2 (pf : pre0.Contents (Elt F)) (i : grid0.Coords) (a : Fin 2) :
    (cc0_transform_2 inb_S1_S1_0 numel1_S1 pf i a + 1) * S176x1024.size a ≤ S352x1024.size a := by
  rw [at2]
  exact inside _ _ a

theorem inside3 (pf : pre0.Contents (Elt F)) (i : grid0.Coords) (a : Fin 2) :
    (cc0_transform_3 inb_S1_S1_0 numel1_S1 pf i a + 1) * S176x1024.size a ≤ S352x1024.size a := by
  rw [at3]
  exact inside _ _ a

theorem inside4 (pf : pre0.Contents (Elt F)) (i : grid0.Coords) (a : Fin 2) :
    (cc0_transform_4 inb_S1_S1_0 numel1_S1 pf i a + 1) * S176x1024.size a ≤ S352x1024.size a := by
  rw [at4]
  exact inside _ _ a

/-- Every block lies inside its array, whatever the table's word. -/
theorem ok (m : (ℓ : Loc nD τ sig) → Buf (Elt F) ℓ) : Ok m :=
  ⟨fun i => ⟨inside1 _ i, .inl rfl⟩, fun i => ⟨inside2 _ i, .inl rfl⟩, fun i => ⟨inside3 _ i, .inl rfl⟩, fun i => ⟨inside4 _ i, .inl rfl⟩⟩

theorem mine_iff (pf : pre0.Contents (Elt F)) (i : grid0.Coords) : Mine pf i ↔ word pf = BitVec.ofNat 32 ((i 1).val / 2) := by
  have h : ∀ x y : BitVec 32, (Scalar.cmpi .eq x y = 1#1) ↔ y = x := fun x y => by
    have hb : ∀ b : Bool, BitVec.ofBool b = 1#1 ↔ b = true := by decide
    exact (hb (x == y)).trans (beq_iff_eq.trans eq_comm)
  unfold Mine own
  rw [h, half_eq (i 1)]

/-- The gradient's block: of the two layers' two halves, the one that the point wants. -/
theorem pay2_eq (pf : pre0.Contents (Elt F)) (i : grid0.Coords) (a b x y : Vec F S176x1024 .f32) :
    k0_pay2 i (word pf) a b x y = if (i 0).val = 0 then (if Mine pf i then a else b) else (if Mine pf i then x else y) := by
  have e : k0_pay2 i (word pf) a b x y = Scalar.select (Scalar.cmpi .eq (BitVec.ofNat 32 (i 0).val) 0#32)
      (Scalar.select (own pf (BitVec.ofNat 32 (i 1).val)) a b) (Scalar.select (own pf (BitVec.ofNat 32 (i 1).val)) x y) := rfl
  have h : ∀ a : Fin 2, Scalar.cmpi .eq (BitVec.ofNat 32 a.val) 0#32 = 1#1 ↔ a.val = 0 := by decide
  rw [e]
  by_cases h0 : (i 0).val = 0
  · rw [(h (i 0)).2 h0, if_pos h0]; rfl
  · rw [if_neg h0]
    exact if_neg fun e => h0 ((h (i 0)).1 e)

end

variable (m : (ℓ : Loc nD τ sig) → Buf (Elt Ideal) ℓ) (c : Dev nD)

/-- Where an entry of a block of the whole arrays lies. -/
theorem pos0 (i : grid0.Coords) (y : S1x176x1024.Idx) : cc0_transform_0 i 0 * 1 + 1 * (y 0).val = (i 0).val := by
  have h : (y 0).val < 1 := (y 0).isLt
  have e : cc0_transform_0 i 0 = (i 0).val := flat0 (i 0)
  omega

theorem pos1 (i : grid0.Coords) (y : S1x176x1024.Idx) : cc0_transform_0 i 1 * 176 + 1 * (y 1).val = (i 1).val * 176 + (y 1).val := by
  have e : cc0_transform_0 i 1 = (i 1).val := flat1 (i 1)
  rw [e, Nat.one_mul]

theorem pos2 (i : grid0.Coords) (y : S1x176x1024.Idx) : cc0_transform_0 i 2 * 1024 + 1 * (y 2).val = (y 2).val := by
  have e : cc0_transform_0 i 2 = 0 := rfl
  omega

theorem cov (n : Fin 3 → Nat) (e0 : n 0 = 2) (e1 : n 1 = 4) (e2 : n 2 = 1) (β : (a : Fin 3) → Fin (n a)) :
    ∃ i : grid0.Coords, ∀ a, cc0_transform_0 i a = (β a).val := by
  refine ⟨fun a => match a with | ⟨0, _⟩ => (β 0).cast e0 | ⟨1, _⟩ => (β 1).cast e1, fun a => ?_⟩
  match a with
  | ⟨0, _⟩ => exact flat0 ((β 0).cast e0)
  | ⟨1, _⟩ => exact flat1 ((β 1).cast e1)
  | ⟨2, _⟩ => exact (Nat.lt_one_iff.1 (lt_of_lt_of_eq (β 2).isLt e2)).symm

theorem sz : ∀ a, 0 < S1x176x1024.size a := by decide

/-- A row of a layer, in its half. -/
abbrev row (j : S2x704x1024.Idx) : S352x1024.Idx := ix2 ⟨(j 1).val % 352, Nat.mod_lt _ (by decide)⟩ (j 2)

/-- The gradient of an entry: layer, row and column. -/
def G : Vec Ideal S2x704x1024 .f32 := fun j =>
  if (j 0).val = 0 then
    (if word (tbl m) = BitVec.ofNat 32 ((j 1).val / 352) then m (c.tc.loc main_arg1) (row j) else m (c.tc.loc main_arg2) (row j))
  else
    (if word (tbl m) = BitVec.ofNat 32 ((j 1).val / 352) then m (c.tc.loc main_arg3) (row j) else m (c.tc.loc main_arg4) (row j))

theorem lift (v : Vec Ideal S176x1024 .f32) (y : S1x176x1024.Idx) : shapeCast S1x176x1024 v shapeCasts_S176x1024_S1x176x1024 y = v (ix2 (y 1) (y 2)) := by
  pointwise []

theorem drop (v : Vec Ideal S1x176x1024 .f32) (y : S176x1024.Idx) : shapeCast S176x1024 v shapeCasts_S1x176x1024_S176x1024 y = v (ix3 0 (y 0) (y 1)) := by
  pointwise []

theorem blk1 (t : Fin (cfgM m (ok m)).N) (y : S176x1024.Idx) (z : S352x1024.Idx)
    (h0 : (z 0).val = cc0_transform_1 inb_S1_S1_0 numel1_S1 (tbl m) (grid0.coords t) 0 * 176 + (y 0).val) (h1 : (z 1).val = (y 1).val) :
    iblk m (ok m) c 1 t y = m (c.tc.loc main_arg1) z := by
  refine congrArg (m (c.tc.loc main_arg1)) (funext fun a => Fin.ext ?_)
  match a with
  | ⟨0, _⟩ => exact Eq.trans (by show cc0_transform_1 inb_S1_S1_0 numel1_S1 (tbl m) (grid0.coords t) 0 * 176 + 1 * (y 0).val = _; rw [Nat.one_mul]) h0.symm
  | ⟨1, _⟩ => exact Eq.trans (by show 0 * 1024 + 1 * (y 1).val = _; omega) h1.symm

theorem blk2 (t : Fin (cfgM m (ok m)).N) (y : S176x1024.Idx) (z : S352x1024.Idx)
    (h0 : (z 0).val = cc0_transform_2 inb_S1_S1_0 numel1_S1 (tbl m) (grid0.coords t) 0 * 176 + (y 0).val) (h1 : (z 1).val = (y 1).val) :
    iblk m (ok m) c 2 t y = m (c.tc.loc main_arg2) z := by
  refine congrArg (m (c.tc.loc main_arg2)) (funext fun a => Fin.ext ?_)
  match a with
  | ⟨0, _⟩ => exact Eq.trans (by show cc0_transform_2 inb_S1_S1_0 numel1_S1 (tbl m) (grid0.coords t) 0 * 176 + 1 * (y 0).val = _; rw [Nat.one_mul]) h0.symm
  | ⟨1, _⟩ => exact Eq.trans (by show 0 * 1024 + 1 * (y 1).val = _; omega) h1.symm

theorem blk3 (t : Fin (cfgM m (ok m)).N) (y : S176x1024.Idx) (z : S352x1024.Idx)
    (h0 : (z 0).val = cc0_transform_3 inb_S1_S1_0 numel1_S1 (tbl m) (grid0.coords t) 0 * 176 + (y 0).val) (h1 : (z 1).val = (y 1).val) :
    iblk m (ok m) c 3 t y = m (c.tc.loc main_arg3) z := by
  refine congrArg (m (c.tc.loc main_arg3)) (funext fun a => Fin.ext ?_)
  match a with
  | ⟨0, _⟩ => exact Eq.trans (by show cc0_transform_3 inb_S1_S1_0 numel1_S1 (tbl m) (grid0.coords t) 0 * 176 + 1 * (y 0).val = _; rw [Nat.one_mul]) h0.symm
  | ⟨1, _⟩ => exact Eq.trans (by show 0 * 1024 + 1 * (y 1).val = _; omega) h1.symm

theorem blk4 (t : Fin (cfgM m (ok m)).N) (y : S176x1024.Idx) (z : S352x1024.Idx)
    (h0 : (z 0).val = cc0_transform_4 inb_S1_S1_0 numel1_S1 (tbl m) (grid0.coords t) 0 * 176 + (y 0).val) (h1 : (z 1).val = (y 1).val) :
    iblk m (ok m) c 4 t y = m (c.tc.loc main_arg4) z := by
  refine congrArg (m (c.tc.loc main_arg4)) (funext fun a => Fin.ext ?_)
  match a with
  | ⟨0, _⟩ => exact Eq.trans (by show cc0_transform_4 inb_S1_S1_0 numel1_S1 (tbl m) (grid0.coords t) 0 * 176 + 1 * (y 0).val = _; rw [Nat.one_mul]) h0.symm
  | ⟨1, _⟩ => exact Eq.trans (by show 0 * 1024 + 1 * (y 1).val = _; omega) h1.symm

/-- The gradient's block at a point is the gradient there. -/
theorem grad_at (t : Fin (cfgM m (ok m)).N) (w : BitVec 32) (x1 x2 x3 x4 : Vec Ideal S176x1024 .f32) (y : S176x1024.Idx) (j : S2x704x1024.Idx)
    (hw : w = word (tbl m)) (hx1 : x1 = iblk m (ok m) c 1 t) (hx2 : x2 = iblk m (ok m) c 2 t) (hx3 : x3 = iblk m (ok m) c 3 t) (hx4 : x4 = iblk m (ok m) c 4 t)
    (h0 : (j 0).val = (grid0.coords t 0).val)
    (h1 : (j 1).val = (grid0.coords t 1).val * 176 + (y 0).val) (h2 : (j 2).val = (y 1).val) :
    k0_pay2 (grid0.coords t) w x1 x2 x3 x4 y = G m c j := by
  have hy : (y 0).val < 176 := (y 0).isLt
  have hi : (grid0.coords t 0).val < 2 := (grid0.coords t 0).isLt
  have hd : (j 1).val / 352 = (grid0.coords t 1).val / 2 := by omega
  have hm : (j 1).val % 352 = (grid0.coords t 1).val % 2 * 176 + (y 0).val := by omega
  rw [hw, pay2_eq]
  unfold G
  rw [h0, hd]
  by_cases e : (grid0.coords t 0).val = 0 <;> by_cases hq : word (tbl m) = BitVec.ofNat 32 ((grid0.coords t 1).val / 2)
  · rw [if_pos e, if_pos e, if_pos ((mine_iff _ _).2 hq), if_pos hq]
    refine (congrFun hx1 y).trans (blk1 m c t y _ (Eq.trans hm ?_) h2)
    rw [at1]; simp [e, (mine_iff _ _).2 hq]
  · rw [if_pos e, if_pos e, if_neg (fun h => hq ((mine_iff _ _).1 h)), if_neg hq]
    refine (congrFun hx2 y).trans (blk2 m c t y _ (Eq.trans hm ?_) h2)
    rw [at2]; simp [e, show ¬ Mine (tbl m) (grid0.coords t) from fun h => hq ((mine_iff _ _).1 h)]
  · rw [if_neg e, if_neg e, if_pos ((mine_iff _ _).2 hq), if_pos hq]
    refine (congrFun hx3 y).trans (blk3 m c t y _ (Eq.trans hm ?_) h2)
    rw [at3]; simp [show (grid0.coords t 0).val = 1 by omega, (mine_iff _ _).2 hq]
  · rw [if_neg e, if_neg e, if_neg (fun h => hq ((mine_iff _ _).1 h)), if_neg hq]
    refine (congrFun hx4 y).trans (blk4 m c t y _ (Eq.trans hm ?_) h2)
    rw [at4]; simp [show (grid0.coords t 0).val = 1 by omega, show ¬ Mine (tbl m) (grid0.coords t) from fun h => hq ((mine_iff _ _).1 h)]

theorem blk0 (t : Fin (cfgM m (ok m)).N) (y : S1x176x1024.Idx) (j : S2x704x1024.Idx) (h0 : (j 0).val = (grid0.coords t 0).val)
    (h1 : (j 1).val = (grid0.coords t 1).val * 176 + (y 1).val) (h2 : (j 2).val = (y 2).val) : iblk m (ok m) c 0 t y = m (c.tc.loc main_arg0) j := by
  refine congrArg (m (c.tc.loc main_arg0)) (funext fun a => Fin.ext ?_)
  match a with
  | ⟨0, _⟩ => exact Eq.trans (pos0 (grid0.coords t) y) h0.symm
  | ⟨1, _⟩ => exact Eq.trans (pos1 (grid0.coords t) y) h1.symm
  | ⟨2, _⟩ => exact Eq.trans (pos2 (grid0.coords t) y) h2.symm

theorem blk5 (t : Fin (cfgM m (ok m)).N) (y : S1x176x1024.Idx) (j : S2x704x1024.Idx) (h0 : (j 0).val = (grid0.coords t 0).val)
    (h1 : (j 1).val = (grid0.coords t 1).val * 176 + (y 1).val) (h2 : (j 2).val = (y 2).val) : iblk m (ok m) c 5 t y = m (c.tc.loc main_arg5) j := by
  refine congrArg (m (c.tc.loc main_arg5)) (funext fun a => Fin.ext ?_)
  match a with
  | ⟨0, _⟩ => exact Eq.trans (pos0 (grid0.coords t) y) h0.symm
  | ⟨1, _⟩ => exact Eq.trans (pos1 (grid0.coords t) y) h1.symm
  | ⟨2, _⟩ => exact Eq.trans (pos2 (grid0.coords t) y) h2.symm

theorem blk6 (t : Fin (cfgM m (ok m)).N) (y : S1x176x1024.Idx) (j : S2x704x1024.Idx) (h0 : (j 0).val = (grid0.coords t 0).val)
    (h1 : (j 1).val = (grid0.coords t 1).val * 176 + (y 1).val) (h2 : (j 2).val = (y 2).val) : iblk m (ok m) c 6 t y = m (c.tc.loc main_arg6) j := by
  refine congrArg (m (c.tc.loc main_arg6)) (funext fun a => Fin.ext ?_)
  match a with
  | ⟨0, _⟩ => exact Eq.trans (pos0 (grid0.coords t) y) h0.symm
  | ⟨1, _⟩ => exact Eq.trans (pos1 (grid0.coords t) y) h1.symm
  | ⟨2, _⟩ => exact Eq.trans (pos2 (grid0.coords t) y) h2.symm

theorem del_at (g : Vec Ideal S176x1024 .f32) (w p q : Vec Ideal S1x176x1024 .f32) (y : S1x176x1024.Idx) :
    k0_pay7 g (k0_pay4 w) p q y = Cert.Adam.del (w y) (g (ix2 (y 1) (y 2))) (p y) (q y) := by
  pointwise [k0_pay4, k0_pay5, k0_pay6, k0_pay7, Cert.Adam.del, Cert.Adam.mom, Cert.Adam.var]

theorem mom_at (g : Vec Ideal S176x1024 .f32) (p : Vec Ideal S1x176x1024 .f32) (y : S1x176x1024.Idx) :
    k0_pay8 g p y = Cert.Adam.mom (g (ix2 (y 1) (y 2))) (p y) := by
  pointwise [k0_pay5, k0_pay8, Cert.Adam.mom]

theorem var_at (g : Vec Ideal S176x1024 .f32) (q : Vec Ideal S1x176x1024 .f32) (y : S1x176x1024.Idx) :
    k0_pay1 (k0_pay6 g q) y = Cert.Adam.var (g (ix2 (y 1) (y 2))) (q y) := by
  pointwise [k0_pay1, k0_pay6, Cert.Adam.var]

/-- The three results of the step. -/
def D : Vec Ideal S2x704x1024 .f32 := fun j => Cert.Adam.del (m (c.tc.loc main_arg0) j) (G m c j) (m (c.tc.loc main_arg5) j) (m (c.tc.loc main_arg6) j)

def M : Vec Ideal S2x704x1024 .f32 := fun j => Cert.Adam.mom (G m c j) (m (c.tc.loc main_arg5) j)

def W : Vec Ideal S2x704x1024 .f32 := fun j => Cert.Adam.var (G m c j) (m (c.tc.loc main_arg6) j)

theorem out7 (t : Fin (cfgM m (ok m)).N) (w : BitVec 32) (x1 x2 x3 x4 : Vec Ideal S176x1024 .f32)
    (hw : w = word (tbl m)) (hx1 : x1 = iblk m (ok m) c 1 t) (hx2 : x2 = iblk m (ok m) c 2 t) (hx3 : x3 = iblk m (ok m) c 3 t) (hx4 : x4 = iblk m (ok m) c 4 t)

    (y : S1x176x1024.Idx) (j : S2x704x1024.Idx) (h0 : (j 0).val = (grid0.coords t 0).val)
    (h1 : (j 1).val = (grid0.coords t 1).val * 176 + (y 1).val) (h2 : (j 2).val = (y 2).val) :
    k0_pay3 (grid0.coords t) w x1 x2 x3 x4 y = G m c j := by
  exact (lift _ y).trans (grad_at m c t w x1 x2 x3 x4 (ix2 (y 1) (y 2)) j hw hx1 hx2 hx3 hx4 h0 h1 h2)

theorem out8 (t : Fin (cfgM m (ok m)).N) (w : BitVec 32) (x1 x2 x3 x4 : Vec Ideal S176x1024 .f32) (x0 x5 x6 : Vec Ideal S1x176x1024 .f32)
    (hw : w = word (tbl m)) (hx1 : x1 = iblk m (ok m) c 1 t) (hx2 : x2 = iblk m (ok m) c 2 t) (hx3 : x3 = iblk m (ok m) c 3 t) (hx4 : x4 = iblk m (ok m) c 4 t)
    (hx0 : x0 = iblk m (ok m) c 0 t) (hx5 : x5 = iblk m (ok m) c 5 t) (hx6 : x6 = iblk m (ok m) c 6 t)
    (y : S1x176x1024.Idx) (j : S2x704x1024.Idx) (h0 : (j 0).val = (grid0.coords t 0).val)
    (h1 : (j 1).val = (grid0.coords t 1).val * 176 + (y 1).val) (h2 : (j 2).val = (y 2).val) :
    k0_pay7 (k0_pay2 (grid0.coords t) w x1 x2 x3 x4) (k0_pay4 x0) x5 x6 y = D m c j := by
  rw [del_at, D, (grad_at m c t w x1 x2 x3 x4 (ix2 (y 1) (y 2)) j hw hx1 hx2 hx3 hx4 h0 h1 h2), ((congrFun hx0 y).trans (blk0 m c t y j h0 h1 h2)), ((congrFun hx5 y).trans (blk5 m c t y j h0 h1 h2)), ((congrFun hx6 y).trans (blk6 m c t y j h0 h1 h2))]

theorem out9 (t : Fin (cfgM m (ok m)).N) (w : BitVec 32) (x1 x2 x3 x4 : Vec Ideal S176x1024 .f32) (x5 : Vec Ideal S1x176x1024 .f32)
    (hw : w = word (tbl m)) (hx1 : x1 = iblk m (ok m) c 1 t) (hx2 : x2 = iblk m (ok m) c 2 t) (hx3 : x3 = iblk m (ok m) c 3 t) (hx4 : x4 = iblk m (ok m) c 4 t)
    (hx5 : x5 = iblk m (ok m) c 5 t)
    (y : S1x176x1024.Idx) (j : S2x704x1024.Idx) (h0 : (j 0).val = (grid0.coords t 0).val)
    (h1 : (j 1).val = (grid0.coords t 1).val * 176 + (y 1).val) (h2 : (j 2).val = (y 2).val) :
    k0_pay8 (k0_pay2 (grid0.coords t) w x1 x2 x3 x4) x5 y = M m c j := by
  rw [mom_at, M, (grad_at m c t w x1 x2 x3 x4 (ix2 (y 1) (y 2)) j hw hx1 hx2 hx3 hx4 h0 h1 h2), ((congrFun hx5 y).trans (blk5 m c t y j h0 h1 h2))]

theorem out10 (t : Fin (cfgM m (ok m)).N) (w : BitVec 32) (x1 x2 x3 x4 : Vec Ideal S176x1024 .f32) (x6 : Vec Ideal S1x176x1024 .f32)
    (hw : w = word (tbl m)) (hx1 : x1 = iblk m (ok m) c 1 t) (hx2 : x2 = iblk m (ok m) c 2 t) (hx3 : x3 = iblk m (ok m) c 3 t) (hx4 : x4 = iblk m (ok m) c 4 t)
    (hx6 : x6 = iblk m (ok m) c 6 t)
    (y : S1x176x1024.Idx) (j : S2x704x1024.Idx) (h0 : (j 0).val = (grid0.coords t 0).val)
    (h1 : (j 1).val = (grid0.coords t 1).val * 176 + (y 1).val) (h2 : (j 2).val = (y 2).val) :
    k0_pay1 (k0_pay6 (k0_pay2 (grid0.coords t) w x1 x2 x3 x4) x6) y = W m c j := by
  rw [var_at, W, (grad_at m c t w x1 x2 x3 x4 (ix2 (y 1) (y 2)) j hw hx1 hx2 hx3 hx4 h0 h1 h2), ((congrFun hx6 y).trans (blk6 m c t y j h0 h1 h2))]

theorem final7 : (dats m (ok m) 0 c).arrAt 7 (cfgM m (ok m)).N = G m c := by
  refine (dats m (ok m) 0 c).arrAt_eq_of_covers 7 _ ?_ fun t hf y => ?_
  · exact Pipeline.Window.covers_of_indexMap_surj _ rfl sz (cov ((cfgM m (ok m)).win 7).nblk (show (2 + 1 - 1) / 1 = 2 by norm_num) (show (704 + 176 - 1) / 176 = 4 by norm_num) (show (1024 + 1024 - 1) / 1024 = 1 by norm_num))
  · blk_simp
    rw [after0_7]
    unfold outsAt0
    frame_out
    exact out7 m c t _ _ _ _ _ rfl (Memref.IsWhole.read_unread _ _) (Memref.IsWhole.read_unread _ _) (Memref.IsWhole.read_unread _ _) (Memref.IsWhole.read_unread _ _) y _ (pos0 (grid0.coords t) y) (pos1 (grid0.coords t) y) (pos2 (grid0.coords t) y)

theorem final8 : (dats m (ok m) 0 c).arrAt 8 (cfgM m (ok m)).N = D m c := by
  refine (dats m (ok m) 0 c).arrAt_eq_of_covers 8 _ ?_ fun t hf y => ?_
  · exact Pipeline.Window.covers_of_indexMap_surj _ rfl sz (cov ((cfgM m (ok m)).win 8).nblk (show (2 + 1 - 1) / 1 = 2 by norm_num) (show (704 + 176 - 1) / 176 = 4 by norm_num) (show (1024 + 1024 - 1) / 1024 = 1 by norm_num))
  · blk_simp
    rw [after0_8]
    unfold outsAt0
    frame_out
    exact out8 m c t _ _ _ _ _ _ _ _ rfl (Memref.IsWhole.read_unread _ _) (Memref.IsWhole.read_unread _ _) (Memref.IsWhole.read_unread _ _) (Memref.IsWhole.read_unread _ _) (Memref.IsWhole.read_unread _ _) (Memref.IsWhole.read_unread _ _) (Memref.IsWhole.read_unread _ _) y _ (pos0 (grid0.coords t) y) (pos1 (grid0.coords t) y) (pos2 (grid0.coords t) y)

theorem final9 : (dats m (ok m) 0 c).arrAt 9 (cfgM m (ok m)).N = M m c := by
  refine (dats m (ok m) 0 c).arrAt_eq_of_covers 9 _ ?_ fun t hf y => ?_
  · exact Pipeline.Window.covers_of_indexMap_surj _ rfl sz (cov ((cfgM m (ok m)).win 9).nblk (show (2 + 1 - 1) / 1 = 2 by norm_num) (show (704 + 176 - 1) / 176 = 4 by norm_num) (show (1024 + 1024 - 1) / 1024 = 1 by norm_num))
  · blk_simp
    rw [after0_9]
    unfold outsAt0
    frame_out
    exact out9 m c t _ _ _ _ _ _ rfl (Memref.IsWhole.read_unread _ _) (Memref.IsWhole.read_unread _ _) (Memref.IsWhole.read_unread _ _) (Memref.IsWhole.read_unread _ _) (Memref.IsWhole.read_unread _ _) y _ (pos0 (grid0.coords t) y) (pos1 (grid0.coords t) y) (pos2 (grid0.coords t) y)

theorem final10 : (dats m (ok m) 0 c).arrAt 10 (cfgM m (ok m)).N = W m c := by
  refine (dats m (ok m) 0 c).arrAt_eq_of_covers 10 _ ?_ fun t hf y => ?_
  · exact Pipeline.Window.covers_of_indexMap_surj _ rfl sz (cov ((cfgM m (ok m)).win 10).nblk (show (2 + 1 - 1) / 1 = 2 by norm_num) (show (704 + 176 - 1) / 176 = 4 by norm_num) (show (1024 + 1024 - 1) / 1024 = 1 by norm_num))
  · blk_simp
    rw [after0_10]
    unfold outsAt0
    frame_out
    exact out10 m c t _ _ _ _ _ _ rfl (Memref.IsWhole.read_unread _ _) (Memref.IsWhole.read_unread _ _) (Memref.IsWhole.read_unread _ _) (Memref.IsWhole.read_unread _ _) (Memref.IsWhole.read_unread _ _) y _ (pos0 (grid0.coords t) y) (pos1 (grid0.coords t) y) (pos2 (grid0.coords t) y)

variable (ρ : Dev nD → PrngReg)

/-- The launch ends with the gradient, the change, and the two moments in its results, and keeps its arguments. -/
theorem run : θ_run defs (onTc (τ := τ) (main (F := Ideal))) ⟨m, fun _ => 0, ρ⟩ (fun r => ∀ c : Dev nD,
      r.2.mem (c.tc.loc main_v0_0) = G m c ∧ r.2.mem (c.tc.loc main_v0_1) = D m c
      ∧ r.2.mem (c.tc.loc main_v0_2) = M m c ∧ r.2.mem (c.tc.loc main_v0_3) = W m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) :=
  (θ_run defs _ _).mono (fun _ h c => ⟨((h.1 c).1 7).trans (final7 m c), ((h.1 c).1 8).trans (final8 m c), ((h.1 c).1 9).trans (final9 m c),
    ((h.1 c).1 10).trans (final10 m c), h.2 c⟩) (θ_run_and (run_main m ρ (ok m)) (unchanged m ρ (ok m)))

end Cert.Kernel17Ideal.Sum

end
-- ==== Proof.T17.lean ====
module

public import proofs.«01_k».proof.Defs
public import proofs.«01_k».proof.Proof.K17
public import proofs.«01_k».proof.Proof.T16
public import proofs.«01_k».proof.Proof.Gen.Kernel17.Frame
public import proofs.«01_k».proof.Proof.Gen.Reference17Ideal.Run
public import Idealize.ShloMosaic.Lib.Pointwise

@[expose] public section

set_option maxRecDepth 16384

noncomputable section

/-! The step is the reference's. -/

namespace Cert.Kernel17Ideal.Tie

open Idealize.ShloMosaic Idealize.SL.Sem
open Cert.Reference17Ideal Cert.Reference17Ideal.Facts₀ Cert.Reference17Ideal.Facts

/-- Whether a half is the one that the word names. -/
def picks (s : (⟨S1, .i32⟩ : BufTy).Contents (Elt Ideal)) (h : BitVec 32) : Vec Ideal S352x1024 .i1 :=
  broadcastInDim S352x1024 ![] bcast_S_S352x1024 (cmpi .eq (shapeCast _ s shapeCasts_S1_S_) (constantI S_ 32 h))

/-- The gradient of a layer, from its two halves. -/
def layer (s : (⟨S1, .i32⟩ : BufTy).Contents (Elt Ideal)) (a b : Vec Ideal S352x1024 .f32) : Vec Ideal S1x704x1024 .f32 :=
  broadcastInDim S1x704x1024 ![1, 2] bcast_S704x1024_S1x704x1024_1_2 (concatenate S704x1024 0 [⟨S352x1024, select (picks s 0#32) a b⟩,
    ⟨S352x1024, select (picks s 1#32) a b⟩] concatenates_S352x1024_S352x1024_S704x1024_d0)

/-- The gradient of the two layers. -/
def both (s : (⟨S1, .i32⟩ : BufTy).Contents (Elt Ideal)) (a b a' b' : Vec Ideal S352x1024 .f32) : Vec Ideal S2x704x1024 .f32 :=
  concatenate S2x704x1024 0 [⟨S1x704x1024, layer s a b⟩, ⟨S1x704x1024, layer s a' b'⟩] concatenates_S1x704x1024_S1x704x1024_S2x704x1024_d0

theorem both_at (s : (⟨S1, .i32⟩ : BufTy).Contents (Elt Ideal)) (a b a' b' : Vec Ideal S352x1024 .f32) (j : S2x704x1024.Idx) :
    both s a b a' b' j = if (j 0).val = 0 then
        (if s (ix1 0) = BitVec.ofNat 32 ((j 1).val / 352) then a (Cert.Kernel17Ideal.Sum.row j) else b (Cert.Kernel17Ideal.Sum.row j))
      else (if s (ix1 0) = BitVec.ofNat 32 ((j 1).val / 352) then a' (Cert.Kernel17Ideal.Sum.row j) else b' (Cert.Kernel17Ideal.Sum.row j)) := by
  have hj : (j 1).val < 704 := (j 1).isLt
  pointwise [both, layer, picks]
  by_cases h0 : (j 0).val = 0 <;> by_cases h1 : (j 1).val < 352
  · have e : (⟨(j 1).val, by omega⟩ : Fin 352) = ⟨(j 1).val % 352, Nat.mod_lt _ (by decide)⟩ := Fin.ext (by show (j 1).val = (j 1).val % 352; omega)
    rw [dif_pos (by omega : (j 0).val < 1), dif_pos h1, if_pos h0, show (j 1).val / 352 = 0 by omega, e]
    exact Cert.Kernel16Ideal.Tie.select_eq _ _ _ _
  · have e : (⟨(j 1).val - 352, by omega⟩ : Fin 352) = ⟨(j 1).val % 352, Nat.mod_lt _ (by decide)⟩ := Fin.ext (by show (j 1).val - 352 = (j 1).val % 352; omega)
    rw [dif_pos (by omega : (j 0).val < 1), dif_neg h1, if_pos h0, show (j 1).val / 352 = 1 by omega, e]
    exact Cert.Kernel16Ideal.Tie.select_eq _ _ _ _
  · have e : (⟨(j 1).val, by omega⟩ : Fin 352) = ⟨(j 1).val % 352, Nat.mod_lt _ (by decide)⟩ := Fin.ext (by show (j 1).val = (j 1).val % 352; omega)
    rw [dif_neg (by omega : ¬ (j 0).val < 1), dif_pos h1, if_neg h0, show (j 1).val / 352 = 0 by omega, e]
    exact Cert.Kernel16Ideal.Tie.select_eq _ _ _ _
  · have e : (⟨(j 1).val - 352, by omega⟩ : Fin 352) = ⟨(j 1).val % 352, Nat.mod_lt _ (by decide)⟩ := Fin.ext (by show (j 1).val - 352 = (j 1).val % 352; omega)
    rw [dif_neg (by omega : ¬ (j 0).val < 1), dif_neg h1, if_neg h0, show (j 1).val / 352 = 1 by omega, e]
    exact Cert.Kernel16Ideal.Tie.select_eq _ _ _ _

theorem mom_ref (g p : Vec Ideal S2x704x1024 .f32) : ((addf (mulf (broadcastInDim S2x704x1024 ![] bcast_S_S2x704x1024 (constant S_ .f32 0x3F666666#32)) p) (mulf (broadcastInDim S2x704x1024 ![] bcast_S_S2x704x1024 (constant S_ .f32 0x3DCCCCCD#32)) g)) : FVec Ideal S2x704x1024 .f32) = fun j => Cert.Adam.mom (g j) (p j) := by
  funext j
  pointwise [Cert.Adam.mom]

theorem var_ref (g q : Vec Ideal S2x704x1024 .f32) : ((addf (mulf (broadcastInDim S2x704x1024 ![] bcast_S_S2x704x1024 (constant S_ .f32 0x3F7FBE77#32)) q) (mulf (broadcastInDim S2x704x1024 ![] bcast_S_S2x704x1024 (constant S_ .f32 0x3A83126F#32)) (mulf g g))) : FVec Ideal S2x704x1024 .f32) = fun j => Cert.Adam.var (g j) (q j) := by
  funext j
  pointwise [Cert.Adam.var]

theorem del_ref (w g p q : Vec Ideal S2x704x1024 .f32) : (mulf (broadcastInDim S2x704x1024 ![] bcast_S_S2x704x1024 (constant S_ .f32 0xBA83126F#32)) (addf (Host.divf (Host.divf (addf (mulf (broadcastInDim S2x704x1024 ![] bcast_S_S2x704x1024 (constant S_ .f32 0x3F666666#32)) p) (mulf (broadcastInDim S2x704x1024 ![] bcast_S_S2x704x1024 (constant S_ .f32 0x3DCCCCCD#32)) g)) (broadcastInDim S2x704x1024 ![] bcast_S_S2x704x1024 (constant S_ .f32 0x3F26BD02#32))) (addf (Host.sqrt (Host.divf (addf (mulf (broadcastInDim S2x704x1024 ![] bcast_S_S2x704x1024 (constant S_ .f32 0x3F7FBE77#32)) q) (mulf (broadcastInDim S2x704x1024 ![] bcast_S_S2x704x1024 (constant S_ .f32 0x3A83126F#32)) (mulf g g))) (broadcastInDim S2x704x1024 ![] bcast_S_S2x704x1024 (constant S_ .f32 0x3C231ACC#32)))) (broadcastInDim S2x704x1024 ![] bcast_S_S2x704x1024 (constant S_ .f32 0x322BCC77#32)))) (mulf (broadcastInDim S2x704x1024 ![] bcast_S_S2x704x1024 (constant S_ .f32 0x3C23D70A#32)) w)) : FVec Ideal S2x704x1024 .f32)
    = fun j => Cert.Adam.del (w j) (g j) (p j) (q j) := by
  funext j
  pointwise [Cert.Adam.del, Cert.Adam.mom, Cert.Adam.var]

theorem grad_ref (m : (ℓ : Loc Cert.Kernel17Ideal.nD Cert.Kernel17Ideal.τ Cert.Kernel17Ideal.sig) → Buf (Elt Ideal) ℓ) (c : Dev Cert.Kernel17Ideal.nD)
    (s : (⟨S1, .i32⟩ : BufTy).Contents (Elt Ideal)) (a b a' b' : Vec Ideal S352x1024 .f32)
    (hs : s = m (c.tc.loc Cert.Kernel17Ideal.main_arg7)) (ha : a = m (c.tc.loc Cert.Kernel17Ideal.main_arg1)) (hb : b = m (c.tc.loc Cert.Kernel17Ideal.main_arg2))
    (ha' : a' = m (c.tc.loc Cert.Kernel17Ideal.main_arg3)) (hb' : b' = m (c.tc.loc Cert.Kernel17Ideal.main_arg4)) : both s a b a' b' = Cert.Kernel17Ideal.Sum.G m c := by
  have e : s (ix1 0) = Cert.Kernel17Ideal.Sum.word (Cert.Kernel17Ideal.Gen.tbl m) := by
    obtain rfl : c = 0 := Subsingleton.elim _ _
    have h : ∀ x y : S1.Idx, x = y := fun x y => funext fun a => match a with
      | ⟨0, _⟩ => Fin.ext ((Nat.lt_one_iff.1 (x 0).isLt).trans (Nat.lt_one_iff.1 (y 0).isLt).symm)
    exact (congrFun hs _).trans (congrArg (m (Dev.tc 0 |>.loc Cert.Kernel17Ideal.main_arg7)) (h _ _))
  funext j
  rw [both_at, e, ha, hb, ha', hb']
  rfl

theorem algebraic : Cert.algebraic_Kernel17Ideal_Reference17Ideal := by
  intro m ρ m' ρ' _ hagree
  refine ⟨_, _, _, _, Cert.Kernel17Ideal.Sum.run m ρ, ?_⟩
  refine (θ_run Cert.Reference17Ideal.defs _ _).mono (fun _ h c => ?_) (Cert.Reference17Ideal.Value.run (F := Ideal) m' ρ')
  obtain ⟨a0, a1, a2, a3, a4, a5, a6, a7⟩ := hagree c
  have hg := grad_ref m c _ _ _ _ _ a7 a1 a2 a3 a4
  refine ⟨(h c).1.trans hg, (h c).2.1.trans ?_, (h c).2.2.1.trans ?_, (h c).2.2.2.1.trans ?_, (h c).2.2.2.2⟩
  · refine (del_ref _ _ _ _).trans (funext fun j => ?_)
    exact congr (congr (congr (congrArg Cert.Adam.del (congrFun a0 j)) (congrFun hg j)) (congrFun a5 j)) (congrFun a6 j)
  · refine (mom_ref _ _).trans (funext fun j => ?_)
    exact congr (congrArg Cert.Adam.mom (congrFun hg j)) (congrFun a5 j)
  · refine (var_ref _ _).trans (funext fun j => ?_)
    exact congr (congrArg Cert.Adam.var (congrFun hg j)) (congrFun a6 j)

/-- The same of the program over words. -/
theorem ok_bits (m : (ℓ : Loc Cert.Kernel17.nD Cert.Kernel17.τ Cert.Kernel17.sig) → Buf (Elt Bits) ℓ) : Cert.Kernel17.Gen.Ok m :=
  ⟨fun i => ⟨Cert.Kernel17Ideal.Sum.inside1 (F := Bits) (Cert.Kernel17.Gen.tbl m) i, .inl rfl⟩,
    fun i => ⟨Cert.Kernel17Ideal.Sum.inside2 (F := Bits) (Cert.Kernel17.Gen.tbl m) i, .inl rfl⟩,
    fun i => ⟨Cert.Kernel17Ideal.Sum.inside3 (F := Bits) (Cert.Kernel17.Gen.tbl m) i, .inl rfl⟩,
    fun i => ⟨Cert.Kernel17Ideal.Sum.inside4 (F := Bits) (Cert.Kernel17.Gen.tbl m) i, .inl rfl⟩⟩

end Cert.Kernel17Ideal.Tie

end
-- ==== Proof.K18.lean ====
module

public import proofs.«01_k».proof.Proof.Gen.Kernel18Ideal.Frame
public import proofs.«01_k».proof.Proof.K16
public import Idealize.ShloMosaic.Lib.Pipeline.ValueKit
public import Idealize.ShloMosaic.Lib.Pipeline.Covers
public import Idealize.ShloMosaic.Lib.Pointwise

@[expose] public section

set_option maxRecDepth 16384

noncomputable section

/-! The optimiser's step over a weight of other shape. Which blocks the points take is as in the first. -/

namespace Cert.Kernel18Ideal.Sum

open Cert.Kernel18Ideal Cert.Kernel18Ideal.Gen
open Cert.Kernel16Ideal.Sum (half place half_eq choice0 choice1 flat0 flat1)
open Idealize.ShloMosaic Idealize.ShloMosaic.TcCoe Idealize.ShloMosaic.Tactic

section
variable {F : FTy → Type} [FloatOps F]

/-- The table's word. -/
def word (pf : pre0.Contents (Elt F)) : BitVec 32 := pf.at 0 (Rect.unit (s := S1) ![0] S1.size inb_S1_S1_0) numel1_S1

/-- Whether a row block lies in the half that the word names. -/
def own (pf : pre0.Contents (Elt F)) (b : BitVec 32) : BitVec 1 := Scalar.cmpi .eq (half b) (word pf)

theorem map1 (pf : pre0.Contents (Elt F)) (i : grid0.Coords) : cc0_transform_1 inb_S1_S1_0 numel1_S1 pf i =
    ![(Scalar.select (Scalar.andi (Scalar.cmpi .eq (BitVec.ofNat 32 (i 0).val) 0#32) (own pf (BitVec.ofNat 32 (i 1).val)))
      (place (BitVec.ofNat 32 (i 1).val)) 0#32).toNat, 0] := rfl

theorem map2 (pf : pre0.Contents (Elt F)) (i : grid0.Coords) : cc0_transform_2 inb_S1_S1_0 numel1_S1 pf i =
    ![(Scalar.select (Scalar.andi (Scalar.cmpi .eq (BitVec.ofNat 32 (i 0).val) 0#32) (Scalar.xori (own pf (BitVec.ofNat 32 (i 1).val)) 1#1))
      (place (BitVec.ofNat 32 (i 1).val)) 0#32).toNat, 0] := rfl

theorem map3 (pf : pre0.Contents (Elt F)) (i : grid0.Coords) : cc0_transform_3 inb_S1_S1_0 numel1_S1 pf i =
    ![(Scalar.select (Scalar.andi (Scalar.cmpi .eq (BitVec.ofNat 32 (i 0).val) 1#32) (own pf (BitVec.ofNat 32 (i 1).val)))
      (place (BitVec.ofNat 32 (i 1).val)) 0#32).toNat, 0] := rfl

theorem map4 (pf : pre0.Contents (Elt F)) (i : grid0.Coords) : cc0_transform_4 inb_S1_S1_0 numel1_S1 pf i =
    ![(Scalar.select (Scalar.andi (Scalar.cmpi .eq (BitVec.ofNat 32 (i 0).val) 1#32) (Scalar.xori (own pf (BitVec.ofNat 32 (i 1).val)) 1#1))
      (place (BitVec.ofNat 32 (i 1).val)) 0#32).toNat, 0] := rfl

/-- Block `i` of the rows lies in the half that the word names. -/
def Mine (pf : pre0.Contents (Elt F)) (i : grid0.Coords) : Prop := own pf (BitVec.ofNat 32 (i 1).val) = 1#1

instance (pf : pre0.Contents (Elt F)) (i : grid0.Coords) : Decidable (Mine pf i) := by unfold Mine; infer_instance

theorem at1 (pf : pre0.Contents (Elt F)) (i : grid0.Coords) : cc0_transform_1 inb_S1_S1_0 numel1_S1 pf i =
    ![if (i 0).val = 0 ∧ Mine pf i then (i 1).val % 2 else 0, 0] := by
  rw [map1, choice0 (i 0) (i 1) _]; rfl

theorem at2 (pf : pre0.Contents (Elt F)) (i : grid0.Coords) : cc0_transform_2 inb_S1_S1_0 numel1_S1 pf i =
    ![if (i 0).val = 0 ∧ ¬ Mine pf i then (i 1).val % 2 else 0, 0] := by
  rw [map2, choice0 (i 0) (i 1) _]; simp only [Mine, Cert.Kernel16Ideal.Sum.flip, ne_eq]; rfl

theorem at3 (pf : pre0.Contents (Elt F)) (i : grid0.Coords) : cc0_transform_3 inb_S1_S1_0 numel1_S1 pf i =
    ![if (i 0).val = 1 ∧ Mine pf i then (i 1).val % 2 else 0, 0] := by
  rw [map3, choice1 (i 0) (i 1) _]; rfl

theorem at4 (pf : pre0.Contents (Elt F)) (i : grid0.Coords) : cc0_transform_4 inb_S1_S1_0 numel1_S1 pf i =
    ![if (i 0).val = 1 ∧ ¬ Mine pf i then (i 1).val % 2 else 0, 0] := by
  rw [map4, choice1 (i 0) (i 1) _]; simp only [Mine, Cert.Kernel16Ideal.Sum.flip, ne_eq]; rfl

theorem inside (x : Nat) (p : Prop) [Decidable p] : ∀ a : Fin 2, ((![if p then x % 2 else 0, 0] : Fin 2 → Nat) a + 1) * S256x771.size a ≤ S512x771.size a := by
  intro a
  have hx : (if p then x % 2 else 0) ≤ 1 := by split <;> omega
  fin_cases a
  · show ((if p then x % 2 else 0) + 1) * 256 ≤ 512
    omega
  · show (0 + 1) * 771 ≤ 771
    omega

theorem inside1 (pf : pre0.Contents (Elt F)) (i : grid0.Coords) (a : Fin 2) :
    (cc0_transform_1 inb_S1_S1_0 numel1_S1 pf i a + 1) * S256x771.size a ≤ S512x771.size a := by
  rw [at1]
  exact inside _ _ a

theorem inside2 (pf : pre0.Contents (Elt F)) (i : grid0.Coords) (a : Fin 2) :
    (cc0_transform_2 inb_S1_S1_0 numel1_S1 pf i a + 1) * S256x771.size a ≤ S512x771.size a := by
  rw [at2]
  exact inside _ _ a

theorem inside3 (pf : pre0.Contents (Elt F)) (i : grid0.Coords) (a : Fin 2) :
    (cc0_transform_3 inb_S1_S1_0 numel1_S1 pf i a + 1) * S256x771.size a ≤ S512x771.size a := by
  rw [at3]
  exact inside _ _ a

theorem inside4 (pf : pre0.Contents (Elt F)) (i : grid0.Coords) (a : Fin 2) :
    (cc0_transform_4 inb_S1_S1_0 numel1_S1 pf i a + 1) * S256x771.size a ≤ S512x771.size a := by
  rw [at4]
  exact inside _ _ a

/-- Every block lies inside its array, whatever the table's word. -/
theorem ok (m : (ℓ : Loc nD τ sig) → Buf (Elt F) ℓ) : Ok m :=
  ⟨fun i => ⟨inside1 _ i, .inl rfl⟩, fun i => ⟨inside2 _ i, .inl rfl⟩, fun i => ⟨inside3 _ i, .inl rfl⟩, fun i => ⟨inside4 _ i, .inl rfl⟩⟩

theorem mine_iff (pf : pre0.Contents (Elt F)) (i : grid0.Coords) : Mine pf i ↔ word pf = BitVec.ofNat 32 ((i 1).val / 2) := by
  have h : ∀ x y : BitVec 32, (Scalar.cmpi .eq x y = 1#1) ↔ y = x := fun x y => by
    have hb : ∀ b : Bool, BitVec.ofBool b = 1#1 ↔ b = true := by decide
    exact (hb (x == y)).trans (beq_iff_eq.trans eq_comm)
  unfold Mine own
  rw [h, half_eq (i 1)]

/-- The gradient's block: of the two layers' two halves, the one that the point wants. -/
theorem pay2_eq (pf : pre0.Contents (Elt F)) (i : grid0.Coords) (a b x y : Vec F S256x771 .f32) :
    k0_pay2 i (word pf) a b x y = if (i 0).val = 0 then (if Mine pf i then a else b) else (if Mine pf i then x else y) := by
  have e : k0_pay2 i (word pf) a b x y = Scalar.select (Scalar.cmpi .eq (BitVec.ofNat 32 (i 0).val) 0#32)
      (Scalar.select (own pf (BitVec.ofNat 32 (i 1).val)) a b) (Scalar.select (own pf (BitVec.ofNat 32 (i 1).val)) x y) := rfl
  have h : ∀ a : Fin 2, Scalar.cmpi .eq (BitVec.ofNat 32 a.val) 0#32 = 1#1 ↔ a.val = 0 := by decide
  rw [e]
  by_cases h0 : (i 0).val = 0
  · rw [(h (i 0)).2 h0, if_pos h0]; rfl
  · rw [if_neg h0]
    exact if_neg fun e => h0 ((h (i 0)).1 e)

end

variable (m : (ℓ : Loc nD τ sig) → Buf (Elt Ideal) ℓ) (c : Dev nD)

/-- Where an entry of a block of the whole arrays lies. -/
theorem pos0 (i : grid0.Coords) (y : S1x256x771.Idx) : cc0_transform_0 i 0 * 1 + 1 * (y 0).val = (i 0).val := by
  have h : (y 0).val < 1 := (y 0).isLt
  have e : cc0_transform_0 i 0 = (i 0).val := flat0 (i 0)
  omega

theorem pos1 (i : grid0.Coords) (y : S1x256x771.Idx) : cc0_transform_0 i 1 * 256 + 1 * (y 1).val = (i 1).val * 256 + (y 1).val := by
  have e : cc0_transform_0 i 1 = (i 1).val := flat1 (i 1)
  rw [e, Nat.one_mul]

theorem pos2 (i : grid0.Coords) (y : S1x256x771.Idx) : cc0_transform_0 i 2 * 771 + 1 * (y 2).val = (y 2).val := by
  have e : cc0_transform_0 i 2 = 0 := rfl
  omega

theorem cov (n : Fin 3 → Nat) (e0 : n 0 = 2) (e1 : n 1 = 4) (e2 : n 2 = 1) (β : (a : Fin 3) → Fin (n a)) :
    ∃ i : grid0.Coords, ∀ a, cc0_transform_0 i a = (β a).val := by
  refine ⟨fun a => match a with | ⟨0, _⟩ => (β 0).cast e0 | ⟨1, _⟩ => (β 1).cast e1, fun a => ?_⟩
  match a with
  | ⟨0, _⟩ => exact flat0 ((β 0).cast e0)
  | ⟨1, _⟩ => exact flat1 ((β 1).cast e1)
  | ⟨2, _⟩ => exact (Nat.lt_one_iff.1 (lt_of_lt_of_eq (β 2).isLt e2)).symm

theorem sz : ∀ a, 0 < S1x256x771.size a := by decide

/-- A row of a layer, in its half. -/
abbrev row (j : S2x1024x771.Idx) : S512x771.Idx := ix2 ⟨(j 1).val % 512, Nat.mod_lt _ (by decide)⟩ (j 2)

/-- The gradient of an entry: layer, row and column. -/
def G : Vec Ideal S2x1024x771 .f32 := fun j =>
  if (j 0).val = 0 then
    (if word (tbl m) = BitVec.ofNat 32 ((j 1).val / 512) then m (c.tc.loc main_arg1) (row j) else m (c.tc.loc main_arg2) (row j))
  else
    (if word (tbl m) = BitVec.ofNat 32 ((j 1).val / 512) then m (c.tc.loc main_arg3) (row j) else m (c.tc.loc main_arg4) (row j))

theorem lift (v : Vec Ideal S256x771 .f32) (y : S1x256x771.Idx) : shapeCast S1x256x771 v shapeCasts_S256x771_S1x256x771 y = v (ix2 (y 1) (y 2)) := by
  pointwise []

theorem drop (v : Vec Ideal S1x256x771 .f32) (y : S256x771.Idx) : shapeCast S256x771 v shapeCasts_S1x256x771_S256x771 y = v (ix3 0 (y 0) (y 1)) := by
  pointwise []

theorem blk1 (t : Fin (cfgM m (ok m)).N) (y : S256x771.Idx) (z : S512x771.Idx)
    (h0 : (z 0).val = cc0_transform_1 inb_S1_S1_0 numel1_S1 (tbl m) (grid0.coords t) 0 * 256 + (y 0).val) (h1 : (z 1).val = (y 1).val) :
    iblk m (ok m) c 1 t y = m (c.tc.loc main_arg1) z := by
  refine congrArg (m (c.tc.loc main_arg1)) (funext fun a => Fin.ext ?_)
  match a with
  | ⟨0, _⟩ => exact Eq.trans (by show cc0_transform_1 inb_S1_S1_0 numel1_S1 (tbl m) (grid0.coords t) 0 * 256 + 1 * (y 0).val = _; rw [Nat.one_mul]) h0.symm
  | ⟨1, _⟩ => exact Eq.trans (by show 0 * 771 + 1 * (y 1).val = _; omega) h1.symm

theorem blk2 (t : Fin (cfgM m (ok m)).N) (y : S256x771.Idx) (z : S512x771.Idx)
    (h0 : (z 0).val = cc0_transform_2 inb_S1_S1_0 numel1_S1 (tbl m) (grid0.coords t) 0 * 256 + (y 0).val) (h1 : (z 1).val = (y 1).val) :
    iblk m (ok m) c 2 t y = m (c.tc.loc main_arg2) z := by
  refine congrArg (m (c.tc.loc main_arg2)) (funext fun a => Fin.ext ?_)
  match a with
  | ⟨0, _⟩ => exact Eq.trans (by show cc0_transform_2 inb_S1_S1_0 numel1_S1 (tbl m) (grid0.coords t) 0 * 256 + 1 * (y 0).val = _; rw [Nat.one_mul]) h0.symm
  | ⟨1, _⟩ => exact Eq.trans (by show 0 * 771 + 1 * (y 1).val = _; omega) h1.symm

theorem blk3 (t : Fin (cfgM m (ok m)).N) (y : S256x771.Idx) (z : S512x771.Idx)
    (h0 : (z 0).val = cc0_transform_3 inb_S1_S1_0 numel1_S1 (tbl m) (grid0.coords t) 0 * 256 + (y 0).val) (h1 : (z 1).val = (y 1).val) :
    iblk m (ok m) c 3 t y = m (c.tc.loc main_arg3) z := by
  refine congrArg (m (c.tc.loc main_arg3)) (funext fun a => Fin.ext ?_)
  match a with
  | ⟨0, _⟩ => exact Eq.trans (by show cc0_transform_3 inb_S1_S1_0 numel1_S1 (tbl m) (grid0.coords t) 0 * 256 + 1 * (y 0).val = _; rw [Nat.one_mul]) h0.symm
  | ⟨1, _⟩ => exact Eq.trans (by show 0 * 771 + 1 * (y 1).val = _; omega) h1.symm

theorem blk4 (t : Fin (cfgM m (ok m)).N) (y : S256x771.Idx) (z : S512x771.Idx)
    (h0 : (z 0).val = cc0_transform_4 inb_S1_S1_0 numel1_S1 (tbl m) (grid0.coords t) 0 * 256 + (y 0).val) (h1 : (z 1).val = (y 1).val) :
    iblk m (ok m) c 4 t y = m (c.tc.loc main_arg4) z := by
  refine congrArg (m (c.tc.loc main_arg4)) (funext fun a => Fin.ext ?_)
  match a with
  | ⟨0, _⟩ => exact Eq.trans (by show cc0_transform_4 inb_S1_S1_0 numel1_S1 (tbl m) (grid0.coords t) 0 * 256 + 1 * (y 0).val = _; rw [Nat.one_mul]) h0.symm
  | ⟨1, _⟩ => exact Eq.trans (by show 0 * 771 + 1 * (y 1).val = _; omega) h1.symm

/-- The gradient's block at a point is the gradient there. -/
theorem grad_at (t : Fin (cfgM m (ok m)).N) (w : BitVec 32) (x1 x2 x3 x4 : Vec Ideal S256x771 .f32) (y : S256x771.Idx) (j : S2x1024x771.Idx)
    (hw : w = word (tbl m)) (hx1 : x1 = iblk m (ok m) c 1 t) (hx2 : x2 = iblk m (ok m) c 2 t) (hx3 : x3 = iblk m (ok m) c 3 t) (hx4 : x4 = iblk m (ok m) c 4 t)
    (h0 : (j 0).val = (grid0.coords t 0).val)
    (h1 : (j 1).val = (grid0.coords t 1).val * 256 + (y 0).val) (h2 : (j 2).val = (y 1).val) :
    k0_pay2 (grid0.coords t) w x1 x2 x3 x4 y = G m c j := by
  have hy : (y 0).val < 256 := (y 0).isLt
  have hi : (grid0.coords t 0).val < 2 := (grid0.coords t 0).isLt
  have hd : (j 1).val / 512 = (grid0.coords t 1).val / 2 := by omega
  have hm : (j 1).val % 512 = (grid0.coords t 1).val % 2 * 256 + (y 0).val := by omega
  rw [hw, pay2_eq]
  unfold G
  rw [h0, hd]
  by_cases e : (grid0.coords t 0).val = 0 <;> by_cases hq : word (tbl m) = BitVec.ofNat 32 ((grid0.coords t 1).val / 2)
  · rw [if_pos e, if_pos e, if_pos ((mine_iff _ _).2 hq), if_pos hq]
    refine (congrFun hx1 y).trans (blk1 m c t y _ (Eq.trans hm ?_) h2)
    rw [at1]; simp [e, (mine_iff _ _).2 hq]
  · rw [if_pos e, if_pos e, if_neg (fun h => hq ((mine_iff _ _).1 h)), if_neg hq]
    refine (congrFun hx2 y).trans (blk2 m c t y _ (Eq.trans hm ?_) h2)
    rw [at2]; simp [e, show ¬ Mine (tbl m) (grid0.coords t) from fun h => hq ((mine_iff _ _).1 h)]
  · rw [if_neg e, if_neg e, if_pos ((mine_iff _ _).2 hq), if_pos hq]
    refine (congrFun hx3 y).trans (blk3 m c t y _ (Eq.trans hm ?_) h2)
    rw [at3]; simp [show (grid0.coords t 0).val = 1 by omega, (mine_iff _ _).2 hq]
  · rw [if_neg e, if_neg e, if_neg (fun h => hq ((mine_iff _ _).1 h)), if_neg hq]
    refine (congrFun hx4 y).trans (blk4 m c t y _ (Eq.trans hm ?_) h2)
    rw [at4]; simp [show (grid0.coords t 0).val = 1 by omega, show ¬ Mine (tbl m) (grid0.coords t) from fun h => hq ((mine_iff _ _).1 h)]

theorem blk0 (t : Fin (cfgM m (ok m)).N) (y : S1x256x771.Idx) (j : S2x1024x771.Idx) (h0 : (j 0).val = (grid0.coords t 0).val)
    (h1 : (j 1).val = (grid0.coords t 1).val * 256 + (y 1).val) (h2 : (j 2).val = (y 2).val) : iblk m (ok m) c 0 t y = m (c.tc.loc main_arg0) j := by
  refine congrArg (m (c.tc.loc main_arg0)) (funext fun a => Fin.ext ?_)
  match a with
  | ⟨0, _⟩ => exact Eq.trans (pos0 (grid0.coords t) y) h0.symm
  | ⟨1, _⟩ => exact Eq.trans (pos1 (grid0.coords t) y) h1.symm
  | ⟨2, _⟩ => exact Eq.trans (pos2 (grid0.coords t) y) h2.symm

theorem blk5 (t : Fin (cfgM m (ok m)).N) (y : S1x256x771.Idx) (j : S2x1024x771.Idx) (h0 : (j 0).val = (grid0.coords t 0).val)
    (h1 : (j 1).val = (grid0.coords t 1).val * 256 + (y 1).val) (h2 : (j 2).val = (y 2).val) : iblk m (ok m) c 5 t y = m (c.tc.loc main_arg5) j := by
  refine congrArg (m (c.tc.loc main_arg5)) (funext fun a => Fin.ext ?_)
  match a with
  | ⟨0, _⟩ => exact Eq.trans (pos0 (grid0.coords t) y) h0.symm
  | ⟨1, _⟩ => exact Eq.trans (pos1 (grid0.coords t) y) h1.symm
  | ⟨2, _⟩ => exact Eq.trans (pos2 (grid0.coords t) y) h2.symm

theorem blk6 (t : Fin (cfgM m (ok m)).N) (y : S1x256x771.Idx) (j : S2x1024x771.Idx) (h0 : (j 0).val = (grid0.coords t 0).val)
    (h1 : (j 1).val = (grid0.coords t 1).val * 256 + (y 1).val) (h2 : (j 2).val = (y 2).val) : iblk m (ok m) c 6 t y = m (c.tc.loc main_arg6) j := by
  refine congrArg (m (c.tc.loc main_arg6)) (funext fun a => Fin.ext ?_)
  match a with
  | ⟨0, _⟩ => exact Eq.trans (pos0 (grid0.coords t) y) h0.symm
  | ⟨1, _⟩ => exact Eq.trans (pos1 (grid0.coords t) y) h1.symm
  | ⟨2, _⟩ => exact Eq.trans (pos2 (grid0.coords t) y) h2.symm

theorem del_at (g : Vec Ideal S256x771 .f32) (w p q : Vec Ideal S1x256x771 .f32) (y : S1x256x771.Idx) :
    k0_pay7 g (k0_pay4 w) p q y = Cert.Adam.del (w y) (g (ix2 (y 1) (y 2))) (p y) (q y) := by
  pointwise [k0_pay4, k0_pay5, k0_pay6, k0_pay7, Cert.Adam.del, Cert.Adam.mom, Cert.Adam.var]

theorem mom_at (g : Vec Ideal S256x771 .f32) (p : Vec Ideal S1x256x771 .f32) (y : S1x256x771.Idx) :
    k0_pay8 g p y = Cert.Adam.mom (g (ix2 (y 1) (y 2))) (p y) := by
  pointwise [k0_pay5, k0_pay8, Cert.Adam.mom]

theorem var_at (g : Vec Ideal S256x771 .f32) (q : Vec Ideal S1x256x771 .f32) (y : S1x256x771.Idx) :
    k0_pay1 (k0_pay6 g q) y = Cert.Adam.var (g (ix2 (y 1) (y 2))) (q y) := by
  pointwise [k0_pay1, k0_pay6, Cert.Adam.var]

/-- The three results of the step. -/
def D : Vec Ideal S2x1024x771 .f32 := fun j => Cert.Adam.del (m (c.tc.loc main_arg0) j) (G m c j) (m (c.tc.loc main_arg5) j) (m (c.tc.loc main_arg6) j)

def M : Vec Ideal S2x1024x771 .f32 := fun j => Cert.Adam.mom (G m c j) (m (c.tc.loc main_arg5) j)

def W : Vec Ideal S2x1024x771 .f32 := fun j => Cert.Adam.var (G m c j) (m (c.tc.loc main_arg6) j)

theorem out7 (t : Fin (cfgM m (ok m)).N) (w : BitVec 32) (x1 x2 x3 x4 : Vec Ideal S256x771 .f32)
    (hw : w = word (tbl m)) (hx1 : x1 = iblk m (ok m) c 1 t) (hx2 : x2 = iblk m (ok m) c 2 t) (hx3 : x3 = iblk m (ok m) c 3 t) (hx4 : x4 = iblk m (ok m) c 4 t)

    (y : S1x256x771.Idx) (j : S2x1024x771.Idx) (h0 : (j 0).val = (grid0.coords t 0).val)
    (h1 : (j 1).val = (grid0.coords t 1).val * 256 + (y 1).val) (h2 : (j 2).val = (y 2).val) :
    k0_pay3 (grid0.coords t) w x1 x2 x3 x4 y = G m c j := by
  exact (lift _ y).trans (grad_at m c t w x1 x2 x3 x4 (ix2 (y 1) (y 2)) j hw hx1 hx2 hx3 hx4 h0 h1 h2)

theorem out8 (t : Fin (cfgM m (ok m)).N) (w : BitVec 32) (x1 x2 x3 x4 : Vec Ideal S256x771 .f32) (x0 x5 x6 : Vec Ideal S1x256x771 .f32)
    (hw : w = word (tbl m)) (hx1 : x1 = iblk m (ok m) c 1 t) (hx2 : x2 = iblk m (ok m) c 2 t) (hx3 : x3 = iblk m (ok m) c 3 t) (hx4 : x4 = iblk m (ok m) c 4 t)
    (hx0 : x0 = iblk m (ok m) c 0 t) (hx5 : x5 = iblk m (ok m) c 5 t) (hx6 : x6 = iblk m (ok m) c 6 t)
    (y : S1x256x771.Idx) (j : S2x1024x771.Idx) (h0 : (j 0).val = (grid0.coords t 0).val)
    (h1 : (j 1).val = (grid0.coords t 1).val * 256 + (y 1).val) (h2 : (j 2).val = (y 2).val) :
    k0_pay7 (k0_pay2 (grid0.coords t) w x1 x2 x3 x4) (k0_pay4 x0) x5 x6 y = D m c j := by
  rw [del_at, D, (grad_at m c t w x1 x2 x3 x4 (ix2 (y 1) (y 2)) j hw hx1 hx2 hx3 hx4 h0 h1 h2), ((congrFun hx0 y).trans (blk0 m c t y j h0 h1 h2)), ((congrFun hx5 y).trans (blk5 m c t y j h0 h1 h2)), ((congrFun hx6 y).trans (blk6 m c t y j h0 h1 h2))]

theorem out9 (t : Fin (cfgM m (ok m)).N) (w : BitVec 32) (x1 x2 x3 x4 : Vec Ideal S256x771 .f32) (x5 : Vec Ideal S1x256x771 .f32)
    (hw : w = word (tbl m)) (hx1 : x1 = iblk m (ok m) c 1 t) (hx2 : x2 = iblk m (ok m) c 2 t) (hx3 : x3 = iblk m (ok m) c 3 t) (hx4 : x4 = iblk m (ok m) c 4 t)
    (hx5 : x5 = iblk m (ok m) c 5 t)
    (y : S1x256x771.Idx) (j : S2x1024x771.Idx) (h0 : (j 0).val = (grid0.coords t 0).val)
    (h1 : (j 1).val = (grid0.coords t 1).val * 256 + (y 1).val) (h2 : (j 2).val = (y 2).val) :
    k0_pay8 (k0_pay2 (grid0.coords t) w x1 x2 x3 x4) x5 y = M m c j := by
  rw [mom_at, M, (grad_at m c t w x1 x2 x3 x4 (ix2 (y 1) (y 2)) j hw hx1 hx2 hx3 hx4 h0 h1 h2), ((congrFun hx5 y).trans (blk5 m c t y j h0 h1 h2))]

theorem out10 (t : Fin (cfgM m (ok m)).N) (w : BitVec 32) (x1 x2 x3 x4 : Vec Ideal S256x771 .f32) (x6 : Vec Ideal S1x256x771 .f32)
    (hw : w = word (tbl m)) (hx1 : x1 = iblk m (ok m) c 1 t) (hx2 : x2 = iblk m (ok m) c 2 t) (hx3 : x3 = iblk m (ok m) c 3 t) (hx4 : x4 = iblk m (ok m) c 4 t)
    (hx6 : x6 = iblk m (ok m) c 6 t)
    (y : S1x256x771.Idx) (j : S2x1024x771.Idx) (h0 : (j 0).val = (grid0.coords t 0).val)
    (h1 : (j 1).val = (grid0.coords t 1).val * 256 + (y 1).val) (h2 : (j 2).val = (y 2).val) :
    k0_pay1 (k0_pay6 (k0_pay2 (grid0.coords t) w x1 x2 x3 x4) x6) y = W m c j := by
  rw [var_at, W, (grad_at m c t w x1 x2 x3 x4 (ix2 (y 1) (y 2)) j hw hx1 hx2 hx3 hx4 h0 h1 h2), ((congrFun hx6 y).trans (blk6 m c t y j h0 h1 h2))]

theorem final7 : (dats m (ok m) 0 c).arrAt 7 (cfgM m (ok m)).N = G m c := by
  refine (dats m (ok m) 0 c).arrAt_eq_of_covers 7 _ ?_ fun t hf y => ?_
  · exact Pipeline.Window.covers_of_indexMap_surj _ rfl sz (cov ((cfgM m (ok m)).win 7).nblk (show (2 + 1 - 1) / 1 = 2 by norm_num) (show (1024 + 256 - 1) / 256 = 4 by norm_num) (show (771 + 771 - 1) / 771 = 1 by norm_num))
  · blk_simp
    rw [after0_7]
    unfold outsAt0
    frame_out
    exact out7 m c t _ _ _ _ _ rfl (Memref.IsWhole.read_unread _ _) (Memref.IsWhole.read_unread _ _) (Memref.IsWhole.read_unread _ _) (Memref.IsWhole.read_unread _ _) y _ (pos0 (grid0.coords t) y) (pos1 (grid0.coords t) y) (pos2 (grid0.coords t) y)

theorem final8 : (dats m (ok m) 0 c).arrAt 8 (cfgM m (ok m)).N = D m c := by
  refine (dats m (ok m) 0 c).arrAt_eq_of_covers 8 _ ?_ fun t hf y => ?_
  · exact Pipeline.Window.covers_of_indexMap_surj _ rfl sz (cov ((cfgM m (ok m)).win 8).nblk (show (2 + 1 - 1) / 1 = 2 by norm_num) (show (1024 + 256 - 1) / 256 = 4 by norm_num) (show (771 + 771 - 1) / 771 = 1 by norm_num))
  · blk_simp
    rw [after0_8]
    unfold outsAt0
    frame_out
    exact out8 m c t _ _ _ _ _ _ _ _ rfl (Memref.IsWhole.read_unread _ _) (Memref.IsWhole.read_unread _ _) (Memref.IsWhole.read_unread _ _) (Memref.IsWhole.read_unread _ _) (Memref.IsWhole.read_unread _ _) (Memref.IsWhole.read_unread _ _) (Memref.IsWhole.read_unread _ _) y _ (pos0 (grid0.coords t) y) (pos1 (grid0.coords t) y) (pos2 (grid0.coords t) y)

theorem final9 : (dats m (ok m) 0 c).arrAt 9 (cfgM m (ok m)).N = M m c := by
  refine (dats m (ok m) 0 c).arrAt_eq_of_covers 9 _ ?_ fun t hf y => ?_
  · exact Pipeline.Window.covers_of_indexMap_surj _ rfl sz (cov ((cfgM m (ok m)).win 9).nblk (show (2 + 1 - 1) / 1 = 2 by norm_num) (show (1024 + 256 - 1) / 256 = 4 by norm_num) (show (771 + 771 - 1) / 771 = 1 by norm_num))
  · blk_simp
    rw [after0_9]
    unfold outsAt0
    frame_out
    exact out9 m c t _ _ _ _ _ _ rfl (Memref.IsWhole.read_unread _ _) (Memref.IsWhole.read_unread _ _) (Memref.IsWhole.read_unread _ _) (Memref.IsWhole.read_unread _ _) (Memref.IsWhole.read_unread _ _) y _ (pos0 (grid0.coords t) y) (pos1 (grid0.coords t) y) (pos2 (grid0.coords t) y)

theorem final10 : (dats m (ok m) 0 c).arrAt 10 (cfgM m (ok m)).N = W m c := by
  refine (dats m (ok m) 0 c).arrAt_eq_of_covers 10 _ ?_ fun t hf y => ?_
  · exact Pipeline.Window.covers_of_indexMap_surj _ rfl sz (cov ((cfgM m (ok m)).win 10).nblk (show (2 + 1 - 1) / 1 = 2 by norm_num) (show (1024 + 256 - 1) / 256 = 4 by norm_num) (show (771 + 771 - 1) / 771 = 1 by norm_num))
  · blk_simp
    rw [after0_10]
    unfold outsAt0
    frame_out
    exact out10 m c t _ _ _ _ _ _ rfl (Memref.IsWhole.read_unread _ _) (Memref.IsWhole.read_unread _ _) (Memref.IsWhole.read_unread _ _) (Memref.IsWhole.read_unread _ _) (Memref.IsWhole.read_unread _ _) y _ (pos0 (grid0.coords t) y) (pos1 (grid0.coords t) y) (pos2 (grid0.coords t) y)

variable (ρ : Dev nD → PrngReg)

/-- The launch ends with the gradient, the change, and the two moments in its results, and keeps its arguments. -/
theorem run : θ_run defs (onTc (τ := τ) (main (F := Ideal))) ⟨m, fun _ => 0, ρ⟩ (fun r => ∀ c : Dev nD,
      r.2.mem (c.tc.loc main_v0_0) = G m c ∧ r.2.mem (c.tc.loc main_v0_1) = D m c
      ∧ r.2.mem (c.tc.loc main_v0_2) = M m c ∧ r.2.mem (c.tc.loc main_v0_3) = W m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) :=
  (θ_run defs _ _).mono (fun _ h c => ⟨((h.1 c).1 7).trans (final7 m c), ((h.1 c).1 8).trans (final8 m c), ((h.1 c).1 9).trans (final9 m c),
    ((h.1 c).1 10).trans (final10 m c), h.2 c⟩) (θ_run_and (run_main m ρ (ok m)) (unchanged m ρ (ok m)))

end Cert.Kernel18Ideal.Sum

end
-- ==== Proof.T18.lean ====
module

public import proofs.«01_k».proof.Defs
public import proofs.«01_k».proof.Proof.K18
public import proofs.«01_k».proof.Proof.T16
public import proofs.«01_k».proof.Proof.Gen.Kernel18.Frame
public import proofs.«01_k».proof.Proof.Gen.Reference18Ideal.Run
public import Idealize.ShloMosaic.Lib.Pointwise

@[expose] public section

set_option maxRecDepth 16384

noncomputable section

/-! The step is the reference's. -/

namespace Cert.Kernel18Ideal.Tie

open Idealize.ShloMosaic Idealize.SL.Sem
open Cert.Reference18Ideal Cert.Reference18Ideal.Facts₀ Cert.Reference18Ideal.Facts

/-- Whether a half is the one that the word names. -/
def picks (s : (⟨S1, .i32⟩ : BufTy).Contents (Elt Ideal)) (h : BitVec 32) : Vec Ideal S512x771 .i1 :=
  broadcastInDim S512x771 ![] bcast_S_S512x771 (cmpi .eq (shapeCast _ s shapeCasts_S1_S_) (constantI S_ 32 h))

/-- The gradient of a layer, from its two halves. -/
def layer (s : (⟨S1, .i32⟩ : BufTy).Contents (Elt Ideal)) (a b : Vec Ideal S512x771 .f32) : Vec Ideal S1x1024x771 .f32 :=
  broadcastInDim S1x1024x771 ![1, 2] bcast_S1024x771_S1x1024x771_1_2 (concatenate S1024x771 0 [⟨S512x771, select (picks s 0#32) a b⟩,
    ⟨S512x771, select (picks s 1#32) a b⟩] concatenates_S512x771_S512x771_S1024x771_d0)

/-- The gradient of the two layers. -/
def both (s : (⟨S1, .i32⟩ : BufTy).Contents (Elt Ideal)) (a b a' b' : Vec Ideal S512x771 .f32) : Vec Ideal S2x1024x771 .f32 :=
  concatenate S2x1024x771 0 [⟨S1x1024x771, layer s a b⟩, ⟨S1x1024x771, layer s a' b'⟩] concatenates_S1x1024x771_S1x1024x771_S2x1024x771_d0

theorem both_at (s : (⟨S1, .i32⟩ : BufTy).Contents (Elt Ideal)) (a b a' b' : Vec Ideal S512x771 .f32) (j : S2x1024x771.Idx) :
    both s a b a' b' j = if (j 0).val = 0 then
        (if s (ix1 0) = BitVec.ofNat 32 ((j 1).val / 512) then a (Cert.Kernel18Ideal.Sum.row j) else b (Cert.Kernel18Ideal.Sum.row j))
      else (if s (ix1 0) = BitVec.ofNat 32 ((j 1).val / 512) then a' (Cert.Kernel18Ideal.Sum.row j) else b' (Cert.Kernel18Ideal.Sum.row j)) := by
  have hj : (j 1).val < 1024 := (j 1).isLt
  pointwise [both, layer, picks]
  by_cases h0 : (j 0).val = 0 <;> by_cases h1 : (j 1).val < 512
  · have e : (⟨(j 1).val, by omega⟩ : Fin 512) = ⟨(j 1).val % 512, Nat.mod_lt _ (by decide)⟩ := Fin.ext (by show (j 1).val = (j 1).val % 512; omega)
    rw [dif_pos (by omega : (j 0).val < 1), dif_pos h1, if_pos h0, show (j 1).val / 512 = 0 by omega, e]
    exact Cert.Kernel16Ideal.Tie.select_eq _ _ _ _
  · have e : (⟨(j 1).val - 512, by omega⟩ : Fin 512) = ⟨(j 1).val % 512, Nat.mod_lt _ (by decide)⟩ := Fin.ext (by show (j 1).val - 512 = (j 1).val % 512; omega)
    rw [dif_pos (by omega : (j 0).val < 1), dif_neg h1, if_pos h0, show (j 1).val / 512 = 1 by omega, e]
    exact Cert.Kernel16Ideal.Tie.select_eq _ _ _ _
  · have e : (⟨(j 1).val, by omega⟩ : Fin 512) = ⟨(j 1).val % 512, Nat.mod_lt _ (by decide)⟩ := Fin.ext (by show (j 1).val = (j 1).val % 512; omega)
    rw [dif_neg (by omega : ¬ (j 0).val < 1), dif_pos h1, if_neg h0, show (j 1).val / 512 = 0 by omega, e]
    exact Cert.Kernel16Ideal.Tie.select_eq _ _ _ _
  · have e : (⟨(j 1).val - 512, by omega⟩ : Fin 512) = ⟨(j 1).val % 512, Nat.mod_lt _ (by decide)⟩ := Fin.ext (by show (j 1).val - 512 = (j 1).val % 512; omega)
    rw [dif_neg (by omega : ¬ (j 0).val < 1), dif_neg h1, if_neg h0, show (j 1).val / 512 = 1 by omega, e]
    exact Cert.Kernel16Ideal.Tie.select_eq _ _ _ _

theorem mom_ref (g p : Vec Ideal S2x1024x771 .f32) : ((addf (mulf (broadcastInDim S2x1024x771 ![] bcast_S_S2x1024x771 (constant S_ .f32 0x3F666666#32)) p) (mulf (broadcastInDim S2x1024x771 ![] bcast_S_S2x1024x771 (constant S_ .f32 0x3DCCCCCD#32)) g)) : FVec Ideal S2x1024x771 .f32) = fun j => Cert.Adam.mom (g j) (p j) := by
  funext j
  pointwise [Cert.Adam.mom]

theorem var_ref (g q : Vec Ideal S2x1024x771 .f32) : ((addf (mulf (broadcastInDim S2x1024x771 ![] bcast_S_S2x1024x771 (constant S_ .f32 0x3F7FBE77#32)) q) (mulf (broadcastInDim S2x1024x771 ![] bcast_S_S2x1024x771 (constant S_ .f32 0x3A83126F#32)) (mulf g g))) : FVec Ideal S2x1024x771 .f32) = fun j => Cert.Adam.var (g j) (q j) := by
  funext j
  pointwise [Cert.Adam.var]

theorem del_ref (w g p q : Vec Ideal S2x1024x771 .f32) : (mulf (broadcastInDim S2x1024x771 ![] bcast_S_S2x1024x771 (constant S_ .f32 0xBA83126F#32)) (addf (Host.divf (Host.divf (addf (mulf (broadcastInDim S2x1024x771 ![] bcast_S_S2x1024x771 (constant S_ .f32 0x3F666666#32)) p) (mulf (broadcastInDim S2x1024x771 ![] bcast_S_S2x1024x771 (constant S_ .f32 0x3DCCCCCD#32)) g)) (broadcastInDim S2x1024x771 ![] bcast_S_S2x1024x771 (constant S_ .f32 0x3F26BD02#32))) (addf (Host.sqrt (Host.divf (addf (mulf (broadcastInDim S2x1024x771 ![] bcast_S_S2x1024x771 (constant S_ .f32 0x3F7FBE77#32)) q) (mulf (broadcastInDim S2x1024x771 ![] bcast_S_S2x1024x771 (constant S_ .f32 0x3A83126F#32)) (mulf g g))) (broadcastInDim S2x1024x771 ![] bcast_S_S2x1024x771 (constant S_ .f32 0x3C231ACC#32)))) (broadcastInDim S2x1024x771 ![] bcast_S_S2x1024x771 (constant S_ .f32 0x322BCC77#32)))) (mulf (broadcastInDim S2x1024x771 ![] bcast_S_S2x1024x771 (constant S_ .f32 0x3C23D70A#32)) w)) : FVec Ideal S2x1024x771 .f32)
    = fun j => Cert.Adam.del (w j) (g j) (p j) (q j) := by
  funext j
  pointwise [Cert.Adam.del, Cert.Adam.mom, Cert.Adam.var]

theorem grad_ref (m : (ℓ : Loc Cert.Kernel18Ideal.nD Cert.Kernel18Ideal.τ Cert.Kernel18Ideal.sig) → Buf (Elt Ideal) ℓ) (c : Dev Cert.Kernel18Ideal.nD)
    (s : (⟨S1, .i32⟩ : BufTy).Contents (Elt Ideal)) (a b a' b' : Vec Ideal S512x771 .f32)
    (hs : s = m (c.tc.loc Cert.Kernel18Ideal.main_arg7)) (ha : a = m (c.tc.loc Cert.Kernel18Ideal.main_arg1)) (hb : b = m (c.tc.loc Cert.Kernel18Ideal.main_arg2))
    (ha' : a' = m (c.tc.loc Cert.Kernel18Ideal.main_arg3)) (hb' : b' = m (c.tc.loc Cert.Kernel18Ideal.main_arg4)) : both s a b a' b' = Cert.Kernel18Ideal.Sum.G m c := by
  have e : s (ix1 0) = Cert.Kernel18Ideal.Sum.word (Cert.Kernel18Ideal.Gen.tbl m) := by
    obtain rfl : c = 0 := Subsingleton.elim _ _
    have h : ∀ x y : S1.Idx, x = y := fun x y => funext fun a => match a with
      | ⟨0, _⟩ => Fin.ext ((Nat.lt_one_iff.1 (x 0).isLt).trans (Nat.lt_one_iff.1 (y 0).isLt).symm)
    exact (congrFun hs _).trans (congrArg (m (Dev.tc 0 |>.loc Cert.Kernel18Ideal.main_arg7)) (h _ _))
  funext j
  rw [both_at, e, ha, hb, ha', hb']
  rfl

theorem algebraic : Cert.algebraic_Kernel18Ideal_Reference18Ideal := by
  intro m ρ m' ρ' _ hagree
  refine ⟨_, _, _, _, Cert.Kernel18Ideal.Sum.run m ρ, ?_⟩
  refine (θ_run Cert.Reference18Ideal.defs _ _).mono (fun _ h c => ?_) (Cert.Reference18Ideal.Value.run (F := Ideal) m' ρ')
  obtain ⟨a0, a1, a2, a3, a4, a5, a6, a7⟩ := hagree c
  have hg := grad_ref m c _ _ _ _ _ a7 a1 a2 a3 a4
  refine ⟨(h c).1.trans hg, (h c).2.1.trans ?_, (h c).2.2.1.trans ?_, (h c).2.2.2.1.trans ?_, (h c).2.2.2.2⟩
  · refine (del_ref _ _ _ _).trans (funext fun j => ?_)
    exact congr (congr (congr (congrArg Cert.Adam.del (congrFun a0 j)) (congrFun hg j)) (congrFun a5 j)) (congrFun a6 j)
  · refine (mom_ref _ _).trans (funext fun j => ?_)
    exact congr (congrArg Cert.Adam.mom (congrFun hg j)) (congrFun a5 j)
  · refine (var_ref _ _).trans (funext fun j => ?_)
    exact congr (congrArg Cert.Adam.var (congrFun hg j)) (congrFun a6 j)

/-- The same of the program over words. -/
theorem ok_bits (m : (ℓ : Loc Cert.Kernel18.nD Cert.Kernel18.τ Cert.Kernel18.sig) → Buf (Elt Bits) ℓ) : Cert.Kernel18.Gen.Ok m :=
  ⟨fun i => ⟨Cert.Kernel18Ideal.Sum.inside1 (F := Bits) (Cert.Kernel18.Gen.tbl m) i, .inl rfl⟩,
    fun i => ⟨Cert.Kernel18Ideal.Sum.inside2 (F := Bits) (Cert.Kernel18.Gen.tbl m) i, .inl rfl⟩,
    fun i => ⟨Cert.Kernel18Ideal.Sum.inside3 (F := Bits) (Cert.Kernel18.Gen.tbl m) i, .inl rfl⟩,
    fun i => ⟨Cert.Kernel18Ideal.Sum.inside4 (F := Bits) (Cert.Kernel18.Gen.tbl m) i, .inl rfl⟩⟩

end Cert.Kernel18Ideal.Tie

end
-- ==== Proof.K20.lean ====
module

public import proofs.«01_k».proof.Proof.Gen.Kernel20Ideal.Value
public import Idealize.ShloMosaic.Lib.Pipeline.ValueKit
public import Idealize.ShloMosaic.Lib.Pointwise

@[expose] public section

set_option maxRecDepth 16384

noncomputable section

/-! The gradient of the modulation weight of a layer, block by block. -/

namespace Cert.Kernel20Ideal.Sum

open Cert.Kernel20Ideal Cert.Kernel20Ideal.Gen Cert.Kernel20Ideal.Value
open Idealize.ShloMosaic Idealize.ShloMosaic.TcCoe Idealize.ShloMosaic.Tactic

variable (m : (ℓ : Loc nD τ sig) → Buf (Elt Ideal) ℓ) (c : Dev nD)

abbrev arr0 : Vec Ideal S8x1024 .bf16 := m (c.tc.loc main_arg0)
abbrev arr1 : Vec Ideal S8x2304 .bf16 := m (c.tc.loc main_arg1)

/-- The product of two blocks. -/
def prod (v0 : Vec Ideal S8x1024 .bf16) (v2 : Vec Ideal S8x256 .bf16) (y : S1024x256.Idx) : EReal :=
  ∑ x : Fin 8, v0 (ix2 x (y 0)) * v2 (ix2 x (y 1))

theorem pay1_at (v0 : Vec Ideal S8x1024 .bf16) (v2 : Vec Ideal S8x256 .bf16) (y : S1024x256.Idx) :
    k0_pay1 v0 v2 y = prod v0 v2 y := by
  pointwise [k0_pay1, prod]

theorem idx : ∀ t : Fin cfg0.N, win0_0.index t = ![0, 0] ∧ win0_1.index t = ![0, t.val] ∧ win0_2.index t = ![0, t.val] := by
  decide +kernel

/-- The product of the whole arrays. -/
def G : Vec Ideal S1024x2304 .f32 := fun i => ∑ k : Fin 8, arr0 m c (ix2 k (i 0)) * arr1 m c (ix2 k (i 1))

/-- The result's array after the run. -/
theorem final : (dats m 0 c).arrAt 2 cfg0.N = G m c := by
  refine (dats m 0 c).arrAt_eq_of_covers 2 _ (by decide +kernel) fun t hf y => ?_
  blk_simp
  rw [after0_2]
  frame_out
  refine (pay1_at _ _ _).trans ?_
  unfold prod G
  refine Finset.sum_congr rfl fun x _ => ?_
  congr 1 <;> blk_ext [iblk, V, idx t]

end Cert.Kernel20Ideal.Sum

end
-- ==== Proof.T20.lean ====
module

public import proofs.«01_k».proof.Defs
public import proofs.«01_k».proof.Proof.K20
public import proofs.«01_k».proof.Proof.Gen.Reference20Ideal.Run
public import Idealize.ShloMosaic.Lib.Pointwise

@[expose] public section

set_option maxRecDepth 16384

noncomputable section

/-! The sum is the reference's. -/

namespace Cert.Kernel20Ideal.Tie

open Idealize.ShloMosaic Idealize.SL.Sem

theorem algebraic : Cert.algebraic_Kernel20Ideal_Reference20Ideal := by
  intro m ρ m' ρ' _ hagree
  refine ⟨_, Cert.Kernel20Ideal.Value.run_blocks (F := Ideal) m ρ, ?_⟩
  refine (θ_run Cert.Reference20Ideal.defs _ _).mono (fun _ h c => ⟨?_, (h c).2⟩) (Cert.Reference20Ideal.Value.run (F := Ideal) m' ρ')
  rw [(h c).1]
  simp only [hagree c]
  refine Eq.trans ?_ (Cert.Kernel20Ideal.Sum.final m c).symm
  funext i
  unfold Cert.Kernel20Ideal.Sum.G
  pointwise []
  exact Finset.sum_congr rfl fun x _ => mul_comm _ _

end Cert.Kernel20Ideal.Tie

end
-- ==== Proof.Runs.lean ====
module

public import proofs.«01_k».proof.Proof.Gen.KernelIdeal.Frame
public import proofs.«01_k».proof.Proof.Gen.KernelIdeal.Loops
public import Idealize.ShloMosaic.Lib.LoopRemainder

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The point opens a head: the second grid coordinate is zero. -/
abbrev Opens (i : grid0.Coords) : Prop := k0_cond1 i = 1#1

theorem opens_iff : ∀ t : Fin cfg0.N, Opens (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [Opens, k0_cond1, e0, e1]
    word_cmp
   : ∀ t : Fin grid0.N, Opens (grid0.coords t) ↔ t.val % 8 = 0)

/-! The staging buffer of each window at a point, and that it is a whole buffer. -/

abbrev stg0 (t : Fin cfg0.N) : Memref sig .tc .vmem S1x4096x64 .bf16 := win0_0.stage (cfg0.slots t 0)
abbrev whole0 (t : Fin cfg0.N) : (stg0 t).IsWhole := hstage0_0 ((cfg0.slots t 0).cast nbuf0_0)
abbrev stg1 (t : Fin cfg0.N) : Memref sig .tc .vmem S1x512x64 .bf16 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x512x64 .bf16 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x1x512 .f32 := win0_3.stage (cfg0.slots t 3)
abbrev whole3 (t : Fin cfg0.N) : (stg3 t).IsWhole := hstage0_3 ((cfg0.slots t 3).cast nbuf0_3)
abbrev stg4 (t : Fin cfg0.N) : Memref sig .tc .vmem S1x4096x64 .f32 := win0_4.stage (cfg0.slots t 4)
abbrev whole4 (t : Fin cfg0.N) : (stg4 t).IsWhole := hstage0_4 ((cfg0.slots t 4).cast nbuf0_4)
abbrev stg5 (t : Fin cfg0.N) : Memref sig .tc .vmem S1x4096x1 .f32 := win0_5.stage (cfg0.slots t 5)
abbrev whole5 (t : Fin cfg0.N) : (stg5 t).IsWhole := hstage0_5 ((cfg0.slots t 5).cast nbuf0_5)
abbrev stg6 (t : Fin cfg0.N) : Memref sig .tc .vmem S1x4096x64 .f32 := win0_6.stage (cfg0.slots t 6)
abbrev whole6 (t : Fin cfg0.N) : (stg6 t).IsWhole := hstage0_6 ((cfg0.slots t 6).cast nbuf0_6)
abbrev stg7 (t : Fin cfg0.N) : Memref sig .tc .vmem S1x4096x64 .f32 := win0_7.stage (cfg0.slots t 7)
abbrev whole7 (t : Fin cfg0.N) : (stg7 t).IsWhole := hstage0_7 ((cfg0.slots t 7).cast nbuf0_7)
abbrev stg8 (t : Fin cfg0.N) : Memref sig .tc .vmem S1x512x64 .f32 := win0_8.stage (cfg0.slots t 8)
abbrev whole8 (t : Fin cfg0.N) : (stg8 t).IsWhole := hstage0_8 ((cfg0.slots t 8).cast nbuf0_8)
abbrev stg9 (t : Fin cfg0.N) : Memref sig .tc .vmem S1x512x64 .f32 := win0_9.stage (cfg0.slots t 9)
abbrev whole9 (t : Fin cfg0.N) : (stg9 t).IsWhole := hstage0_9 ((cfg0.slots t 9).cast nbuf0_9)
abbrev stg10 (t : Fin cfg0.N) : Memref sig .tc .vmem S1x4096x1 .f32 := win0_10.stage (cfg0.slots t 10)
abbrev whole10 (t : Fin cfg0.N) : (stg10 t).IsWhole := hstage0_10 ((cfg0.slots t 10).cast nbuf0_10)
abbrev stg11 (t : Fin cfg0.N) : Memref sig .tc .vmem S1x1x512 .f32 := win0_11.stage (cfg0.slots t 11)
abbrev whole11 (t : Fin cfg0.N) : (stg11 t).IsWhole := hstage0_11 ((cfg0.slots t 11).cast nbuf0_11)
/-- The buffer of the row sums of `do · o`, kept from point to point. -/
abbrev dlt : Memref sig .tc .vmem S4096x1 .f32 := Memref.whole cc0_scratch0
abbrev wholeD : (dlt).IsWhole := Memref.isWhole_whole _

theorem loose_eq (c : Dev nD) :
    (Pipeline.ΦA spec0 c : sProp 𝕄)
      = iprop(iprop((∃ d, owns (c : Thread nD τ) dlt fullShare d)) ∗ (∃ r, prngReg c r)) := by
  unfold Pipeline.ΦA; rw [scopedRest0_eq]; simp only [dlt, owns_whole]; try rfl

end Cert.KernelIdeal.Fox

end
-- ==== Proof.Spec.lean ====
module

public import Idealize.ShloMosaic.PureOps.Ideal
public import Mathlib.Data.EReal.Operations
public import Mathlib.Algebra.BigOperators.Fin

@[expose] public section

noncomputable section

/-! One block of the gradient of the forgetting attention, as plain sums over the extended reals: the 512 keys
    `512 * b, …` of a head against all its 4096 rows. -/

namespace Cert.KernelIdeal.Fox

open Idealize.ShloMosaic

/-- Row `r` of block `b`. -/
def rowOf (b : ℕ) (r : Fin 512) : Fin 4096 := ⟨(512 * b + r.val) % 4096, Nat.mod_lt _ (by decide)⟩

theorem rowOf_val {b : ℕ} (hb : b < 8) (r : Fin 512) : (rowOf b r).val = 512 * b + r.val :=
  Nat.mod_eq_of_lt (by have := r.isLt; omega)

/-- A sum over the rows, block by block. -/
theorem sum_blocks {M : Type*} [AddCommMonoid M] (f : Fin 4096 → M) :
    ∑ b ∈ Finset.range 8, ∑ r : Fin 512, f (rowOf b r) = ∑ r : Fin 4096, f r := by
  rw [Finset.sum_range, ← (finProdFinEquiv (m := 8) (n := 512)).sum_comp, Fintype.sum_prod_type]
  refine Finset.sum_congr rfl fun b _ => Finset.sum_congr rfl fun r _ => congrArg f (Fin.ext ?_)
  rw [rowOf_val b.isLt]
  simp only [finProdFinEquiv_apply_val]
  omega

/-- What a point finds: the head's queries, its keys and values, the keys' sums of the gates, the rows' log-sums, the
    head's cotangents and the rows' `do · o`. -/
structure Blk where
  q : Fin 4096 → Fin 64 → EReal
  k : Fin 512 → Fin 64 → EReal
  v : Fin 512 → Fin 64 → EReal
  cum : Fin 512 → EReal
  lse : Fin 4096 → EReal
  dout : Fin 4096 → Fin 64 → EReal
  delta : Fin 4096 → EReal

namespace Blk

variable (X : Blk)

/-- The probability of key `c` at row `r`, the mask aside. -/
def p (r : Fin 4096) (c : Fin 512) : EReal :=
  Ideal.exp ((∑ d, X.q r d * X.k c d) - X.cum c - X.lse r)

/-- The gradient of the score, the mask aside. -/
def g (r : Fin 4096) (c : Fin 512) : EReal :=
  X.p r c * ((∑ d, X.dout r d * X.v c d) - X.delta r)

/-- Both under the mask of block `b`. -/
def pm (b : ℕ) (r : Fin 4096) (c : Fin 512) : EReal := if 512 * b + c.val ≤ r.val then X.p r c else 0
def gm (b : ℕ) (r : Fin 4096) (c : Fin 512) : EReal := if 512 * b + c.val ≤ r.val then X.g r c else 0

end Blk

end Cert.KernelIdeal.Fox

end
-- ==== Proof.Pays.lean ====
module

public import proofs.«01_k».proof.Proof.Gen.KernelIdeal.Loops
public import proofs.«01_k».proof.Proof.Spec
public import Idealize.ShloMosaic.Lib.Pointwise

@[expose] public section

set_option maxRecDepth 16384

noncomputable section

/-! What the body computes between two stores, read at an index over the extended reals. -/

namespace Cert.KernelIdeal.Fox

open Cert.KernelIdeal.Gen
open Idealize.ShloMosaic Idealize.ShloMosaic.Tactic

variable (v4 v6 : FVec Ideal S512x64 .bf16) (v8 : FVec Ideal S1x512 .f32) (v89 : Vec Ideal S1x512x64 .bf16)
  (v92 : Vec Ideal S1x512x64 .f32) (v99 : Vec Ideal S1x512x1 .f32) (v109 : Vec Ideal S512x1 .f32)

theorem pay10_at (r c : Fin 512) : k0_pay10 v4 v8 v89 v99 (ix2 r c)
    = Ideal.exp ((∑ d : Fin 64, v89 (ix3 0 r d) * v4 (ix2 c d)) - v8 (ix2 0 c) - v99 (ix3 0 r 0)) := by
  pointwise [k0_pay10, k0_pay8]

theorem pay12_at (r c : Fin 512) : k0_pay12 v4 v6 v8 v89 v92 v99 v109 (ix2 r c)
    = k0_pay10 v4 v8 v89 v99 (ix2 r c)
        * ((∑ d : Fin 64, v92 (ix3 0 r d) * v6 (ix2 c d)) - v109 (ix2 r 0)) := by
  pointwise [k0_pay12, k0_pay9]

theorem pay11_at (a : FVec Ideal S512x64 .f32) (c : Fin 512) (d : Fin 64) :
    k0_pay11 v4 v8 a v89 v92 v99 (ix2 c d)
      = a (ix2 c d) + ∑ r : Fin 512, k0_pay10 v4 v8 v89 v99 (ix2 r c) * v92 (ix3 0 r d) := by
  pointwise [k0_pay11, k0_pay9]

theorem pay14_at (a : FVec Ideal S512x64 .f32) (c : Fin 512) (d : Fin 64) :
    k0_pay14 v4 v6 v8 a v89 v92 v99 v109 (ix2 c d)
      = a (ix2 c d) + ∑ r : Fin 512, k0_pay12 v4 v6 v8 v89 v92 v99 v109 (ix2 r c) * v89 (ix3 0 r d) := by
  pointwise [k0_pay14, k0_pay13, k0_pay8]

theorem pay15_at (a : Vec Ideal S1x512x64 .f32) (r : Fin 512) (d : Fin 64) :
    k0_pay15 v4 v6 v8 v89 v92 v99 v109 a (ix3 0 r d)
      = a (ix3 0 r d) + ∑ c : Fin 512, k0_pay12 v4 v6 v8 v89 v92 v99 v109 (ix2 r c) * v4 (ix2 c d) := by
  pointwise [k0_pay15, k0_pay13]

theorem pay1_at (w : FVec Ideal S512x512 .f32) (a : Vec Ideal S1x512x1 .f32) (r : Fin 512) :
    k0_pay1 w a (ix3 0 r 0) = a (ix3 0 r 0) + ∑ c : Fin 512, w (ix2 r c) := by
  pointwise [k0_pay1]

theorem pay2_at (a : FVec Ideal S1x512 .f32) (w : FVec Ideal S512x512 .f32) (c : Fin 512) :
    k0_pay2 a w (ix2 0 c) = a (ix2 0 c) - ∑ r : Fin 512, w (ix2 r c) := by
  pointwise [k0_pay2]

end Cert.KernelIdeal.Fox

end
-- ==== Proof.Trip.lean ====
module

public import proofs.«01_k».proof.Proof.Pays
public import Idealize.ShloMosaic.Lib.WritesUnit
public import Idealize.ShloMosaic.Lib.WholeRead

@[expose] public section

set_option maxRecDepth 16384

noncomputable section

/-! One trip of the loop over the row blocks below the diagonal, over the extended reals. -/

namespace Cert.KernelIdeal.Fox

open Cert.KernelIdeal.Gen
open Idealize.ShloMosaic Idealize.ShloMosaic.TcCoe Idealize.ShloMosaic.Tactic
open Idealize.SL Idealize.SL.RA Idealize.SL.BI
open Idealize.SL.Sem

/-- The body's buffers. -/
structure Mems where
  arg2 : Memref sig .tc .vmem S1x4096x64 .bf16
  harg2 : arg2.IsWhole
  arg3 : Memref sig .tc .vmem S1x512x64 .bf16
  harg3 : arg3.IsWhole
  arg4 : Memref sig .tc .vmem S1x512x64 .bf16
  harg4 : arg4.IsWhole
  arg5 : Memref sig .tc .vmem S1x1x512 .f32
  harg5 : arg5.IsWhole
  arg6 : Memref sig .tc .vmem S1x4096x64 .f32
  harg6 : arg6.IsWhole
  arg7 : Memref sig .tc .vmem S1x4096x1 .f32
  harg7 : arg7.IsWhole
  arg8 : Memref sig .tc .vmem S1x4096x64 .f32
  harg8 : arg8.IsWhole
  arg9 : Memref sig .tc .vmem S1x4096x64 .f32
  harg9 : arg9.IsWhole
  arg10 : Memref sig .tc .vmem S1x512x64 .f32
  harg10 : arg10.IsWhole
  arg11 : Memref sig .tc .vmem S1x512x64 .f32
  harg11 : arg11.IsWhole
  arg12 : Memref sig .tc .vmem S1x4096x1 .f32
  harg12 : arg12.IsWhole
  arg13 : Memref sig .tc .vmem S1x1x512 .f32
  harg13 : arg13.IsWhole
  arg14 : Memref sig .tc .vmem S4096x1 .f32
  harg14 : arg14.IsWhole

/-- A point's operands as the plain arrays of `Blk`. -/
def blkOf (x0 : Vec Ideal S1x4096x64 .bf16) (v4 v6 : FVec Ideal S512x64 .bf16) (v8 : FVec Ideal S1x512 .f32)
    (x5 : Vec Ideal S1x4096x1 .f32) (x6 : Vec Ideal S1x4096x64 .f32) (D : Vec Ideal S4096x1 .f32) : Blk where
  q r d := x0 (ix3 0 r d)
  k c d := v4 (ix2 c d)
  v c d := v6 (ix2 c d)
  cum c := v8 (ix2 0 c)
  lse r := x5 (ix3 0 r 0)
  dout r d := x6 (ix3 0 r d)
  delta r := D (ix2 r 0)

variable (M : Mems) (c : Dev nD) (i : grid0.Coords) (v4 v6 : FVec Ideal S512x64 .bf16) (v8 : FVec Ideal S1x512 .f32)
  (v69 : BitVec 32) (x0 : Vec Ideal S1x4096x64 .bf16) (x5 : Vec Ideal S1x4096x1 .f32)
  (x6 : Vec Ideal S1x4096x64 .f32) (D : Vec Ideal S4096x1 .f32)

/-- A trip at whole buffers. -/
abbrev trip (k : Fin (k0_t2_loop i).trips) :=
  trip_k0_t2 (F := Ideal) Variants.none c none i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 v4 v6 v8 v69 (M.harg2.unread x0) (M.harg7.unread x5) (M.harg8.unread x6) (M.harg14.unread D) k

/-- The block of rows a trip works at. -/
abbrev tripBlk (k : Fin (k0_t2_loop i).trips) : ℕ := (i 1).val + k.val + 1

theorem trips2 : (k0_t2_loop i).trips = 7 - (i 1).val := by
  have h : ∀ n : Fin 8, Scf.trips (Scalar.addi (BitVec.ofNat 32 n.val) 1#32)
      (Scalar.addi (Scalar.addi (BitVec.ofNat 32 n.val) 1#32)
        (Scalar.muli (Scalar.divsi (Scalar.subi 8#32 (Scalar.addi (BitVec.ofNat 32 n.val) 1#32)) 1#32) 1#32)) 1#32
        = 7 - n.val := by decide
  exact h (i 1)

theorem tripBlk_lt (k : Fin (k0_t2_loop i).trips) : tripBlk i k < 8 := by
  have h : k.val < 7 - (i 1).val := lt_of_lt_of_eq k.isLt (trips2 i)
  unfold tripBlk
  omega

variable (k : Fin (k0_t2_loop i).trips) (acc : FVec Ideal S512x64 .f32 × FVec Ideal S512x64 .f32 × FVec Ideal S1x512 .f32)
  (f9 : BufTy.Contents (Elt Ideal) M.arg9.view.ty) (f12 : BufTy.Contents (Elt Ideal) M.arg12.view.ty)

/-- The blocks a trip loads. -/
def ldQ (x0 : Vec Ideal S1x4096x64 .bf16) : Vec Ideal S1x512x64 .bf16 :=
  View.ld x0 (Rect.unit (s := S1x4096x64) (k0_off6 i k) S1x512x64.size (k0_off6_inb i k))
def ldO (x6 : Vec Ideal S1x4096x64 .f32) : Vec Ideal S1x512x64 .f32 :=
  View.ld x6 (Rect.unit (s := S1x4096x64) (k0_off6 i k) S1x512x64.size (k0_off6_inb i k))
def ldL (x5 : Vec Ideal S1x4096x1 .f32) : Vec Ideal S1x512x1 .f32 :=
  View.ld x5 (Rect.unit (s := S1x4096x1) (k0_off7 i k) S1x512x1.size (k0_off7_inb i k))
def ldD (D : Vec Ideal S4096x1 .f32) : Vec Ideal S512x1 .f32 :=
  View.ld D (Rect.unit (s := S4096x1) (k0_off8 i k) S512x1.size (k0_off8_inb i k))

theorem trip_yield : (trip M c i v4 v6 v8 v69 x0 x5 x6 D k).1 acc f9 f12
    = (k0_pay14 v4 v6 v8 acc.1 (ldQ i k x0) (ldO i k x6) (ldL i k x5) (ldD i k D),
       k0_pay11 v4 v8 acc.2.1 (ldQ i k x0) (ldO i k x6) (ldL i k x5),
       k0_pay2 acc.2.2 (k0_pay12 v4 v6 v8 (ldQ i k x0) (ldO i k x6) (ldL i k x5) (ldD i k D))) := by
  unfold trip trip_k0_t2
  dsimp only
  sl_unfold_words
  simp only [View.readAt_eq_ld, M.harg2.read_unread, M.harg7.read_unread, M.harg8.read_unread, M.harg14.read_unread]
  rfl

theorem trip_dq : (trip M c i v4 v6 v8 v69 x0 x5 x6 D k).2.1 acc f9 f12
    = [⟨Rect.unit (s := S1x4096x64) (k0_off6 i k) S1x512x64.size (k0_off6_inb i k),
        k0_pay15 v4 v6 v8 (ldQ i k x0) (ldO i k x6) (ldL i k x5) (ldD i k D) (ldO i k (M.arg9.view.read (Elt Ideal) f9))⟩] := by
  unfold trip trip_k0_t2
  dsimp only
  sl_unfold_words
  simp only [View.readAt_eq_ld, M.harg2.read_unread, M.harg7.read_unread, M.harg8.read_unread, M.harg14.read_unread]
  rfl

theorem trip_dcq : (trip M c i v4 v6 v8 v69 x0 x5 x6 D k).2.2.1 acc f9 f12
    = [⟨Rect.unit (s := S1x4096x1) (k0_off7 i k) S1x512x1.size (k0_off7_inb i k),
        k0_pay1 (k0_pay12 v4 v6 v8 (ldQ i k x0) (ldO i k x6) (ldL i k x5) (ldD i k D))
          (ldL i k (M.arg12.view.read (Elt Ideal) f12))⟩] := by
  unfold trip trip_k0_t2
  dsimp only
  sl_unfold_words
  simp only [View.readAt_eq_ld, M.harg2.read_unread, M.harg7.read_unread, M.harg8.read_unread, M.harg14.read_unread]
  rfl

theorem row6 (r : Fin 512) (h : k0_off6 i k 1 + r.val < 4096) :
    (⟨k0_off6 i k 1 + r.val, h⟩ : Fin 4096) = rowOf (tripBlk i k) r := by
  refine Fin.ext ?_
  rw [rowOf_val (tripBlk_lt i k)]
  have := congrFun (k0_off6_eq i k) 1
  change k0_off6 i k 1 = 512 * (i 1).val + 512 * k.val + 512 at this
  unfold tripBlk
  change k0_off6 i k 1 + r.val = _
  omega

theorem ldQ_at (x : Vec Ideal S1x4096x64 .bf16) (r : Fin 512) (d : Fin 64) :
    ldQ i k x (ix3 0 r d) = x (ix3 0 (rowOf (tripBlk i k) r) d) := by
  unfold ldQ
  pointwise
  rw [row6]
  exact congrArg x (congrArg₂ (fun a b => ix3 a _ b) (Fin.ext rfl) (Fin.ext (Nat.zero_add _)))

theorem ldO_at (x : Vec Ideal S1x4096x64 .f32) (r : Fin 512) (d : Fin 64) :
    ldO i k x (ix3 0 r d) = x (ix3 0 (rowOf (tripBlk i k) r) d) := by
  unfold ldO
  pointwise
  rw [row6]
  exact congrArg x (congrArg₂ (fun a b => ix3 a _ b) (Fin.ext rfl) (Fin.ext (Nat.zero_add _)))

theorem ldL_at (x : Vec Ideal S1x4096x1 .f32) (r : Fin 512) :
    ldL i k x (ix3 0 r 0) = x (ix3 0 (rowOf (tripBlk i k) r) 0) := by
  unfold ldL
  pointwise
  exact congrArg x (congrArg₂ (fun a b => ix3 a b 0) (Fin.ext rfl) (row6 i k r _))

theorem ldD_at (x : Vec Ideal S4096x1 .f32) (r : Fin 512) :
    ldD i k x (ix2 r 0) = x (ix2 (rowOf (tripBlk i k) r) 0) := by
  unfold ldD
  pointwise
  exact congrArg x (congrArg (fun a => ix2 a 0) (row6 i k r _))

/-- A trip's probabilities and score gradients. -/
theorem trip_p (r cc : Fin 512) : k0_pay10 v4 v8 (ldQ i k x0) (ldL i k x5) (ix2 r cc)
    = (blkOf x0 v4 v6 v8 x5 x6 D).p (rowOf (tripBlk i k) r) cc := by
  rw [pay10_at]
  simp only [ldQ_at, ldL_at]
  rfl

theorem trip_g (r cc : Fin 512) :
    k0_pay12 v4 v6 v8 (ldQ i k x0) (ldO i k x6) (ldL i k x5) (ldD i k D) (ix2 r cc)
      = (blkOf x0 v4 v6 v8 x5 x6 D).g (rowOf (tripBlk i k) r) cc := by
  rw [pay12_at, trip_p i v4 v6 v8 x0 x5 x6 D k]
  simp only [ldO_at, ldD_at]
  rfl

variable (g9 : BufTy.Contents (Elt Ideal) M.arg9.view.ty) (g12 : BufTy.Contents (Elt Ideal) M.arg12.view.ty)
  (init : FVec Ideal S512x64 .f32 × FVec Ideal S512x64 .f32 × FVec Ideal S1x512 .f32)

/-- The loop's state at whole buffers. -/
abbrev lst (n : ℕ) :=
  st_k0_t2 (F := Ideal) Variants.none c none i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 v4 v6 v8 v69 (M.harg2.unread x0) (M.harg7.unread x5) (M.harg8.unread x6) (M.harg14.unread D) g9 g12 init n

theorem lst_succ : lst M c i v4 v6 v8 v69 x0 x5 x6 D g9 g12 init (k.val + 1)
    = ((trip M c i v4 v6 v8 v69 x0 x5 x6 D k).1 (lst M c i v4 v6 v8 v69 x0 x5 x6 D g9 g12 init k.val).1
        (M.arg9.view.writes (Elt Ideal) g9 (lst M c i v4 v6 v8 v69 x0 x5 x6 D g9 g12 init k.val).2.1)
        (M.arg12.view.writes (Elt Ideal) g12 (lst M c i v4 v6 v8 v69 x0 x5 x6 D g9 g12 init k.val).2.2),
       (trip M c i v4 v6 v8 v69 x0 x5 x6 D k).2.1 (lst M c i v4 v6 v8 v69 x0 x5 x6 D g9 g12 init k.val).1
        (M.arg9.view.writes (Elt Ideal) g9 (lst M c i v4 v6 v8 v69 x0 x5 x6 D g9 g12 init k.val).2.1)
        (M.arg12.view.writes (Elt Ideal) g12 (lst M c i v4 v6 v8 v69 x0 x5 x6 D g9 g12 init k.val).2.2)
          ++ (lst M c i v4 v6 v8 v69 x0 x5 x6 D g9 g12 init k.val).2.1,
       (trip M c i v4 v6 v8 v69 x0 x5 x6 D k).2.2.1 (lst M c i v4 v6 v8 v69 x0 x5 x6 D g9 g12 init k.val).1
        (M.arg9.view.writes (Elt Ideal) g9 (lst M c i v4 v6 v8 v69 x0 x5 x6 D g9 g12 init k.val).2.1)
        (M.arg12.view.writes (Elt Ideal) g12 (lst M c i v4 v6 v8 v69 x0 x5 x6 D g9 g12 init k.val).2.2)
          ++ (lst M c i v4 v6 v8 v69 x0 x5 x6 D g9 g12 init k.val).2.2) :=
  st_k0_t2_succ ..

/-- The carried gradients before trip `n`. -/
theorem lst_carry (n : ℕ) (hn : n ≤ (k0_t2_loop i).trips) :
    (∀ cc d, (lst M c i v4 v6 v8 v69 x0 x5 x6 D g9 g12 init n).1.1 (ix2 cc d) = init.1 (ix2 cc d)
        + ∑ b ∈ Finset.range n, ∑ r : Fin 512,
            (blkOf x0 v4 v6 v8 x5 x6 D).g (rowOf ((i 1).val + b + 1) r) cc * x0 (ix3 0 (rowOf ((i 1).val + b + 1) r) d))
      ∧ (∀ cc d, (lst M c i v4 v6 v8 v69 x0 x5 x6 D g9 g12 init n).1.2.1 (ix2 cc d) = init.2.1 (ix2 cc d)
        + ∑ b ∈ Finset.range n, ∑ r : Fin 512,
            (blkOf x0 v4 v6 v8 x5 x6 D).p (rowOf ((i 1).val + b + 1) r) cc * x6 (ix3 0 (rowOf ((i 1).val + b + 1) r) d))
      ∧ (∀ cc, (lst M c i v4 v6 v8 v69 x0 x5 x6 D g9 g12 init n).1.2.2 (ix2 0 cc) = init.2.2 (ix2 0 cc)
        + ∑ b ∈ Finset.range n, -∑ r : Fin 512,
            (blkOf x0 v4 v6 v8 x5 x6 D).g (rowOf ((i 1).val + b + 1) r) cc) := by
  induction n with
  | zero =>
    refine ⟨fun cc d => ?_, fun cc d => ?_, fun cc => ?_⟩ <;> simp only [Finset.range_zero, Finset.sum_empty, add_zero] <;> rfl
  | succ n ih =>
    obtain ⟨h1, h2, h3⟩ := ih (Nat.le_of_succ_le hn)
    have e := lst_succ M c i v4 v6 v8 v69 x0 x5 x6 D ⟨n, hn⟩ g9 g12 init
    rw [trip_yield] at e
    have e' := congrArg Prod.fst e
    dsimp only at e'
    refine ⟨fun cc d => ?_, fun cc d => ?_, fun cc => ?_⟩
    · refine (congrFun (congrArg Prod.fst e') _).trans ?_
      dsimp only
      rw [pay14_at, h1, Finset.sum_range_succ, ← add_assoc]
      simp only [trip_g, ldQ_at]
    · refine (congrFun (congrArg (fun p => p.2.1) e') _).trans ?_
      dsimp only
      rw [pay11_at, h2, Finset.sum_range_succ, ← add_assoc]
      simp only [trip_p i v4 v6 v8 x0 x5 x6 D, ldO_at]
    · refine (congrFun (congrArg (fun p => p.2.2) e') _).trans ?_
      dsimp only
      rw [pay2_at, h3, Finset.sum_range_succ, ← add_assoc, sub_eq_add_neg]
      simp only [trip_g]

/-- The head's row gradients before trip `n`. -/
theorem lst_dq (n : ℕ) (hn : n ≤ (k0_t2_loop i).trips) (r : Fin 4096) (d : Fin 64) :
    M.arg9.view.read (Elt Ideal) (M.arg9.view.writes (Elt Ideal) g9 (lst M c i v4 v6 v8 v69 x0 x5 x6 D g9 g12 init n).2.1)
        (ix3 0 r d)
      = if 512 * ((i 1).val + 1) ≤ r.val ∧ r.val < 512 * ((i 1).val + 1 + n) then
          M.arg9.view.read (Elt Ideal) g9 (ix3 0 r d) + ∑ cc : Fin 512, (blkOf x0 v4 v6 v8 x5 x6 D).g r cc * v4 (ix2 cc d)
        else M.arg9.view.read (Elt Ideal) g9 (ix3 0 r d) := by
  induction n with
  | zero => exact (if_neg (by omega)).symm
  | succ n ih =>
    have e := lst_succ M c i v4 v6 v8 v69 x0 x5 x6 D ⟨n, hn⟩ g9 g12 init
    rw [trip_dq] at e
    have e' := congrArg (fun p => p.2.1) e
    dsimp only at e'
    rw [show lst M c i v4 v6 v8 v69 x0 x5 x6 D g9 g12 init (n + 1) = lst M c i v4 v6 v8 v69 x0 x5 x6 D g9 g12 init
      (Fin.val ⟨n, hn⟩ + 1) from rfl, e']
    rw [List.singleton_append]
    by_cases hr : 512 * ((i 1).val + 1 + n) ≤ r.val ∧ r.val < 512 * ((i 1).val + 1 + n) + 512
    · rw [if_pos (by omega)]
      have hx : rowOf (tripBlk i ⟨n, hn⟩) ⟨r.val - 512 * ((i 1).val + 1 + n), by omega⟩ = r := by
        refine Fin.ext ?_
        rw [rowOf_val (tripBlk_lt i _)]
        unfold tripBlk
        dsimp only
        omega
      rw [View.read_writes_cons_unit_of_mem (x := ix3 0 ⟨r.val - 512 * ((i 1).val + 1 + n), by omega⟩ d)
        (heq := k0_off6_eq i ⟨n, hn⟩) (hx := ?_)]
      · rw [pay15_at, ldO_at, hx, ih (Nat.le_of_succ_le hn), if_neg (by omega)]
        simp only [trip_g, hx]
      · intro a
        fin_cases a
        · rfl
        · change r.val = 512 * (i 1).val + 512 * n + 512 + (r.val - 512 * ((i 1).val + 1 + n))
          omega
        · exact (Nat.zero_add _).symm
    · rw [View.read_writes_cons_unit_of_not_mem (heq := k0_off6_eq i ⟨n, hn⟩) (a := 1) (ha := ?_), ih (Nat.le_of_succ_le hn)]
      · by_cases h : 512 * ((i 1).val + 1) ≤ r.val ∧ r.val < 512 * ((i 1).val + 1 + n)
        · rw [if_pos h, if_pos (by omega)]
        · rw [if_neg h, if_neg (by omega)]
      · change r.val < 512 * (i 1).val + 512 * n + 512 ∨ 512 * (i 1).val + 512 * n + 512 + 512 ≤ r.val
        omega

theorem lst_dcq (n : ℕ) (hn : n ≤ (k0_t2_loop i).trips) (r : Fin 4096) :
    M.arg12.view.read (Elt Ideal) (M.arg12.view.writes (Elt Ideal) g12 (lst M c i v4 v6 v8 v69 x0 x5 x6 D g9 g12 init n).2.2)
        (ix3 0 r 0)
      = if 512 * ((i 1).val + 1) ≤ r.val ∧ r.val < 512 * ((i 1).val + 1 + n) then
          M.arg12.view.read (Elt Ideal) g12 (ix3 0 r 0) + ∑ cc : Fin 512, (blkOf x0 v4 v6 v8 x5 x6 D).g r cc
        else M.arg12.view.read (Elt Ideal) g12 (ix3 0 r 0) := by
  induction n with
  | zero => exact (if_neg (by omega)).symm
  | succ n ih =>
    have e := lst_succ M c i v4 v6 v8 v69 x0 x5 x6 D ⟨n, hn⟩ g9 g12 init
    rw [trip_dcq] at e
    have e' := congrArg (fun p => p.2.2) e
    dsimp only at e'
    rw [show lst M c i v4 v6 v8 v69 x0 x5 x6 D g9 g12 init (n + 1) = lst M c i v4 v6 v8 v69 x0 x5 x6 D g9 g12 init
      (Fin.val ⟨n, hn⟩ + 1) from rfl, e']
    rw [List.singleton_append]
    by_cases hr : 512 * ((i 1).val + 1 + n) ≤ r.val ∧ r.val < 512 * ((i 1).val + 1 + n) + 512
    · rw [if_pos (by omega)]
      have hx : rowOf (tripBlk i ⟨n, hn⟩) ⟨r.val - 512 * ((i 1).val + 1 + n), by omega⟩ = r := by
        refine Fin.ext ?_
        rw [rowOf_val (tripBlk_lt i _)]
        unfold tripBlk
        dsimp only
        omega
      rw [View.read_writes_cons_unit_of_mem (x := ix3 0 ⟨r.val - 512 * ((i 1).val + 1 + n), by omega⟩ 0)
        (heq := k0_off7_eq i ⟨n, hn⟩) (hx := ?_)]
      · rw [pay1_at, ldL_at, hx, ih (Nat.le_of_succ_le hn), if_neg (by omega)]
        simp only [trip_g, hx]
      · intro a
        fin_cases a
        · rfl
        · change r.val = 512 * (i 1).val + 512 * n + 512 + (r.val - 512 * ((i 1).val + 1 + n))
          omega
        · rfl
    · rw [View.read_writes_cons_unit_of_not_mem (heq := k0_off7_eq i ⟨n, hn⟩) (a := 1) (ha := ?_), ih (Nat.le_of_succ_le hn)]
      · by_cases h : 512 * ((i 1).val + 1) ≤ r.val ∧ r.val < 512 * ((i 1).val + 1 + n)
        · rw [if_pos h, if_pos (by omega)]
        · rw [if_neg h, if_neg (by omega)]
      · change r.val < 512 * (i 1).val + 512 * n + 512 ∨ 512 * (i 1).val + 512 * n + 512 + 512 ≤ r.val
        omega

end Cert.KernelIdeal.Fox

end
-- ==== Proof.Diag.lean ====
module

public import proofs.«01_k».proof.Proof.Trip
public import Idealize.ShloMosaic.Lib.WordCmp

@[expose] public section

set_option maxRecDepth 16384

noncomputable section

/-! The diagonal block and the whole step of one point, over the extended reals. -/

namespace Cert.KernelIdeal.Fox

open Cert.KernelIdeal.Gen
open Idealize.ShloMosaic Idealize.ShloMosaic.TcCoe Idealize.ShloMosaic.Tactic
open Idealize.SL.Sem

theorem mask_val : (Named.named (F := Ideal) (φ := .f32) κ "mask" 0xF149F2CA#32) = (⊥ : EReal) :=
  IdealRules.named_const.ideal_named_scalar _ _ _ _ rfl

theorem pay35_at (v3 : Vec Ideal S1x512x64 .bf16) (v7 : Vec Ideal S1x1x512 .f32) (v15 : Vec Ideal S1x512x64 .bf16)
    (v30 : Vec Ideal S1x512x1 .f32) (r c : Fin 512) : k0_pay35 v3 v7 v15 v30 (ix2 r c)
    = (if c.val ≤ r.val then (∑ d : Fin 64, v15 (ix3 0 r d) * v3 (ix3 0 c d)) - v7 (ix3 0 0 c) else ⊥)
        - v30 (ix3 0 r 0) := by
  pointwise [k0_pay35, k0_pay33, k0_pay27, k0_pay29, mask_val]
  have hr := r.isLt
  have hc := c.isLt
  have e : IntOp.cmpi CmpIPredicate.sge (BitVec.ofNat 32 r.val) (BitVec.ofNat 32 c.val) = 1#1 ↔ c.val ≤ r.val := by
    word_cmp
  unfold Scalar.select
  by_cases h : c.val ≤ r.val
  · simp only [h, e.mpr h, if_true, BitVec.ofNat_eq_ofNat]
  · have h1 := mt e.mp h
    simp only [h, h1, if_false, BitVec.ofNat_eq_ofNat]

section

variable (v4 v6 v16 v20 : FVec Ideal S512x64 .bf16) (v33 : FVec Ideal S512x512 .f32) (v40 : Vec Ideal S512x1 .f32)

theorem pay36_at (r c : Fin 512) : k0_pay36 v33 (ix2 r c) = Ideal.exp (v33 (ix2 r c)) := by
  pointwise [k0_pay36]

theorem pay38_at (r c : Fin 512) : k0_pay38 v6 v20 v33 v40 (ix2 r c)
    = k0_pay36 v33 (ix2 r c) * ((∑ d : Fin 64, v20 (ix2 r d) * v6 (ix2 c d)) - v40 (ix2 r 0)) := by
  pointwise [k0_pay38]

theorem pay37_at (a : FVec Ideal S512x64 .f32) (c : Fin 512) (d : Fin 64) : k0_pay37 a v20 v33 (ix2 c d)
    = a (ix2 c d) + ∑ r : Fin 512, k0_pay36 v33 (ix2 r c) * v20 (ix2 r d) := by
  pointwise [k0_pay37]

theorem pay40_at (a : FVec Ideal S512x64 .f32) (c : Fin 512) (d : Fin 64) : k0_pay40 v6 a v16 v20 v33 v40 (ix2 c d)
    = a (ix2 c d) + ∑ r : Fin 512, k0_pay38 v6 v20 v33 v40 (ix2 r c) * v16 (ix2 r d) := by
  pointwise [k0_pay40, k0_pay39]

theorem pay41_at (a : Vec Ideal S1x512x64 .f32) (r : Fin 512) (d : Fin 64) :
    k0_pay41 v4 v6 v20 v33 v40 a (ix3 0 r d)
      = a (ix3 0 r d) + ∑ c : Fin 512, k0_pay38 v6 v20 v33 v40 (ix2 r c) * v4 (ix2 c d) := by
  pointwise [k0_pay41, k0_pay39]

theorem pay42_at (a : Vec Ideal S1x512x1 .f32) (r : Fin 512) : k0_pay42 v6 v20 v33 v40 a (ix3 0 r 0)
    = a (ix3 0 r 0) + ∑ c : Fin 512, k0_pay38 v6 v20 v33 v40 (ix2 r c) := by
  pointwise [k0_pay42]

theorem pay43_at (a : FVec Ideal S1x512 .f32) (c : Fin 512) : k0_pay43 v6 a v20 v33 v40 (ix2 0 c)
    = a (ix2 0 c) - ∑ r : Fin 512, k0_pay38 v6 v20 v33 v40 (ix2 r c) := by
  pointwise [k0_pay43]

end

theorem pay30_at (j : S512x64.Idx) : k0_pay30 (F := Ideal) j = 0 := by pointwise [k0_pay30]
theorem pay31_at (j : S512x64.Idx) : k0_pay31 (F := Ideal) j = 0 := by pointwise [k0_pay31]
theorem pay32_at (j : S1x512.Idx) : k0_pay32 (F := Ideal) j = 0 := by pointwise [k0_pay32]
theorem pay24_at (j : S1x4096x64.Idx) : k0_pay24 (F := Ideal) j = 0 := by pointwise [k0_pay24]
theorem pay25_at (j : S1x4096x1.Idx) : k0_pay25 (F := Ideal) j = 0 := by pointwise [k0_pay25]
theorem pay26_at (a b : Vec Ideal S1x512x64 .f32) (r : Fin 512) :
    k0_pay26 a b (ix2 r 0) = ∑ d : Fin 64, a (ix3 0 r d) * b (ix3 0 r d) := by pointwise [k0_pay26]
theorem pay5_at (a : FVec Ideal S512x64 .f32) (c : Fin 512) (d : Fin 64) : k0_pay5 a (ix3 0 c d) = a (ix2 c d) := by
  pointwise [k0_pay5]
theorem pay6_at (a : FVec Ideal S512x64 .f32) (c : Fin 512) (d : Fin 64) : k0_pay6 a (ix3 0 c d) = a (ix2 c d) := by
  pointwise [k0_pay6]
theorem pay7_at (a : FVec Ideal S1x512 .f32) (c : Fin 512) : k0_pay7 a (ix3 0 0 c) = a (ix2 0 c) := by
  pointwise [k0_pay7]
theorem pay27_at (a : Vec Ideal S1x512x64 .bf16) (c : Fin 512) (d : Fin 64) : k0_pay27 a (ix2 c d) = a (ix3 0 c d) := by
  pointwise [k0_pay27]
theorem pay28_at (a : Vec Ideal S1x512x64 .bf16) (c : Fin 512) (d : Fin 64) : k0_pay28 a (ix2 c d) = a (ix3 0 c d) := by
  pointwise [k0_pay28]
theorem pay29_at (a : Vec Ideal S1x1x512 .f32) (c : Fin 512) : k0_pay29 a (ix2 0 c) = a (ix3 0 0 c) := by
  pointwise [k0_pay29]
theorem pay33_at (a : Vec Ideal S1x512x64 .bf16) (c : Fin 512) (d : Fin 64) : k0_pay33 a (ix2 c d) = a (ix3 0 c d) := by
  pointwise [k0_pay33]
theorem pay34_at (a : Vec Ideal S1x512x64 .f32) (c : Fin 512) (d : Fin 64) : k0_pay34 a (ix2 c d) = a (ix3 0 c d) := by
  pointwise [k0_pay34]

/-- The blocks of the diagonal. -/
def dgQ (i : grid0.Coords) (x : Vec Ideal S1x4096x64 .bf16) : Vec Ideal S1x512x64 .bf16 :=
  View.ld x (Rect.unit (s := S1x4096x64) (k0_off3 i) S1x512x64.size (k0_off3_inb i))
def dgO (i : grid0.Coords) (x : Vec Ideal S1x4096x64 .f32) : Vec Ideal S1x512x64 .f32 :=
  View.ld x (Rect.unit (s := S1x4096x64) (k0_off3 i) S1x512x64.size (k0_off3_inb i))
def dgL (i : grid0.Coords) (x : Vec Ideal S1x4096x1 .f32) : Vec Ideal S1x512x1 .f32 :=
  View.ld x (Rect.unit (s := S1x4096x1) (k0_off4 i) S1x512x1.size (k0_off4_inb i))
def dgD (i : grid0.Coords) (x : Vec Ideal S4096x1 .f32) : Vec Ideal S512x1 .f32 :=
  View.ld x (Rect.unit (s := S4096x1) (k0_off5 i) S512x1.size (k0_off5_inb i))

theorem row3 (i : grid0.Coords) (r : Fin 512) (h : k0_off3 i 1 + r.val < 4096) :
    (⟨k0_off3 i 1 + r.val, h⟩ : Fin 4096) = rowOf (i 1).val r := by
  refine Fin.ext ?_
  rw [rowOf_val (i 1).isLt]
  have := congrFun (k0_off3_eq i) 1
  change k0_off3 i 1 = 512 * (i 1).val at this
  change k0_off3 i 1 + r.val = _
  omega

theorem dgQ_at (i : grid0.Coords) (x : Vec Ideal S1x4096x64 .bf16) (r : Fin 512) (d : Fin 64) :
    dgQ i x (ix3 0 r d) = x (ix3 0 (rowOf (i 1).val r) d) := by
  unfold dgQ
  pointwise
  rw [row3]
  exact congrArg x (congrArg₂ (fun a b => ix3 a _ b) (Fin.ext rfl) (Fin.ext (Nat.zero_add _)))

theorem dgO_at (i : grid0.Coords) (x : Vec Ideal S1x4096x64 .f32) (r : Fin 512) (d : Fin 64) :
    dgO i x (ix3 0 r d) = x (ix3 0 (rowOf (i 1).val r) d) := by
  unfold dgO
  pointwise
  rw [row3]
  exact congrArg x (congrArg₂ (fun a b => ix3 a _ b) (Fin.ext rfl) (Fin.ext (Nat.zero_add _)))

theorem dgL_at (i : grid0.Coords) (x : Vec Ideal S1x4096x1 .f32) (r : Fin 512) :
    dgL i x (ix3 0 r 0) = x (ix3 0 (rowOf (i 1).val r) 0) := by
  unfold dgL
  pointwise
  exact congrArg x (congrArg₂ (fun a b => ix3 a b 0) (Fin.ext rfl) (row3 i r _))

theorem dgD_at (i : grid0.Coords) (x : Vec Ideal S4096x1 .f32) (r : Fin 512) :
    dgD i x (ix2 r 0) = x (ix2 (rowOf (i 1).val r) 0) := by
  unfold dgD
  pointwise
  exact congrArg x (congrArg (fun a => ix2 a 0) (row3 i r _))

/-- A point's operands, its blocks as the windows hold them. -/
def ptBlk (x0 : Vec Ideal S1x4096x64 .bf16) (x1 x2 : Vec Ideal S1x512x64 .bf16) (x3 : Vec Ideal S1x1x512 .f32)
    (x5 : Vec Ideal S1x4096x1 .f32) (x6 : Vec Ideal S1x4096x64 .f32) (D : Vec Ideal S4096x1 .f32) : Blk where
  q r d := x0 (ix3 0 r d)
  k c d := x1 (ix3 0 c d)
  v c d := x2 (ix3 0 c d)
  cum c := x3 (ix3 0 0 c)
  lse r := x5 (ix3 0 r 0)
  dout r d := x6 (ix3 0 r d)
  delta r := D (ix2 r 0)

theorem blkOf_pays (x0 : Vec Ideal S1x4096x64 .bf16) (x1 x2 : Vec Ideal S1x512x64 .bf16) (x3 : Vec Ideal S1x1x512 .f32)
    (x5 : Vec Ideal S1x4096x1 .f32) (x6 : Vec Ideal S1x4096x64 .f32) (D : Vec Ideal S4096x1 .f32) :
    blkOf x0 (k0_pay27 x1) (k0_pay28 x2) (k0_pay29 x3) x5 x6 D = ptBlk x0 x1 x2 x3 x5 x6 D := by
  unfold blkOf ptBlk
  simp only [pay27_at, pay28_at, pay29_at]

section

variable (i : grid0.Coords) (x0 : Vec Ideal S1x4096x64 .bf16) (x1 x2 : Vec Ideal S1x512x64 .bf16)
  (x3 : Vec Ideal S1x1x512 .f32) (x5 : Vec Ideal S1x4096x1 .f32) (x6 : Vec Ideal S1x4096x64 .f32)
  (D : Vec Ideal S4096x1 .f32)

/-- The scores of the diagonal block, less the rows' log-sums. -/
abbrev dgS : FVec Ideal S512x512 .f32 := k0_pay35 x1 x3 (dgQ i x0) (dgL i x5)

theorem diag_p (r c : Fin 512) : k0_pay36 (dgS i x0 x1 x3 x5) (ix2 r c)
    = (ptBlk x0 x1 x2 x3 x5 x6 D).pm (i 1).val (rowOf (i 1).val r) c := by
  rw [pay36_at, dgS, pay35_at]
  unfold Blk.pm Blk.p
  rw [rowOf_val (i 1).isLt]
  simp only [dgQ_at, dgL_at]
  by_cases h : c.val ≤ r.val
  · rw [if_pos h, if_pos (by omega)]
    rfl
  · rw [if_neg h, if_neg (by omega), EReal.bot_sub]
    rfl

theorem diag_g (r c : Fin 512) :
    k0_pay38 (k0_pay28 x2) (k0_pay34 (dgO i x6)) (dgS i x0 x1 x3 x5) (dgD i D) (ix2 r c)
      = (ptBlk x0 x1 x2 x3 x5 x6 D).gm (i 1).val (rowOf (i 1).val r) c := by
  rw [pay38_at, diag_p i x0 x1 x2 x3 x5 x6 D]
  simp only [pay34_at, pay28_at, dgO_at, dgD_at]
  unfold Blk.gm Blk.pm Blk.g
  by_cases h : 512 * (i 1).val + c.val ≤ (rowOf (i 1).val r).val
  · rw [if_pos h, if_pos h]
    rfl
  · rw [if_neg h, if_neg h, zero_mul]

end

end Cert.KernelIdeal.Fox

end
-- ==== Proof.Step.lean ====
module

public import proofs.«01_k».proof.Proof.Diag

@[expose] public section

set_option maxRecDepth 16384

noncomputable section

/-! What a point leaves in each output, over the extended reals. -/

namespace Cert.KernelIdeal.Fox

open Cert.KernelIdeal.Gen
open Idealize.ShloMosaic Idealize.ShloMosaic.TcCoe Idealize.ShloMosaic.Tactic
open Idealize.SL.Sem

/-- The five results of a point at block `b`, and the sums `do · o`. -/
def outDq (X : Blk) (b : ℕ) (y : Vec Ideal S1x4096x64 .f32) : Vec Ideal S1x4096x64 .f32 :=
  fun j => y j + ∑ c : Fin 512, X.gm b (j 1) c * X.k c (j 2)
def outDk (X : Blk) (b : ℕ) : Vec Ideal S1x512x64 .f32 := fun j => ∑ r : Fin 4096, X.gm b r (j 1) * X.q r (j 2)
def outDv (X : Blk) (b : ℕ) : Vec Ideal S1x512x64 .f32 := fun j => ∑ r : Fin 4096, X.pm b r (j 1) * X.dout r (j 2)
def outDcq (X : Blk) (b : ℕ) (y : Vec Ideal S1x4096x1 .f32) : Vec Ideal S1x4096x1 .f32 :=
  fun j => y j + ∑ c : Fin 512, X.gm b (j 1) c
def outDck (X : Blk) (b : ℕ) : Vec Ideal S1x1x512 .f32 :=
  fun j => ∑ a ∈ Finset.range 8, -∑ r : Fin 512, X.gm b (rowOf a r) (j 2)
def outDelta (x4 x6 : Vec Ideal S1x4096x64 .f32) : Vec Ideal S4096x1 .f32 :=
  fun j => ∑ d : Fin 64, x6 (ix3 0 (j 0) d) * x4 (ix3 0 (j 0) d)

/-- A sum over the blocks that vanishes before block `b`: its own block and those below. -/
theorem sum_from (f : ℕ → EReal) (b : ℕ) (hb : b < 8) (h0 : ∀ a < b, f a = 0) :
    f b + ∑ a ∈ Finset.range (7 - b), f (b + a + 1) = ∑ a ∈ Finset.range 8, f a := by
  rw [show 8 = b + (1 + (7 - b)) by omega, Finset.sum_range_add, Finset.sum_range_add,
    Finset.sum_eq_zero (fun a ha => h0 a (Finset.mem_range.mp ha)), zero_add, Finset.sum_range_one, add_zero]
  refine congrArg _ (Finset.sum_congr (by congr 1) fun a _ => congrArg f (by omega))

/-- Below the diagonal block the mask is all true, above it all false. -/
theorem gm_below (X : Blk) (b a : ℕ) (ha : b + a + 1 < 8) (r c : Fin 512) :
    X.gm b (rowOf (b + a + 1) r) c = X.g (rowOf (b + a + 1) r) c :=
  if_pos (by have := c.isLt; rw [rowOf_val ha]; omega)
theorem pm_below (X : Blk) (b a : ℕ) (ha : b + a + 1 < 8) (r c : Fin 512) :
    X.pm b (rowOf (b + a + 1) r) c = X.p (rowOf (b + a + 1) r) c :=
  if_pos (by have := c.isLt; rw [rowOf_val ha]; omega)
theorem gm_above (X : Blk) (b a : ℕ) (hb : b < 8) (ha : a < b) (r c : Fin 512) : X.gm b (rowOf a r) c = 0 :=
  if_neg (by have := r.isLt; rw [rowOf_val (by omega)]; omega)
theorem pm_above (X : Blk) (b a : ℕ) (hb : b < 8) (ha : a < b) (r c : Fin 512) : X.pm b (rowOf a r) c = 0 :=
  if_neg (by have := r.isLt; rw [rowOf_val (by omega)]; omega)

section

variable (M : Mems) (c : Dev nD) (i : grid0.Coords) (x0 : Vec Ideal S1x4096x64 .bf16) (x1 x2 : Vec Ideal S1x512x64 .bf16)
  (x3 : Vec Ideal S1x1x512 .f32) (x5 : Vec Ideal S1x4096x1 .f32) (x6 : Vec Ideal S1x4096x64 .f32)
  (D : Vec Ideal S4096x1 .f32) (v69 : BitVec 32)
  (g9 : BufTy.Contents (Elt Ideal) M.arg9.view.ty) (g12 : BufTy.Contents (Elt Ideal) M.arg12.view.ty)

/-- What the diagonal block hands to the loop. -/
abbrev dgInit : FVec Ideal S512x64 .f32 × FVec Ideal S512x64 .f32 × FVec Ideal S1x512 .f32 :=
  (k0_pay40 (k0_pay28 x2) k0_pay30 (k0_pay33 (dgQ i x0)) (k0_pay34 (dgO i x6)) (dgS i x0 x1 x3 x5) (dgD i D),
   k0_pay37 k0_pay31 (k0_pay34 (dgO i x6)) (dgS i x0 x1 x3 x5),
   k0_pay43 (k0_pay28 x2) k0_pay32 (k0_pay34 (dgO i x6)) (dgS i x0 x1 x3 x5) (dgD i D))

/-- The loop's last state. -/
abbrev fin (init : FVec Ideal S512x64 .f32 × FVec Ideal S512x64 .f32 × FVec Ideal S1x512 .f32) :=
  lst M c i (k0_pay27 x1) (k0_pay28 x2) (k0_pay29 x3) v69 x0 x5 x6 D g9 g12 init (k0_t2_loop i).trips

theorem carry_dk : ∀ cc d, (fin M c i x0 x1 x2 x3 x5 x6 D v69 g9 g12 (dgInit i x0 x1 x2 x3 x5 x6 D)).1.1 (ix2 cc d)
    = ∑ r : Fin 4096, (ptBlk x0 x1 x2 x3 x5 x6 D).gm (i 1).val r cc * x0 (ix3 0 r d) := fun cc d => by
  have hb : (i 1).val < 8 := (i 1).isLt
  rw [(lst_carry M c i _ _ _ v69 x0 x5 x6 D g9 g12 _ _ le_rfl).1 cc d, blkOf_pays, ← sum_blocks,
    ← sum_from (fun b => ∑ r : Fin 512, (ptBlk x0 x1 x2 x3 x5 x6 D).gm (i 1).val (rowOf b r) cc * x0 (ix3 0 (rowOf b r) d))
      _ hb (fun a ha => Finset.sum_eq_zero fun r _ => by rw [gm_above _ _ _ hb ha, zero_mul])]
  congr 1
  · dsimp only
    rw [pay40_at, pay30_at, zero_add]
    simp only [diag_g i x0 x1 x2 x3 x5 x6 D, pay33_at, dgQ_at]
  · rw [trips2]
    refine Finset.sum_congr rfl fun a ha => Finset.sum_congr rfl fun r _ => ?_
    rw [gm_below _ _ _ (by have := Finset.mem_range.mp ha; omega)]

theorem carry_dv : ∀ cc d, (fin M c i x0 x1 x2 x3 x5 x6 D v69 g9 g12 (dgInit i x0 x1 x2 x3 x5 x6 D)).1.2.1 (ix2 cc d)
    = ∑ r : Fin 4096, (ptBlk x0 x1 x2 x3 x5 x6 D).pm (i 1).val r cc * x6 (ix3 0 r d) := fun cc d => by
  have hb : (i 1).val < 8 := (i 1).isLt
  rw [(lst_carry M c i _ _ _ v69 x0 x5 x6 D g9 g12 _ _ le_rfl).2.1 cc d, blkOf_pays, ← sum_blocks,
    ← sum_from (fun b => ∑ r : Fin 512, (ptBlk x0 x1 x2 x3 x5 x6 D).pm (i 1).val (rowOf b r) cc * x6 (ix3 0 (rowOf b r) d))
      _ hb (fun a ha => Finset.sum_eq_zero fun r _ => by rw [pm_above _ _ _ hb ha, zero_mul])]
  congr 1
  · dsimp only
    rw [pay37_at, pay31_at, zero_add]
    simp only [diag_p i x0 x1 x2 x3 x5 x6 D, pay34_at, dgO_at]
  · rw [trips2]
    refine Finset.sum_congr rfl fun a ha => Finset.sum_congr rfl fun r _ => ?_
    rw [pm_below _ _ _ (by have := Finset.mem_range.mp ha; omega)]

theorem carry_dck : ∀ cc, (fin M c i x0 x1 x2 x3 x5 x6 D v69 g9 g12 (dgInit i x0 x1 x2 x3 x5 x6 D)).1.2.2 (ix2 0 cc)
    = ∑ a ∈ Finset.range 8, -∑ r : Fin 512, (ptBlk x0 x1 x2 x3 x5 x6 D).gm (i 1).val (rowOf a r) cc := fun cc => by
  have hb : (i 1).val < 8 := (i 1).isLt
  rw [(lst_carry M c i _ _ _ v69 x0 x5 x6 D g9 g12 _ _ le_rfl).2.2 cc, blkOf_pays,
    ← sum_from (fun b => -∑ r : Fin 512, (ptBlk x0 x1 x2 x3 x5 x6 D).gm (i 1).val (rowOf b r) cc)
      _ hb (fun a ha => by rw [Finset.sum_eq_zero fun r _ => gm_above _ _ _ hb ha r cc, neg_zero])]
  congr 1
  · dsimp only
    rw [pay43_at, pay32_at, sub_eq_add_neg, zero_add]
    simp only [diag_g i x0 x1 x2 x3 x5 x6 D]
  · rw [trips2]
    refine Finset.sum_congr rfl fun a ha => congrArg _ (Finset.sum_congr rfl fun r _ => ?_)
    rw [gm_below _ _ _ (by have := Finset.mem_range.mp ha; omega)]

theorem fin_dk : k0_pay5 (fin M c i x0 x1 x2 x3 x5 x6 D v69 g9 g12 (dgInit i x0 x1 x2 x3 x5 x6 D)).1.1
    = outDk (ptBlk x0 x1 x2 x3 x5 x6 D) (i 1).val := by
  funext j
  obtain ⟨a, cc, d, rfl⟩ : ∃ (a : Fin 1) (cc : Fin 512) (d : Fin 64), j = ix3 a cc d := ⟨j 0, j 1, j 2, eq_ix3 j⟩
  obtain rfl : a = 0 := Subsingleton.elim _ _
  rw [pay5_at, carry_dk]
  rfl

theorem fin_dv : k0_pay6 (fin M c i x0 x1 x2 x3 x5 x6 D v69 g9 g12 (dgInit i x0 x1 x2 x3 x5 x6 D)).1.2.1
    = outDv (ptBlk x0 x1 x2 x3 x5 x6 D) (i 1).val := by
  funext j
  obtain ⟨a, cc, d, rfl⟩ : ∃ (a : Fin 1) (cc : Fin 512) (d : Fin 64), j = ix3 a cc d := ⟨j 0, j 1, j 2, eq_ix3 j⟩
  obtain rfl : a = 0 := Subsingleton.elim _ _
  rw [pay6_at, carry_dv]
  rfl

theorem fin_dck : k0_pay7 (fin M c i x0 x1 x2 x3 x5 x6 D v69 g9 g12 (dgInit i x0 x1 x2 x3 x5 x6 D)).1.2.2
    = outDck (ptBlk x0 x1 x2 x3 x5 x6 D) (i 1).val := by
  funext j
  obtain ⟨a, b, cc, rfl⟩ : ∃ (a b : Fin 1) (cc : Fin 512), j = ix3 a b cc := ⟨j 0, j 1, j 2, eq_ix3 j⟩
  obtain rfl : a = 0 := Subsingleton.elim _ _
  obtain rfl : b = 0 := Subsingleton.elim _ _
  rw [pay7_at, carry_dck]
  rfl

/-- The rows' gradients after the point, over what the buffer held before the diagonal block's store. -/
theorem fin_dq (b9 : BufTy.Contents (Elt Ideal) M.arg9.view.ty) (v48 : Vec Ideal S1x512x64 .f32)
    (h48 : v48 = dgO i (M.arg9.view.read (Elt Ideal) b9))
    (init : FVec Ideal S512x64 .f32 × FVec Ideal S512x64 .f32 × FVec Ideal S1x512 .f32)
    (hg : g9 = M.arg9.view.writes (Elt Ideal) b9 [⟨Rect.unit (s := S1x4096x64) (k0_off3 i) S1x512x64.size (k0_off3_inb i),
      k0_pay41 (k0_pay27 x1) (k0_pay28 x2) (k0_pay34 (dgO i x6)) (dgS i x0 x1 x3 x5) (dgD i D) v48⟩]) :
    M.arg9.view.read (Elt Ideal) (M.arg9.view.writes (Elt Ideal) g9 (fin M c i x0 x1 x2 x3 x5 x6 D v69 g9 g12 init).2.1)
      = outDq (ptBlk x0 x1 x2 x3 x5 x6 D) (i 1).val (M.arg9.view.read (Elt Ideal) b9) := by
  have hb : (i 1).val < 8 := (i 1).isLt
  funext j
  obtain ⟨a, r, d, rfl⟩ : ∃ (a : Fin 1) (r : Fin 4096) (d : Fin 64), j = ix3 a r d := ⟨j 0, j 1, j 2, eq_ix3 j⟩
  obtain rfl : a = 0 := Subsingleton.elim _ _
  rw [lst_dq M c i _ _ _ v69 x0 x5 x6 D g9 g12 _ _ le_rfl, blkOf_pays, trips2]
  have hr := r.isLt
  change _ = M.arg9.view.read (Elt Ideal) b9 (ix3 0 r d)
    + ∑ cc : Fin 512, (ptBlk x0 x1 x2 x3 x5 x6 D).gm (i 1).val r cc * x1 (ix3 0 cc d)
  by_cases hlo : 512 * ((i 1).val + 1) ≤ r.val
  · rw [if_pos ⟨hlo, by omega⟩, hg, View.read_writes_cons_unit_of_not_mem (heq := k0_off3_eq i) (a := 1) (ha := ?_)]
    · refine congrArg (_ + ·) (Finset.sum_congr rfl fun cc _ => ?_)
      rw [pay27_at]
      unfold Blk.gm
      rw [if_pos (by have := cc.isLt; omega)]
    · change r.val < 512 * (i 1).val ∨ 512 * (i 1).val + 512 ≤ r.val
      omega
  · rw [if_neg (by omega), hg]
    by_cases hd : 512 * (i 1).val ≤ r.val
    · have hx : rowOf (i 1).val ⟨r.val - 512 * (i 1).val, by omega⟩ = r := by
        refine Fin.ext ?_
        rw [rowOf_val hb]
        dsimp only
        omega
      rw [View.read_writes_cons_unit_of_mem (x := ix3 0 ⟨r.val - 512 * (i 1).val, by omega⟩ d)
        (heq := k0_off3_eq i) (hx := ?_)]
      · rw [pay41_at, h48, dgO_at, hx]
        simp only [diag_g i x0 x1 x2 x3 x5 x6 D, hx, pay27_at]
      · intro a
        fin_cases a
        · rfl
        · change r.val = 512 * (i 1).val + (r.val - 512 * (i 1).val)
          omega
        · exact (Nat.zero_add _).symm
    · rw [View.read_writes_cons_unit_of_not_mem (heq := k0_off3_eq i) (a := 1) (ha := ?_)]
      · rw [Finset.sum_eq_zero fun cc _ => ?_, add_zero]
        · rfl
        · unfold Blk.gm
          rw [if_neg (by omega), zero_mul]
      · change r.val < 512 * (i 1).val ∨ 512 * (i 1).val + 512 ≤ r.val
        omega

theorem fin_dcq (b12 : BufTy.Contents (Elt Ideal) M.arg12.view.ty) (v48 : Vec Ideal S1x512x1 .f32)
    (h48 : v48 = dgL i (M.arg12.view.read (Elt Ideal) b12))
    (init : FVec Ideal S512x64 .f32 × FVec Ideal S512x64 .f32 × FVec Ideal S1x512 .f32)
    (hg : g12 = M.arg12.view.writes (Elt Ideal) b12 [⟨Rect.unit (s := S1x4096x1) (k0_off4 i) S1x512x1.size (k0_off4_inb i),
      k0_pay42 (k0_pay28 x2) (k0_pay34 (dgO i x6)) (dgS i x0 x1 x3 x5) (dgD i D) v48⟩]) :
    M.arg12.view.read (Elt Ideal) (M.arg12.view.writes (Elt Ideal) g12 (fin M c i x0 x1 x2 x3 x5 x6 D v69 g9 g12 init).2.2)
      = outDcq (ptBlk x0 x1 x2 x3 x5 x6 D) (i 1).val (M.arg12.view.read (Elt Ideal) b12) := by
  have hb : (i 1).val < 8 := (i 1).isLt
  funext j
  obtain ⟨a, r, d, rfl⟩ : ∃ (a : Fin 1) (r : Fin 4096) (d : Fin 1), j = ix3 a r d := ⟨j 0, j 1, j 2, eq_ix3 j⟩
  obtain rfl : d = 0 := Subsingleton.elim _ _
  obtain rfl : a = 0 := Subsingleton.elim _ _
  rw [lst_dcq M c i _ _ _ v69 x0 x5 x6 D g9 g12 _ _ le_rfl, blkOf_pays, trips2]
  have hr := r.isLt
  change _ = M.arg12.view.read (Elt Ideal) b12 (ix3 0 r 0)
    + ∑ cc : Fin 512, (ptBlk x0 x1 x2 x3 x5 x6 D).gm (i 1).val r cc
  by_cases hlo : 512 * ((i 1).val + 1) ≤ r.val
  · rw [if_pos ⟨hlo, by omega⟩, hg, View.read_writes_cons_unit_of_not_mem (heq := k0_off4_eq i) (a := 1) (ha := ?_)]
    · refine congrArg (_ + ·) (Finset.sum_congr rfl fun cc _ => ?_)
      unfold Blk.gm
      rw [if_pos (by have := cc.isLt; omega)]
    · change r.val < 512 * (i 1).val ∨ 512 * (i 1).val + 512 ≤ r.val
      omega
  · rw [if_neg (by omega), hg]
    by_cases hd : 512 * (i 1).val ≤ r.val
    · have hx : rowOf (i 1).val ⟨r.val - 512 * (i 1).val, by omega⟩ = r := by
        refine Fin.ext ?_
        rw [rowOf_val hb]
        dsimp only
        omega
      rw [View.read_writes_cons_unit_of_mem (x := ix3 0 ⟨r.val - 512 * (i 1).val, by omega⟩ 0)
        (heq := k0_off4_eq i) (hx := ?_)]
      · rw [pay42_at, h48, dgL_at, hx]
        simp only [diag_g i x0 x1 x2 x3 x5 x6 D, hx]
      · intro a
        fin_cases a
        · rfl
        · change r.val = 512 * (i 1).val + (r.val - 512 * (i 1).val)
          omega
        · rfl
    · rw [View.read_writes_cons_unit_of_not_mem (heq := k0_off4_eq i) (a := 1) (ha := ?_)]
      · rw [Finset.sum_eq_zero fun cc _ => ?_, add_zero]
        · rfl
        · unfold Blk.gm
          rw [if_neg (by omega)]
      · change r.val < 512 * (i 1).val ∨ 512 * (i 1).val + 512 ≤ r.val
        omega

end

end Cert.KernelIdeal.Fox

end
-- ==== Proof.Fill.lean ====
module

public import proofs.«01_k».proof.Proof.Step

@[expose] public section

set_option maxRecDepth 16384

noncomputable section

/-! The loop that fills the rows' sums `do · o` at a head's first point. -/

namespace Cert.KernelIdeal.Fox

open Cert.KernelIdeal.Gen
open Idealize.ShloMosaic Idealize.ShloMosaic.TcCoe Idealize.ShloMosaic.Tactic
open Idealize.SL.Sem

theorem trips1 : k0_t1_loop.trips = 8 := by decide

def flO (i : grid0.Coords) (hc : k0_cond1 i = 1#1) (k : Fin k0_t1_loop.trips) (x : Vec Ideal S1x4096x64 .f32) : Vec Ideal S1x512x64 .f32 :=
  View.ld x (Rect.unit (s := S1x4096x64) (k0_off1 k) S1x512x64.size (k0_off1_inb i k hc))

theorem flO_at (i : grid0.Coords) (hc : k0_cond1 i = 1#1) (k : Fin k0_t1_loop.trips) (x : Vec Ideal S1x4096x64 .f32) (r : Fin 512) (d : Fin 64) :
    flO i hc k x (ix3 0 r d) = x (ix3 0 (rowOf k.val r) d) := by
  have hk : k.val < 8 := lt_of_lt_of_eq k.isLt trips1
  unfold flO
  pointwise
  refine congrArg x ?_
  have e : ∀ h, (⟨k0_off1 k 1 + r.val, h⟩ : Fin 4096) = rowOf k.val r := fun h => by
    refine Fin.ext ?_
    rw [rowOf_val hk]
    have := congrFun (k0_off1_eq k) 1
    change k0_off1 k 1 = 512 * k.val at this
    change k0_off1 k 1 + r.val = _
    omega
  rw [e]
  exact congrArg₂ (fun a b => ix3 a _ b) (Fin.ext rfl) (Fin.ext (Nat.zero_add _))

variable (M : Mems) (c : Dev nD) (i : grid0.Coords) (hc : k0_cond1 i = 1#1) (x4 x6 : Vec Ideal S1x4096x64 .f32)
  (g : BufTy.Contents (Elt Ideal) M.arg14.view.ty)

abbrev fill (n : ℕ) := pb_k0_t1 (F := Ideal) Variants.none c none i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 hc (M.harg6.unread x4) (M.harg8.unread x6) n

theorem fill_trip (k : Fin k0_t1_loop.trips) : tripL_k0_t1 (F := Ideal) Variants.none c none i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 hc (M.harg6.unread x4) (M.harg8.unread x6) k
    = [⟨Rect.unit (s := S4096x1) (k0_off2 k) S512x1.size (k0_off2_inb i k hc), k0_pay26 (flO i hc k x6) (flO i hc k x4)⟩] := by
  unfold tripL_k0_t1 trip_k0_t1
  dsimp only
  sl_unfold_words
  simp only [View.readAt_eq_ld, M.harg6.read_unread, M.harg8.read_unread]
  rfl

theorem fill_read (n : ℕ) (hn : n ≤ k0_t1_loop.trips) (r : Fin 4096) :
    M.arg14.view.read (Elt Ideal) (M.arg14.view.writes (Elt Ideal) g (fill M c i hc x4 x6 n)) (ix2 r 0)
      = if r.val < 512 * n then outDelta x4 x6 (ix2 r 0) else M.arg14.view.read (Elt Ideal) g (ix2 r 0) := by
  induction n with
  | zero => exact (if_neg (by omega)).symm
  | succ n ih =>
    have hk : n < 8 := lt_of_lt_of_eq hn trips1
    have e : fill M c i hc x4 x6 (n + 1) = _ :=
      pb_k0_t1_succ Variants.none c none i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 hc (M.harg6.unread x4) (M.harg8.unread x6) ⟨n, hn⟩
    rw [fill_trip, List.singleton_append] at e
    rw [e]
    by_cases hr : 512 * n ≤ r.val ∧ r.val < 512 * n + 512
    · rw [if_pos (by omega), View.read_writes_cons_unit_of_mem (x := ix2 ⟨r.val - 512 * n, by omega⟩ 0)
        (heq := k0_off2_eq ⟨n, hn⟩) (hx := ?_)]
      · have hx : rowOf n ⟨r.val - 512 * n, by omega⟩ = r := by
          refine Fin.ext ?_
          rw [rowOf_val hk]
          dsimp only
          omega
        rw [pay26_at]
        simp only [flO_at, hx]
        rfl
      · intro a
        fin_cases a
        · change r.val = 512 * n + (r.val - 512 * n)
          omega
        · rfl
    · rw [View.read_writes_cons_unit_of_not_mem (heq := k0_off2_eq ⟨n, hn⟩) (a := 0) (ha := ?_), ih (Nat.le_of_succ_le hn)]
      · by_cases h : r.val < 512 * n
        · rw [if_pos h, if_pos (by omega)]
        · rw [if_neg h, if_neg (by omega)]
      · change r.val < 512 * n ∨ 512 * n + 512 ≤ r.val
        omega

theorem fill_all : M.arg14.view.read (Elt Ideal) (M.arg14.view.writes (Elt Ideal) g (fill M c i hc x4 x6 k0_t1_loop.trips))
    = outDelta x4 x6 := by
  funext j
  obtain ⟨r, a, rfl⟩ : ∃ (r : Fin 4096) (a : Fin 1), j = ix2 r a := ⟨j 0, j 1, eq_ix2 j⟩
  obtain rfl : a = 0 := Subsingleton.elim _ _
  rw [fill_read M c i hc x4 x6 g _ le_rfl, if_pos (by have := r.isLt; rw [trips1]; omega)]

end Cert.KernelIdeal.Fox

end
-- ==== Proof.Ends.lean ====
module

public import proofs.«01_k».proof.Proof.Fill

@[expose] public section

set_option maxRecDepth 16384

noncomputable section

/-! The results of a point, from equations for the values its run names. -/

namespace Cert.KernelIdeal.Fox

open Cert.KernelIdeal.Gen
open Idealize.ShloMosaic Idealize.ShloMosaic.TcCoe Idealize.ShloMosaic.Tactic
open Idealize.SL.Sem

/-- A store of a whole buffer leaves its payload. -/
theorem read_whole3 {sg : RefSig} {κ : Kind} {sp : Space} {d : Fin 3 → ℕ} {e : EltTy} {Val : EltTy → Type}
    (v : View sg κ sp ⟨3, d⟩ e) (f : v.ty.Contents Val) (inb : ∀ a, (![0, 0, 0] : Fin 3 → ℕ) a + d a ≤ d a)
    (w : (⟨3, d⟩ : Shape).Idx → Val e) (L : List (View.Piece Val ⟨3, d⟩ e)) :
    v.read Val (v.writes Val f ((⟨Rect.unit (s := ⟨3, d⟩) ![0, 0, 0] d inb, w⟩ : View.Piece Val ⟨3, d⟩ e) :: L)) = w := by
  funext y
  exact View.read_writes_cons_unit_of_mem v f inb w L y y rfl fun a => by fin_cases a <;> exact (Nat.zero_add _).symm

/-- A load of a whole buffer is its contents. -/
theorem ld_512 {e : EltTy} (x : Vec Ideal S1x512x64 e) (h : ∀ a, (![0, 0, 0] : Fin 3 → ℕ) a + (![1, 512, 64] : Fin 3 → ℕ) a ≤ S1x512x64.size a) :
    View.ld x (Rect.unit (s := S1x512x64) ![0, 0, 0] ![1, 512, 64] h) = x := by
  funext y
  refine congrArg x (funext fun a => Fin.ext ?_)
  fin_cases a <;> (change 0 + 1 * _ = _; omega)

theorem ld_1512 {e : EltTy} (x : Vec Ideal S1x1x512 e) (h : ∀ a, (![0, 0, 0] : Fin 3 → ℕ) a + (![1, 1, 512] : Fin 3 → ℕ) a ≤ S1x1x512.size a) :
    View.ld x (Rect.unit (s := S1x1x512) ![0, 0, 0] ![1, 1, 512] h) = x := by
  funext y
  refine congrArg x (funext fun a => Fin.ext ?_)
  fin_cases a <;> (change 0 + 1 * _ = _; omega)

theorem pay24_eq : k0_pay24 (F := Ideal) = fun _ => 0 := by
  exact funext pay24_at

theorem pay25_eq : k0_pay25 (F := Ideal) = fun _ => 0 := by
  exact funext pay25_at

variable (M : Mems) (c : Dev nD) (i : grid0.Coords) (x0 : Vec Ideal S1x4096x64 .bf16) (x1 x2 : Vec Ideal S1x512x64 .bf16)
  (x3 : Vec Ideal S1x1x512 .f32) (x5 : Vec Ideal S1x4096x1 .f32) (x6 : Vec Ideal S1x4096x64 .f32)
  (D : Vec Ideal S4096x1 .f32) (v69 : BitVec 32)
  (g9 : BufTy.Contents (Elt Ideal) M.arg9.view.ty) (g12 : BufTy.Contents (Elt Ideal) M.arg12.view.ty)
  {v4 v6 : FVec Ideal S512x64 .bf16} {v8 : FVec Ideal S1x512 .f32}
  {X14 : BufTy.Contents (Elt Ideal) M.arg14.view.ty}
  {init : FVec Ideal S512x64 .f32 × FVec Ideal S512x64 .f32 × FVec Ideal S1x512 .f32} {n : ℕ}

/-- The loop's state at raw contents. -/
abbrev raw (v4 v6 : FVec Ideal S512x64 .bf16) (v8 : FVec Ideal S1x512 .f32)
    (X14 : BufTy.Contents (Elt Ideal) M.arg14.view.ty)
    (init : FVec Ideal S512x64 .f32 × FVec Ideal S512x64 .f32 × FVec Ideal S1x512 .f32) (n : ℕ) :=
  st_k0_t2 (F := Ideal) Variants.none c none i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 v4 v6 v8 v69 (M.harg2.unread x0) (M.harg7.unread x5) (M.harg8.unread x6) X14 g9 g12 init n

section
variable (h4 : v4 = k0_pay27 x1) (h6 : v6 = k0_pay28 x2) (h8 : v8 = k0_pay29 x3) (hX : X14 = M.harg14.unread D)
  (hn : n = (k0_t2_loop i).trips) (hi : init = dgInit i x0 x1 x2 x3 x5 x6 D)
include h4 h6 h8 hX hn hi

theorem end_dk : k0_pay5 (raw M c i x0 x5 x6 v69 g9 g12 v4 v6 v8 X14 init n).1.1
    = outDk (ptBlk x0 x1 x2 x3 x5 x6 D) (i 1).val := by
  subst h4 h6 h8 hX hn hi
  exact fin_dk M c i x0 x1 x2 x3 x5 x6 D v69 g9 g12

theorem end_dv : k0_pay6 (raw M c i x0 x5 x6 v69 g9 g12 v4 v6 v8 X14 init n).1.2.1
    = outDv (ptBlk x0 x1 x2 x3 x5 x6 D) (i 1).val := by
  subst h4 h6 h8 hX hn hi
  exact fin_dv M c i x0 x1 x2 x3 x5 x6 D v69 g9 g12

theorem end_dck : k0_pay7 (raw M c i x0 x5 x6 v69 g9 g12 v4 v6 v8 X14 init n).1.2.2
    = outDck (ptBlk x0 x1 x2 x3 x5 x6 D) (i 1).val := by
  subst h4 h6 h8 hX hn hi
  exact fin_dck M c i x0 x1 x2 x3 x5 x6 D v69 g9 g12

end

section
variable {r4 : FVec Ideal S512x64 .bf16} {r5 : FVec Ideal S512x512 .f32} {d5 : Vec Ideal S512x1 .f32}
  (h4 : v4 = k0_pay27 x1) (h6 : v6 = k0_pay28 x2) (h8 : v8 = k0_pay29 x3) (hX : X14 = M.harg14.unread D)
  (hn : n = (k0_t2_loop i).trips)
  (hr4 : r4 = k0_pay34 (dgO i x6)) (hr5 : r5 = dgS i x0 x1 x3 x5) (hd5 : d5 = dgD i D)
include h4 h6 h8 hX hn hr4 hr5 hd5

theorem end_dq (f9 : BufTy.Contents (Elt Ideal) M.arg9.view.ty) (L : List (View.Piece (Elt Ideal) S1x4096x64 .f32))
    {v48 : Vec Ideal S1x512x64 .f32} {y : Vec Ideal S1x4096x64 .f32}
    (hy : M.arg9.view.read (Elt Ideal) (M.arg9.view.writes (Elt Ideal) f9 L) = y) (h48 : v48 = dgO i y) :
    M.arg9.view.read (Elt Ideal) (M.arg9.view.writes (Elt Ideal) f9
      ((raw M c i x0 x5 x6 v69 (M.arg9.view.writes (Elt Ideal) f9
          (⟨Rect.unit (s := S1x4096x64) (k0_off3 i) S1x512x64.size (k0_off3_inb i), k0_pay41 v4 v6 r4 r5 d5 v48⟩ :: L)) g12
          v4 v6 v8 X14 init n).2.1
        ++ ⟨Rect.unit (s := S1x4096x64) (k0_off3 i) S1x512x64.size (k0_off3_inb i), k0_pay41 v4 v6 r4 r5 d5 v48⟩ :: L))
      = outDq (ptBlk x0 x1 x2 x3 x5 x6 D) (i 1).val y := by
  subst h4 h6 h8 hX hn hr4 hr5 hd5 hy
  rw [View.writes_append]
  exact fin_dq M c i x0 x1 x2 x3 x5 x6 D v69 _ g12 (M.arg9.view.writes (Elt Ideal) f9 L) _ h48 init rfl

theorem end_dcq (f12 : BufTy.Contents (Elt Ideal) M.arg12.view.ty) (L : List (View.Piece (Elt Ideal) S1x4096x1 .f32))
    {v48 : Vec Ideal S1x512x1 .f32} {y : Vec Ideal S1x4096x1 .f32}
    (hy : M.arg12.view.read (Elt Ideal) (M.arg12.view.writes (Elt Ideal) f12 L) = y) (h48 : v48 = dgL i y) :
    M.arg12.view.read (Elt Ideal) (M.arg12.view.writes (Elt Ideal) f12
      ((raw M c i x0 x5 x6 v69 g9 (M.arg12.view.writes (Elt Ideal) f12
          (⟨Rect.unit (s := S1x4096x1) (k0_off4 i) S1x512x1.size (k0_off4_inb i), k0_pay42 v6 r4 r5 d5 v48⟩ :: L))
          v4 v6 v8 X14 init n).2.2
        ++ ⟨Rect.unit (s := S1x4096x1) (k0_off4 i) S1x512x1.size (k0_off4_inb i), k0_pay42 v6 r4 r5 d5 v48⟩ :: L))
      = outDcq (ptBlk x0 x1 x2 x3 x5 x6 D) (i 1).val y := by
  subst h4 h6 h8 hX hn hr4 hr5 hd5 hy
  rw [View.writes_append]
  exact fin_dcq M c i x0 x1 x2 x3 x5 x6 D v69 g9 _ (M.arg12.view.writes (Elt Ideal) f12 L) _ h48 init rfl

end

end Cert.KernelIdeal.Fox

end
-- ==== Proof.RunNext.lean ====
module

public import proofs.«01_k».proof.Proof.Runs
public import proofs.«01_k».proof.Proof.Ends

@[expose] public section

set_option maxRecDepth 16384

noncomputable section

/-! A point that does not open a head: what it leaves in every buffer. -/

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (M : Mems) (c : Dev nD) (i : grid0.Coords)
  (x0 : Vec Ideal S1x4096x64 .bf16) (x1 x2 : Vec Ideal S1x512x64 .bf16) (x3 : Vec Ideal S1x1x512 .f32)
  (x4 : Vec Ideal S1x4096x64 .f32) (x5 : Vec Ideal S1x4096x1 .f32) (x6 : Vec Ideal S1x4096x64 .f32)
  (y0 : Vec Ideal S1x4096x64 .f32) (y1 y2 : Vec Ideal S1x512x64 .f32) (y3 : Vec Ideal S1x4096x1 .f32)
  (y4 : Vec Ideal S1x1x512 .f32) (y5 : Vec Ideal S4096x1 .f32)

set_option maxHeartbeats 4000000 in
theorem runNext (hc : ¬Opens i) (E : Set ℕ) (K : PUnit → sProp 𝕄) :
    iprop(owns (c : Thread nD τ) M.arg2 fullShare x0 ∗ owns (c : Thread nD τ) M.arg3 fullShare x1 ∗ owns (c : Thread nD τ) M.arg4 fullShare x2 ∗ owns (c : Thread nD τ) M.arg5 fullShare x3 ∗ owns (c : Thread nD τ) M.arg6 fullShare x4 ∗ owns (c : Thread nD τ) M.arg7 fullShare x5 ∗ owns (c : Thread nD τ) M.arg8 fullShare x6 ∗ owns (c : Thread nD τ) M.arg9 fullShare y0 ∗ owns (c : Thread nD τ) M.arg10 fullShare y1 ∗ owns (c : Thread nD τ) M.arg11 fullShare y2 ∗ owns (c : Thread nD τ) M.arg12 fullShare y3 ∗ owns (c : Thread nD τ) M.arg13 fullShare y4 ∗ owns (c : Thread nD τ) M.arg14 fullShare y5
        ∗ (iprop(owns (c : Thread nD τ) M.arg2 fullShare x0 ∗ owns (c : Thread nD τ) M.arg3 fullShare x1 ∗ owns (c : Thread nD τ) M.arg4 fullShare x2 ∗ owns (c : Thread nD τ) M.arg5 fullShare x3 ∗ owns (c : Thread nD τ) M.arg6 fullShare x4 ∗ owns (c : Thread nD τ) M.arg7 fullShare x5 ∗ owns (c : Thread nD τ) M.arg8 fullShare x6 ∗ owns (c : Thread nD τ) M.arg9 fullShare (outDq (ptBlk x0 x1 x2 x3 x5 x6 y5) (i 1).val y0) ∗ owns (c : Thread nD τ) M.arg10 fullShare (outDk (ptBlk x0 x1 x2 x3 x5 x6 y5) (i 1).val) ∗ owns (c : Thread nD τ) M.arg11 fullShare (outDv (ptBlk x0 x1 x2 x3 x5 x6 y5) (i 1).val) ∗ owns (c : Thread nD τ) M.arg12 fullShare (outDcq (ptBlk x0 x1 x2 x3 x5 x6 y5) (i 1).val y3) ∗ owns (c : Thread nD τ) M.arg13 fullShare (outDck (ptBlk x0 x1 x2 x3 x5 x6 y5) (i 1).val) ∗ owns (c : Thread nD τ) M.arg14 fullShare y5) -∗ K ⟨⟩))
      ⊢ wp frame (wpE (defs₀ (F := Ideal)) Variants.none c none) E (cc0_fox_bwd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14) K := by
  simp only [cc0_fox_bwd_eq_skeleton]; unfold cc0_fox_bwd_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := M.harg2.eq_unread hf0; obtain rfl := M.harg3.eq_unread hf1; obtain rfl := M.harg4.eq_unread hf2; obtain rfl := M.harg5.eq_unread hf3; obtain rfl := M.harg6.eq_unread hf4; obtain rfl := M.harg7.eq_unread hf5; obtain rfl := M.harg8.eq_unread hf6; obtain rfl := M.harg9.eq_unread hf7; obtain rfl := M.harg10.eq_unread hf8; obtain rfl := M.harg11.eq_unread hf9; obtain rfl := M.harg12.eq_unread hf10; obtain rfl := M.harg13.eq_unread hf11; obtain rfl := M.harg14.eq_unread hf12
  sl_exec (disch := first | sl_exact hc)
  sl_step
  iapply Hk
  isplitl [H0]
  · iexists _; isplitr; · ipureintro; exact M.harg2.read_unread _
    iexact H0
  isplitl [H1]
  · iexists _; isplitr; · ipureintro; exact M.harg3.read_unread _
    iexact H1
  isplitl [H2]
  · iexists _; isplitr; · ipureintro; exact M.harg4.read_unread _
    iexact H2
  isplitl [H3]
  · iexists _; isplitr; · ipureintro; exact M.harg5.read_unread _
    iexact H3
  isplitl [H4]
  · iexists _; isplitr; · ipureintro; exact M.harg6.read_unread _
    iexact H4
  isplitl [H5]
  · iexists _; isplitr; · ipureintro; exact M.harg7.read_unread _
    iexact H5
  isplitl [H6]
  · iexists _; isplitr; · ipureintro; exact M.harg8.read_unread _
    iexact H6
  isplitl [H7]
  · iexists _; isplitr; swap; · iexact H7
    ipureintro
    refine end_dq M c i x0 x1 x2 x3 x5 x6 y5 _ _ ?_ ?_ ?_ rfl rfl ?_ ?_ ?_ (M.harg9.unread y0) [] ?_ ?_
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · exact M.harg9.read_unread _
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
  isplitl [H8]
  · iexists _; isplitr; swap; · iexact H8
    ipureintro
    rw [read_whole3]
    refine end_dk M c i x0 x1 x2 x3 x5 x6 y5 _ _ _ ?_ ?_ ?_ rfl rfl ?_
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
  isplitl [H9]
  · iexists _; isplitr; swap; · iexact H9
    ipureintro
    rw [read_whole3]
    refine end_dv M c i x0 x1 x2 x3 x5 x6 y5 _ _ _ ?_ ?_ ?_ rfl rfl ?_
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
  isplitl [H10]
  · iexists _; isplitr; swap; · iexact H10
    ipureintro
    refine end_dcq M c i x0 x1 x2 x3 x5 x6 y5 _ _ ?_ ?_ ?_ rfl rfl ?_ ?_ ?_ (M.harg12.unread y3) [] ?_ ?_
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · exact M.harg12.read_unread _
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
  isplitl [H11]
  · iexists _; isplitr; swap; · iexact H11
    ipureintro
    rw [read_whole3]
    refine end_dck M c i x0 x1 x2 x3 x5 x6 y5 _ _ _ ?_ ?_ ?_ rfl rfl ?_
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
  iexists _; isplitr; swap; · iexact H12
  ipureintro
  exact M.harg14.read_unread _

end Cert.KernelIdeal.Fox

end
-- ==== Proof.RunOpen.lean ====
module

public import proofs.«01_k».proof.Proof.Runs
public import proofs.«01_k».proof.Proof.Ends

@[expose] public section

set_option maxRecDepth 16384

noncomputable section

/-! A point that opens a head: what it leaves in every buffer. -/

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (M : Mems) (c : Dev nD) (i : grid0.Coords)
  (x0 : Vec Ideal S1x4096x64 .bf16) (x1 x2 : Vec Ideal S1x512x64 .bf16) (x3 : Vec Ideal S1x1x512 .f32)
  (x4 : Vec Ideal S1x4096x64 .f32) (x5 : Vec Ideal S1x4096x1 .f32) (x6 : Vec Ideal S1x4096x64 .f32)
  (y0 : Vec Ideal S1x4096x64 .f32) (y1 y2 : Vec Ideal S1x512x64 .f32) (y3 : Vec Ideal S1x4096x1 .f32)
  (y4 : Vec Ideal S1x1x512 .f32) (y5 : Vec Ideal S4096x1 .f32)

/-- The diagonal block's results depend on the rows' sums only through the block's own. -/
theorem dgInit_of (D : Vec Ideal S4096x1 .f32) {z : Vec Ideal S512x1 .f32} (hz : z = dgD i D) :
    (k0_pay40 (k0_pay28 x2) k0_pay30 (k0_pay33 (dgQ i x0)) (k0_pay34 (dgO i x6)) (dgS i x0 x1 x3 x5) z,
      k0_pay37 k0_pay31 (k0_pay34 (dgO i x6)) (dgS i x0 x1 x3 x5),
      k0_pay43 (k0_pay28 x2) k0_pay32 (k0_pay34 (dgO i x6)) (dgS i x0 x1 x3 x5) z) = dgInit i x0 x1 x2 x3 x5 x6 D := by
  subst hz
  rfl

set_option maxHeartbeats 4000000 in
theorem runOpen (hc : Opens i) (E : Set ℕ) (K : PUnit → sProp 𝕄) :
    iprop(owns (c : Thread nD τ) M.arg2 fullShare x0 ∗ owns (c : Thread nD τ) M.arg3 fullShare x1 ∗ owns (c : Thread nD τ) M.arg4 fullShare x2 ∗ owns (c : Thread nD τ) M.arg5 fullShare x3 ∗ owns (c : Thread nD τ) M.arg6 fullShare x4 ∗ owns (c : Thread nD τ) M.arg7 fullShare x5 ∗ owns (c : Thread nD τ) M.arg8 fullShare x6 ∗ owns (c : Thread nD τ) M.arg9 fullShare y0 ∗ owns (c : Thread nD τ) M.arg10 fullShare y1 ∗ owns (c : Thread nD τ) M.arg11 fullShare y2 ∗ owns (c : Thread nD τ) M.arg12 fullShare y3 ∗ owns (c : Thread nD τ) M.arg13 fullShare y4 ∗ owns (c : Thread nD τ) M.arg14 fullShare y5
        ∗ (iprop(owns (c : Thread nD τ) M.arg2 fullShare x0 ∗ owns (c : Thread nD τ) M.arg3 fullShare x1 ∗ owns (c : Thread nD τ) M.arg4 fullShare x2 ∗ owns (c : Thread nD τ) M.arg5 fullShare x3 ∗ owns (c : Thread nD τ) M.arg6 fullShare x4 ∗ owns (c : Thread nD τ) M.arg7 fullShare x5 ∗ owns (c : Thread nD τ) M.arg8 fullShare x6 ∗ owns (c : Thread nD τ) M.arg9 fullShare (outDq (ptBlk x0 x1 x2 x3 x5 x6 (outDelta x4 x6)) (i 1).val (fun _ => 0)) ∗ owns (c : Thread nD τ) M.arg10 fullShare (outDk (ptBlk x0 x1 x2 x3 x5 x6 (outDelta x4 x6)) (i 1).val) ∗ owns (c : Thread nD τ) M.arg11 fullShare (outDv (ptBlk x0 x1 x2 x3 x5 x6 (outDelta x4 x6)) (i 1).val) ∗ owns (c : Thread nD τ) M.arg12 fullShare (outDcq (ptBlk x0 x1 x2 x3 x5 x6 (outDelta x4 x6)) (i 1).val (fun _ => 0)) ∗ owns (c : Thread nD τ) M.arg13 fullShare (outDck (ptBlk x0 x1 x2 x3 x5 x6 (outDelta x4 x6)) (i 1).val) ∗ owns (c : Thread nD τ) M.arg14 fullShare (outDelta x4 x6)) -∗ K ⟨⟩))
      ⊢ wp frame (wpE (defs₀ (F := Ideal)) Variants.none c none) E (cc0_fox_bwd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14) K := by
  simp only [cc0_fox_bwd_eq_skeleton]; unfold cc0_fox_bwd_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := M.harg2.eq_unread hf0; obtain rfl := M.harg3.eq_unread hf1; obtain rfl := M.harg4.eq_unread hf2; obtain rfl := M.harg5.eq_unread hf3; obtain rfl := M.harg6.eq_unread hf4; obtain rfl := M.harg7.eq_unread hf5; obtain rfl := M.harg8.eq_unread hf6; obtain rfl := M.harg9.eq_unread hf7; obtain rfl := M.harg10.eq_unread hf8; obtain rfl := M.harg11.eq_unread hf9; obtain rfl := M.harg12.eq_unread hf10; obtain rfl := M.harg13.eq_unread hf11; obtain rfl := M.harg14.eq_unread hf12
  sl_exec (disch := first | sl_exact hc)
  sl_step
  iapply Hk
  isplitl [H0]
  · iexists _; isplitr; · ipureintro; exact M.harg2.read_unread _
    iexact H0
  isplitl [H1]
  · iexists _; isplitr; · ipureintro; exact M.harg3.read_unread _
    iexact H1
  isplitl [H2]
  · iexists _; isplitr; · ipureintro; exact M.harg4.read_unread _
    iexact H2
  isplitl [H3]
  · iexists _; isplitr; · ipureintro; exact M.harg5.read_unread _
    iexact H3
  isplitl [H4]
  · iexists _; isplitr; · ipureintro; exact M.harg6.read_unread _
    iexact H4
  isplitl [H5]
  · iexists _; isplitr; · ipureintro; exact M.harg7.read_unread _
    iexact H5
  isplitl [H6]
  · iexists _; isplitr; · ipureintro; exact M.harg8.read_unread _
    iexact H6
  isplitl [H7]
  · iexists _; isplitr; swap; · iexact H7
    ipureintro
    refine end_dq M c i x0 x1 x2 x3 x5 x6 (outDelta x4 x6) _ _ ?_ ?_ ?_ (M.harg14.eq_unread (fill_all M c i hc x4 x6 _)) rfl ?_ ?_ ?_ _ _ ?_ ?_
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512]; exact congrArg (dgD i) (fill_all M c i hc x4 x6 (M.harg14.unread y5)))
    · (sl_unfold_words; rw [read_whole3]; exact pay24_eq)
    · (sl_unfold_words; simp only [View.readAt_eq_ld, read_whole3, pay24_eq] <;> rfl)
  isplitl [H8]
  · iexists _; isplitr; swap; · iexact H8
    ipureintro
    rw [read_whole3]
    refine end_dk M c i x0 x1 x2 x3 x5 x6 (outDelta x4 x6) _ _ _ ?_ ?_ ?_ (M.harg14.eq_unread (fill_all M c i hc x4 x6 _)) rfl ?_
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512]; exact dgInit_of i x0 x1 x2 x3 x5 x6 _ (congrArg (dgD i) (fill_all M c i hc x4 x6 (M.harg14.unread y5))))
  isplitl [H9]
  · iexists _; isplitr; swap; · iexact H9
    ipureintro
    rw [read_whole3]
    refine end_dv M c i x0 x1 x2 x3 x5 x6 (outDelta x4 x6) _ _ _ ?_ ?_ ?_ (M.harg14.eq_unread (fill_all M c i hc x4 x6 _)) rfl ?_
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512]; exact dgInit_of i x0 x1 x2 x3 x5 x6 _ (congrArg (dgD i) (fill_all M c i hc x4 x6 (M.harg14.unread y5))))
  isplitl [H10]
  · iexists _; isplitr; swap; · iexact H10
    ipureintro
    refine end_dcq M c i x0 x1 x2 x3 x5 x6 (outDelta x4 x6) _ _ ?_ ?_ ?_ (M.harg14.eq_unread (fill_all M c i hc x4 x6 _)) rfl ?_ ?_ ?_ _ _ ?_ ?_
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512]; exact congrArg (dgD i) (fill_all M c i hc x4 x6 (M.harg14.unread y5)))
    · (sl_unfold_words; rw [read_whole3]; exact pay25_eq)
    · (sl_unfold_words; simp only [View.readAt_eq_ld, read_whole3, pay25_eq] <;> rfl)
  isplitl [H11]
  · iexists _; isplitr; swap; · iexact H11
    ipureintro
    rw [read_whole3]
    refine end_dck M c i x0 x1 x2 x3 x5 x6 (outDelta x4 x6) _ _ _ ?_ ?_ ?_ (M.harg14.eq_unread (fill_all M c i hc x4 x6 _)) rfl ?_
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512] <;> rfl)
    · (sl_unfold_words; simp only [View.readAt_eq_ld, M.harg2.read_unread, M.harg3.read_unread, M.harg4.read_unread, M.harg5.read_unread, M.harg7.read_unread, M.harg8.read_unread, M.harg9.read_unread, M.harg12.read_unread, M.harg14.read_unread, ld_512, ld_1512]; exact dgInit_of i x0 x1 x2 x3 x5 x6 _ (congrArg (dgD i) (fill_all M c i hc x4 x6 (M.harg14.unread y5))))
  iexists _; isplitr; swap; · iexact H12
  ipureintro
  exact fill_all M c i hc x4 x6 _

end Cert.KernelIdeal.Fox

end
-- ==== Proof.Body.lean ====
module

public import proofs.«01_k».proof.Proof.RunNext
public import proofs.«01_k».proof.Proof.RunOpen
public import Idealize.ShloMosaic.Lib.Claim

@[expose] public section

set_option maxRecDepth 16384

noncomputable section

/-! The pipeline's contents point by point, the body's obligation, and the run of the whole program. -/

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

abbrev memsAt (t : Fin cfg0.N) : Mems := ⟨stg0 t, whole0 t, stg1 t, whole1 t, stg2 t, whole2 t, stg3 t, whole3 t, stg4 t, whole4 t, stg5 t, whole5 t, stg6 t, whole6 t, stg7 t, whole7 t, stg8 t, whole8 t, stg9 t, whole9 t, stg10 t, whole10 t, stg11 t, whole11 t, dlt, wholeD⟩

/-- The point's blocks, with the sums `do · o` given. -/
abbrev ptD (c : Dev nD) (t : Fin cfg0.N) (D : Vec Ideal S4096x1 .f32) : Blk :=
  ptBlk (iblk m c 0 t) (iblk m c 1 t) (iblk m c 2 t) (iblk m c 3 t) (iblk m c 5 t) (iblk m c 6 t) D

/-- What the kept buffers hold after a point that opens a head: the rows' two gradients and the sums. -/
def accOpen (c : Dev nD) (t : Fin cfg0.N) : Vec Ideal S1x4096x64 .f32 × Vec Ideal S1x4096x1 .f32 × Vec Ideal S4096x1 .f32 :=
  (outDq (ptD m c t (outDelta (iblk m c 4 t) (iblk m c 6 t))) (grid0.coords t 1).val (fun _ => 0),
   outDcq (ptD m c t (outDelta (iblk m c 4 t) (iblk m c 6 t))) (grid0.coords t 1).val (fun _ => 0),
   outDelta (iblk m c 4 t) (iblk m c 6 t))

/-- The same after a later point of the head, over what the point before left. -/
def accNext (c : Dev nD) (t : Fin cfg0.N) (s : Vec Ideal S1x4096x64 .f32 × Vec Ideal S1x4096x1 .f32 × Vec Ideal S4096x1 .f32) :
    Vec Ideal S1x4096x64 .f32 × Vec Ideal S1x4096x1 .f32 × Vec Ideal S4096x1 .f32 :=
  (outDq (ptD m c t s.2.2) (grid0.coords t 1).val s.1, outDcq (ptD m c t s.2.2) (grid0.coords t 1).val s.2.1, s.2.2)

def accs (c : Dev nD) : (n : ℕ) → n < cfg0.N → Vec Ideal S1x4096x64 .f32 × Vec Ideal S1x4096x1 .f32 × Vec Ideal S4096x1 .f32
  | 0, hn => accOpen m c ⟨0, hn⟩
  | n + 1, hn => if (n + 1) % 8 = 0 then accOpen m c ⟨n + 1, hn⟩ else accNext m c ⟨n + 1, hn⟩ (accs c n (Nat.lt_of_succ_lt hn))

theorem accs_open (c : Dev nD) (t : Fin cfg0.N) (h0 : t.val % 8 = 0) : accs m c t.val t.isLt = accOpen m c t := by
  obtain ⟨n, hn⟩ := t
  cases n with
  | zero => rfl
  | succ n => exact if_pos h0

theorem accs_next (c : Dev nD) (t : Fin cfg0.N) (h0 : ¬t.val % 8 = 0) :
    accs m c t.val t.isLt = accNext m c t (accs m c (t.val - 1) (Nat.lt_of_le_of_lt (Nat.sub_le _ _) t.isLt)) := by
  obtain ⟨n, hn⟩ := t
  cases n with
  | zero => exact absurd (Nat.zero_mod _) h0
  | succ n => exact if_neg h0

/-- The point's blocks with the sums its buffer holds. -/
abbrev ptX (c : Dev nD) (t : Fin cfg0.N) : Blk := ptD m c t (accs m c t.val t.isLt).2.2

/-- Before the first point the sums' buffer holds anything, afterwards what the point before left. -/
def inv (c : Dev nD) : (n : ℕ) → n ≤ cfg0.N → sProp 𝕄
  | 0, _ => Pipeline.ΦA spec0 c
  | n + 1, hn => iprop(iprop(owns (c : Thread nD τ) dlt fullShare (accs m c n hn).2.2) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) dlt fullShare (accs m c n hn).2.2) ∗ (∃ r, prngReg c r)) := rfl

theorem inv_pos (c : Dev nD) (n : ℕ) (h : n ≤ cfg0.N) (hz : n ≠ 0) :
    inv m c n h = iprop(iprop(owns (c : Thread nD τ) dlt fullShare (accs m c (n - 1) (by omega)).2.2) ∗ (∃ r, prngReg c r)) := by
  cases n with
  | zero => exact absurd rfl hz
  | succ n => rfl

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (accs m c t.val t.isLt).1
    | ⟨8, _⟩ => outDk (ptX m c t) (grid0.coords t 1).val
    | ⟨9, _⟩ => outDv (ptX m c t) (grid0.coords t 1).val
    | ⟨10, _⟩ => (accs m c t.val t.isLt).2.1
    | ⟨11, _⟩ => outDck (ptX m c t) (grid0.coords t 1).val
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (accs m c t.val t.isLt).1 := by dsimp only [dats]
theorem after_8 (c : Dev nD) (t : Fin cfg0.N) : (dats m 0 c).after 8 t = outDk (ptX m c t) (grid0.coords t 1).val := by dsimp only [dats]
theorem after_9 (c : Dev nD) (t : Fin cfg0.N) : (dats m 0 c).after 9 t = outDv (ptX m c t) (grid0.coords t 1).val := by dsimp only [dats]
theorem after_10 (c : Dev nD) (t : Fin cfg0.N) : (dats m 0 c).after 10 t = (accs m c t.val t.isLt).2.1 := by dsimp only [dats]
theorem after_11 (c : Dev nD) (t : Fin cfg0.N) : (dats m 0 c).after 11 t = outDck (ptX m c t) (grid0.coords t 1).val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem before_7 (c : Dev nD) (t : Fin cfg0.N) (h0 : ¬t.val % 8 = 0) (d) :
    (dats m 0 c).before 7 t d = (accs m c (t.val - 1) (Nat.lt_of_le_of_lt (Nat.sub_le _ _) t.isLt)).1 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  dsimp only [dats]

theorem before_10 (c : Dev nD) (t : Fin cfg0.N) (h0 : ¬t.val % 8 = 0) (d) :
    (dats m 0 c).before 10 t d = (accs m c (t.val - 1) (Nat.lt_of_le_of_lt (Nat.sub_le _ _) t.isLt)).2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t))

/-- Before any point the sums' buffer is owned at some contents. -/
theorem inv_any (c : Dev nD) (t : Fin cfg0.N) :
    (dats m 0 c).Φ t.castSucc ⊢ iprop(iprop(∃ d, owns (c : Thread nD τ) dlt fullShare d) ∗ (∃ r, prngReg c r)) := by
  rw [inv_castSucc m c t]
  by_cases hz : t.val = 0
  · rw [inv_zero m c _ _ hz, loose_eq]
  · rw [inv_pos m c _ _ hz]
    iintro ⟨HS, Hg⟩
    isplitl [HS]
    · iexists _; iexact HS
    iexact Hg

set_option maxHeartbeats 2400000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1, before_2, before_3, before_4, before_5, before_6]
  rw [show (dats m 0 c).owesAt () t.succ = (dats m 0 c).owesAt () t.castSucc from rfl,
    after_0, after_1, after_2, after_3, after_4, after_5, after_6, after_7, after_8, after_9, after_10, after_11]
  rw [show (dats m 0 c).Φ t.succ = inv m c (t.val + 1) t.isLt from rfl, inv_succ]
  have hN : t.val < 32 := lt_of_lt_of_eq t.isLt (show cfg0.N = 32 from N_0)
  by_cases h0 : t.val % 8 = 0
  · refine (BIClass.sep_mono (inv_any m c t) (Idealize.SL.BI.Entails.refl _)).trans ?_
    unfold ptX; rw [accs_open m c t h0]
    unfold accOpen; dsimp only
    iintro ⟨⟨⟨%e, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runOpen (memsAt t) c (grid0.coords t) (iblk m c 0 t) (iblk m c 1 t) (iblk m c 2 t) (iblk m c 3 t) (iblk m c 4 t) (iblk m c 5 t) (iblk m c 6 t) _ _ _ _ _ _ ((opens_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, H10, H11, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

  · have hz : t.val ≠ 0 := fun h => h0 (by rw [h])
    unfold ptX; rw [inv_castSucc m c t, inv_pos m c _ _ hz, accs_next m c t h0]
    simp only [before_7 m c t h0, before_10 m c t h0]
    unfold accNext; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runNext (memsAt t) c (grid0.coords t) (iblk m c 0 t) (iblk m c 1 t) (iblk m c 2 t) (iblk m c 3 t) (iblk m c 4 t) (iblk m c 5 t) (iblk m c 6 t) _ _ _ _ _ _ (fun h => h0 ((opens_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, H10, H11, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c cfg0.N le_rfl from rfl,
    inv_pos m c _ _ (by have : cfg0.N = 32 := N_0; omega), loose_eq]
  iintro ⟨HS, Hg⟩
  isplitl [HS]
  · iexists _; iexact HS
  iexact Hg

set_option backward.isDefEq.respectTransparency.types false in
set_option maxHeartbeats 800000 in
/-- The run: every array of the pipeline at what the points leave, every other buffer as the lines after the region
    leave it, every counter at zero. -/
theorem run_main : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Fox

end
-- ==== Proof.Softmax.lean ====
module

public import Idealize.ShloMosaic.PureOps.Ideal.Laws
public import Mathlib.Data.EReal.Operations
public import Mathlib.Algebra.BigOperators.Fin
public import Mathlib.Analysis.SpecialFunctions.Log.Basic

@[expose] public section

noncomputable section

/-! The masked softmax of one head over the real numbers, and its gradient, for any shift of the exponent. -/

namespace Cert.Fox

open Idealize.ShloMosaic
open scoped BigOperators

variable {n : ℕ} (a : Fin n → Fin n → ℝ) (t u : Fin n → ℝ) (dp : Fin n → Fin n → ℝ)

/-- The exponentials of row `r` under the causal mask, shifted by `t r`. -/
def E (r c : Fin n) : ℝ := if c.val ≤ r.val then Real.exp (a r c - t r) else 0

/-- Their sum. -/
def Z (r : Fin n) : ℝ := ∑ c, E a t r c

/-- The probabilities. -/
def P (r c : Fin n) : ℝ := E a 0 r c / Z a 0 r

/-- The gradient of the scores. -/
def G (r c : Fin n) : ℝ := P a r c * (dp r c - ∑ c', P a r c' * dp r c')

theorem E_shift (r c : Fin n) : E a t r c = E a 0 r c * Real.exp (-t r) := by
  unfold E
  split
  · simp only [Pi.zero_apply, sub_zero]; rw [← Real.exp_add, sub_eq_add_neg]
  · rw [zero_mul]

theorem Z_shift (r : Fin n) : Z a t r = Z a 0 r * Real.exp (-t r) := by
  unfold Z
  rw [Finset.sum_mul]
  exact Finset.sum_congr rfl fun c _ => E_shift a t r c

theorem E_nonneg (r c : Fin n) : 0 ≤ E a t r c := by
  unfold E
  split
  · exact (Real.exp_pos _).le
  · exact le_refl _

theorem Z_pos (r : Fin n) : 0 < Z a t r := by
  unfold Z
  refine Finset.sum_pos' (fun c _ => E_nonneg a t r c) ⟨r, Finset.mem_univ _, ?_⟩
  unfold E
  rw [if_pos (le_refl _)]
  exact Real.exp_pos _

theorem Z_ne (r : Fin n) : Z a t r ≠ 0 := (Z_pos a t r).ne'

theorem E_div (r c : Fin n) : E a t r c / Z a t r = P a r c := by
  unfold P
  rw [E_shift, Z_shift, mul_div_mul_right _ _ (Real.exp_pos _).ne']

theorem E_eq (r c : Fin n) : E a t r c = P a r c * Z a t r := by
  rw [← E_div a t, div_mul_cancel₀ _ (Z_ne a t r)]

theorem P_mask (r c : Fin n) (h : ¬c.val ≤ r.val) : P a r c = 0 := by
  unfold P E
  rw [if_neg h, zero_div]

theorem G_mask (r c : Fin n) (h : ¬c.val ≤ r.val) : G a dp r c = 0 := by
  unfold G
  rw [P_mask a r c h, zero_mul]

/-- The probability from the row's log-sum. -/
theorem exp_lse (r c : Fin n) (h : c.val ≤ r.val) :
    Real.exp (a r c - (t r + Real.log (Z a t r))) = P a r c := by
  rw [← E_div a t, ← sub_sub, Real.exp_sub, Real.exp_log (Z_pos a t r)]
  unfold E
  rw [if_pos h]

/-- A term that is the same along a row does not change the probabilities. -/
theorem P_row (r c : Fin n) : P (fun r c => a r c + u r) r c = P a r c := by
  have e : ∀ c, E (fun r c => a r c + u r) 0 r c = E a 0 r c * Real.exp (u r) := by
    intro c
    unfold E
    split
    · simp only [Pi.zero_apply, sub_zero]; rw [← Real.exp_add]
    · rw [zero_mul]
  have z : Z (fun r c => a r c + u r) 0 r = Z a 0 r * Real.exp (u r) := by
    unfold Z
    rw [Finset.sum_mul]
    exact Finset.sum_congr rfl fun c _ => e c
  unfold P
  rw [e, z, mul_div_mul_right _ _ (Real.exp_pos _).ne']

theorem G_row (r c : Fin n) : G (fun r c => a r c + u r) dp r c = G a dp r c := by
  unfold G
  simp only [P_row a u]

/-- The score's gradient as the derivative of the quotient gives it. -/
theorem quotient (r c : Fin n) :
    (dp r c / Z a t r + -∑ c', dp r c' * (1 / (Z a t r * Z a t r)) * E a t r c') * E a t r c = G a dp r c := by
  have hz := Z_ne a t r
  have e : ∑ c', dp r c' * (1 / (Z a t r * Z a t r)) * E a t r c' = (∑ c', P a r c' * dp r c') / Z a t r := by
    rw [Finset.sum_div]
    refine Finset.sum_congr rfl fun c' _ => ?_
    rw [E_eq a t]
    field_simp
  rw [e]
  unfold G
  rw [E_eq a t]
  field_simp
  ring

/-! ## The same over the extended reals -/

theorem coe_sum {ι : Type*} (s : Finset ι) (f : ι → ℝ) : ((∑ i ∈ s, f i : ℝ) : EReal) = ∑ i ∈ s, (f i : EReal) := by
  classical
  induction s using Finset.induction_on with
  | empty => rfl
  | insert x s hx ih => rw [Finset.sum_insert hx, Finset.sum_insert hx, EReal.coe_add, ih]

theorem div_real {x y : ℝ} (h : y ≠ 0) : Ideal.div (x : EReal) (y : EReal) = ((x / y : ℝ) : EReal) := by
  rw [Ideal.div_coe h, ← EReal.coe_mul, mul_one_div]

theorem log_real {x : ℝ} (h : 0 < x) : Ideal.log (x : EReal) = ((Real.log x : ℝ) : EReal) := by
  rw [Ideal.log_coe, if_neg (not_le.mpr h)]

/-- The largest of values none of which is `⊤` and one of which is not `⊥` is a real number. -/
theorem fold_max_real {ι : Type*} (s : Finset ι) (f : ι → EReal) (ht : ∀ i ∈ s, f i ≠ ⊤)
    (hb : ∃ i ∈ s, f i ≠ ⊥) : ∃ x : ℝ, s.fold max ⊥ f = (x : EReal) := by
  have h1 : s.fold max ⊥ f < ⊤ :=
    (Finset.fold_max_lt ⊤).mpr ⟨bot_lt_top, fun i hi => lt_top_iff_ne_top.mpr (ht i hi)⟩
  have h2 : ⊥ < s.fold max ⊥ f := by
    obtain ⟨i, hi, h⟩ := hb
    exact (Finset.lt_fold_max ⊥).mpr (Or.inr ⟨i, hi, bot_lt_iff_ne_bot.mpr h⟩)
  exact ⟨_, (EReal.coe_toReal h1.ne h2.ne').symm⟩

/-- The shifted score under the mask, exponentiated. -/
theorem exp_masked (r c : Fin n) :
    Ideal.exp ((if c.val ≤ r.val then (a r c : EReal) else ⊥) - (t r : EReal)) = ((E a t r c : ℝ) : EReal) := by
  unfold E
  split
  · rw [← EReal.coe_sub, Ideal.exp_coe]
  · rw [EReal.bot_sub, Ideal.exp_bot, EReal.coe_zero]

end Cert.Fox

end
-- ==== Proof.RefVal.lean ====
module

public import proofs.«01_k».proof.Proof.Gen.ReferenceIdeal.Read
public import proofs.«01_k».proof.Proof.Softmax
public import Idealize.ShloMosaic.Lib.Pointwise
public import Idealize.ShloMosaic.Lib.WordCmp

@[expose] public section

noncomputable section

/-! The reference's results on arguments that are real numbers. -/

namespace Cert.ReferenceIdeal.Fox

open Cert.ReferenceIdeal Cert.ReferenceIdeal.Gen Cert.ReferenceIdeal.Read Idealize.ShloMosaic Cert.Fox
open scoped BigOperators

/-- The coordinates of an index. -/
def a0 (i : S4x4096x4096.Idx) : Fin 4 := i 0
def a1 (i : S4x4096x4096.Idx) : Fin 4096 := i 1
def a2 (i : S4x4096x4096.Idx) : Fin 4096 := i 2
def b0 (i : S4x4096.Idx) : Fin 4 := i 0
def b1 (i : S4x4096.Idx) : Fin 4096 := i 1
def e0 (i : S4x4096x1.Idx) : Fin 4 := i 0
def e1 (i : S4x4096x1.Idx) : Fin 4096 := i 1
def d0 (i : S4x4096x64.Idx) : Fin 4 := i 0
def d1 (i : S4x4096x64.Idx) : Fin 4096 := i 1
def d2 (i : S4x4096x64.Idx) : Fin 64 := i 2

/-- Real arrays as arrays of the program. -/
def arr3 (f : Fin 4 → Fin 4096 → Fin 64 → ℝ) : (⟨S4x4096x64, .f32⟩ : BufTy).Contents (Elt Ideal) :=
  fun i => ((f (i 0) (i 1) (i 2) : ℝ) : EReal)
def arr2 (f : Fin 4 → Fin 4096 → ℝ) : (⟨S4x4096, .f32⟩ : BufTy).Contents (Elt Ideal) :=
  fun i => ((f (i 0) (i 1) : ℝ) : EReal)

/-- The scale of the scores. -/
def sc : ℝ := 1 / 8

theorem sc_bits : (FloatOps.ofBits (F := Ideal) .f32 0x3E000000#32 : EReal) = ((sc : ℝ) : EReal) := by
  show Ideal.ofBits .f32 0x3E000000#32 = _
  simp [Ideal.ofBits, Ideal.ieee, sc]
  rw [← EReal.coe_mul]
  exact congrArg (fun x : ℝ => (x : EReal)) (by norm_num)

theorem one_bits : (FloatOps.ofBits (F := Ideal) .f32 0x3F800000#32 : EReal) = ((1 : ℝ) : EReal) := by
  show Ideal.ofBits .f32 0x3F800000#32 = _
  simp [Ideal.ofBits, Ideal.ieee]
  rw [← EReal.coe_mul, ← EReal.coe_one]
  exact congrArg (fun x : ℝ => (x : EReal)) (by norm_num)

theorem zero_bits : (FloatOps.ofBits (F := Ideal) .f32 0x00000000#32 : EReal) = 0 := Ideal.ofBits_zero_f32

theorem bot_bits : (FloatOps.ofBits (F := Ideal) .f32 0xFF800000#32 : EReal) = ⊥ := by
  show Ideal.ofBits .f32 0xFF800000#32 = _
  simp [Ideal.ofBits, Ideal.ieee]

variable (q k v dO : Fin 4 → Fin 4096 → Fin 64 → ℝ) (cu : Fin 4 → Fin 4096 → ℝ)

/-- The scores, less the term that is the same along a row. -/
def A (h : Fin 4) (r c : Fin 4096) : ℝ := (∑ d, q h r d * k h c d) * sc - cu h c
/-- The cotangents against the values. -/
def Dp (h : Fin 4) (r c : Fin 4096) : ℝ := ∑ d, dO h r d * v h c d
/-- The scores. -/
def A' (h : Fin 4) (r c : Fin 4096) : ℝ := A q k cu h r c + cu h r

theorem v8_at (i : S4x4096x4096.Idx) :
    (val_main_v8 (F := Ideal) (arr3 q) (arr3 k) (arr2 cu) i : EReal) = ((A' q k cu (a0 i) (a1 i) (a2 i) : ℝ) : EReal) := by
  rw [val_main_v8_apply, val_main_v5_apply, val_main_v2_apply, val_main_v0_apply, val_main_v1_apply, val_main_cst_apply,
    val_main_v4_apply, val_main_v3_apply, val_main_v7_apply, val_main_v6_apply]
  show (∑ d : Fin 64, ((q (a0 i) (a1 i) d : ℝ) : EReal) * ((k (a0 i) (a2 i) d : ℝ) : EReal)) * (FloatOps.ofBits (F := Ideal) .f32 0x3E000000#32 : EReal)
    + ((cu (a0 i) (a1 i) : ℝ) : EReal) - ((cu (a0 i) (a2 i) : ℝ) : EReal) = _
  rw [sc_bits]
  unfold A' A
  simp only [← EReal.coe_mul, ← coe_sum, ← EReal.coe_add, ← EReal.coe_sub]
  congr 1
  ring

theorem mask_at {α : Type} (i : S4x4096x4096.Idx) (x y : α) :
    Scalar.select (val_main_v16_1 (F := Ideal) i) x y = if (a2 i).val ≤ (a1 i).val then x else y := by
  rw [val_main_v16_1_apply, val_main_v15_apply, val_main_v13_apply, val_main_v10_apply, val_main_v9_apply, val_main_v14_apply,
    val_main_v12_apply, val_main_v11_apply]
  have h1 : (a1 i).val < 4096 := (i 1).isLt
  have h2 : (a2 i).val < 4096 := (i 2).isLt
  have e : IntOp.cmpi .sge (BitVec.ofNat 32 (a1 i).val) (BitVec.ofNat 32 (a2 i).val) = 1#1 ↔ (a2 i).val ≤ (a1 i).val := by
    word_cmp
  show Scalar.select (IntOp.cmpi .sge (BitVec.ofNat 32 (a1 i).val) (BitVec.ofNat 32 (a2 i).val)) x y = _
  unfold Scalar.select
  by_cases h : (a2 i).val ≤ (a1 i).val
  · simp only [h, e.mpr h, if_true, BitVec.ofNat_eq_ofNat]
  · have h' := fun hh => h (e.mp hh)
    rw [if_neg h]; exact if_neg h'

theorem v16_at (i : S4x4096x4096.Idx) :
    (val_main_v16_0 (F := Ideal) (arr3 q) (arr3 k) (arr2 cu) i : EReal)
      = if (a2 i).val ≤ (a1 i).val then ((A' q k cu (a0 i) (a1 i) (a2 i) : ℝ) : EReal) else ⊥ := by
  rw [val_main_v16_0_apply, mask_at, v8_at]
  rw [show (val_main_call0_v2 (F := Ideal) i : EReal) = ⊥ from bot_bits]

/-- The row's largest score is a real number. -/
theorem v24_real : ∃ t : Fin 4 → Fin 4096 → ℝ, ∀ i : S4x4096.Idx,
    (val_main_v24 (F := Ideal) (arr3 q) (arr3 k) (arr2 cu) i : EReal) = ((t (b0 i) (b1 i) : ℝ) : EReal) := by
  have key : ∀ i : S4x4096.Idx, ∃ x : ℝ,
      (val_main_v24 (F := Ideal) (arr3 q) (arr3 k) (arr2 cu) i : EReal) = (x : EReal) := by
    intro i
    rw [val_main_v24_apply]
    have e : (val_main_v23 (F := Ideal) i : EReal) = ⊥ := bot_bits
    show ∃ x : ℝ, max (val_main_v23 (F := Ideal) i : EReal) (val_main_v17 (F := Ideal) (arr3 q) (arr3 k) (arr2 cu) i) = (x : EReal)
    rw [e, bot_sup_eq]
    unfold val_main_v17
    rw [Host.reduce_eq_fold]
    have e0 : (val_main_cst_1 (F := Ideal) (Shape.Idx.first h_S_) : EReal) = ⊥ := bot_bits
    rw [e0]
    refine fold_max_real _ _ (fun j _ => ?_) ⟨ix3 (i 0) (i 1) 0, ?_, ?_⟩
    · rw [v16_at]; split
      · exact EReal.coe_ne_top _
      · exact bot_ne_top
    · rw [Finset.mem_filter]
      refine ⟨Finset.mem_univ _, funext fun b => Fin.ext ?_⟩
      match b with
      | ⟨0, _⟩ => exact Shape.ReducesTo.drop_apply_val_of_eq reducesTo_S4x4096x4096_S4x4096_d2 (ix3 (i 0) (i 1) 0) 0 0
      | ⟨1, _⟩ => exact Shape.ReducesTo.drop_apply_val_of_eq reducesTo_S4x4096x4096_S4x4096_d2 (ix3 (i 0) (i 1) 0) 1 1
    · rw [v16_at]
      refine ne_of_eq_of_ne (if_pos ?_) (EReal.coe_ne_bot _)
      exact Nat.zero_le _
  choose t ht using key
  refine ⟨fun h r => t (ix2 h r), fun i => ?_⟩
  rw [ht i]
  exact congrArg (fun j => ((t j : ℝ) : EReal)) (eq_ix2 i)

section
variable {q k cu} {t : Fin 4 → Fin 4096 → ℝ}
  (ht : ∀ i : S4x4096.Idx, (val_main_v24 (F := Ideal) (arr3 q) (arr3 k) (arr2 cu) i : EReal) = ((t (b0 i) (b1 i) : ℝ) : EReal))
include ht

theorem v37_at (i : S4x4096x4096.Idx) :
    (val_main_v37 (F := Ideal) (arr3 q) (arr3 k) (arr2 cu) i : EReal)
      = ((E (A' q k cu (a0 i)) (t (a0 i)) (a1 i) (a2 i) : ℝ) : EReal) := by
  rw [val_main_v37_apply, val_main_v36_apply, v16_at, val_main_v35_apply, val_main_v34_apply, ht]
  exact exp_masked _ _ _ _

theorem v39_at (i : S4x4096x1.Idx) :
    (val_main_v39 (F := Ideal) (arr3 q) (arr3 k) (arr2 cu) i : EReal)
      = ((Z (A' q k cu (e0 i)) (t (e0 i)) (e1 i) : ℝ) : EReal) := by
  rw [val_main_v39_apply, val_main_v38_apply, val_main_cst_9_apply]
  rw [show (FloatOps.ofBits (F := Ideal) .f32 0x00000000#32 : EReal) = 0 from zero_bits, zero_add]
  unfold Z
  rw [coe_sum]
  exact Finset.sum_congr rfl fun c _ => v37_at ht _

theorem v41_at (i : S4x4096x4096.Idx) :
    (val_main_v41 (F := Ideal) (arr3 q) (arr3 k) (arr2 cu) i : EReal)
      = ((P (A q k cu (a0 i)) (a1 i) (a2 i) : ℝ) : EReal) := by
  rw [val_main_v41_apply, v37_at ht, val_main_v40_apply, v39_at ht]
  refine (div_real (Z_ne _ _ _)).trans (congrArg (fun x : ℝ => (x : EReal)) ?_)
  exact (E_div (A' q k cu (a0 i)) (t (a0 i)) (a1 i) (a2 i)).trans (P_row _ (cu (a0 i)) _ _)

theorem v48_at (i : S4x4096x4096.Idx) :
    (val_main_v48 (F := Ideal) (arr3 v) (arr3 dO) i : EReal) = ((Dp v dO (a0 i) (a1 i) (a2 i) : ℝ) : EReal) := by
  rw [val_main_v48_apply]
  unfold Dp
  rw [coe_sum]
  exact Finset.sum_congr rfl fun c _ => (EReal.coe_mul _ _).symm

theorem v44_at (i : S4x4096x1.Idx) :
    (val_main_v44 (F := Ideal) (arr3 q) (arr3 k) (arr2 cu) i : EReal)
      = ((1 / (Z (A' q k cu (e0 i)) (t (e0 i)) (e1 i) * Z (A' q k cu (e0 i)) (t (e0 i)) (e1 i)) : ℝ) : EReal) := by
  rw [val_main_v44_apply, val_main_v43_apply, val_main_cst_10_apply, val_main_v42_apply, v39_at ht]
  rw [show (FloatOps.ofBits (F := Ideal) .f32 0x3F800000#32 : EReal) = ((1 : ℝ) : EReal) from one_bits]
  refine Eq.trans ?_ (div_real (mul_ne_zero (Z_ne _ _ _) (Z_ne _ _ _)))
  exact congrArg (Ideal.div _) (EReal.coe_mul _ _).symm

theorem v52_at (i : S4x4096.Idx) :
    (val_main_v52 (F := Ideal) (arr3 q) (arr3 k) (arr3 v) (arr2 cu) (arr3 dO) i : EReal)
      = ((∑ c, Dp v dO (b0 i) (b1 i) c * (1 / (Z (A' q k cu (b0 i)) (t (b0 i)) (b1 i) * Z (A' q k cu (b0 i)) (t (b0 i)) (b1 i)))
          * E (A' q k cu (b0 i)) (t (b0 i)) (b1 i) c : ℝ) : EReal) := by
  rw [val_main_v52_apply, val_main_cst_11_apply]
  rw [show (FloatOps.ofBits (F := Ideal) .f32 0x00000000#32 : EReal) = 0 from zero_bits, zero_add, coe_sum]
  refine Finset.sum_congr rfl fun c _ => ?_
  rw [val_main_v51_apply, val_main_v50_apply, v48_at v dO ht, val_main_v49_apply, v44_at ht, v37_at ht]
  rw [EReal.coe_mul, EReal.coe_mul]
  rfl

omit ht in
theorem fold53 (i : S4x4096x4096.Idx) :
    idx_main_v53 (idx_main_v57 (idx_main_v58 i) 0) = idx_main_v58 i := funext fun a => Fin.ext (by
  have h1 : (i 1).val < 4096 := (i 1).isLt
  match a with
  | ⟨0, _⟩ => show (((i 0).val * 4096 + (i 1).val) * 1 + 0) / 4096 = (i 0).val; omega
  | ⟨1, _⟩ => show (((i 0).val * 4096 + (i 1).val) * 1 + 0) % 4096 = (i 1).val; omega)

theorem v58_at (i : S4x4096x4096.Idx) :
    (val_main_v58 (F := Ideal) (arr3 q) (arr3 k) (arr3 v) (arr2 cu) (arr3 dO) i : EReal)
      = ((-∑ c, Dp v dO (a0 i) (a1 i) c * (1 / (Z (A' q k cu (a0 i)) (t (a0 i)) (a1 i) * Z (A' q k cu (a0 i)) (t (a0 i)) (a1 i)))
          * E (A' q k cu (a0 i)) (t (a0 i)) (a1 i) c : ℝ) : EReal) := by
  rw [val_main_v58_apply, val_main_v57_apply, val_main_cst_12_apply]
  rw [show (FloatOps.ofBits (F := Ideal) .f32 0x00000000#32 : EReal) = 0 from zero_bits, zero_add, Fin.sum_univ_one]
  rw [val_main_v54_apply, val_main_v53_apply, fold53, v52_at v dO ht, EReal.coe_neg]
  rfl

theorem v61_at (i : S4x4096x4096.Idx) :
    (val_main_v61 (F := Ideal) (arr3 q) (arr3 k) (arr3 v) (arr2 cu) (arr3 dO) i : EReal)
      = ((G (A q k cu (a0 i)) (Dp v dO (a0 i)) (a1 i) (a2 i) : ℝ) : EReal) := by
  rw [val_main_v61_apply, mask_at]
  split
  · rw [val_main_v60_apply, val_main_v59_apply, val_main_v56_apply, v48_at v dO ht, val_main_v55_apply, v39_at ht, v58_at v dO ht,
      v37_at ht]
    refine Eq.trans ?_ (congrArg (fun x : ℝ => (x : EReal)) ((quotient (A' q k cu (a0 i)) (t (a0 i)) (Dp v dO (a0 i)) (a1 i) (a2 i)).trans
      (G_row (A q k cu (a0 i)) (cu (a0 i)) (Dp v dO (a0 i)) (a1 i) (a2 i))))
    show (Ideal.div _ _ + _) * _ = _
    rw [div_real (Z_ne _ _ _), ← EReal.coe_add, ← EReal.coe_mul]
    rfl
  · rw [G_mask _ _ _ _ ‹_›]
    exact zero_bits

end

/-! ## The four results -/

theorem dv_val (i : S4x4096x64.Idx) :
    (val_main_v47 (F := Ideal) (arr3 q) (arr3 k) (arr2 cu) (arr3 dO) i : EReal)
      = ((∑ r, dO (d0 i) r (d2 i) * P (A q k cu (d0 i)) r (d1 i) : ℝ) : EReal) := by
  obtain ⟨t, ht⟩ := v24_real q k cu
  rw [val_main_v47_apply, val_main_v46_apply, coe_sum]
  refine Finset.sum_congr rfl fun r _ => ?_
  rw [v41_at ht, EReal.coe_mul]
  rfl

theorem dk_val (i : S4x4096x64.Idx) :
    (val_main_v72 (F := Ideal) (arr3 q) (arr3 k) (arr3 v) (arr2 cu) (arr3 dO) i : EReal)
      = ((∑ r, (G (A q k cu (d0 i)) (Dp v dO (d0 i)) r (d1 i) * sc) * q (d0 i) r (d2 i) : ℝ) : EReal) := by
  obtain ⟨t, ht⟩ := v24_real q k cu
  rw [val_main_v72_apply, coe_sum]
  refine Finset.sum_congr rfl fun r _ => ?_
  rw [val_main_v71_apply, v61_at v dO ht, val_main_v70_apply, val_main_cst_17_apply]
  rw [show (FloatOps.ofBits (F := Ideal) .f32 0x3E000000#32 : EReal) = ((sc : ℝ) : EReal) from sc_bits, EReal.coe_mul, EReal.coe_mul]
  rfl

theorem dq_val (i : S4x4096x64.Idx) :
    (val_main_v73 (F := Ideal) (arr3 q) (arr3 k) (arr3 v) (arr2 cu) (arr3 dO) i : EReal)
      = ((∑ c, (G (A q k cu (d0 i)) (Dp v dO (d0 i)) (d1 i) c * sc) * k (d0 i) c (d2 i) : ℝ) : EReal) := by
  obtain ⟨t, ht⟩ := v24_real q k cu
  rw [val_main_v73_apply, coe_sum]
  refine Finset.sum_congr rfl fun r _ => ?_
  rw [val_main_v71_apply, v61_at v dO ht, val_main_v70_apply, val_main_cst_17_apply]
  rw [show (FloatOps.ofBits (F := Ideal) .f32 0x3E000000#32 : EReal) = ((sc : ℝ) : EReal) from sc_bits, EReal.coe_mul, EReal.coe_mul]
  rfl

theorem fold64 (i : S4x4096.Idx) : idx_main_v64 (idx_main_v65 i 0) = i := funext fun a => Fin.ext (by
  have h1 : (i 1).val < 4096 := (i 1).isLt
  match a with
  | ⟨0, _⟩ => show (((i 0).val * 1 + 0) * 4096 + (i 1).val) / 4096 = (i 0).val; omega
  | ⟨1, _⟩ => show (((i 0).val * 1 + 0) * 4096 + (i 1).val) % 4096 = (i 1).val; omega)

theorem fold67 (i : S4x4096.Idx) : idx_main_v67 (idx_main_v68 i 0) = i := funext fun a => Fin.ext (by
  have h1 : (i 1).val < 4096 := (i 1).isLt
  match a with
  | ⟨0, _⟩ => show (((i 0).val * 4096 + (i 1).val) * 1 + 0) / 4096 = (i 0).val; omega
  | ⟨1, _⟩ => show (((i 0).val * 4096 + (i 1).val) * 1 + 0) % 4096 = (i 1).val; omega)

theorem dcum_val (i : S4x4096.Idx) :
    (val_main_v69 (F := Ideal) (arr3 q) (arr3 k) (arr3 v) (arr2 cu) (arr3 dO) i : EReal)
      = (((∑ r, -G (A q k cu (b0 i)) (Dp v dO (b0 i)) r (b1 i)) + ∑ c, G (A q k cu (b0 i)) (Dp v dO (b0 i)) (b1 i) c : ℝ) : EReal) := by
  obtain ⟨t, ht⟩ := v24_real q k cu
  have z : (FloatOps.ofBits (F := Ideal) .f32 0x00000000#32 : EReal) = 0 := zero_bits
  rw [val_main_v69_apply, val_main_v65_apply, val_main_cst_14_apply, Fin.sum_univ_one, val_main_v64_apply, fold64, val_main_v63_apply,
    val_main_cst_13_apply, val_main_v68_apply, val_main_cst_16_apply, Fin.sum_univ_one, val_main_v67_apply, fold67, val_main_v66_apply,
    val_main_cst_15_apply, z, zero_add, zero_add, zero_add, zero_add, EReal.coe_add, coe_sum, coe_sum]
  refine congrArg₂ (· + ·) (Finset.sum_congr rfl fun r _ => ?_) (Finset.sum_congr rfl fun c _ => ?_)
  · rw [val_main_v62_apply, v61_at v dO ht, EReal.coe_neg]
    rfl
  · rw [v61_at v dO ht]
    rfl

end Cert.ReferenceIdeal.Fox

end
-- ==== Proof.Host.lean ====
module

public import proofs.«01_k».proof.Proof.Gen.KernelIdeal.Frame
public import proofs.«01_k».proof.Proof.RefVal
public import Idealize.ShloMosaic.Lib.Claim

@[expose] public section

noncomputable section

/-! What the host operations before the kernel leave in its operands. -/

namespace Cert.KernelIdeal.Fox

open Cert.KernelIdeal Cert.KernelIdeal.Gen
open Idealize.ShloMosaic Idealize.ShloMosaic.TcCoe Idealize.ShloMosaic.StableHlo

abbrev B3 := FVec Ideal S4x4096x64 .f32
abbrev B2 := FVec Ideal S4x4096 .f32
abbrev BS := FVec Ideal S4x4096x4096 .f32
abbrev BR := FVec Ideal S4x4096x1 .f32

section
variable (q k v : B3) (cu : B2)

/-- The masked scores, their row maxima, the exponentials, their row sums, the attention's output and the log-sums. -/
def hS : BS := select
  (broadcastInDim S4x4096x4096 ![1, 2] bcast_S4096x4096_S4x4096x4096_1_2 (cmpi .sge (iotaInDim S4096x4096 32 0) (iotaInDim S4096x4096 32 1)))
  (subf (mulf (Host.dotGeneral dot_S4x4096x64_S4x4096x64_S4x4096x4096_2_2_1_1_0_0 none q k : BS)
      (broadcastInDim S4x4096x4096 ![] bcast_S_S4x4096x4096 (constant S_ .f32 0x3E000000#32)))
    (broadcastInDim S4x4096x4096 ![0, 1, 2] bcast_S4x1x4096_S4x4096x4096_0_1_2 (broadcastInDim S4x1x4096 ![0, 2] bcast_S4x4096_S4x1x4096_0_2 cu)))
  (broadcastInDim S4x4096x4096 ![] bcast_S_S4x4096x4096 (constant S_ .f32 0xFF800000#32))
def hM : BR := broadcastInDim S4x4096x1 ![0, 1] bcast_S4x4096_S4x4096x1_0_1
  (Host.reduce FloatOps.maximumf (hS q k cu) (constant S_ .f32 0xFF800000#32) reducesTo_S4x4096x4096_S4x4096_d2 h_S_ : B2)
def hE : BS := Host.exp (subf (hS q k cu) (broadcastInDim S4x4096x4096 ![0, 1, 2] bcast_S4x4096x1_S4x4096x4096_0_1_2 (hM q k cu)))
def hL : BR := broadcastInDim S4x4096x1 ![0, 1] bcast_S4x4096_S4x4096x1_0_1
  (Host.reduceAdd (hE q k cu) (constant S_ .f32 0x00000000#32) reducesTo_S4x4096x4096_S4x4096_d2 h_S_ : B2)
def hO : B3 := Host.dotGeneral dot_S4x4096x4096_S4x4096x64_S4x4096x64_2_1_1_2_0_0 none
  (Host.divf (hE q k cu) (broadcastInDim S4x4096x4096 ![0, 1, 2] bcast_S4x4096x1_S4x4096x4096_0_1_2 (hL q k cu)) : BS) v
def hLse : BR := addf (hM q k cu) (Host.log (hL q k cu))
def hQ : FVec Ideal S4x4096x64 .bf16 :=
  truncf .bf16 (mulf q (broadcastInDim S4x4096x64 ![] bcast_S_S4x4096x64 (constant S_ .f32 0x3E000000#32)) : B3) bitsLt_bf16_f32
def hB (x : B3) : FVec Ideal S4x4096x64 .bf16 := truncf .bf16 x bitsLt_bf16_f32
def hC : FVec Ideal S4x1x4096 .f32 := broadcastInDim S4x1x4096 ![0, 2] bcast_S4x4096_S4x1x4096_0_2 cu

end

variable (m : (ℓ : Loc nD τ sig) → Buf (Elt Ideal) ℓ) (c : Dev nD)

theorem V_q : V m c main_v2 = hQ (m ((c : Thread nD τ).loc main_arg0)) := by
  simp only [V, V0, hostOps0, hostOps0_1, hostOps0_2, List.flatten_cons, List.flatten_nil, List.append_nil, List.cons_append, List.nil_append, TRef.nullary, TRef.ternary, TRef.unary, TRef.toBuf, TRef.ofBuf, cast_eq]
  after_results_simp
  rfl

theorem V_k : V m c main_v3 = hB (m ((c : Thread nD τ).loc main_arg1)) := by
  simp only [V, V0, hostOps0, hostOps0_1, hostOps0_2, List.flatten_cons, List.flatten_nil, List.append_nil, List.cons_append, List.nil_append, TRef.nullary, TRef.ternary, TRef.unary, TRef.toBuf, TRef.ofBuf, cast_eq]
  after_results_simp
  rfl

theorem V_v : V m c main_v4 = hB (m ((c : Thread nD τ).loc main_arg2)) := by
  simp only [V, V0, hostOps0, hostOps0_1, hostOps0_2, List.flatten_cons, List.flatten_nil, List.append_nil, List.cons_append, List.nil_append, TRef.nullary, TRef.ternary, TRef.unary, TRef.toBuf, TRef.ofBuf, cast_eq]
  after_results_simp
  rfl

theorem V_c : V m c main_v25 = hC (m ((c : Thread nD τ).loc main_arg3)) := by
  simp only [V, V0, hostOps0, hostOps0_1, hostOps0_2, List.flatten_cons, List.flatten_nil, List.append_nil, List.cons_append, List.nil_append, TRef.nullary, TRef.ternary, TRef.unary, TRef.toBuf, TRef.ofBuf, cast_eq]
  after_results_simp
  rfl

theorem V_o : V m c main_v24 = hO (m ((c : Thread nD τ).loc main_arg0)) (m ((c : Thread nD τ).loc main_arg1)) (m ((c : Thread nD τ).loc main_arg2)) (m ((c : Thread nD τ).loc main_arg3)) := by
  simp only [V, V0, hostOps0, hostOps0_1, hostOps0_2, List.flatten_cons, List.flatten_nil, List.append_nil, List.cons_append, List.nil_append, TRef.nullary, TRef.ternary, TRef.unary, TRef.toBuf, TRef.ofBuf, cast_eq]
  after_results_simp
  rfl

theorem V_l : V m c main_v27 = hLse (m ((c : Thread nD τ).loc main_arg0)) (m ((c : Thread nD τ).loc main_arg1)) (m ((c : Thread nD τ).loc main_arg3)) := by
  simp only [V, V0, hostOps0, hostOps0_1, hostOps0_2, List.flatten_cons, List.flatten_nil, List.append_nil, List.cons_append, List.nil_append, TRef.nullary, TRef.ternary, TRef.unary, TRef.toBuf, TRef.ofBuf, cast_eq]
  after_results_simp
  rfl

end Cert.KernelIdeal.Fox

end
-- ==== Proof.HostVal.lean ====
module

public import proofs.«01_k».proof.Proof.Host

@[expose] public section

noncomputable section

/-! The kernel's operands on arguments that are real numbers. -/

namespace Cert.KernelIdeal.Fox

open Cert.KernelIdeal Cert.KernelIdeal.Gen
open Cert.ReferenceIdeal.Fox (arr3 arr2 A sc sc_bits zero_bits bot_bits a0 a1 a2 b0 b1 e0 e1 d0 d1 d2)
open Idealize.ShloMosaic Idealize.ShloMosaic.TcCoe Cert.Fox
open scoped BigOperators

variable (q k v : Fin 4 → Fin 4096 → Fin 64 → ℝ) (cu : Fin 4 → Fin 4096 → ℝ)

theorem dot_qk (x y : B3) (i : S4x4096x4096.Idx) :
    (Host.dotGeneral dot_S4x4096x64_S4x4096x64_S4x4096x4096_2_2_1_1_0_0 none x y : BS) i
      = ∑ d : Fin 64, (x (ix3 (a0 i) (a1 i) d) : EReal) * y (ix3 (a0 i) (a2 i) d) := by
  refine (Cert.ReferenceIdeal.Read.val_main_v0_apply x y i).trans (Finset.sum_congr rfl fun d _ => ?_)
  congr 2 <;> exact funext fun a => by match a with
    | ⟨0, _⟩ => rfl
    | ⟨1, _⟩ => rfl
    | ⟨2, _⟩ => rfl

theorem row_at (x : BR) (i : S4x4096x4096.Idx) :
    broadcastInDim S4x4096x4096 ![0, 1, 2] bcast_S4x4096x1_S4x4096x4096_0_1_2 x i = x (ix3 (a0 i) (a1 i) 0) :=
  broadcastInDim_apply _ _ x i _ (fun a => by
    match a with
    | ⟨0, _⟩ => rfl
    | ⟨1, _⟩ => rfl
    | ⟨2, _⟩ => rfl)

theorem col_at (x : FVec Ideal S4x1x4096 .f32) (i : S4x4096x4096.Idx) :
    broadcastInDim S4x4096x4096 ![0, 1, 2] bcast_S4x1x4096_S4x4096x4096_0_1_2 x i = x (ix3 (a0 i) 0 (a2 i)) :=
  broadcastInDim_apply _ _ x i _ (fun a => by
    match a with
    | ⟨0, _⟩ => rfl
    | ⟨1, _⟩ => rfl
    | ⟨2, _⟩ => rfl)

theorem hC_at (x : B2) (i : S4x1x4096.Idx) : hC x i = x (ix2 (i 0) (i 2)) :=
  broadcastInDim_apply _ _ x i _ (fun a => by
    match a with
    | ⟨0, _⟩ => rfl
    | ⟨1, _⟩ => rfl)

theorem up_at (x : B2) (i : S4x4096x1.Idx) :
    broadcastInDim S4x4096x1 ![0, 1] bcast_S4x4096_S4x4096x1_0_1 x i = x (ix2 (e0 i) (e1 i)) :=
  broadcastInDim_apply _ _ x i _ (fun a => by
    match a with
    | ⟨0, _⟩ => rfl
    | ⟨1, _⟩ => rfl)

theorem hmask_at (i : S4x4096x4096.Idx) (x y : EReal) :
    Scalar.select (broadcastInDim S4x4096x4096 ![1, 2] bcast_S4096x4096_S4x4096x4096_1_2
      (cmpi .sge (iotaInDim S4096x4096 32 0) (iotaInDim S4096x4096 32 1)) i) x y = if (a2 i).val ≤ (a1 i).val then x else y := by
  rw [broadcastInDim_apply _ _ (cmpi .sge (iotaInDim S4096x4096 32 0) (iotaInDim S4096x4096 32 1)) i (ix2 (a1 i) (a2 i)) (fun a => by
    match a with
    | ⟨0, _⟩ => rfl
    | ⟨1, _⟩ => rfl)]
  have h1 : (a1 i).val < 4096 := (a1 i).isLt
  have h2 : (a2 i).val < 4096 := (a2 i).isLt
  have e : IntOp.cmpi .sge (BitVec.ofNat 32 (a1 i).val) (BitVec.ofNat 32 (a2 i).val) = 1#1 ↔ (a2 i).val ≤ (a1 i).val := by
    word_cmp
  show Scalar.select (IntOp.cmpi .sge (BitVec.ofNat 32 (a1 i).val) (BitVec.ofNat 32 (a2 i).val)) x y = _
  unfold Scalar.select
  by_cases h : (a2 i).val ≤ (a1 i).val
  · simp only [h, e.mpr h, if_true, BitVec.ofNat_eq_ofNat]
  · have h' := fun hh => h (e.mp hh)
    rw [if_neg h]; exact if_neg h'

theorem hS_at (i : S4x4096x4096.Idx) :
    (hS (arr3 q) (arr3 k) (arr2 cu) i : EReal)
      = if (a2 i).val ≤ (a1 i).val then ((A q k cu (a0 i) (a1 i) (a2 i) : ℝ) : EReal) else ⊥ := by
  refine (hmask_at i _ _).trans ?_
  refine if_congr Iff.rfl ?_ bot_bits
  show (Host.dotGeneral dot_S4x4096x64_S4x4096x64_S4x4096x4096_2_2_1_1_0_0 none (arr3 q) (arr3 k) : BS) i
    * (FloatOps.ofBits (F := Ideal) .f32 0x3E000000#32 : EReal) - _ = _
  rw [col_at, dot_qk, show (FloatOps.ofBits (F := Ideal) .f32 0x3E000000#32 : EReal) = ((sc : ℝ) : EReal) from sc_bits]
  refine (congrArg₂ (· - ·) (congrArg (· * ((sc : ℝ) : EReal)) (Eq.trans ?_ (coe_sum Finset.univ
    (fun d => q (a0 i) (a1 i) d * k (a0 i) (a2 i) d)).symm)) (hC_at _ _)).trans ?_
  · exact Finset.sum_congr rfl fun d _ => (EReal.coe_mul _ _).symm
  · show ((_ : ℝ) : EReal) * ((sc : ℝ) : EReal) - ((cu (a0 i) (a2 i) : ℝ) : EReal) = _
    rw [← EReal.coe_mul, ← EReal.coe_sub]
    rfl

/-- The row's largest score is a real number. -/
theorem hM_real : ∃ t : Fin 4 → Fin 4096 → ℝ, ∀ i : S4x4096x1.Idx,
    (hM (arr3 q) (arr3 k) (arr2 cu) i : EReal) = ((t (e0 i) (e1 i) : ℝ) : EReal) := by
  have key : ∀ (h : Fin 4) (r : Fin 4096), ∃ x : ℝ,
      ((Host.reduce FloatOps.maximumf (hS (arr3 q) (arr3 k) (arr2 cu)) (constant S_ .f32 0xFF800000#32) reducesTo_S4x4096x4096_S4x4096_d2 h_S_ : B2)
        (ix2 h r) : EReal) = (x : EReal) := by
    intro h r
    rw [Host.reduce_eq_fold]
    have e0 : ((constant S_ .f32 0xFF800000#32 : FVec Ideal S_ .f32) (Shape.Idx.first h_S_) : EReal) = ⊥ := bot_bits
    rw [e0]
    refine fold_max_real _ _ (fun j _ => ?_) ⟨ix3 h r 0, ?_, ?_⟩
    · rw [hS_at]; split
      · exact EReal.coe_ne_top _
      · exact bot_ne_top
    · rw [Finset.mem_filter]
      refine ⟨Finset.mem_univ _, funext fun b => Fin.ext ?_⟩
      match b with
      | ⟨0, _⟩ => exact Shape.ReducesTo.drop_apply_val_of_eq reducesTo_S4x4096x4096_S4x4096_d2 (ix3 h r 0) 0 0
      | ⟨1, _⟩ => exact Shape.ReducesTo.drop_apply_val_of_eq reducesTo_S4x4096x4096_S4x4096_d2 (ix3 h r 0) 1 1
    · rw [hS_at]
      refine ne_of_eq_of_ne (if_pos ?_) (EReal.coe_ne_bot _)
      exact Nat.zero_le _
  choose t ht using key
  exact ⟨t, fun i => (up_at _ i).trans (ht _ _)⟩

theorem lse_at (x y : BR) (i : S4x4096x1.Idx) (u z : ℝ) (h1 : (x i : EReal) = (u : EReal)) (h2 : (y i : EReal) = (z : EReal)) (h3 : 0 < z) :
    (addf x (Host.log y) i : EReal) = ((u + Real.log z : ℝ) : EReal) := by
  have e : (addf x (Host.log y) i : EReal) = x i + Ideal.log (y i) := rfl
  rw [e, h1, h2, log_real h3, EReal.coe_add]

section
variable {q k cu} {t : Fin 4 → Fin 4096 → ℝ}
  (ht : ∀ i : S4x4096x1.Idx, (hM (arr3 q) (arr3 k) (arr2 cu) i : EReal) = ((t (e0 i) (e1 i) : ℝ) : EReal))
include ht

theorem hE_at (i : S4x4096x4096.Idx) :
    (hE (arr3 q) (arr3 k) (arr2 cu) i : EReal) = ((E (A q k cu (a0 i)) (t (a0 i)) (a1 i) (a2 i) : ℝ) : EReal) := by
  have h1 := hS_at q k cu i
  have h2 := (row_at (hM (arr3 q) (arr3 k) (arr2 cu)) i).trans (ht _)
  unfold hE
  generalize hS (arr3 q) (arr3 k) (arr2 cu) = x at h1
  generalize broadcastInDim S4x4096x4096 ![0, 1, 2] bcast_S4x4096x1_S4x4096x4096_0_1_2 (hM (arr3 q) (arr3 k) (arr2 cu)) = y at h2
  have e : (Host.exp (subf x y) i : EReal) = Ideal.exp (x i - y i) := rfl
  rw [e, h1, h2]
  exact exp_masked (A q k cu (a0 i)) (t (a0 i)) (a1 i) (a2 i)

theorem hL_at (i : S4x4096x1.Idx) :
    (hL (arr3 q) (arr3 k) (arr2 cu) i : EReal) = ((Z (A q k cu (e0 i)) (t (e0 i)) (e1 i) : ℝ) : EReal) := by
  unfold hL
  rw [up_at]
  generalize hy : hE (arr3 q) (arr3 k) (arr2 cu) = y
  simp only [Host.reduceAdd, Ideal.hostReduceAdd_def]
  rw [Ideal.hostReduceAdd_single reducesTo_S4x4096x4096_S4x4096_d2 (by decide)]
  have e0' : ((constant S_ .f32 0x00000000#32 : FVec Ideal S_ .f32) (Shape.Idx.first h_S_) : EReal) = 0 := zero_bits
  rw [e0', zero_add]
  unfold Z
  rw [coe_sum]
  refine Finset.sum_congr rfl fun c _ => ?_
  subst hy
  exact hE_at ht _

theorem hLse_at (i : S4x4096x1.Idx) :
    (hLse (arr3 q) (arr3 k) (arr2 cu) i : EReal)
      = ((t (e0 i) (e1 i) + Real.log (Z (A q k cu (e0 i)) (t (e0 i)) (e1 i)) : ℝ) : EReal) := by
  unfold hLse
  exact lse_at _ _ i _ _ (ht i) (hL_at ht i) (Z_pos _ _ _)

theorem hO_at (i : S4x4096x64.Idx) :
    (hO (arr3 q) (arr3 k) (arr3 v) (arr2 cu) i : EReal)
      = ((∑ c, P (A q k cu (d0 i)) (d1 i) c * v (d0 i) c (d2 i) : ℝ) : EReal) := by
  unfold hO
  have hp : ∀ j : S4x4096x4096.Idx, (Host.divf (hE (arr3 q) (arr3 k) (arr2 cu))
      (broadcastInDim S4x4096x4096 ![0, 1, 2] bcast_S4x4096x1_S4x4096x4096_0_1_2 (hL (arr3 q) (arr3 k) (arr2 cu))) j : EReal)
      = ((P (A q k cu (a0 j)) (a1 j) (a2 j) : ℝ) : EReal) := by
    intro j
    show Ideal.div (hE (arr3 q) (arr3 k) (arr2 cu) j) _ = _
    rw [row_at, hE_at ht, hL_at ht]
    refine (div_real (Z_ne _ _ _)).trans (congrArg (fun x : ℝ => (x : EReal)) ?_)
    exact E_div (A q k cu (a0 j)) (t (a0 j)) (a1 j) (a2 j)
  generalize (Host.divf (hE (arr3 q) (arr3 k) (arr2 cu))
      (broadcastInDim S4x4096x4096 ![0, 1, 2] bcast_S4x4096x1_S4x4096x4096_0_1_2 (hL (arr3 q) (arr3 k) (arr2 cu))) : BS) = y at hp
  simp only [Host.dotGeneral]
  rw [Ideal.dotGeneral_apply, ← Equiv.sum_comp (ValueIdx.contrEquiv1 dot_S4x4096x4096_S4x4096x64_S4x4096x64_2_1_1_2_0_0 4096 rfl rfl).symm, coe_sum]
  refine Finset.sum_congr rfl fun c _ => ?_
  have hk := ValueIdx.contrEquiv1_symm_val dot_S4x4096x4096_S4x4096x64_S4x4096x64_2_1_1_2_0_0 4096 rfl rfl c
  have el : dot_S4x4096x4096_S4x4096x64_S4x4096x64_2_1_1_2_0_0.lhsIdx i ((ValueIdx.contrEquiv1 dot_S4x4096x4096_S4x4096x64_S4x4096x64_2_1_1_2_0_0 4096 rfl rfl).symm c)
      = ix3 (d0 i) (d1 i) c := funext fun a => Fin.ext (by
    match a with
    | ⟨0, _⟩ => exact Cert.ReferenceIdeal.Read.lhs_main_v45_0 _ _
    | ⟨1, _⟩ => exact Cert.ReferenceIdeal.Read.lhs_main_v45_1 _ _
    | ⟨2, _⟩ => exact (Cert.ReferenceIdeal.Read.lhs_main_v45_2 _ _).trans hk)
  have er : dot_S4x4096x4096_S4x4096x64_S4x4096x64_2_1_1_2_0_0.rhsIdx i ((ValueIdx.contrEquiv1 dot_S4x4096x4096_S4x4096x64_S4x4096x64_2_1_1_2_0_0 4096 rfl rfl).symm c)
      = ix3 (d0 i) c (d2 i) := funext fun a => Fin.ext (by
    match a with
    | ⟨0, _⟩ => exact Cert.ReferenceIdeal.Read.rhs_main_v45_0 _ _
    | ⟨1, _⟩ => exact (Cert.ReferenceIdeal.Read.rhs_main_v45_1 _ _).trans hk
    | ⟨2, _⟩ => exact Cert.ReferenceIdeal.Read.rhs_main_v45_2 _ _)
  rw [el, er, hp, EReal.coe_mul]
  rfl

end

end Cert.KernelIdeal.Fox

end
-- ==== Proof.Blocks.lean ====
module

public import proofs.«01_k».proof.Proof.Body
public import proofs.«01_k».proof.Proof.HostVal
public import Idealize.ShloMosaic.Lib.Pipeline.ValueKit

@[expose] public section

set_option maxRecDepth 16384

noncomputable section

/-! Each window's block at a point, read off its array. -/

namespace Cert.KernelIdeal.Fox

open Cert.KernelIdeal Cert.KernelIdeal.Gen
open Idealize.ShloMosaic Idealize.ShloMosaic.TcCoe Cert.Fox
open Idealize.ShloMosaic.Pipeline (Dat Cfg Window)

variable (m : (ℓ : Loc nD τ sig) → Buf (Elt Ideal) ℓ) (c : Dev nD)

/-- The head of point `n`. -/
def hd (n : ℕ) : Fin 4 := ⟨n / 8 % 4, Nat.mod_lt _ (by decide)⟩

theorem hd_val (t : Fin cfg0.N) : (hd t.val).val = t.val / 8 := by
  have hN : t.val < 32 := lt_of_lt_of_eq t.isLt (show cfg0.N = 32 from N_0)
  exact Nat.mod_eq_of_lt (by omega)

theorem coord1 (t : Fin cfg0.N) : (grid0.coords t 1).val = t.val % 8 := by
  revert t; decide +kernel

theorem idx : ∀ t : Fin cfg0.N, win0_0.index t = ![t.val / 8, 0, 0] ∧ win0_1.index t = ![t.val / 8, t.val % 8, 0]
    ∧ win0_2.index t = ![t.val / 8, t.val % 8, 0] ∧ win0_3.index t = ![t.val / 8, 0, t.val % 8]
    ∧ win0_4.index t = ![t.val / 8, 0, 0] ∧ win0_5.index t = ![t.val / 8, 0, 0] ∧ win0_6.index t = ![t.val / 8, 0, 0]
    ∧ win0_7.index t = ![t.val / 8, 0, 0] ∧ win0_8.index t = ![t.val / 8, t.val % 8, 0]
    ∧ win0_9.index t = ![t.val / 8, t.val % 8, 0] ∧ win0_10.index t = ![t.val / 8, 0, 0]
    ∧ win0_11.index t = ![t.val / 8, 0, t.val % 8] := by
  decide +kernel

theorem blk0 (t : Fin cfg0.N) (r : Fin 4096) (d : Fin 64) : iblk m c 0 t (ix3 0 r d) = V m c main_v2 (ix3 (hd t.val) r d) := by
  have h := hd_val t
  blk_ext [iblk, idx t]

theorem blk1 (t : Fin cfg0.N) (r : Fin 512) (d : Fin 64) :
    iblk m c 1 t (ix3 0 r d) = V m c main_v3 (ix3 (hd t.val) (rowOf (t.val % 8) r) d) := by
  have h := hd_val t
  have h' := rowOf_val (Nat.mod_lt t.val (by decide : 0 < 8)) r
  blk_ext [iblk, idx t]

theorem blk2 (t : Fin cfg0.N) (r : Fin 512) (d : Fin 64) :
    iblk m c 2 t (ix3 0 r d) = V m c main_v4 (ix3 (hd t.val) (rowOf (t.val % 8) r) d) := by
  have h := hd_val t
  have h' := rowOf_val (Nat.mod_lt t.val (by decide : 0 < 8)) r
  blk_ext [iblk, idx t]

theorem blk3 (t : Fin cfg0.N) (r : Fin 512) :
    iblk m c 3 t (ix3 0 0 r) = V m c main_v25 (ix3 (hd t.val) 0 (rowOf (t.val % 8) r)) := by
  have h := hd_val t
  have h' := rowOf_val (Nat.mod_lt t.val (by decide : 0 < 8)) r
  blk_ext [iblk, idx t]

theorem blk4 (t : Fin cfg0.N) (r : Fin 4096) (d : Fin 64) : iblk m c 4 t (ix3 0 r d) = V m c main_v24 (ix3 (hd t.val) r d) := by
  have h := hd_val t
  blk_ext [iblk, idx t]

theorem read5 (X : FVec Ideal S4x4096x1 .f32) (t : Fin cfg0.N) (y : S1x4096x1.Idx) :
    ((cfg0.win 5).blk t).view.read (Elt Ideal) X y = X (ix3 (hd t.val) (y 1) 0) := by
  have h := hd_val t
  have e : win0_5.index t = ![t.val / 8, 0, 0] := (idx t).2.2.2.2.2.1
  have e0 : win0_5.index t (0 : Fin 3) = t.val / 8 := congrFun e 0
  have e1 : win0_5.index t (1 : Fin 3) = 0 := congrFun e 1
  have e2 : win0_5.index t (2 : Fin 3) = 0 := congrFun e 2
  have y0 : (y 0).val < 1 := (y 0).isLt
  have y2 : (y 2).val < 1 := (y 2).isLt
  show X (((cfg0.win 5).blk t).view.emb y) = _
  refine congrArg X (funext fun a => Fin.ext ?_)
  match a with
  | ⟨0, _⟩ => show win0_5.index t (0 : Fin 3) * 1 + 1 * (y 0).val = (hd t.val).val; omega
  | ⟨1, _⟩ => show win0_5.index t (1 : Fin 3) * 4096 + 1 * (y 1).val = (y 1).val; omega
  | ⟨2, _⟩ => show win0_5.index t (2 : Fin 3) * 1 + 1 * (y 2).val = 0; omega

theorem blk5 (t : Fin cfg0.N) (r : Fin 4096) : iblk m c 5 t (ix3 0 r 0) = V m c main_v27 (ix3 (hd t.val) r 0) :=
  read5 (V m c main_v27) t (ix3 0 r 0)

theorem blk6 (t : Fin cfg0.N) (r : Fin 4096) (d : Fin 64) : iblk m c 6 t (ix3 0 r d) = V m c main_arg4 (ix3 (hd t.val) r d) := by
  have h := hd_val t
  blk_ext [iblk, idx t]

end Cert.KernelIdeal.Fox

end
-- ==== Proof.BlkReal.lean ====
module

public import proofs.«01_k».proof.Proof.Spec
public import proofs.«01_k».proof.Proof.Softmax

@[expose] public section

noncomputable section

/-! A block whose scores, log-sums and cotangents are real numbers: the probabilities and the scores' gradients. -/

namespace Cert.KernelIdeal.Fox

open Idealize.ShloMosaic Cert.Fox
open scoped BigOperators

variable {X : Blk} {b : ℕ} (hb : b < 8) {a dp : Fin 4096 → Fin 4096 → ℝ} {u : Fin 4096 → ℝ}
  (hs : ∀ r cc, (∑ d, X.q r d * X.k cc d) - X.cum cc = ((a r (rowOf b cc) : ℝ) : EReal))
  (hl : ∀ r, X.lse r = ((u r + Real.log (Z a u r) : ℝ) : EReal))

include hb hs hl in
theorem Blk.pm_real (r : Fin 4096) (cc : Fin 512) : X.pm b r cc = ((P a r (rowOf b cc) : ℝ) : EReal) := by
  unfold Blk.pm Blk.p
  rw [hs, hl]
  have e : (rowOf b cc).val = 512 * b + cc.val := rowOf_val hb cc
  by_cases h : 512 * b + cc.val ≤ r.val
  · rw [if_pos h, ← EReal.coe_sub, Ideal.exp_coe, exp_lse a u r (rowOf b cc) (by rw [e]; exact h)]
  · rw [if_neg h, P_mask a r (rowOf b cc) (by rw [e]; exact h), EReal.coe_zero]

include hb hs hl in
theorem Blk.gm_real (hd : ∀ r cc, ∑ d, X.dout r d * X.v cc d = ((dp r (rowOf b cc) : ℝ) : EReal))
    (hD : ∀ r, X.delta r = ((∑ c, P a r c * dp r c : ℝ) : EReal)) (r : Fin 4096) (cc : Fin 512) :
    X.gm b r cc = ((G a dp r (rowOf b cc) : ℝ) : EReal) := by
  have e : (rowOf b cc).val = 512 * b + cc.val := rowOf_val hb cc
  by_cases h : 512 * b + cc.val ≤ r.val
  · have hp := Blk.pm_real hb hs hl r cc
    unfold Blk.pm at hp
    rw [if_pos h] at hp
    unfold Blk.gm Blk.g
    rw [if_pos h, hp, hd, hD, ← EReal.coe_sub, ← EReal.coe_mul]
    rfl
  · unfold Blk.gm
    rw [if_neg h, G_mask a dp r (rowOf b cc) (by rw [e]; exact h), EReal.coe_zero]

end Cert.KernelIdeal.Fox

end
-- ==== Proof.Final.lean ====
module

public import proofs.«01_k».proof.Proof.Blocks
public import proofs.«01_k».proof.Proof.BlkReal

@[expose] public section

set_option maxRecDepth 16384

noncomputable section

/-! The kernel's arrays after the run, on arguments that are real numbers. -/

namespace Cert.KernelIdeal.Fox

open Cert.KernelIdeal Cert.KernelIdeal.Gen
open Cert.ReferenceIdeal.Fox (arr3 arr2 A Dp sc sc_bits zero_bits bot_bits e0 e1 d0 d1 d2)
open Idealize.ShloMosaic Idealize.ShloMosaic.TcCoe Cert.Fox
open Idealize.ShloMosaic.Pipeline (Dat Cfg Window)
open scoped BigOperators

variable (m : (ℓ : Loc nD τ sig) → Buf (Elt Ideal) ℓ) (c : Dev nD)
variable (q k v dO : Fin 4 → Fin 4096 → Fin 64 → ℝ) (cu : Fin 4 → Fin 4096 → ℝ) (u : Fin 4 → Fin 4096 → ℝ)

/-- Coordinates of a block's index. -/
def f1 (j : S1x4096x64.Idx) : Fin 4096 := j 1
def f2 (j : S1x4096x64.Idx) : Fin 64 := j 2
def g1 (j : S1x4096x1.Idx) : Fin 4096 := j 1

/-- The arguments are these real numbers, and `u` the rows' largest scores. -/
structure Reals : Prop where
  hq : m ((c : Thread nD τ).loc main_arg0) = arr3 q
  hk : m ((c : Thread nD τ).loc main_arg1) = arr3 k
  hv : m ((c : Thread nD τ).loc main_arg2) = arr3 v
  hc : m ((c : Thread nD τ).loc main_arg3) = arr2 cu
  ho : m ((c : Thread nD τ).loc main_arg4) = arr3 dO
  ht : ∀ i : S4x4096x1.Idx, (hM (arr3 q) (arr3 k) (arr2 cu) i : EReal) = ((u (e0 i) (e1 i) : ℝ) : EReal)

variable {m c q k v dO cu u} (H : Reals m c q k v dO cu u)
include H

theorem at0 (t : Fin cfg0.N) (r : Fin 4096) (d : Fin 64) :
    (iblk m c 0 t (ix3 0 r d) : EReal) = ((q (hd t.val) r d * sc : ℝ) : EReal) := by
  rw [blk0, V_q, H.hq, EReal.coe_mul]
  exact congrArg (((q (hd t.val) r d : ℝ) : EReal) * ·) sc_bits

theorem at1 (t : Fin cfg0.N) (r : Fin 512) (d : Fin 64) :
    (iblk m c 1 t (ix3 0 r d) : EReal) = ((k (hd t.val) (rowOf (t.val % 8) r) d : ℝ) : EReal) := by
  rw [blk1, V_k, H.hk]; rfl

theorem at2 (t : Fin cfg0.N) (r : Fin 512) (d : Fin 64) :
    (iblk m c 2 t (ix3 0 r d) : EReal) = ((v (hd t.val) (rowOf (t.val % 8) r) d : ℝ) : EReal) := by
  rw [blk2, V_v, H.hv]; rfl

theorem at3 (t : Fin cfg0.N) (r : Fin 512) :
    (iblk m c 3 t (ix3 0 0 r) : EReal) = ((cu (hd t.val) (rowOf (t.val % 8) r) : ℝ) : EReal) := by
  rw [blk3, V_c, H.hc]; exact hC_at _ _

theorem at4 (t : Fin cfg0.N) (r : Fin 4096) (d : Fin 64) :
    (iblk m c 4 t (ix3 0 r d) : EReal) = ((∑ c', P (A q k cu (hd t.val)) r c' * v (hd t.val) c' d : ℝ) : EReal) := by
  rw [blk4, V_o, H.hq, H.hk, H.hv, H.hc]; exact hO_at v H.ht _

theorem at5 (t : Fin cfg0.N) (y : S1x4096x1.Idx) (r : Fin 4096) (hr : y 1 = r) :
    ((iblk m c 5 t : Vec Ideal S1x4096x1 .f32) y : EReal)
      = ((u (hd t.val) r + Real.log (Z (A q k cu (hd t.val)) (u (hd t.val)) r) : ℝ) : EReal) := by
  subst hr
  refine (read5 (V m c main_v27) t y).trans ?_
  rw [V_l, H.hq, H.hk, H.hc]; exact hLse_at H.ht _

/-- The log-sums as a block's. -/
theorem pt_lse (t : Fin cfg0.N) (D : Vec Ideal S4096x1 .f32) (r : Fin 4096) :
    (ptD m c t D).lse r = ((u (hd t.val) r + Real.log (Z (A q k cu (hd t.val)) (u (hd t.val)) r) : ℝ) : EReal) := by
  unfold ptD ptBlk
  exact at5 H t (ix3 0 r 0) r rfl

theorem at6 (t : Fin cfg0.N) (r : Fin 4096) (d : Fin 64) :
    (iblk m c 6 t (ix3 0 r d) : EReal) = ((dO (hd t.val) r d : ℝ) : EReal) := by
  rw [blk6, V_main_arg4, H.ho]; rfl

/-- The sums `do · o`, as the probabilities against the cotangents' products. -/
theorem delta_open (t : Fin cfg0.N) (j : S4096x1.Idx) (r : Fin 4096) (hr : j 0 = r) :
    (outDelta (iblk m c 4 t) (iblk m c 6 t) j : EReal)
      = ((∑ c', P (A q k cu (hd t.val)) r c' * Dp v dO (hd t.val) r c' : ℝ) : EReal) := by
  subst hr
  unfold outDelta
  have e : (∑ c', P (A q k cu (hd t.val)) (j 0) c' * Dp v dO (hd t.val) (j 0) c' : ℝ)
      = ∑ d, dO (hd t.val) (j 0) d * ∑ c', P (A q k cu (hd t.val)) (j 0) c' * v (hd t.val) c' d := by
    unfold Dp
    simp only [Finset.mul_sum]
    rw [Finset.sum_comm]
    exact Finset.sum_congr rfl fun d _ => Finset.sum_congr rfl fun c' _ => by ring
  rw [e, coe_sum]
  refine Finset.sum_congr rfl fun d _ => ?_
  rw [EReal.coe_mul]
  exact congrArg₂ (· * ·) (at6 H t (j 0) d) (at4 H t (j 0) d)

theorem delta_at : ∀ (n : ℕ) (hn : n < cfg0.N) (r : Fin 4096),
    ((accs m c n hn).2.2 (ix2 r 0) : EReal)
      = ((∑ c', P (A q k cu (hd n)) r c' * Dp v dO (hd n) r c' : ℝ) : EReal) := by
  intro n
  induction n with
  | zero => intro hn r; exact delta_open H ⟨0, hn⟩ (ix2 r 0) r rfl
  | succ n ih =>
    intro hn r
    by_cases h0 : (n + 1) % 8 = 0
    · rw [accs_open m c ⟨n + 1, hn⟩ h0]; exact delta_open H ⟨n + 1, hn⟩ (ix2 r 0) r rfl
    · rw [accs_next m c ⟨n + 1, hn⟩ h0]
      have e : hd (n + 1) = hd n := Fin.ext (by show (n + 1) / 8 % 4 = n / 8 % 4; congr 1; omega)
      rw [e]
      exact ih (Nat.lt_of_succ_lt hn) r

section
variable (t : Fin cfg0.N) {D : Vec Ideal S4096x1 .f32}
  (hD : ∀ r : Fin 4096, (D (ix2 r 0) : EReal)
      = ((∑ c', P (A q k cu (hd t.val)) r c' * Dp v dO (hd t.val) r c' : ℝ) : EReal))

theorem pt_score (r : Fin 4096) (cc : Fin 512) :
    (∑ d, (ptD m c t D).q r d * (ptD m c t D).k cc d) - (ptD m c t D).cum cc
      = ((A q k cu (hd t.val) r (rowOf (t.val % 8) cc) : ℝ) : EReal) := by
  have hq : ∀ d, (ptD m c t D).q r d = ((q (hd t.val) r d * sc : ℝ) : EReal) := fun d => at0 H t r d
  have hk : ∀ d, (ptD m c t D).k cc d = ((k (hd t.val) (rowOf (t.val % 8) cc) d : ℝ) : EReal) := fun d => at1 H t cc d
  have hc : (ptD m c t D).cum cc = ((cu (hd t.val) (rowOf (t.val % 8) cc) : ℝ) : EReal) := at3 H t cc
  generalize ptD m c t D = X at hq hk hc ⊢
  unfold A
  rw [hc, EReal.coe_sub, Finset.sum_mul, coe_sum]
  congr 1
  refine Finset.sum_congr rfl fun d _ => ?_
  rw [hq, hk, ← EReal.coe_mul]
  exact congrArg (fun x : ℝ => (x : EReal)) (by ring)

theorem pt_dp (r : Fin 4096) (cc : Fin 512) :
    ∑ d, (ptD m c t D).dout r d * (ptD m c t D).v cc d
      = ((Dp v dO (hd t.val) r (rowOf (t.val % 8) cc) : ℝ) : EReal) := by
  have hq : ∀ d, (ptD m c t D).dout r d = ((dO (hd t.val) r d : ℝ) : EReal) := fun d => at6 H t r d
  have hk : ∀ d, (ptD m c t D).v cc d = ((v (hd t.val) (rowOf (t.val % 8) cc) d : ℝ) : EReal) := fun d => at2 H t cc d
  generalize ptD m c t D = X at hq hk ⊢
  unfold Dp
  rw [coe_sum]
  refine Finset.sum_congr rfl fun d _ => ?_
  rw [hq, hk, ← EReal.coe_mul]

theorem pt_pm (r : Fin 4096) (cc : Fin 512) :
    (ptD m c t D).pm (t.val % 8) r cc = ((P (A q k cu (hd t.val)) r (rowOf (t.val % 8) cc) : ℝ) : EReal) :=
  Blk.pm_real (Nat.mod_lt _ (by decide)) (a := A q k cu (hd t.val)) (u := u (hd t.val)) (pt_score H t) (pt_lse H t D) r cc

include hD in
theorem pt_gm (r : Fin 4096) (cc : Fin 512) :
    (ptD m c t D).gm (t.val % 8) r cc
      = ((G (A q k cu (hd t.val)) (Dp v dO (hd t.val)) r (rowOf (t.val % 8) cc) : ℝ) : EReal) :=
  Blk.gm_real (Nat.mod_lt _ (by decide)) (a := A q k cu (hd t.val)) (dp := Dp v dO (hd t.val)) (u := u (hd t.val))
    (pt_score H t) (pt_lse H t D) (pt_dp H t) hD r cc

/-- What block `b` of head `h` adds to the rows' gradients. -/
theorem dq_term (y : Vec Ideal S1x4096x64 .f32) (j : S1x4096x64.Idx) (r : Fin 4096) (d : Fin 64) (hr : j 1 = r) (hd' : j 2 = d)
    (b : ℕ) (hb : b = t.val % 8) (h : Fin 4) (hh : h = hd t.val)
    (hD : ∀ r : Fin 4096, (D (ix2 r 0) : EReal)
      = ((∑ c', P (A q k cu (hd t.val)) r c' * Dp v dO (hd t.val) r c' : ℝ) : EReal)) :
    (outDq (ptD m c t D) (grid0.coords t 1).val y j : EReal)
      = y j + ((∑ cc : Fin 512, G (A q k cu h) (Dp v dO h) r (rowOf b cc) * k h (rowOf b cc) d : ℝ) : EReal) := by
  subst hr hd' hb hh
  unfold outDq
  rw [coord1 t, coe_sum]
  refine congrArg (y j + ·) (Finset.sum_congr rfl fun cc _ => ?_)
  rw [EReal.coe_mul]
  exact congrArg₂ (· * ·) (pt_gm H t hD _ cc) (at1 H t cc _)

theorem dcq_term (y : Vec Ideal S1x4096x1 .f32) (j : S1x4096x1.Idx) (r : Fin 4096) (hr : j 1 = r)
    (b : ℕ) (hb : b = t.val % 8) (h : Fin 4) (hh : h = hd t.val)
    (hD : ∀ r : Fin 4096, (D (ix2 r 0) : EReal)
      = ((∑ c', P (A q k cu (hd t.val)) r c' * Dp v dO (hd t.val) r c' : ℝ) : EReal)) :
    (outDcq (ptD m c t D) (grid0.coords t 1).val y j : EReal)
      = y j + ((∑ cc : Fin 512, G (A q k cu h) (Dp v dO h) r (rowOf b cc) : ℝ) : EReal) := by
  subst hr hb hh
  unfold outDcq
  rw [coord1 t, coe_sum]
  exact congrArg (y j + ·) (Finset.sum_congr rfl fun cc _ => pt_gm H t hD _ cc)

end

/-- The rows' gradients after the last block of a head. -/
theorem dq_last (t : Fin cfg0.N) (h7 : t.val % 8 = 7) (j : S1x4096x64.Idx) (r : Fin 4096) (d : Fin 64) (hr : j 1 = r) (hd' : j 2 = d) :
    ((accs m c t.val t.isLt).1 j : EReal)
      = ((∑ c', G (A q k cu (hd t.val)) (Dp v dO (hd t.val)) r c' * k (hd t.val) c' d : ℝ) : EReal) := by
  have key := Pipeline.eq_sum_of_reset_step_apply_divmod (N := cfg0.N) (M := EReal) (ι := S1x4096x64.Idx)
    (fun n hn j => ((accs m c n hn).1 j : EReal)) 8 (fun _ => 0)
    (fun h b j => ((∑ cc : Fin 512, G (A q k cu (hd (8 * h))) (Dp v dO (hd (8 * h))) (f1 j) (rowOf b cc) * k (hd (8 * h)) (rowOf b cc) (f2 j) : ℝ) : EReal))
    (fun t h0 j => by
      rw [accs_open m c t h0]
      unfold accOpen
      exact dq_term H t (fun _ => 0) j _ _ rfl rfl _ rfl _ (Fin.ext (by show 8 * (t.val / 8) / 8 % 4 = t.val / 8 % 4; congr 1; omega))
        (fun r => delta_open H t (ix2 r 0) r rfl))
    (fun t h0 j => by
      rw [accs_next m c t h0]
      unfold accNext
      exact dq_term H t _ j _ _ rfl rfl _ rfl _ (Fin.ext (by show 8 * (t.val / 8) / 8 % 4 = t.val / 8 % 4; congr 1; omega))
        (fun r => by
          have e : hd t.val = hd (t.val - 1) := Fin.ext (by show t.val / 8 % 4 = (t.val - 1) / 8 % 4; congr 1; omega)
          rw [e]; exact delta_at H _ _ r))
    t j
  rw [key, h7, zero_add]
  have e : hd (8 * (t.val / 8)) = hd t.val := Fin.ext (by show 8 * (t.val / 8) / 8 % 4 = t.val / 8 % 4; congr 1; omega)
  rw [e]
  subst hr hd'
  rw [← coe_sum]
  exact congrArg (fun x : ℝ => (x : EReal)) (sum_blocks fun c' => G (A q k cu (hd t.val)) (Dp v dO (hd t.val)) (j 1) c' * k (hd t.val) c' (j 2))

theorem dcq_last (t : Fin cfg0.N) (h7 : t.val % 8 = 7) (j : S1x4096x1.Idx) (r : Fin 4096) (hr : j 1 = r) :
    ((accs m c t.val t.isLt).2.1 j : EReal)
      = ((∑ c', G (A q k cu (hd t.val)) (Dp v dO (hd t.val)) r c' : ℝ) : EReal) := by
  have key := Pipeline.eq_sum_of_reset_step_apply_divmod (N := cfg0.N) (M := EReal) (ι := S1x4096x1.Idx)
    (fun n hn j => ((accs m c n hn).2.1 j : EReal)) 8 (fun _ => 0)
    (fun h b j => ((∑ cc : Fin 512, G (A q k cu (hd (8 * h))) (Dp v dO (hd (8 * h))) (g1 j) (rowOf b cc) : ℝ) : EReal))
    (fun t h0 j => by
      rw [accs_open m c t h0]
      unfold accOpen
      exact dcq_term H t (fun _ => 0) j _ rfl _ rfl _ (Fin.ext (by show 8 * (t.val / 8) / 8 % 4 = t.val / 8 % 4; congr 1; omega))
        (fun r => delta_open H t (ix2 r 0) r rfl))
    (fun t h0 j => by
      rw [accs_next m c t h0]
      unfold accNext
      exact dcq_term H t _ j _ rfl _ rfl _ (Fin.ext (by show 8 * (t.val / 8) / 8 % 4 = t.val / 8 % 4; congr 1; omega))
        (fun r => by
          have e : hd t.val = hd (t.val - 1) := Fin.ext (by show t.val / 8 % 4 = (t.val - 1) / 8 % 4; congr 1; omega)
          rw [e]; exact delta_at H _ _ r))
    t j
  rw [key, h7, zero_add]
  have e : hd (8 * (t.val / 8)) = hd t.val := Fin.ext (by show 8 * (t.val / 8) / 8 % 4 = t.val / 8 % 4; congr 1; omega)
  rw [e]
  subst hr
  rw [← coe_sum]
  exact congrArg (fun x : ℝ => (x : EReal)) (sum_blocks fun c' => G (A q k cu (hd t.val)) (Dp v dO (hd t.val)) (j 1) c')

theorem dk_pt (t : Fin cfg0.N) (j : S1x512x64.Idx) (cc : Fin 512) (d : Fin 64) (hc : j 1 = cc) (hd' : j 2 = d) :
    (outDk (ptX m c t) (grid0.coords t 1).val j : EReal)
      = ((∑ r, G (A q k cu (hd t.val)) (Dp v dO (hd t.val)) r (rowOf (t.val % 8) cc) * (q (hd t.val) r d * sc) : ℝ) : EReal) := by
  subst hc hd'
  unfold outDk
  rw [coord1 t, coe_sum]
  refine Finset.sum_congr rfl fun r _ => ?_
  rw [EReal.coe_mul]
  exact congrArg₂ (· * ·) (pt_gm H t (delta_at H _ _) r _) (at0 H t r _)

theorem dv_pt (t : Fin cfg0.N) (j : S1x512x64.Idx) (cc : Fin 512) (d : Fin 64) (hc : j 1 = cc) (hd' : j 2 = d) :
    (outDv (ptX m c t) (grid0.coords t 1).val j : EReal)
      = ((∑ r, P (A q k cu (hd t.val)) r (rowOf (t.val % 8) cc) * dO (hd t.val) r d : ℝ) : EReal) := by
  subst hc hd'
  unfold outDv
  rw [coord1 t, coe_sum]
  refine Finset.sum_congr rfl fun r _ => ?_
  rw [EReal.coe_mul]
  exact congrArg₂ (· * ·) (pt_pm H t r _) (at6 H t r _)

theorem dck_pt (t : Fin cfg0.N) (j : S1x1x512.Idx) (cc : Fin 512) (hc : j 2 = cc) :
    (outDck (ptX m c t) (grid0.coords t 1).val j : EReal)
      = ((∑ r, -G (A q k cu (hd t.val)) (Dp v dO (hd t.val)) r (rowOf (t.val % 8) cc) : ℝ) : EReal) := by
  subst hc
  unfold outDck
  rw [coord1 t, ← sum_blocks, coe_sum]
  refine Finset.sum_congr rfl fun a _ => ?_
  rw [Finset.sum_neg_distrib, EReal.coe_neg, coe_sum]
  refine congrArg Neg.neg (Finset.sum_congr rfl fun r _ => ?_)
  exact pt_gm H t (delta_at H _ _) (rowOf a r) _

end Cert.KernelIdeal.Fox

end
-- ==== Proof.Arrs.lean ====
module

public import proofs.«01_k».proof.Proof.Final

@[expose] public section

set_option maxRecDepth 16384

noncomputable section

/-! The kernel's result arrays, and what the lines after the call make of them. -/

namespace Cert.KernelIdeal.Fox

open Cert.KernelIdeal Cert.KernelIdeal.Gen
open Cert.ReferenceIdeal.Fox (arr3 arr2 A Dp sc sc_bits b0 b1 e0 e1 d0 d1 d2)
open Idealize.ShloMosaic Idealize.ShloMosaic.TcCoe Cert.Fox
open Idealize.ShloMosaic.Pipeline (Dat Cfg Window)
open scoped BigOperators

theorem emb7 (t : Fin cfg0.N) (y : S1x4096x64.Idx) : ((cfg0.win 7).blk t).view.emb y = ix3 (hd t.val) (y 1) (y 2) := by
  have h := hd_val t
  have e : win0_7.index t = ![t.val / 8, 0, 0] := (idx t).2.2.2.2.2.2.2.1
  have e0 : win0_7.index t (0 : Fin 3) = t.val / 8 := congrFun e 0
  have e1 : win0_7.index t (1 : Fin 3) = 0 := congrFun e 1
  have e2 : win0_7.index t (2 : Fin 3) = 0 := congrFun e 2
  have y0 : (y 0).val < 1 := (y 0).isLt
  refine funext fun a => Fin.ext ?_
  match a with
  | ⟨0, _⟩ => show win0_7.index t (0 : Fin 3) * 1 + 1 * (y 0).val = (hd t.val).val; omega
  | ⟨1, _⟩ => show win0_7.index t (1 : Fin 3) * 4096 + 1 * (y 1).val = (y 1).val; omega
  | ⟨2, _⟩ => show win0_7.index t (2 : Fin 3) * 64 + 1 * (y 2).val = (y 2).val; omega

theorem emb8 (t : Fin cfg0.N) (y : S1x512x64.Idx) :
    ((cfg0.win 8).blk t).view.emb y = ix3 (hd t.val) (rowOf (t.val % 8) (y 1)) (y 2) := by
  have h := hd_val t
  have h' := rowOf_val (Nat.mod_lt t.val (by decide : 0 < 8)) (y 1)
  have e : win0_8.index t = ![t.val / 8, t.val % 8, 0] := (idx t).2.2.2.2.2.2.2.2.1
  have e0 : win0_8.index t (0 : Fin 3) = t.val / 8 := congrFun e 0
  have e1 : win0_8.index t (1 : Fin 3) = t.val % 8 := congrFun e 1
  have e2 : win0_8.index t (2 : Fin 3) = 0 := congrFun e 2
  have y0 : (y 0).val < 1 := (y 0).isLt
  refine funext fun a => Fin.ext ?_
  match a with
  | ⟨0, _⟩ => show win0_8.index t (0 : Fin 3) * 1 + 1 * (y 0).val = (hd t.val).val; omega
  | ⟨1, _⟩ => show win0_8.index t (1 : Fin 3) * 512 + 1 * (y 1).val = (rowOf (t.val % 8) (y 1)).val; omega
  | ⟨2, _⟩ => show win0_8.index t (2 : Fin 3) * 64 + 1 * (y 2).val = (y 2).val; omega

theorem emb9 (t : Fin cfg0.N) (y : S1x512x64.Idx) :
    ((cfg0.win 9).blk t).view.emb y = ix3 (hd t.val) (rowOf (t.val % 8) (y 1)) (y 2) := by
  have h := hd_val t
  have h' := rowOf_val (Nat.mod_lt t.val (by decide : 0 < 8)) (y 1)
  have e : win0_9.index t = ![t.val / 8, t.val % 8, 0] := (idx t).2.2.2.2.2.2.2.2.2.1
  have e0 : win0_9.index t (0 : Fin 3) = t.val / 8 := congrFun e 0
  have e1 : win0_9.index t (1 : Fin 3) = t.val % 8 := congrFun e 1
  have e2 : win0_9.index t (2 : Fin 3) = 0 := congrFun e 2
  have y0 : (y 0).val < 1 := (y 0).isLt
  refine funext fun a => Fin.ext ?_
  match a with
  | ⟨0, _⟩ => show win0_9.index t (0 : Fin 3) * 1 + 1 * (y 0).val = (hd t.val).val; omega
  | ⟨1, _⟩ => show win0_9.index t (1 : Fin 3) * 512 + 1 * (y 1).val = (rowOf (t.val % 8) (y 1)).val; omega
  | ⟨2, _⟩ => show win0_9.index t (2 : Fin 3) * 64 + 1 * (y 2).val = (y 2).val; omega

theorem emb10 (t : Fin cfg0.N) (y : S1x4096x1.Idx) : ((cfg0.win 10).blk t).view.emb y = (ix3 (hd t.val) (y 1 : Fin 4096) (0 : Fin 1) : S4x4096x1.Idx) := by
  have h := hd_val t
  have e : win0_10.index t = ![t.val / 8, 0, 0] := (idx t).2.2.2.2.2.2.2.2.2.2.1
  have e0 : win0_10.index t (0 : Fin 3) = t.val / 8 := congrFun e 0
  have e1 : win0_10.index t (1 : Fin 3) = 0 := congrFun e 1
  have e2 : win0_10.index t (2 : Fin 3) = 0 := congrFun e 2
  have y0 : (y 0).val < 1 := (y 0).isLt
  have y2 : (y 2).val < 1 := (y 2).isLt
  refine funext fun a => Fin.ext ?_
  match a with
  | ⟨0, _⟩ => show win0_10.index t (0 : Fin 3) * 1 + 1 * (y 0).val = (hd t.val).val; omega
  | ⟨1, _⟩ => show win0_10.index t (1 : Fin 3) * 4096 + 1 * (y 1).val = (y 1).val; omega
  | ⟨2, _⟩ => show win0_10.index t (2 : Fin 3) * 1 + 1 * (y 2).val = 0; omega

theorem emb11 (t : Fin cfg0.N) (y : S1x1x512.Idx) :
    ((cfg0.win 11).blk t).view.emb y = ix3 (hd t.val) 0 (rowOf (t.val % 8) (y 2)) := by
  have h := hd_val t
  have h' := rowOf_val (Nat.mod_lt t.val (by decide : 0 < 8)) (y 2)
  have e : win0_11.index t = ![t.val / 8, 0, t.val % 8] := (idx t).2.2.2.2.2.2.2.2.2.2.2
  have e0 : win0_11.index t (0 : Fin 3) = t.val / 8 := congrFun e 0
  have e1 : win0_11.index t (1 : Fin 3) = 0 := congrFun e 1
  have e2 : win0_11.index t (2 : Fin 3) = t.val % 8 := congrFun e 2
  have y0 : (y 0).val < 1 := (y 0).isLt
  have y1 : (y 1).val < 1 := (y 1).isLt
  refine funext fun a => Fin.ext ?_
  match a with
  | ⟨0, _⟩ => show win0_11.index t (0 : Fin 3) * 1 + 1 * (y 0).val = (hd t.val).val; omega
  | ⟨1, _⟩ => show win0_11.index t (1 : Fin 3) * 1 + 1 * (y 1).val = 0; omega
  | ⟨2, _⟩ => show win0_11.index t (2 : Fin 3) * 512 + 1 * (y 2).val = (rowOf (t.val % 8) (y 2)).val; omega

section
variable {m : (ℓ : Loc nD τ sig) → Buf (Elt Ideal) ℓ} {c : Dev nD}
variable {q k v dO : Fin 4 → Fin 4096 → Fin 64 → ℝ} {cu : Fin 4 → Fin 4096 → ℝ} {u : Fin 4 → Fin 4096 → ℝ}
variable (H : Reals m c q k v dO cu u)

variable (q k v dO cu) in
/-- The five arrays. -/
def fDq : Fin 4 → Fin 4096 → Fin 64 → ℝ := fun h r d => ∑ c', G (A q k cu h) (Dp v dO h) r c' * k h c' d
variable (q k v dO cu) in
def fDk : Fin 4 → Fin 4096 → Fin 64 → ℝ := fun h cc d => ∑ r, G (A q k cu h) (Dp v dO h) r cc * (q h r d * sc)
variable (q k dO cu) in
def fDv : Fin 4 → Fin 4096 → Fin 64 → ℝ := fun h cc d => ∑ r, P (A q k cu h) r cc * dO h r d
variable (q k v dO cu) in
def fDcq : FVec Ideal S4x4096x1 .f32 := fun i => ((∑ c', G (A q k cu (e0 i)) (Dp v dO (e0 i)) (e1 i) c' : ℝ) : EReal)
variable (q k v dO cu) in
def fDck : FVec Ideal S4x1x4096 .f32 := fun i =>
  ((∑ r, -G (A q k cu (i 0)) (Dp v dO (i 0)) r (i 2) : ℝ) : EReal)

include H

theorem arr_dq : (dats m 0 c).arrAt 7 cfg0.N = arr3 (fDq q k v dO cu) := by
  refine (dats m 0 c).arrAt_eq_of_covers 7 (arr3 (fDq q k v dO cu)) (by decide +kernel) fun t hf y => ?_
  rw [after_7]
  refine Eq.trans ?_ (congrArg (arr3 (fDq q k v dO cu)) (emb7 t y).symm)
  exact dq_last H t ((flush0_7 t).mp hf) y _ _ rfl rfl

theorem arr_dk : (dats m 0 c).arrAt 8 cfg0.N = arr3 (fDk q k v dO cu) := by
  refine (dats m 0 c).arrAt_eq_of_covers 8 (arr3 (fDk q k v dO cu)) (by decide +kernel) fun t hf y => ?_
  rw [after_8]
  refine Eq.trans ?_ (congrArg (arr3 (fDk q k v dO cu)) (emb8 t y).symm)
  exact dk_pt H t y _ _ rfl rfl

theorem arr_dv : (dats m 0 c).arrAt 9 cfg0.N = arr3 (fDv q k dO cu) := by
  refine (dats m 0 c).arrAt_eq_of_covers 9 (arr3 (fDv q k dO cu)) (by decide +kernel) fun t hf y => ?_
  rw [after_9]
  refine Eq.trans ?_ (congrArg (arr3 (fDv q k dO cu)) (emb9 t y).symm)
  exact dv_pt H t y _ _ rfl rfl

theorem arr_dcq : (dats m 0 c).arrAt 10 cfg0.N = fDcq q k v dO cu := by
  refine (dats m 0 c).arrAt_eq_of_covers 10 (fDcq q k v dO cu) (by decide +kernel) fun t hf y => ?_
  rw [after_10]
  refine Eq.trans ?_ (congrArg (fDcq q k v dO cu) (emb10 t y).symm)
  exact dcq_last H t ((flush0_10 t).mp hf) y _ rfl

theorem arr_dck : (dats m 0 c).arrAt 11 cfg0.N = fDck q k v dO cu := by
  refine (dats m 0 c).arrAt_eq_of_covers 11 (fDck q k v dO cu) (by decide +kernel) fun t hf y => ?_
  rw [after_11]
  refine Eq.trans ?_ (congrArg (fDck q k v dO cu) (emb11 t y).symm)
  exact dck_pt H t y _ rfl

end

/-- What the lines after the call leave. -/
theorem tail_30 (W : Valuation τ sig (Elt Ideal)) :
    StableHlo.after hostOps1 W (Proc.devRef .tc main_v30) = (mulf (W (Proc.devRef .tc main_v28_0))
      (broadcastInDim S4x4096x64 ![] bcast_S_S4x4096x64 (constant S_ .f32 0x3E000000#32)) : FVec Ideal S4x4096x64 .f32) := by
  simp only [hostOps1]
  after_results_simp

theorem tail_33 (W : Valuation τ sig (Elt Ideal)) :
    StableHlo.after hostOps1 W (Proc.devRef .tc main_v33)
      = (addf (shapeCast S4x4096 (W (Proc.devRef .tc main_v28_3)) shapeCasts_S4x4096x1_S4x4096)
        (shapeCast S4x4096 (W (Proc.devRef .tc main_v28_4)) shapeCasts_S4x1x4096_S4x4096) : FVec Ideal S4x4096 .f32) := by
  simp only [hostOps1]
  after_results_simp
  rfl

theorem spec_inj : Function.Injective (Pipeline.arrRef spec0) := by
  intro a b; revert a b; decide

variable (m : (ℓ : Loc nD τ sig) → Buf (Elt Ideal) ℓ) (c : Dev nD)

theorem res_30 : Pipeline.afterTail₀ cfgs (dats m) 0 (V0 m) [hostOps1] c main_v30
    = (mulf ((dats m 0 c).arrAt 7 cfg0.N)
      (broadcastInDim S4x4096x64 ![] bcast_S_S4x4096x64 (constant S_ .f32 0x3E000000#32)) : FVec Ideal S4x4096x64 .f32) := by
  unfold Pipeline.afterTail₀
  simp only [List.flatten_cons, List.flatten_nil, List.append_nil]
  refine (tail_30 _).trans (congrArg (fun x => (mulf x _ : FVec Ideal S4x4096x64 .f32)) ?_)
  exact Pipeline.withArrays_arr spec0 spec_inj c (V0 m c) (fun w => (dats m 0 c).arrAt w cfg0.N) 7

theorem res_33 : Pipeline.afterTail₀ cfgs (dats m) 0 (V0 m) [hostOps1] c main_v33
    = (addf (shapeCast S4x4096 ((dats m 0 c).arrAt 10 cfg0.N) shapeCasts_S4x4096x1_S4x4096)
        (shapeCast S4x4096 ((dats m 0 c).arrAt 11 cfg0.N) shapeCasts_S4x1x4096_S4x4096) : FVec Ideal S4x4096 .f32) := by
  unfold Pipeline.afterTail₀
  simp only [List.flatten_cons, List.flatten_nil, List.append_nil]
  refine (tail_33 _).trans (congrArg₂ (fun x y => (addf (shapeCast S4x4096 x shapeCasts_S4x4096x1_S4x4096)
    (shapeCast S4x4096 y shapeCasts_S4x1x4096_S4x4096) : FVec Ideal S4x4096 .f32)) ?_ ?_)
  · exact Pipeline.withArrays_arr spec0 spec_inj c (V0 m c) (fun w => (dats m 0 c).arrAt w cfg0.N) 10
  · exact Pipeline.withArrays_arr spec0 spec_inj c (V0 m c) (fun w => (dats m 0 c).arrAt w cfg0.N) 11

end Cert.KernelIdeal.Fox

end
-- ==== Proof.Value.lean ====
module

public import proofs.«01_k».proof.Proof.Arrs
public import proofs.«01_k».proof.Proof.Gen.Pre_finite
public import proofs.«01_k».proof.Defs

@[expose] public section

set_option maxRecDepth 16384

noncomputable section

/-! The kernel's four results are the reference's, on arguments that are real numbers. -/

namespace Cert.KernelIdeal.Fox

open Cert.KernelIdeal Cert.KernelIdeal.Gen
open Cert.ReferenceIdeal.Fox (arr3 arr2 A Dp sc sc_bits b0 b1 e0 e1 d0 d1 d2 dq_val dk_val dv_val dcum_val)
open Cert.ReferenceIdeal.Read (val_main_v73 val_main_v72 val_main_v47 val_main_v69)
open Idealize.ShloMosaic Idealize.ShloMosaic.TcCoe Cert.Fox
open scoped BigOperators

section
variable {m : (ℓ : Loc nD τ sig) → Buf (Elt Ideal) ℓ} {c : Dev nD}
variable {q k v dO : Fin 4 → Fin 4096 → Fin 64 → ℝ} {cu : Fin 4 → Fin 4096 → ℝ} {u : Fin 4 → Fin 4096 → ℝ}

/-- The host's last factor. -/
theorem scaled (X : FVec Ideal S4x4096x64 .f32) (i : S4x4096x64.Idx) :
    (mulf X (broadcastInDim S4x4096x64 ![] bcast_S_S4x4096x64 (constant S_ .f32 0x3E000000#32)) i : EReal)
      = (X i : EReal) * ((sc : ℝ) : EReal) := by
  rw [← sc_bits]
  rfl

theorem sum3 (f g : Fin 4096 → ℝ) (h : ∀ x, f x = g x) : ((∑ x, f x : ℝ) : EReal) = ((∑ x, g x : ℝ) : EReal) :=
  congrArg (fun x : ℝ => (x : EReal)) (Finset.sum_congr rfl fun x _ => h x)

theorem dq_eq : (mulf (arr3 (fDq q k v dO cu))
    (broadcastInDim S4x4096x64 ![] bcast_S_S4x4096x64 (constant S_ .f32 0x3E000000#32)) : FVec Ideal S4x4096x64 .f32)
      = val_main_v73 (F := Ideal) (arr3 q) (arr3 k) (arr3 v) (arr2 cu) (arr3 dO) := by
  funext i
  refine (scaled _ i).trans (Eq.trans ?_ (dq_val q k v dO cu i).symm)
  refine (EReal.coe_mul (fDq q k v dO cu (d0 i) (d1 i) (d2 i)) sc).symm.trans ?_
  refine congrArg (fun x : ℝ => (x : EReal)) ?_
  unfold fDq
  rw [Finset.sum_mul]
  exact Finset.sum_congr rfl fun x _ => by ring

theorem dk_eq : arr3 (fDk q k v dO cu) = val_main_v72 (F := Ideal) (arr3 q) (arr3 k) (arr3 v) (arr2 cu) (arr3 dO) := by
  funext i
  refine Eq.trans ?_ (dk_val q k v dO cu i).symm
  exact sum3 _ _ fun x => (by
    show G (A q k cu (d0 i)) (Dp v dO (d0 i)) x (d1 i) * (q (d0 i) x (d2 i) * sc) = _
    ring)

theorem dv_eq : arr3 (fDv q k dO cu) = val_main_v47 (F := Ideal) (arr3 q) (arr3 k) (arr2 cu) (arr3 dO) := by
  funext i
  refine Eq.trans ?_ (dv_val q k dO cu i).symm
  exact sum3 _ _ fun x => (by
    show P (A q k cu (d0 i)) x (d1 i) * dO (d0 i) x (d2 i) = _
    ring)

theorem castq (Y : FVec Ideal S4x4096x1 .f32) (i : S4x4096.Idx) :
    shapeCast S4x4096 Y shapeCasts_S4x4096x1_S4x4096 i = Y (ix3 (b0 i) (b1 i) (0 : Fin 1) : S4x4096x1.Idx) :=
  shapeCast_apply Y shapeCasts_S4x4096x1_S4x4096 i (ix3 (b0 i) (b1 i) (0 : Fin 1) : S4x4096x1.Idx) (by
    rewrite [Shape.rowMajor_val_two, Shape.rowMajor_val_three]
    have h0 : (i 0).val < 4 := (i 0).isLt
    have h1 : (i 1).val < 4096 := (i 1).isLt
    show ((i 0).val * 4096 + (i 1).val) * 1 + 0 = (i 0).val * 4096 + (i 1).val
    omega)

theorem castk (Y : FVec Ideal S4x1x4096 .f32) (i : S4x4096.Idx) :
    shapeCast S4x4096 Y shapeCasts_S4x1x4096_S4x4096 i = Y (ix3 (b0 i) (0 : Fin 1) (b1 i) : S4x1x4096.Idx) :=
  shapeCast_apply Y shapeCasts_S4x1x4096_S4x4096 i (ix3 (b0 i) (0 : Fin 1) (b1 i) : S4x1x4096.Idx) (by
    rewrite [Shape.rowMajor_val_two, Shape.rowMajor_val_three]
    have h0 : (i 0).val < 4 := (i 0).isLt
    have h1 : (i 1).val < 4096 := (i 1).isLt
    show ((i 0).val * 1 + 0) * 4096 + (i 1).val = (i 0).val * 4096 + (i 1).val
    omega)

theorem added (X Y : FVec Ideal S4x4096 .f32) (i : S4x4096.Idx) : (addf X Y i : EReal) = (X i : EReal) + (Y i : EReal) := rfl

theorem dcum_eq : (addf (shapeCast S4x4096 (fDcq q k v dO cu) shapeCasts_S4x4096x1_S4x4096)
    (shapeCast S4x4096 (fDck q k v dO cu) shapeCasts_S4x1x4096_S4x4096) : FVec Ideal S4x4096 .f32)
      = val_main_v69 (F := Ideal) (arr3 q) (arr3 k) (arr3 v) (arr2 cu) (arr3 dO) := by
  funext i
  refine (added _ _ i).trans (Eq.trans ?_ (dcum_val q k v dO cu i).symm)
  rw [castq, castk, EReal.coe_add, add_comm]
  rfl

variable (H : Reals m c q k v dO cu u)
include H

theorem k_dq : Pipeline.afterTail₀ cfgs (dats m) 0 (V0 m) [hostOps1] c main_v30
    = val_main_v73 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  rw [H.hq, H.hk, H.hv, H.hc, H.ho, res_30, arr_dq H]
  exact dq_eq

theorem k_dk : (dats m 0 c).arrAt 8 cfg0.N
    = val_main_v72 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  rw [H.hq, H.hk, H.hv, H.hc, H.ho, arr_dk H]
  exact dk_eq

theorem k_dv : (dats m 0 c).arrAt 9 cfg0.N
    = val_main_v47 (F := Ideal) (m ((c : Thread nD τ).loc main_arg0)) (m ((c : Thread nD τ).loc main_arg1))
      (m ((c : Thread nD τ).loc main_arg3)) (m ((c : Thread nD τ).loc main_arg4)) := by
  rw [H.hq, H.hk, H.hc, H.ho, arr_dv H]
  exact dv_eq

theorem k_dcum : Pipeline.afterTail₀ cfgs (dats m) 0 (V0 m) [hostOps1] c main_v33
    = val_main_v69 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  rw [H.hq, H.hk, H.hv, H.hc, H.ho, res_33, arr_dcq H, arr_dck H]
  exact dcum_eq

end

/-- A value that compares below `⊤` in magnitude is a real number. -/
theorem real_of_lt (x : EReal) (h : Ideal.cmp .olt (max x (-x)) (Ideal.ofBits .f32 0x7F800000#32) = 1#1) :
    ((x.toReal : ℝ) : EReal) = x := by
  have e : Ideal.ofBits .f32 0x7F800000#32 = ⊤ := by simp [Ideal.ofBits, Ideal.ieee]
  rw [e] at h
  refine EReal.coe_toReal ?_ ?_
  · rintro rfl
    simp [Ideal.cmp] at h
  · rintro rfl
    simp [Ideal.cmp] at h

theorem real3 (X : FVec Ideal S4x4096x64 .f32)
    (h : cmpf .olt (Host.absf X) (broadcastInDim S4x4096x64 ![] bcast_S_S4x4096x64 (constant S_ .f32 0x7F800000#32)) = fun _ => 1#1) :
    X = arr3 fun a b d => EReal.toReal (X (ix3 a b d)) := by
  funext i
  have e : (ix3 (i 0) (i 1) (i 2) : S4x4096x64.Idx) = i := funext fun a => by
    match a with
    | ⟨0, _⟩ => rfl
    | ⟨1, _⟩ => rfl
    | ⟨2, _⟩ => rfl
  refine (real_of_lt (X i) (congrFun h i)).symm.trans ?_
  exact congrArg (fun j : S4x4096x64.Idx => ((EReal.toReal (X j) : ℝ) : EReal)) e.symm

theorem real2 (X : FVec Ideal S4x4096 .f32)
    (h : cmpf .olt (Host.absf X) (broadcastInDim S4x4096 ![] Cert.Pre_finite.Gen.bcast_S_S4x4096 (constant S_ .f32 0x7F800000#32)) = fun _ => 1#1) :
    X = arr2 fun a b => EReal.toReal (X (ix2 a b)) := by
  funext i
  have e : (ix2 (i 0) (i 1) : S4x4096.Idx) = i := funext fun a => by
    match a with
    | ⟨0, _⟩ => rfl
    | ⟨1, _⟩ => rfl
  refine (real_of_lt (X i) (congrFun h i)).symm.trans ?_
  exact congrArg (fun j : S4x4096.Idx => ((EReal.toReal (X j) : ℝ) : EReal)) e.symm

/-- Finite arguments are real numbers. -/
theorem reals_of_finite (m : (ℓ : Loc nD τ sig) → Buf (Elt Ideal) ℓ) (h : Cert.Pre_KernelIdeal_finite m) (c : Dev nD) :
    ∃ q k v dO cu u, Reals m c q k v dO cu u := by
  obtain ⟨h0, h1, h2, h3, h4⟩ := h c
  have g0 := real3 _ h0
  have g1 := real3 _ h1
  have g2 := real3 _ h2
  have g3 := real2 _ h3
  have g4 := real3 _ h4
  obtain ⟨u, hu⟩ := hM_real _ _ _
  exact ⟨_, _, _, _, _, u, g0, g1, g2, g3, g4, hu⟩

end Cert.KernelIdeal.Fox

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.KFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Pre_finite6
public import proofs.«01_k».proof.Proof.Gen.Pre_finite7
public import proofs.«01_k».proof.Proof.T2
public import proofs.«01_k».proof.Proof.T3
public import proofs.«01_k».proof.Proof.T4
public import proofs.«01_k».proof.Proof.T5
public import proofs.«01_k».proof.Proof.T6
public import proofs.«01_k».proof.Proof.T7
public import proofs.«01_k».proof.Proof.T8
public import proofs.«01_k».proof.Proof.T9
public import proofs.«01_k».proof.Proof.T10
public import proofs.«01_k».proof.Proof.T11
public import proofs.«01_k».proof.Proof.T12
public import proofs.«01_k».proof.Proof.T13
public import proofs.«01_k».proof.Proof.T14
public import proofs.«01_k».proof.Proof.T15
public import proofs.«01_k».proof.Proof.T16
public import proofs.«01_k».proof.Proof.T17
public import proofs.«01_k».proof.Proof.T18
public import proofs.«01_k».proof.Proof.T20
public import Idealize.ShloMosaic.Adequacy
public import Idealize.ShloMosaic.Init
public import proofs.«01_k».proof.Proof.Gen.ReferenceIdeal.Run
public import proofs.«01_k».proof.Proof.Gen.ReferenceIdeal.Read
public import proofs.«01_k».proof.Proof.Value

@[expose] public section

noncomputable section

namespace Cert.Proof

open Idealize.ShloMosaic Idealize.SL.Sem Cert.Kernel

/-- The kernel's own frame. -/
theorem kernel_frame : Cert.quiescent_Kernel := fun m ρ _ => Cert.Kernel.Fox.frame m ρ

/-- The ideal kernel's frame. -/
theorem ideal_frame : Cert.quiescent_KernelIdeal := fun m ρ _ =>
  θ_run_with_sems (Cert.KernelIdeal.Gen.frame_of m ρ (Cert.KernelIdeal.Fox.dats m) (Cert.KernelIdeal.Fox.A_eq m))
    (Cert.KernelIdeal.Fox.run_main m ρ)

/-- The reference's frame. -/
theorem ref_frame : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

open Cert.ReferenceIdeal.Read in
/-- Both end with the same four gradients. -/
theorem same : Cert.algebraic_KernelIdeal_ReferenceIdeal_pre_finite := fun m ρ m' ρ' hm he =>
  ⟨fun c => val_main_v73 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)),
   fun c => val_main_v72 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)),
   fun c => val_main_v47 (F := Ideal) (m (c.tc.loc Cert.KernelIdeal.main_arg0)) (m (c.tc.loc Cert.KernelIdeal.main_arg1))
      (m (c.tc.loc Cert.KernelIdeal.main_arg3)) (m (c.tc.loc Cert.KernelIdeal.main_arg4)),
   fun c => val_main_v69 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)),
   (θ_run _ _ _).mono (fun r h c => by
      obtain ⟨q, k, v, dO, cu, u, H⟩ := Cert.KernelIdeal.Fox.reals_of_finite m hm c
      have p := h.1.1
      refine ⟨((p c).2 Cert.KernelIdeal.main_v30 (Pipeline.mem_restRefs_of Cert.KernelIdeal.main_v30 (by decide) (by decide))).trans
          (Cert.KernelIdeal.Fox.k_dq H), ((p c).1 8).trans (Cert.KernelIdeal.Fox.k_dk H), ((p c).1 9).trans (Cert.KernelIdeal.Fox.k_dv H),
        ((p c).2 Cert.KernelIdeal.main_v33 (Pipeline.mem_restRefs_of Cert.KernelIdeal.main_v33 (by decide) (by decide))).trans
          (Cert.KernelIdeal.Fox.k_dcum H), h.2.1 c⟩)
    (θ_run_and (Cert.KernelIdeal.Fox.run_main m ρ) (ideal_frame m ρ trivial)),
   (θ_run _ _ _).mono (fun r h c => by
      obtain ⟨e0, e1, e2, e3, e4⟩ := he c
      obtain ⟨r0, r1, r2, r3, ra⟩ := h c
      refine ⟨r0.trans ?_, r1.trans ?_, r2.trans ?_, r3.trans ?_, ra⟩
      · rw [val_main_v73_eq, e0, e1, e2, e3, e4]
      · rw [val_main_v72_eq, e0, e1, e2, e3, e4]
      · rw [val_main_v47_eq, e0, e1, e3, e4]
      · rw [val_main_v69_eq, e0, e1, e2, e3, e4])
    (Cert.ReferenceIdeal.Value.run m' ρ')⟩

/-- The frame of reference 2. -/
theorem ref_frame2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The frame of reference 3. -/
theorem ref_frame3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The frame of reference 4. -/
theorem ref_frame4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The frame of reference 5. -/
theorem ref_frame5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The frame of reference 6. -/
theorem ref_frame6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The frame of reference 7. -/
theorem ref_frame7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The frame of reference 8. -/
theorem ref_frame8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The frame of reference 9. -/
theorem ref_frame9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The frame of reference 10. -/
theorem ref_frame10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The frame of reference 11. -/
theorem ref_frame11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The frame of reference 12. -/
theorem ref_frame12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The frame of reference 13. -/
theorem ref_frame13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The frame of reference 14. -/
theorem ref_frame14 : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

/-- The frame of reference 15. -/
theorem ref_frame15 : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

/-- The frame of reference 16. -/
theorem ref_frame16 : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

/-- The frame of reference 17. -/
theorem ref_frame17 : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

/-- The frame of reference 18. -/
theorem ref_frame18 : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

/-- The frame of reference 20. -/
theorem ref_frame20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

/-- All claims. -/
theorem claim : Cert.Claim :=
  ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel20.Gen.facts, Cert.Kernel20Ideal.Gen.facts, Cert.Reference20Ideal.Gen.facts,
  Cert.Pre_finite.Gen.facts, Cert.Pre_finite6.Gen.facts, Cert.Pre_finite7.Gen.facts,
  kernel_frame, ideal_frame, fun m ρ _ => ideal_frame m ρ trivial, ref_frame, fun m ρ _ => ref_frame m ρ trivial,
  fun m ρ _ => Cert.Kernel2.Gen.frame m ρ, fun m ρ _ => Cert.Kernel2Ideal.Gen.frame m ρ, ref_frame2,
  fun m ρ _ => Cert.Kernel3.Gen.frame m ρ, fun m ρ _ => Cert.Kernel3Ideal.Gen.frame m ρ, ref_frame3,
  fun m ρ _ => Cert.Kernel4.Gen.frame m ρ, fun m ρ _ => Cert.Kernel4Ideal.Gen.frame m ρ, ref_frame4,
  fun m ρ _ => Cert.Kernel5.Gen.frame m ρ, fun m ρ _ => Cert.Kernel5Ideal.Gen.frame m ρ, ref_frame5,
  fun m ρ _ => Cert.Kernel6.Gen.frame m ρ, fun m ρ _ => Cert.Kernel6Ideal.Gen.frame m ρ, fun m ρ _ => Cert.Kernel6Ideal.Gen.frame m ρ, ref_frame6, fun m ρ _ => ref_frame6 m ρ trivial,
  fun m ρ _ => Cert.Kernel7.Gen.frame m ρ, fun m ρ _ => Cert.Kernel7Ideal.Gen.frame m ρ, fun m ρ _ => Cert.Kernel7Ideal.Gen.frame m ρ, ref_frame7, fun m ρ _ => ref_frame7 m ρ trivial,
  fun m ρ _ => Cert.Kernel8.Gen.frame m ρ, fun m ρ _ => Cert.Kernel8Ideal.Gen.frame m ρ, ref_frame8,
  fun m ρ _ => Cert.Kernel9.Gen.frame m ρ, fun m ρ _ => Cert.Kernel9Ideal.Gen.frame m ρ, ref_frame9,
  fun m ρ _ => Cert.Kernel10.Gen.frame m ρ, fun m ρ _ => Cert.Kernel10Ideal.Gen.frame m ρ, ref_frame10,
  fun m ρ _ => Cert.Kernel11.Gen.frame m ρ, fun m ρ _ => Cert.Kernel11Ideal.Gen.frame m ρ, ref_frame11,
  fun m ρ _ => Cert.Kernel12.Gen.frame m ρ, fun m ρ _ => Cert.Kernel12Ideal.Gen.frame m ρ, ref_frame12,
  fun m ρ _ => Cert.Kernel13.Gen.frame m ρ, fun m ρ _ => Cert.Kernel13Ideal.Gen.frame m ρ, ref_frame13,
  fun m ρ _ => Cert.Kernel14.Gen.frame m ρ, fun m ρ _ => Cert.Kernel14Ideal.Gen.frame m ρ, ref_frame14,
  fun m ρ _ => Cert.Kernel15.Gen.frame m ρ, fun m ρ _ => Cert.Kernel15Ideal.Gen.frame m ρ, ref_frame15,
  fun m ρ _ => Cert.Kernel16.Gen.frame m ρ (Cert.Kernel16Ideal.Tie.ok_bits m), fun m ρ _ => Cert.Kernel16Ideal.Gen.frame m ρ (Cert.Kernel16Ideal.Sum.ok m), ref_frame16,
  fun m ρ _ => Cert.Kernel17.Gen.frame m ρ (Cert.Kernel17Ideal.Tie.ok_bits m), fun m ρ _ => Cert.Kernel17Ideal.Gen.frame m ρ (Cert.Kernel17Ideal.Sum.ok m), ref_frame17,
  fun m ρ _ => Cert.Kernel18.Gen.frame m ρ (Cert.Kernel18Ideal.Tie.ok_bits m), fun m ρ _ => Cert.Kernel18Ideal.Gen.frame m ρ (Cert.Kernel18Ideal.Sum.ok m), ref_frame18,
  fun m ρ _ => Cert.Kernel20.Gen.frame m ρ, fun m ρ _ => Cert.Kernel20Ideal.Gen.frame m ρ, ref_frame20,
  IdealRules.named_const.statement Cert.KernelIdeal.κ "mask" .f32 0xF149F2CA#32 ⊥ rfl, same,
  (trivial : Cert.preserves_Kernel2_Kernel2Ideal), Cert.Kernel2Ideal.Tie.algebraic,
  (trivial : Cert.preserves_Kernel3_Kernel3Ideal), Cert.Kernel3Ideal.Tie.algebraic,
  (trivial : Cert.preserves_Kernel4_Kernel4Ideal), Cert.Kernel4Ideal.Tie.algebraic,
  (trivial : Cert.preserves_Kernel5_Kernel5Ideal), Cert.Kernel5Ideal.Tie.algebraic,
  (trivial : Cert.preserves_Kernel6_Kernel6Ideal), Cert.Kernel6Ideal.Tie.algebraic,
  (trivial : Cert.preserves_Kernel7_Kernel7Ideal), Cert.Kernel7Ideal.Tie.algebraic,
  (trivial : Cert.preserves_Kernel8_Kernel8Ideal), Cert.Kernel8Ideal.Tie.algebraic,
  (trivial : Cert.preserves_Kernel9_Kernel9Ideal), Cert.Kernel9Ideal.Tie.algebraic,
  (trivial : Cert.preserves_Kernel10_Kernel10Ideal), Cert.Kernel10Ideal.Tie.algebraic,
  (trivial : Cert.preserves_Kernel11_Kernel11Ideal), Cert.Kernel11Ideal.Tie.algebraic,
  (trivial : Cert.preserves_Kernel12_Kernel12Ideal), Cert.Kernel12Ideal.Tie.algebraic,
  (trivial : Cert.preserves_Kernel13_Kernel13Ideal), Cert.Kernel13Ideal.Tie.algebraic,
  (trivial : Cert.preserves_Kernel14_Kernel14Ideal), Cert.Kernel14Ideal.Tie.algebraic,
  (trivial : Cert.preserves_Kernel15_Kernel15Ideal), Cert.Kernel15Ideal.Tie.algebraic,
  (trivial : Cert.preserves_Kernel16_Kernel16Ideal), Cert.Kernel16Ideal.Tie.algebraic,
  (trivial : Cert.preserves_Kernel17_Kernel17Ideal), Cert.Kernel17Ideal.Tie.algebraic,
  (trivial : Cert.preserves_Kernel18_Kernel18Ideal), Cert.Kernel18Ideal.Tie.algebraic,
  (trivial : Cert.preserves_Kernel20_Kernel20Ideal), Cert.Kernel20Ideal.Tie.algebraic⟩

end Cert.Proof

end
